-- ==== Defs.lean ====
def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdIdeal_mem_finite [hPre_mem_finite : Cert.Pre_mem_finite.Facts] (m : (ℓ : Loc Cert.MemBwdIdeal.nD Cert.MemBwdIdeal.τ Cert.MemBwdIdeal.sig) → Buf (Elt Ideal) ℓ) : Prop :=
  ∀ c : Dev Cert.MemBwdIdeal.nD,
    (Cert.Pre_mem_finite.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2))).1 = (fun _ => 1#1)
    ∧ (Cert.Pre_mem_finite.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2))).2.1 = (fun _ => 1#1)
    ∧ (Cert.Pre_mem_finite.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2))).2.2 = (fun _ => 1#1)

def Pre_MemVjpIdeal (m : (ℓ : Loc Cert.MemVjpIdeal.nD Cert.MemVjpIdeal.τ Cert.MemVjpIdeal.sig) → Buf (Elt Ideal) ℓ) : Prop :=
  True

def Pre_MemVjpIdeal_mem_finite [hPre_mem_finite : Cert.Pre_mem_finite.Facts] (m : (ℓ : Loc Cert.MemVjpIdeal.nD Cert.MemVjpIdeal.τ Cert.MemVjpIdeal.sig) → Buf (Elt Ideal) ℓ) : Prop :=
  ∀ c : Dev Cert.MemVjpIdeal.nD,
    (Cert.Pre_mem_finite.fn (F := Ideal) (m ((c.tc : Thread Cert.MemVjpIdeal.nD Cert.MemVjpIdeal.τ).loc Cert.MemVjpIdeal.main_arg0)) (m ((c.tc : Thread Cert.MemVjpIdeal.nD Cert.MemVjpIdeal.τ).loc Cert.MemVjpIdeal.main_arg1)) (m ((c.tc : Thread Cert.MemVjpIdeal.nD Cert.MemVjpIdeal.τ).loc Cert.MemVjpIdeal.main_arg2))).1 = (fun _ => 1#1)
    ∧ (Cert.Pre_mem_finite.fn (F := Ideal) (m ((c.tc : Thread Cert.MemVjpIdeal.nD Cert.MemVjpIdeal.τ).loc Cert.MemVjpIdeal.main_arg0)) (m ((c.tc : Thread Cert.MemVjpIdeal.nD Cert.MemVjpIdeal.τ).loc Cert.MemVjpIdeal.main_arg1)) (m ((c.tc : Thread Cert.MemVjpIdeal.nD Cert.MemVjpIdeal.τ).loc Cert.MemVjpIdeal.main_arg2))).2.1 = (fun _ => 1#1)
    ∧ (Cert.Pre_mem_finite.fn (F := Ideal) (m ((c.tc : Thread Cert.MemVjpIdeal.nD Cert.MemVjpIdeal.τ).loc Cert.MemVjpIdeal.main_arg0)) (m ((c.tc : Thread Cert.MemVjpIdeal.nD Cert.MemVjpIdeal.τ).loc Cert.MemVjpIdeal.main_arg1)) (m ((c.tc : Thread Cert.MemVjpIdeal.nD Cert.MemVjpIdeal.τ).loc Cert.MemVjpIdeal.main_arg2))).2.2 = (fun _ => 1#1)

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_fox_finite [hPre_fox_finite : Cert.Pre_fox_finite.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.2 = (fun _ => 1#1)

def Pre_FoxVjpIdeal (m : (ℓ : Loc Cert.FoxVjpIdeal.nD Cert.FoxVjpIdeal.τ Cert.FoxVjpIdeal.sig) → Buf (Elt Ideal) ℓ) : Prop :=
  True

def Pre_FoxVjpIdeal_fox_finite [hPre_fox_finite : Cert.Pre_fox_finite.Facts] (m : (ℓ : Loc Cert.FoxVjpIdeal.nD Cert.FoxVjpIdeal.τ Cert.FoxVjpIdeal.sig) → Buf (Elt Ideal) ℓ) : Prop :=
  ∀ c : Dev Cert.FoxVjpIdeal.nD,
    (Cert.Pre_fox_finite.fn (F := Ideal) (m ((c.tc : Thread Cert.FoxVjpIdeal.nD Cert.FoxVjpIdeal.τ).loc Cert.FoxVjpIdeal.main_arg0)) (m ((c.tc : Thread Cert.FoxVjpIdeal.nD Cert.FoxVjpIdeal.τ).loc Cert.FoxVjpIdeal.main_arg1)) (m ((c.tc : Thread Cert.FoxVjpIdeal.nD Cert.FoxVjpIdeal.τ).loc Cert.FoxVjpIdeal.main_arg2)) (m ((c.tc : Thread Cert.FoxVjpIdeal.nD Cert.FoxVjpIdeal.τ).loc Cert.FoxVjpIdeal.main_arg3)) (m ((c.tc : Thread Cert.FoxVjpIdeal.nD Cert.FoxVjpIdeal.τ).loc Cert.FoxVjpIdeal.main_arg4))).1 = (fun _ => 1#1)
    ∧ (Cert.Pre_fox_finite.fn (F := Ideal) (m ((c.tc : Thread Cert.FoxVjpIdeal.nD Cert.FoxVjpIdeal.τ).loc Cert.FoxVjpIdeal.main_arg0)) (m ((c.tc : Thread Cert.FoxVjpIdeal.nD Cert.FoxVjpIdeal.τ).loc Cert.FoxVjpIdeal.main_arg1)) (m ((c.tc : Thread Cert.FoxVjpIdeal.nD Cert.FoxVjpIdeal.τ).loc Cert.FoxVjpIdeal.main_arg2)) (m ((c.tc : Thread Cert.FoxVjpIdeal.nD Cert.FoxVjpIdeal.τ).loc Cert.FoxVjpIdeal.main_arg3)) (m ((c.tc : Thread Cert.FoxVjpIdeal.nD Cert.FoxVjpIdeal.τ).loc Cert.FoxVjpIdeal.main_arg4))).2.1 = (fun _ => 1#1)
    ∧ (Cert.Pre_fox_finite.fn (F := Ideal) (m ((c.tc : Thread Cert.FoxVjpIdeal.nD Cert.FoxVjpIdeal.τ).loc Cert.FoxVjpIdeal.main_arg0)) (m ((c.tc : Thread Cert.FoxVjpIdeal.nD Cert.FoxVjpIdeal.τ).loc Cert.FoxVjpIdeal.main_arg1)) (m ((c.tc : Thread Cert.FoxVjpIdeal.nD Cert.FoxVjpIdeal.τ).loc Cert.FoxVjpIdeal.main_arg2)) (m ((c.tc : Thread Cert.FoxVjpIdeal.nD Cert.FoxVjpIdeal.τ).loc Cert.FoxVjpIdeal.main_arg3)) (m ((c.tc : Thread Cert.FoxVjpIdeal.nD Cert.FoxVjpIdeal.τ).loc Cert.FoxVjpIdeal.main_arg4))).2.2.1 = (fun _ => 1#1)
    ∧ (Cert.Pre_fox_finite.fn (F := Ideal) (m ((c.tc : Thread Cert.FoxVjpIdeal.nD Cert.FoxVjpIdeal.τ).loc Cert.FoxVjpIdeal.main_arg0)) (m ((c.tc : Thread Cert.FoxVjpIdeal.nD Cert.FoxVjpIdeal.τ).loc Cert.FoxVjpIdeal.main_arg1)) (m ((c.tc : Thread Cert.FoxVjpIdeal.nD Cert.FoxVjpIdeal.τ).loc Cert.FoxVjpIdeal.main_arg2)) (m ((c.tc : Thread Cert.FoxVjpIdeal.nD Cert.FoxVjpIdeal.τ).loc Cert.FoxVjpIdeal.main_arg3)) (m ((c.tc : Thread Cert.FoxVjpIdeal.nD Cert.FoxVjpIdeal.τ).loc Cert.FoxVjpIdeal.main_arg4))).2.2.2.1 = (fun _ => 1#1)
    ∧ (Cert.Pre_fox_finite.fn (F := Ideal) (m ((c.tc : Thread Cert.FoxVjpIdeal.nD Cert.FoxVjpIdeal.τ).loc Cert.FoxVjpIdeal.main_arg0)) (m ((c.tc : Thread Cert.FoxVjpIdeal.nD Cert.FoxVjpIdeal.τ).loc Cert.FoxVjpIdeal.main_arg1)) (m ((c.tc : Thread Cert.FoxVjpIdeal.nD Cert.FoxVjpIdeal.τ).loc Cert.FoxVjpIdeal.main_arg2)) (m ((c.tc : Thread Cert.FoxVjpIdeal.nD Cert.FoxVjpIdeal.τ).loc Cert.FoxVjpIdeal.main_arg3)) (m ((c.tc : Thread Cert.FoxVjpIdeal.nD Cert.FoxVjpIdeal.τ).loc Cert.FoxVjpIdeal.main_arg4))).2.2.2.2 = (fun _ => 1#1)

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateVjpIdeal (m : (ℓ : Loc Cert.GateVjpIdeal.nD Cert.GateVjpIdeal.τ Cert.GateVjpIdeal.sig) → Buf (Elt Ideal) ℓ) : Prop :=
  True

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvVjpIdeal (m : (ℓ : Loc Cert.KvVjpIdeal.nD Cert.KvVjpIdeal.τ Cert.KvVjpIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.2 = (fun _ => 1#1)

def Pre_InVjpIdeal (m : (ℓ : Loc Cert.InVjpIdeal.nD Cert.InVjpIdeal.τ Cert.InVjpIdeal.sig) → Buf (Elt Ideal) ℓ) : Prop :=
  True

def Pre_InVjpIdeal_in_finite [hPre_in_finite : Cert.Pre_in_finite.Facts] (m : (ℓ : Loc Cert.InVjpIdeal.nD Cert.InVjpIdeal.τ Cert.InVjpIdeal.sig) → Buf (Elt Ideal) ℓ) : Prop :=
  ∀ c : Dev Cert.InVjpIdeal.nD,
    (Cert.Pre_in_finite.fn (F := Ideal) (m ((c.tc : Thread Cert.InVjpIdeal.nD Cert.InVjpIdeal.τ).loc Cert.InVjpIdeal.main_arg0)) (m ((c.tc : Thread Cert.InVjpIdeal.nD Cert.InVjpIdeal.τ).loc Cert.InVjpIdeal.main_arg1)) (m ((c.tc : Thread Cert.InVjpIdeal.nD Cert.InVjpIdeal.τ).loc Cert.InVjpIdeal.main_arg2)) (m ((c.tc : Thread Cert.InVjpIdeal.nD Cert.InVjpIdeal.τ).loc Cert.InVjpIdeal.main_arg3)) (m ((c.tc : Thread Cert.InVjpIdeal.nD Cert.InVjpIdeal.τ).loc Cert.InVjpIdeal.main_arg4)) (m ((c.tc : Thread Cert.InVjpIdeal.nD Cert.InVjpIdeal.τ).loc Cert.InVjpIdeal.main_arg5))).1 = (fun _ => 1#1)
    ∧ (Cert.Pre_in_finite.fn (F := Ideal) (m ((c.tc : Thread Cert.InVjpIdeal.nD Cert.InVjpIdeal.τ).loc Cert.InVjpIdeal.main_arg0)) (m ((c.tc : Thread Cert.InVjpIdeal.nD Cert.InVjpIdeal.τ).loc Cert.InVjpIdeal.main_arg1)) (m ((c.tc : Thread Cert.InVjpIdeal.nD Cert.InVjpIdeal.τ).loc Cert.InVjpIdeal.main_arg2)) (m ((c.tc : Thread Cert.InVjpIdeal.nD Cert.InVjpIdeal.τ).loc Cert.InVjpIdeal.main_arg3)) (m ((c.tc : Thread Cert.InVjpIdeal.nD Cert.InVjpIdeal.τ).loc Cert.InVjpIdeal.main_arg4)) (m ((c.tc : Thread Cert.InVjpIdeal.nD Cert.InVjpIdeal.τ).loc Cert.InVjpIdeal.main_arg5))).2.1 = (fun _ => 1#1)
    ∧ (Cert.Pre_in_finite.fn (F := Ideal) (m ((c.tc : Thread Cert.InVjpIdeal.nD Cert.InVjpIdeal.τ).loc Cert.InVjpIdeal.main_arg0)) (m ((c.tc : Thread Cert.InVjpIdeal.nD Cert.InVjpIdeal.τ).loc Cert.InVjpIdeal.main_arg1)) (m ((c.tc : Thread Cert.InVjpIdeal.nD Cert.InVjpIdeal.τ).loc Cert.InVjpIdeal.main_arg2)) (m ((c.tc : Thread Cert.InVjpIdeal.nD Cert.InVjpIdeal.τ).loc Cert.InVjpIdeal.main_arg3)) (m ((c.tc : Thread Cert.InVjpIdeal.nD Cert.InVjpIdeal.τ).loc Cert.InVjpIdeal.main_arg4)) (m ((c.tc : Thread Cert.InVjpIdeal.nD Cert.InVjpIdeal.τ).loc Cert.InVjpIdeal.main_arg5))).2.2.1 = (fun _ => 1#1)
    ∧ (Cert.Pre_in_finite.fn (F := Ideal) (m ((c.tc : Thread Cert.InVjpIdeal.nD Cert.InVjpIdeal.τ).loc Cert.InVjpIdeal.main_arg0)) (m ((c.tc : Thread Cert.InVjpIdeal.nD Cert.InVjpIdeal.τ).loc Cert.InVjpIdeal.main_arg1)) (m ((c.tc : Thread Cert.InVjpIdeal.nD Cert.InVjpIdeal.τ).loc Cert.InVjpIdeal.main_arg2)) (m ((c.tc : Thread Cert.InVjpIdeal.nD Cert.InVjpIdeal.τ).loc Cert.InVjpIdeal.main_arg3)) (m ((c.tc : Thread Cert.InVjpIdeal.nD Cert.InVjpIdeal.τ).loc Cert.InVjpIdeal.main_arg4)) (m ((c.tc : Thread Cert.InVjpIdeal.nD Cert.InVjpIdeal.τ).loc Cert.InVjpIdeal.main_arg5))).2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2 = (fun _ => 1#1)

def Pre_FfnVjpIdeal (m : (ℓ : Loc Cert.FfnVjpIdeal.nD Cert.FfnVjpIdeal.τ Cert.FfnVjpIdeal.sig) → Buf (Elt Ideal) ℓ) : Prop :=
  True

def Pre_FfnVjpIdeal_ffn_finite [hPre_ffn_finite : Cert.Pre_ffn_finite.Facts] (m : (ℓ : Loc Cert.FfnVjpIdeal.nD Cert.FfnVjpIdeal.τ Cert.FfnVjpIdeal.sig) → Buf (Elt Ideal) ℓ) : Prop :=
  ∀ c : Dev Cert.FfnVjpIdeal.nD,
    (Cert.Pre_ffn_finite.fn (F := Ideal) (m ((c.tc : Thread Cert.FfnVjpIdeal.nD Cert.FfnVjpIdeal.τ).loc Cert.FfnVjpIdeal.main_arg0)) (m ((c.tc : Thread Cert.FfnVjpIdeal.nD Cert.FfnVjpIdeal.τ).loc Cert.FfnVjpIdeal.main_arg1)) (m ((c.tc : Thread Cert.FfnVjpIdeal.nD Cert.FfnVjpIdeal.τ).loc Cert.FfnVjpIdeal.main_arg2)) (m ((c.tc : Thread Cert.FfnVjpIdeal.nD Cert.FfnVjpIdeal.τ).loc Cert.FfnVjpIdeal.main_arg3)) (m ((c.tc : Thread Cert.FfnVjpIdeal.nD Cert.FfnVjpIdeal.τ).loc Cert.FfnVjpIdeal.main_arg4))).1 = (fun _ => 1#1)
    ∧ (Cert.Pre_ffn_finite.fn (F := Ideal) (m ((c.tc : Thread Cert.FfnVjpIdeal.nD Cert.FfnVjpIdeal.τ).loc Cert.FfnVjpIdeal.main_arg0)) (m ((c.tc : Thread Cert.FfnVjpIdeal.nD Cert.FfnVjpIdeal.τ).loc Cert.FfnVjpIdeal.main_arg1)) (m ((c.tc : Thread Cert.FfnVjpIdeal.nD Cert.FfnVjpIdeal.τ).loc Cert.FfnVjpIdeal.main_arg2)) (m ((c.tc : Thread Cert.FfnVjpIdeal.nD Cert.FfnVjpIdeal.τ).loc Cert.FfnVjpIdeal.main_arg3)) (m ((c.tc : Thread Cert.FfnVjpIdeal.nD Cert.FfnVjpIdeal.τ).loc Cert.FfnVjpIdeal.main_arg4))).2.1 = (fun _ => 1#1)
    ∧ (Cert.Pre_ffn_finite.fn (F := Ideal) (m ((c.tc : Thread Cert.FfnVjpIdeal.nD Cert.FfnVjpIdeal.τ).loc Cert.FfnVjpIdeal.main_arg0)) (m ((c.tc : Thread Cert.FfnVjpIdeal.nD Cert.FfnVjpIdeal.τ).loc Cert.FfnVjpIdeal.main_arg1)) (m ((c.tc : Thread Cert.FfnVjpIdeal.nD Cert.FfnVjpIdeal.τ).loc Cert.FfnVjpIdeal.main_arg2)) (m ((c.tc : Thread Cert.FfnVjpIdeal.nD Cert.FfnVjpIdeal.τ).loc Cert.FfnVjpIdeal.main_arg3)) (m ((c.tc : Thread Cert.FfnVjpIdeal.nD Cert.FfnVjpIdeal.τ).loc Cert.FfnVjpIdeal.main_arg4))).2.2.1 = (fun _ => 1#1)
    ∧ (Cert.Pre_ffn_finite.fn (F := Ideal) (m ((c.tc : Thread Cert.FfnVjpIdeal.nD Cert.FfnVjpIdeal.τ).loc Cert.FfnVjpIdeal.main_arg0)) (m ((c.tc : Thread Cert.FfnVjpIdeal.nD Cert.FfnVjpIdeal.τ).loc Cert.FfnVjpIdeal.main_arg1)) (m ((c.tc : Thread Cert.FfnVjpIdeal.nD Cert.FfnVjpIdeal.τ).loc Cert.FfnVjpIdeal.main_arg2)) (m ((c.tc : Thread Cert.FfnVjpIdeal.nD Cert.FfnVjpIdeal.τ).loc Cert.FfnVjpIdeal.main_arg3)) (m ((c.tc : Thread Cert.FfnVjpIdeal.nD Cert.FfnVjpIdeal.τ).loc Cert.FfnVjpIdeal.main_arg4))).2.2.2 = (fun _ => 1#1)

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ r.2.sem = fun _ => 0)

def quiescent_MemBwdIdeal_pre_mem_finite [hMemBwdIdeal : Cert.MemBwdIdeal.Facts] [hPre_mem_finite : Cert.Pre_mem_finite.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal_mem_finite m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ r.2.sem = fun _ => 0)

def quiescent_MemVjpIdeal [hMemVjpIdeal : Cert.MemVjpIdeal.Facts] : Prop :=
  ∀ (m : (ℓ : Loc Cert.MemVjpIdeal.nD Cert.MemVjpIdeal.τ Cert.MemVjpIdeal.sig) → Buf (Elt Ideal) ℓ) (g : Dev Cert.MemVjpIdeal.nD → PrngReg), Pre_MemVjpIdeal m →
    θ_run (Cert.MemVjpIdeal.defs (F := Ideal)) (onTc (τ := Cert.MemVjpIdeal.τ) (Cert.MemVjpIdeal.main (F := Ideal))) ⟨m, fun _ => 0, g⟩ (fun r => (∀ c : Dev Cert.MemVjpIdeal.nD,
      r.2.mem ((c.tc : Thread Cert.MemVjpIdeal.nD Cert.MemVjpIdeal.τ).loc Cert.MemVjpIdeal.main_arg0) = m ((c.tc : Thread Cert.MemVjpIdeal.nD Cert.MemVjpIdeal.τ).loc Cert.MemVjpIdeal.main_arg0)
      ∧ r.2.mem ((c.tc : Thread Cert.MemVjpIdeal.nD Cert.MemVjpIdeal.τ).loc Cert.MemVjpIdeal.main_arg1) = m ((c.tc : Thread Cert.MemVjpIdeal.nD Cert.MemVjpIdeal.τ).loc Cert.MemVjpIdeal.main_arg1)
      ∧ r.2.mem ((c.tc : Thread Cert.MemVjpIdeal.nD Cert.MemVjpIdeal.τ).loc Cert.MemVjpIdeal.main_arg2) = m ((c.tc : Thread Cert.MemVjpIdeal.nD Cert.MemVjpIdeal.τ).loc Cert.MemVjpIdeal.main_arg2))
      ∧ r.2.sem = fun _ => 0)

def quiescent_MemVjpIdeal_pre_mem_finite [hMemVjpIdeal : Cert.MemVjpIdeal.Facts] [hPre_mem_finite : Cert.Pre_mem_finite.Facts] : Prop :=
  ∀ (m : (ℓ : Loc Cert.MemVjpIdeal.nD Cert.MemVjpIdeal.τ Cert.MemVjpIdeal.sig) → Buf (Elt Ideal) ℓ) (g : Dev Cert.MemVjpIdeal.nD → PrngReg), Pre_MemVjpIdeal_mem_finite m →
    θ_run (Cert.MemVjpIdeal.defs (F := Ideal)) (onTc (τ := Cert.MemVjpIdeal.τ) (Cert.MemVjpIdeal.main (F := Ideal))) ⟨m, fun _ => 0, g⟩ (fun r => (∀ c : Dev Cert.MemVjpIdeal.nD,
      r.2.mem ((c.tc : Thread Cert.MemVjpIdeal.nD Cert.MemVjpIdeal.τ).loc Cert.MemVjpIdeal.main_arg0) = m ((c.tc : Thread Cert.MemVjpIdeal.nD Cert.MemVjpIdeal.τ).loc Cert.MemVjpIdeal.main_arg0)
      ∧ r.2.mem ((c.tc : Thread Cert.MemVjpIdeal.nD Cert.MemVjpIdeal.τ).loc Cert.MemVjpIdeal.main_arg1) = m ((c.tc : Thread Cert.MemVjpIdeal.nD Cert.MemVjpIdeal.τ).loc Cert.MemVjpIdeal.main_arg1)
      ∧ r.2.mem ((c.tc : Thread Cert.MemVjpIdeal.nD Cert.MemVjpIdeal.τ).loc Cert.MemVjpIdeal.main_arg2) = m ((c.tc : Thread Cert.MemVjpIdeal.nD Cert.MemVjpIdeal.τ).loc Cert.MemVjpIdeal.main_arg2))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdIdeal_pre_fox_finite [hFoxBwdIdeal : Cert.FoxBwdIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_fox_finite m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxVjpIdeal [hFoxVjpIdeal : Cert.FoxVjpIdeal.Facts] : Prop :=
  ∀ (m : (ℓ : Loc Cert.FoxVjpIdeal.nD Cert.FoxVjpIdeal.τ Cert.FoxVjpIdeal.sig) → Buf (Elt Ideal) ℓ) (g : Dev Cert.FoxVjpIdeal.nD → PrngReg), Pre_FoxVjpIdeal m →
    θ_run (Cert.FoxVjpIdeal.defs (F := Ideal)) (onTc (τ := Cert.FoxVjpIdeal.τ) (Cert.FoxVjpIdeal.main (F := Ideal))) ⟨m, fun _ => 0, g⟩ (fun r => (∀ c : Dev Cert.FoxVjpIdeal.nD,
      r.2.mem ((c.tc : Thread Cert.FoxVjpIdeal.nD Cert.FoxVjpIdeal.τ).loc Cert.FoxVjpIdeal.main_arg0) = m ((c.tc : Thread Cert.FoxVjpIdeal.nD Cert.FoxVjpIdeal.τ).loc Cert.FoxVjpIdeal.main_arg0)
      ∧ r.2.mem ((c.tc : Thread Cert.FoxVjpIdeal.nD Cert.FoxVjpIdeal.τ).loc Cert.FoxVjpIdeal.main_arg1) = m ((c.tc : Thread Cert.FoxVjpIdeal.nD Cert.FoxVjpIdeal.τ).loc Cert.FoxVjpIdeal.main_arg1)
      ∧ r.2.mem ((c.tc : Thread Cert.FoxVjpIdeal.nD Cert.FoxVjpIdeal.τ).loc Cert.FoxVjpIdeal.main_arg2) = m ((c.tc : Thread Cert.FoxVjpIdeal.nD Cert.FoxVjpIdeal.τ).loc Cert.FoxVjpIdeal.main_arg2)
      ∧ r.2.mem ((c.tc : Thread Cert.FoxVjpIdeal.nD Cert.FoxVjpIdeal.τ).loc Cert.FoxVjpIdeal.main_arg3) = m ((c.tc : Thread Cert.FoxVjpIdeal.nD Cert.FoxVjpIdeal.τ).loc Cert.FoxVjpIdeal.main_arg3)
      ∧ r.2.mem ((c.tc : Thread Cert.FoxVjpIdeal.nD Cert.FoxVjpIdeal.τ).loc Cert.FoxVjpIdeal.main_arg4) = m ((c.tc : Thread Cert.FoxVjpIdeal.nD Cert.FoxVjpIdeal.τ).loc Cert.FoxVjpIdeal.main_arg4))
      ∧ r.2.sem = fun _ => 0)

def quiescent_FoxVjpIdeal_pre_fox_finite [hFoxVjpIdeal : Cert.FoxVjpIdeal.Facts] [hPre_fox_finite : Cert.Pre_fox_finite.Facts] : Prop :=
  ∀ (m : (ℓ : Loc Cert.FoxVjpIdeal.nD Cert.FoxVjpIdeal.τ Cert.FoxVjpIdeal.sig) → Buf (Elt Ideal) ℓ) (g : Dev Cert.FoxVjpIdeal.nD → PrngReg), Pre_FoxVjpIdeal_fox_finite m →
    θ_run (Cert.FoxVjpIdeal.defs (F := Ideal)) (onTc (τ := Cert.FoxVjpIdeal.τ) (Cert.FoxVjpIdeal.main (F := Ideal))) ⟨m, fun _ => 0, g⟩ (fun r => (∀ c : Dev Cert.FoxVjpIdeal.nD,
      r.2.mem ((c.tc : Thread Cert.FoxVjpIdeal.nD Cert.FoxVjpIdeal.τ).loc Cert.FoxVjpIdeal.main_arg0) = m ((c.tc : Thread Cert.FoxVjpIdeal.nD Cert.FoxVjpIdeal.τ).loc Cert.FoxVjpIdeal.main_arg0)
      ∧ r.2.mem ((c.tc : Thread Cert.FoxVjpIdeal.nD Cert.FoxVjpIdeal.τ).loc Cert.FoxVjpIdeal.main_arg1) = m ((c.tc : Thread Cert.FoxVjpIdeal.nD Cert.FoxVjpIdeal.τ).loc Cert.FoxVjpIdeal.main_arg1)
      ∧ r.2.mem ((c.tc : Thread Cert.FoxVjpIdeal.nD Cert.FoxVjpIdeal.τ).loc Cert.FoxVjpIdeal.main_arg2) = m ((c.tc : Thread Cert.FoxVjpIdeal.nD Cert.FoxVjpIdeal.τ).loc Cert.FoxVjpIdeal.main_arg2)
      ∧ r.2.mem ((c.tc : Thread Cert.FoxVjpIdeal.nD Cert.FoxVjpIdeal.τ).loc Cert.FoxVjpIdeal.main_arg3) = m ((c.tc : Thread Cert.FoxVjpIdeal.nD Cert.FoxVjpIdeal.τ).loc Cert.FoxVjpIdeal.main_arg3)
      ∧ r.2.mem ((c.tc : Thread Cert.FoxVjpIdeal.nD Cert.FoxVjpIdeal.τ).loc Cert.FoxVjpIdeal.main_arg4) = m ((c.tc : Thread Cert.FoxVjpIdeal.nD Cert.FoxVjpIdeal.τ).loc Cert.FoxVjpIdeal.main_arg4))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1))
      ∧ r.2.sem = fun _ => 0)

def quiescent_GateVjpIdeal [hGateVjpIdeal : Cert.GateVjpIdeal.Facts] : Prop :=
  ∀ (m : (ℓ : Loc Cert.GateVjpIdeal.nD Cert.GateVjpIdeal.τ Cert.GateVjpIdeal.sig) → Buf (Elt Ideal) ℓ) (g : Dev Cert.GateVjpIdeal.nD → PrngReg), Pre_GateVjpIdeal m →
    θ_run (Cert.GateVjpIdeal.defs (F := Ideal)) (onTc (τ := Cert.GateVjpIdeal.τ) (Cert.GateVjpIdeal.main (F := Ideal))) ⟨m, fun _ => 0, g⟩ (fun r => (∀ c : Dev Cert.GateVjpIdeal.nD,
      r.2.mem ((c.tc : Thread Cert.GateVjpIdeal.nD Cert.GateVjpIdeal.τ).loc Cert.GateVjpIdeal.main_arg0) = m ((c.tc : Thread Cert.GateVjpIdeal.nD Cert.GateVjpIdeal.τ).loc Cert.GateVjpIdeal.main_arg0)
      ∧ r.2.mem ((c.tc : Thread Cert.GateVjpIdeal.nD Cert.GateVjpIdeal.τ).loc Cert.GateVjpIdeal.main_arg1) = m ((c.tc : Thread Cert.GateVjpIdeal.nD Cert.GateVjpIdeal.τ).loc Cert.GateVjpIdeal.main_arg1))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ r.2.sem = fun _ => 0)

def quiescent_KvVjpIdeal [hKvVjpIdeal : Cert.KvVjpIdeal.Facts] : Prop :=
  ∀ (m : (ℓ : Loc Cert.KvVjpIdeal.nD Cert.KvVjpIdeal.τ Cert.KvVjpIdeal.sig) → Buf (Elt Ideal) ℓ) (g : Dev Cert.KvVjpIdeal.nD → PrngReg), Pre_KvVjpIdeal m →
    θ_run (Cert.KvVjpIdeal.defs (F := Ideal)) (onTc (τ := Cert.KvVjpIdeal.τ) (Cert.KvVjpIdeal.main (F := Ideal))) ⟨m, fun _ => 0, g⟩ (fun r => (∀ c : Dev Cert.KvVjpIdeal.nD,
      r.2.mem ((c.tc : Thread Cert.KvVjpIdeal.nD Cert.KvVjpIdeal.τ).loc Cert.KvVjpIdeal.main_arg0) = m ((c.tc : Thread Cert.KvVjpIdeal.nD Cert.KvVjpIdeal.τ).loc Cert.KvVjpIdeal.main_arg0)
      ∧ r.2.mem ((c.tc : Thread Cert.KvVjpIdeal.nD Cert.KvVjpIdeal.τ).loc Cert.KvVjpIdeal.main_arg1) = m ((c.tc : Thread Cert.KvVjpIdeal.nD Cert.KvVjpIdeal.τ).loc Cert.KvVjpIdeal.main_arg1)
      ∧ r.2.mem ((c.tc : Thread Cert.KvVjpIdeal.nD Cert.KvVjpIdeal.τ).loc Cert.KvVjpIdeal.main_arg2) = m ((c.tc : Thread Cert.KvVjpIdeal.nD Cert.KvVjpIdeal.τ).loc Cert.KvVjpIdeal.main_arg2)
      ∧ r.2.mem ((c.tc : Thread Cert.KvVjpIdeal.nD Cert.KvVjpIdeal.τ).loc Cert.KvVjpIdeal.main_arg3) = m ((c.tc : Thread Cert.KvVjpIdeal.nD Cert.KvVjpIdeal.τ).loc Cert.KvVjpIdeal.main_arg3))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InVjpIdeal [hInVjpIdeal : Cert.InVjpIdeal.Facts] : Prop :=
  ∀ (m : (ℓ : Loc Cert.InVjpIdeal.nD Cert.InVjpIdeal.τ Cert.InVjpIdeal.sig) → Buf (Elt Ideal) ℓ) (g : Dev Cert.InVjpIdeal.nD → PrngReg), Pre_InVjpIdeal m →
    θ_run (Cert.InVjpIdeal.defs (F := Ideal)) (onTc (τ := Cert.InVjpIdeal.τ) (Cert.InVjpIdeal.main (F := Ideal))) ⟨m, fun _ => 0, g⟩ (fun r => (∀ c : Dev Cert.InVjpIdeal.nD,
      r.2.mem ((c.tc : Thread Cert.InVjpIdeal.nD Cert.InVjpIdeal.τ).loc Cert.InVjpIdeal.main_arg0) = m ((c.tc : Thread Cert.InVjpIdeal.nD Cert.InVjpIdeal.τ).loc Cert.InVjpIdeal.main_arg0)
      ∧ r.2.mem ((c.tc : Thread Cert.InVjpIdeal.nD Cert.InVjpIdeal.τ).loc Cert.InVjpIdeal.main_arg1) = m ((c.tc : Thread Cert.InVjpIdeal.nD Cert.InVjpIdeal.τ).loc Cert.InVjpIdeal.main_arg1)
      ∧ r.2.mem ((c.tc : Thread Cert.InVjpIdeal.nD Cert.InVjpIdeal.τ).loc Cert.InVjpIdeal.main_arg2) = m ((c.tc : Thread Cert.InVjpIdeal.nD Cert.InVjpIdeal.τ).loc Cert.InVjpIdeal.main_arg2)
      ∧ r.2.mem ((c.tc : Thread Cert.InVjpIdeal.nD Cert.InVjpIdeal.τ).loc Cert.InVjpIdeal.main_arg3) = m ((c.tc : Thread Cert.InVjpIdeal.nD Cert.InVjpIdeal.τ).loc Cert.InVjpIdeal.main_arg3)
      ∧ r.2.mem ((c.tc : Thread Cert.InVjpIdeal.nD Cert.InVjpIdeal.τ).loc Cert.InVjpIdeal.main_arg4) = m ((c.tc : Thread Cert.InVjpIdeal.nD Cert.InVjpIdeal.τ).loc Cert.InVjpIdeal.main_arg4)
      ∧ r.2.mem ((c.tc : Thread Cert.InVjpIdeal.nD Cert.InVjpIdeal.τ).loc Cert.InVjpIdeal.main_arg5) = m ((c.tc : Thread Cert.InVjpIdeal.nD Cert.InVjpIdeal.τ).loc Cert.InVjpIdeal.main_arg5))
      ∧ r.2.sem = fun _ => 0)

def quiescent_InVjpIdeal_pre_in_finite [hInVjpIdeal : Cert.InVjpIdeal.Facts] [hPre_in_finite : Cert.Pre_in_finite.Facts] : Prop :=
  ∀ (m : (ℓ : Loc Cert.InVjpIdeal.nD Cert.InVjpIdeal.τ Cert.InVjpIdeal.sig) → Buf (Elt Ideal) ℓ) (g : Dev Cert.InVjpIdeal.nD → PrngReg), Pre_InVjpIdeal_in_finite m →
    θ_run (Cert.InVjpIdeal.defs (F := Ideal)) (onTc (τ := Cert.InVjpIdeal.τ) (Cert.InVjpIdeal.main (F := Ideal))) ⟨m, fun _ => 0, g⟩ (fun r => (∀ c : Dev Cert.InVjpIdeal.nD,
      r.2.mem ((c.tc : Thread Cert.InVjpIdeal.nD Cert.InVjpIdeal.τ).loc Cert.InVjpIdeal.main_arg0) = m ((c.tc : Thread Cert.InVjpIdeal.nD Cert.InVjpIdeal.τ).loc Cert.InVjpIdeal.main_arg0)
      ∧ r.2.mem ((c.tc : Thread Cert.InVjpIdeal.nD Cert.InVjpIdeal.τ).loc Cert.InVjpIdeal.main_arg1) = m ((c.tc : Thread Cert.InVjpIdeal.nD Cert.InVjpIdeal.τ).loc Cert.InVjpIdeal.main_arg1)
      ∧ r.2.mem ((c.tc : Thread Cert.InVjpIdeal.nD Cert.InVjpIdeal.τ).loc Cert.InVjpIdeal.main_arg2) = m ((c.tc : Thread Cert.InVjpIdeal.nD Cert.InVjpIdeal.τ).loc Cert.InVjpIdeal.main_arg2)
      ∧ r.2.mem ((c.tc : Thread Cert.InVjpIdeal.nD Cert.InVjpIdeal.τ).loc Cert.InVjpIdeal.main_arg3) = m ((c.tc : Thread Cert.InVjpIdeal.nD Cert.InVjpIdeal.τ).loc Cert.InVjpIdeal.main_arg3)
      ∧ r.2.mem ((c.tc : Thread Cert.InVjpIdeal.nD Cert.InVjpIdeal.τ).loc Cert.InVjpIdeal.main_arg4) = m ((c.tc : Thread Cert.InVjpIdeal.nD Cert.InVjpIdeal.τ).loc Cert.InVjpIdeal.main_arg4)
      ∧ r.2.mem ((c.tc : Thread Cert.InVjpIdeal.nD Cert.InVjpIdeal.τ).loc Cert.InVjpIdeal.main_arg5) = m ((c.tc : Thread Cert.InVjpIdeal.nD Cert.InVjpIdeal.τ).loc Cert.InVjpIdeal.main_arg5))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnVjpIdeal [hFfnVjpIdeal : Cert.FfnVjpIdeal.Facts] : Prop :=
  ∀ (m : (ℓ : Loc Cert.FfnVjpIdeal.nD Cert.FfnVjpIdeal.τ Cert.FfnVjpIdeal.sig) → Buf (Elt Ideal) ℓ) (g : Dev Cert.FfnVjpIdeal.nD → PrngReg), Pre_FfnVjpIdeal m →
    θ_run (Cert.FfnVjpIdeal.defs (F := Ideal)) (onTc (τ := Cert.FfnVjpIdeal.τ) (Cert.FfnVjpIdeal.main (F := Ideal))) ⟨m, fun _ => 0, g⟩ (fun r => (∀ c : Dev Cert.FfnVjpIdeal.nD,
      r.2.mem ((c.tc : Thread Cert.FfnVjpIdeal.nD Cert.FfnVjpIdeal.τ).loc Cert.FfnVjpIdeal.main_arg0) = m ((c.tc : Thread Cert.FfnVjpIdeal.nD Cert.FfnVjpIdeal.τ).loc Cert.FfnVjpIdeal.main_arg0)
      ∧ r.2.mem ((c.tc : Thread Cert.FfnVjpIdeal.nD Cert.FfnVjpIdeal.τ).loc Cert.FfnVjpIdeal.main_arg1) = m ((c.tc : Thread Cert.FfnVjpIdeal.nD Cert.FfnVjpIdeal.τ).loc Cert.FfnVjpIdeal.main_arg1)
      ∧ r.2.mem ((c.tc : Thread Cert.FfnVjpIdeal.nD Cert.FfnVjpIdeal.τ).loc Cert.FfnVjpIdeal.main_arg2) = m ((c.tc : Thread Cert.FfnVjpIdeal.nD Cert.FfnVjpIdeal.τ).loc Cert.FfnVjpIdeal.main_arg2)
      ∧ r.2.mem ((c.tc : Thread Cert.FfnVjpIdeal.nD Cert.FfnVjpIdeal.τ).loc Cert.FfnVjpIdeal.main_arg3) = m ((c.tc : Thread Cert.FfnVjpIdeal.nD Cert.FfnVjpIdeal.τ).loc Cert.FfnVjpIdeal.main_arg3)
      ∧ r.2.mem ((c.tc : Thread Cert.FfnVjpIdeal.nD Cert.FfnVjpIdeal.τ).loc Cert.FfnVjpIdeal.main_arg4) = m ((c.tc : Thread Cert.FfnVjpIdeal.nD Cert.FfnVjpIdeal.τ).loc Cert.FfnVjpIdeal.main_arg4))
      ∧ r.2.sem = fun _ => 0)

def quiescent_FfnVjpIdeal_pre_ffn_finite [hFfnVjpIdeal : Cert.FfnVjpIdeal.Facts] [hPre_ffn_finite : Cert.Pre_ffn_finite.Facts] : Prop :=
  ∀ (m : (ℓ : Loc Cert.FfnVjpIdeal.nD Cert.FfnVjpIdeal.τ Cert.FfnVjpIdeal.sig) → Buf (Elt Ideal) ℓ) (g : Dev Cert.FfnVjpIdeal.nD → PrngReg), Pre_FfnVjpIdeal_ffn_finite m →
    θ_run (Cert.FfnVjpIdeal.defs (F := Ideal)) (onTc (τ := Cert.FfnVjpIdeal.τ) (Cert.FfnVjpIdeal.main (F := Ideal))) ⟨m, fun _ => 0, g⟩ (fun r => (∀ c : Dev Cert.FfnVjpIdeal.nD,
      r.2.mem ((c.tc : Thread Cert.FfnVjpIdeal.nD Cert.FfnVjpIdeal.τ).loc Cert.FfnVjpIdeal.main_arg0) = m ((c.tc : Thread Cert.FfnVjpIdeal.nD Cert.FfnVjpIdeal.τ).loc Cert.FfnVjpIdeal.main_arg0)
      ∧ r.2.mem ((c.tc : Thread Cert.FfnVjpIdeal.nD Cert.FfnVjpIdeal.τ).loc Cert.FfnVjpIdeal.main_arg1) = m ((c.tc : Thread Cert.FfnVjpIdeal.nD Cert.FfnVjpIdeal.τ).loc Cert.FfnVjpIdeal.main_arg1)
      ∧ r.2.mem ((c.tc : Thread Cert.FfnVjpIdeal.nD Cert.FfnVjpIdeal.τ).loc Cert.FfnVjpIdeal.main_arg2) = m ((c.tc : Thread Cert.FfnVjpIdeal.nD Cert.FfnVjpIdeal.τ).loc Cert.FfnVjpIdeal.main_arg2)
      ∧ r.2.mem ((c.tc : Thread Cert.FfnVjpIdeal.nD Cert.FfnVjpIdeal.τ).loc Cert.FfnVjpIdeal.main_arg3) = m ((c.tc : Thread Cert.FfnVjpIdeal.nD Cert.FfnVjpIdeal.τ).loc Cert.FfnVjpIdeal.main_arg3)
      ∧ r.2.mem ((c.tc : Thread Cert.FfnVjpIdeal.nD Cert.FfnVjpIdeal.τ).loc Cert.FfnVjpIdeal.main_arg4) = m ((c.tc : Thread Cert.FfnVjpIdeal.nD Cert.FfnVjpIdeal.τ).loc Cert.FfnVjpIdeal.main_arg4))
      ∧ r.2.sem = fun _ => 0)

def preserves_MemBwd_MemBwdIdeal : Prop :=
  True

def algebraic_MemBwdIdeal_MemVjpIdeal_pre_mem_finite [hMemBwdIdeal : Cert.MemBwdIdeal.Facts] [hMemVjpIdeal : Cert.MemVjpIdeal.Facts] [hPre_mem_finite : Cert.Pre_mem_finite.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemVjpIdeal.nD Cert.MemVjpIdeal.τ Cert.MemVjpIdeal.sig) → Buf (Elt Ideal) ℓ) (g' : Dev Cert.MemVjpIdeal.nD → PrngReg), Pre_MemBwdIdeal_mem_finite m →
    (∀ c : Dev Cert.MemBwdIdeal.nD,
      m' ((c.tc : Thread Cert.MemVjpIdeal.nD Cert.MemVjpIdeal.τ).loc Cert.MemVjpIdeal.main_arg0) = m ((c.tc : Thread Cert.MemBwdIdeal.nD Cert.MemBwdIdeal.τ).loc Cert.MemBwdIdeal.main_arg0)
      ∧ m' ((c.tc : Thread Cert.MemVjpIdeal.nD Cert.MemVjpIdeal.τ).loc Cert.MemVjpIdeal.main_arg1) = m ((c.tc : Thread Cert.MemBwdIdeal.nD Cert.MemBwdIdeal.τ).loc Cert.MemBwdIdeal.main_arg1)
      ∧ m' ((c.tc : Thread Cert.MemVjpIdeal.nD Cert.MemVjpIdeal.τ).loc Cert.MemVjpIdeal.main_arg2) = m ((c.tc : Thread Cert.MemBwdIdeal.nD Cert.MemBwdIdeal.τ).loc Cert.MemBwdIdeal.main_arg2)) →
    ∃ (v0 : (c : Dev Cert.MemBwdIdeal.nD) → Buf (Elt Ideal) ((c.tc : Thread Cert.MemBwdIdeal.nD Cert.MemBwdIdeal.τ).loc Cert.MemBwdIdeal.main_v7_0)) (v1 : (c : Dev Cert.MemBwdIdeal.nD) → Buf (Elt Ideal) ((c.tc : Thread Cert.MemBwdIdeal.nD Cert.MemBwdIdeal.τ).loc Cert.MemBwdIdeal.main_v7_1)) (v2 : (c : Dev Cert.MemBwdIdeal.nD) → Buf (Elt Ideal) ((c.tc : Thread Cert.MemBwdIdeal.nD Cert.MemBwdIdeal.τ).loc Cert.MemBwdIdeal.main_v7_2)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v7_0) = v0 c
          ∧ r.2.mem ((c.tc : Thread Cert.MemBwdIdeal.nD Cert.MemBwdIdeal.τ).loc Cert.MemBwdIdeal.main_v7_1) = v1 c
          ∧ r.2.mem ((c.tc : Thread Cert.MemBwdIdeal.nD Cert.MemBwdIdeal.τ).loc Cert.MemBwdIdeal.main_v7_2) = v2 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ θ_run (Cert.MemVjpIdeal.defs (F := Ideal)) (onTc (τ := Cert.MemVjpIdeal.τ) (Cert.MemVjpIdeal.main (F := Ideal))) ⟨m', fun _ => 0, g'⟩ (fun r => ∀ c : Dev Cert.MemVjpIdeal.nD,
          r.2.mem ((c.tc : Thread Cert.MemVjpIdeal.nD Cert.MemVjpIdeal.τ).loc Cert.MemVjpIdeal.main_v69) = v0 c
          ∧ r.2.mem ((c.tc : Thread Cert.MemVjpIdeal.nD Cert.MemVjpIdeal.τ).loc Cert.MemVjpIdeal.main_v66) = v1 c
          ∧ r.2.mem ((c.tc : Thread Cert.MemVjpIdeal.nD Cert.MemVjpIdeal.τ).loc Cert.MemVjpIdeal.main_v67) = v2 c
          ∧ r.2.mem ((c.tc : Thread Cert.MemVjpIdeal.nD Cert.MemVjpIdeal.τ).loc Cert.MemVjpIdeal.main_arg0) = m' ((c.tc : Thread Cert.MemVjpIdeal.nD Cert.MemVjpIdeal.τ).loc Cert.MemVjpIdeal.main_arg0)
          ∧ r.2.mem ((c.tc : Thread Cert.MemVjpIdeal.nD Cert.MemVjpIdeal.τ).loc Cert.MemVjpIdeal.main_arg1) = m' ((c.tc : Thread Cert.MemVjpIdeal.nD Cert.MemVjpIdeal.τ).loc Cert.MemVjpIdeal.main_arg1)
          ∧ r.2.mem ((c.tc : Thread Cert.MemVjpIdeal.nD Cert.MemVjpIdeal.τ).loc Cert.MemVjpIdeal.main_arg2) = m' ((c.tc : Thread Cert.MemVjpIdeal.nD Cert.MemVjpIdeal.τ).loc Cert.MemVjpIdeal.main_arg2))

def preserves_FoxBwd_FoxBwdIdeal : Prop :=
  True

def algebraic_FoxBwdIdeal_FoxVjpIdeal_pre_fox_finite [hFoxBwdIdeal : Cert.FoxBwdIdeal.Facts] [hFoxVjpIdeal : Cert.FoxVjpIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxVjpIdeal.nD Cert.FoxVjpIdeal.τ Cert.FoxVjpIdeal.sig) → Buf (Elt Ideal) ℓ) (g' : Dev Cert.FoxVjpIdeal.nD → PrngReg), Pre_FoxBwdIdeal_fox_finite m →
    (∀ c : Dev Cert.FoxBwdIdeal.nD,
      m' ((c.tc : Thread Cert.FoxVjpIdeal.nD Cert.FoxVjpIdeal.τ).loc Cert.FoxVjpIdeal.main_arg0) = m ((c.tc : Thread Cert.FoxBwdIdeal.nD Cert.FoxBwdIdeal.τ).loc Cert.FoxBwdIdeal.main_arg0)
      ∧ m' ((c.tc : Thread Cert.FoxVjpIdeal.nD Cert.FoxVjpIdeal.τ).loc Cert.FoxVjpIdeal.main_arg1) = m ((c.tc : Thread Cert.FoxBwdIdeal.nD Cert.FoxBwdIdeal.τ).loc Cert.FoxBwdIdeal.main_arg1)
      ∧ m' ((c.tc : Thread Cert.FoxVjpIdeal.nD Cert.FoxVjpIdeal.τ).loc Cert.FoxVjpIdeal.main_arg2) = m ((c.tc : Thread Cert.FoxBwdIdeal.nD Cert.FoxBwdIdeal.τ).loc Cert.FoxBwdIdeal.main_arg2)
      ∧ m' ((c.tc : Thread Cert.FoxVjpIdeal.nD Cert.FoxVjpIdeal.τ).loc Cert.FoxVjpIdeal.main_arg3) = m ((c.tc : Thread Cert.FoxBwdIdeal.nD Cert.FoxBwdIdeal.τ).loc Cert.FoxBwdIdeal.main_arg3)
      ∧ m' ((c.tc : Thread Cert.FoxVjpIdeal.nD Cert.FoxVjpIdeal.τ).loc Cert.FoxVjpIdeal.main_arg4) = m ((c.tc : Thread Cert.FoxBwdIdeal.nD Cert.FoxBwdIdeal.τ).loc Cert.FoxBwdIdeal.main_arg4)) →
    ∃ (v0 : (c : Dev Cert.FoxBwdIdeal.nD) → Buf (Elt Ideal) ((c.tc : Thread Cert.FoxBwdIdeal.nD Cert.FoxBwdIdeal.τ).loc Cert.FoxBwdIdeal.main_v93_0)) (v1 : (c : Dev Cert.FoxBwdIdeal.nD) → Buf (Elt Ideal) ((c.tc : Thread Cert.FoxBwdIdeal.nD Cert.FoxBwdIdeal.τ).loc Cert.FoxBwdIdeal.main_v93_1)) (v2 : (c : Dev Cert.FoxBwdIdeal.nD) → Buf (Elt Ideal) ((c.tc : Thread Cert.FoxBwdIdeal.nD Cert.FoxBwdIdeal.τ).loc Cert.FoxBwdIdeal.main_v93_2)) (v3 : (c : Dev Cert.FoxBwdIdeal.nD) → Buf (Elt Ideal) ((c.tc : Thread Cert.FoxBwdIdeal.nD Cert.FoxBwdIdeal.τ).loc Cert.FoxBwdIdeal.main_v93_3)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v93_0) = v0 c
          ∧ r.2.mem ((c.tc : Thread Cert.FoxBwdIdeal.nD Cert.FoxBwdIdeal.τ).loc Cert.FoxBwdIdeal.main_v93_1) = v1 c
          ∧ r.2.mem ((c.tc : Thread Cert.FoxBwdIdeal.nD Cert.FoxBwdIdeal.τ).loc Cert.FoxBwdIdeal.main_v93_2) = v2 c
          ∧ r.2.mem ((c.tc : Thread Cert.FoxBwdIdeal.nD Cert.FoxBwdIdeal.τ).loc Cert.FoxBwdIdeal.main_v93_3) = v3 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
          ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ θ_run (Cert.FoxVjpIdeal.defs (F := Ideal)) (onTc (τ := Cert.FoxVjpIdeal.τ) (Cert.FoxVjpIdeal.main (F := Ideal))) ⟨m', fun _ => 0, g'⟩ (fun r => ∀ c : Dev Cert.FoxVjpIdeal.nD,
          r.2.mem ((c.tc : Thread Cert.FoxVjpIdeal.nD Cert.FoxVjpIdeal.τ).loc Cert.FoxVjpIdeal.main_v70) = v0 c
          ∧ r.2.mem ((c.tc : Thread Cert.FoxVjpIdeal.nD Cert.FoxVjpIdeal.τ).loc Cert.FoxVjpIdeal.main_v72) = v1 c
          ∧ r.2.mem ((c.tc : Thread Cert.FoxVjpIdeal.nD Cert.FoxVjpIdeal.τ).loc Cert.FoxVjpIdeal.main_v74) = v2 c
          ∧ r.2.mem ((c.tc : Thread Cert.FoxVjpIdeal.nD Cert.FoxVjpIdeal.τ).loc Cert.FoxVjpIdeal.main_v68) = v3 c
          ∧ r.2.mem ((c.tc : Thread Cert.FoxVjpIdeal.nD Cert.FoxVjpIdeal.τ).loc Cert.FoxVjpIdeal.main_arg0) = m' ((c.tc : Thread Cert.FoxVjpIdeal.nD Cert.FoxVjpIdeal.τ).loc Cert.FoxVjpIdeal.main_arg0)
          ∧ r.2.mem ((c.tc : Thread Cert.FoxVjpIdeal.nD Cert.FoxVjpIdeal.τ).loc Cert.FoxVjpIdeal.main_arg1) = m' ((c.tc : Thread Cert.FoxVjpIdeal.nD Cert.FoxVjpIdeal.τ).loc Cert.FoxVjpIdeal.main_arg1)
          ∧ r.2.mem ((c.tc : Thread Cert.FoxVjpIdeal.nD Cert.FoxVjpIdeal.τ).loc Cert.FoxVjpIdeal.main_arg2) = m' ((c.tc : Thread Cert.FoxVjpIdeal.nD Cert.FoxVjpIdeal.τ).loc Cert.FoxVjpIdeal.main_arg2)
          ∧ r.2.mem ((c.tc : Thread Cert.FoxVjpIdeal.nD Cert.FoxVjpIdeal.τ).loc Cert.FoxVjpIdeal.main_arg3) = m' ((c.tc : Thread Cert.FoxVjpIdeal.nD Cert.FoxVjpIdeal.τ).loc Cert.FoxVjpIdeal.main_arg3)
          ∧ r.2.mem ((c.tc : Thread Cert.FoxVjpIdeal.nD Cert.FoxVjpIdeal.τ).loc Cert.FoxVjpIdeal.main_arg4) = m' ((c.tc : Thread Cert.FoxVjpIdeal.nD Cert.FoxVjpIdeal.τ).loc Cert.FoxVjpIdeal.main_arg4))

def preserves_GateBwd_GateBwdIdeal : Prop :=
  True

def algebraic_GateBwdIdeal_GateVjpIdeal [hGateBwdIdeal : Cert.GateBwdIdeal.Facts] [hGateVjpIdeal : Cert.GateVjpIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateVjpIdeal.nD Cert.GateVjpIdeal.τ Cert.GateVjpIdeal.sig) → Buf (Elt Ideal) ℓ) (g' : Dev Cert.GateVjpIdeal.nD → PrngReg), Pre_GateBwdIdeal m →
    (∀ c : Dev Cert.GateBwdIdeal.nD,
      m' ((c.tc : Thread Cert.GateVjpIdeal.nD Cert.GateVjpIdeal.τ).loc Cert.GateVjpIdeal.main_arg0) = m ((c.tc : Thread Cert.GateBwdIdeal.nD Cert.GateBwdIdeal.τ).loc Cert.GateBwdIdeal.main_arg0)
      ∧ m' ((c.tc : Thread Cert.GateVjpIdeal.nD Cert.GateVjpIdeal.τ).loc Cert.GateVjpIdeal.main_arg1) = m ((c.tc : Thread Cert.GateBwdIdeal.nD Cert.GateBwdIdeal.τ).loc Cert.GateBwdIdeal.main_arg1)) →
    ∃ (v0 : (c : Dev Cert.GateBwdIdeal.nD) → Buf (Elt Ideal) ((c.tc : Thread Cert.GateBwdIdeal.nD Cert.GateBwdIdeal.τ).loc Cert.GateBwdIdeal.main_v8)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v8) = v0 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1))
      ∧ θ_run (Cert.GateVjpIdeal.defs (F := Ideal)) (onTc (τ := Cert.GateVjpIdeal.τ) (Cert.GateVjpIdeal.main (F := Ideal))) ⟨m', fun _ => 0, g'⟩ (fun r => ∀ c : Dev Cert.GateVjpIdeal.nD,
          r.2.mem ((c.tc : Thread Cert.GateVjpIdeal.nD Cert.GateVjpIdeal.τ).loc Cert.GateVjpIdeal.main_v6) = v0 c
          ∧ r.2.mem ((c.tc : Thread Cert.GateVjpIdeal.nD Cert.GateVjpIdeal.τ).loc Cert.GateVjpIdeal.main_arg0) = m' ((c.tc : Thread Cert.GateVjpIdeal.nD Cert.GateVjpIdeal.τ).loc Cert.GateVjpIdeal.main_arg0)
          ∧ r.2.mem ((c.tc : Thread Cert.GateVjpIdeal.nD Cert.GateVjpIdeal.τ).loc Cert.GateVjpIdeal.main_arg1) = m' ((c.tc : Thread Cert.GateVjpIdeal.nD Cert.GateVjpIdeal.τ).loc Cert.GateVjpIdeal.main_arg1))

def preserves_KvBwd_KvBwdIdeal : Prop :=
  True

def algebraic_KvBwdIdeal_KvVjpIdeal [hKvBwdIdeal : Cert.KvBwdIdeal.Facts] [hKvVjpIdeal : Cert.KvVjpIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvVjpIdeal.nD Cert.KvVjpIdeal.τ Cert.KvVjpIdeal.sig) → Buf (Elt Ideal) ℓ) (g' : Dev Cert.KvVjpIdeal.nD → PrngReg), Pre_KvBwdIdeal m →
    (∀ c : Dev Cert.KvBwdIdeal.nD,
      m' ((c.tc : Thread Cert.KvVjpIdeal.nD Cert.KvVjpIdeal.τ).loc Cert.KvVjpIdeal.main_arg0) = m ((c.tc : Thread Cert.KvBwdIdeal.nD Cert.KvBwdIdeal.τ).loc Cert.KvBwdIdeal.main_arg0)
      ∧ m' ((c.tc : Thread Cert.KvVjpIdeal.nD Cert.KvVjpIdeal.τ).loc Cert.KvVjpIdeal.main_arg1) = m ((c.tc : Thread Cert.KvBwdIdeal.nD Cert.KvBwdIdeal.τ).loc Cert.KvBwdIdeal.main_arg1)
      ∧ m' ((c.tc : Thread Cert.KvVjpIdeal.nD Cert.KvVjpIdeal.τ).loc Cert.KvVjpIdeal.main_arg2) = m ((c.tc : Thread Cert.KvBwdIdeal.nD Cert.KvBwdIdeal.τ).loc Cert.KvBwdIdeal.main_arg2)
      ∧ m' ((c.tc : Thread Cert.KvVjpIdeal.nD Cert.KvVjpIdeal.τ).loc Cert.KvVjpIdeal.main_arg3) = m ((c.tc : Thread Cert.KvBwdIdeal.nD Cert.KvBwdIdeal.τ).loc Cert.KvBwdIdeal.main_arg3)) →
    ∃ (v0 : (c : Dev Cert.KvBwdIdeal.nD) → Buf (Elt Ideal) ((c.tc : Thread Cert.KvBwdIdeal.nD Cert.KvBwdIdeal.τ).loc Cert.KvBwdIdeal.main_v18_0)) (v1 : (c : Dev Cert.KvBwdIdeal.nD) → Buf (Elt Ideal) ((c.tc : Thread Cert.KvBwdIdeal.nD Cert.KvBwdIdeal.τ).loc Cert.KvBwdIdeal.main_v18_1)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v18_0) = v0 c
          ∧ r.2.mem ((c.tc : Thread Cert.KvBwdIdeal.nD Cert.KvBwdIdeal.τ).loc Cert.KvBwdIdeal.main_v18_1) = v1 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ θ_run (Cert.KvVjpIdeal.defs (F := Ideal)) (onTc (τ := Cert.KvVjpIdeal.τ) (Cert.KvVjpIdeal.main (F := Ideal))) ⟨m', fun _ => 0, g'⟩ (fun r => ∀ c : Dev Cert.KvVjpIdeal.nD,
          r.2.mem ((c.tc : Thread Cert.KvVjpIdeal.nD Cert.KvVjpIdeal.τ).loc Cert.KvVjpIdeal.main_v15) = v0 c
          ∧ r.2.mem ((c.tc : Thread Cert.KvVjpIdeal.nD Cert.KvVjpIdeal.τ).loc Cert.KvVjpIdeal.main_v21) = v1 c
          ∧ r.2.mem ((c.tc : Thread Cert.KvVjpIdeal.nD Cert.KvVjpIdeal.τ).loc Cert.KvVjpIdeal.main_arg0) = m' ((c.tc : Thread Cert.KvVjpIdeal.nD Cert.KvVjpIdeal.τ).loc Cert.KvVjpIdeal.main_arg0)
          ∧ r.2.mem ((c.tc : Thread Cert.KvVjpIdeal.nD Cert.KvVjpIdeal.τ).loc Cert.KvVjpIdeal.main_arg1) = m' ((c.tc : Thread Cert.KvVjpIdeal.nD Cert.KvVjpIdeal.τ).loc Cert.KvVjpIdeal.main_arg1)
          ∧ r.2.mem ((c.tc : Thread Cert.KvVjpIdeal.nD Cert.KvVjpIdeal.τ).loc Cert.KvVjpIdeal.main_arg2) = m' ((c.tc : Thread Cert.KvVjpIdeal.nD Cert.KvVjpIdeal.τ).loc Cert.KvVjpIdeal.main_arg2)
          ∧ r.2.mem ((c.tc : Thread Cert.KvVjpIdeal.nD Cert.KvVjpIdeal.τ).loc Cert.KvVjpIdeal.main_arg3) = m' ((c.tc : Thread Cert.KvVjpIdeal.nD Cert.KvVjpIdeal.τ).loc Cert.KvVjpIdeal.main_arg3))

def preserves_InBwd_InBwdIdeal : Prop :=
  True

def algebraic_InBwdIdeal_InVjpIdeal_pre_in_finite [hInBwdIdeal : Cert.InBwdIdeal.Facts] [hInVjpIdeal : Cert.InVjpIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InVjpIdeal.nD Cert.InVjpIdeal.τ Cert.InVjpIdeal.sig) → Buf (Elt Ideal) ℓ) (g' : Dev Cert.InVjpIdeal.nD → PrngReg), Pre_InBwdIdeal_in_finite m →
    (∀ c : Dev Cert.InBwdIdeal.nD,
      m' ((c.tc : Thread Cert.InVjpIdeal.nD Cert.InVjpIdeal.τ).loc Cert.InVjpIdeal.main_arg0) = m ((c.tc : Thread Cert.InBwdIdeal.nD Cert.InBwdIdeal.τ).loc Cert.InBwdIdeal.main_arg0)
      ∧ m' ((c.tc : Thread Cert.InVjpIdeal.nD Cert.InVjpIdeal.τ).loc Cert.InVjpIdeal.main_arg1) = m ((c.tc : Thread Cert.InBwdIdeal.nD Cert.InBwdIdeal.τ).loc Cert.InBwdIdeal.main_arg1)
      ∧ m' ((c.tc : Thread Cert.InVjpIdeal.nD Cert.InVjpIdeal.τ).loc Cert.InVjpIdeal.main_arg2) = m ((c.tc : Thread Cert.InBwdIdeal.nD Cert.InBwdIdeal.τ).loc Cert.InBwdIdeal.main_arg2)
      ∧ m' ((c.tc : Thread Cert.InVjpIdeal.nD Cert.InVjpIdeal.τ).loc Cert.InVjpIdeal.main_arg3) = m ((c.tc : Thread Cert.InBwdIdeal.nD Cert.InBwdIdeal.τ).loc Cert.InBwdIdeal.main_arg3)
      ∧ m' ((c.tc : Thread Cert.InVjpIdeal.nD Cert.InVjpIdeal.τ).loc Cert.InVjpIdeal.main_arg4) = m ((c.tc : Thread Cert.InBwdIdeal.nD Cert.InBwdIdeal.τ).loc Cert.InBwdIdeal.main_arg4)
      ∧ m' ((c.tc : Thread Cert.InVjpIdeal.nD Cert.InVjpIdeal.τ).loc Cert.InVjpIdeal.main_arg5) = m ((c.tc : Thread Cert.InBwdIdeal.nD Cert.InBwdIdeal.τ).loc Cert.InBwdIdeal.main_arg5)) →
    ∃ (v0 : (c : Dev Cert.InBwdIdeal.nD) → Buf (Elt Ideal) ((c.tc : Thread Cert.InBwdIdeal.nD Cert.InBwdIdeal.τ).loc Cert.InBwdIdeal.main_v27_0)) (v1 : (c : Dev Cert.InBwdIdeal.nD) → Buf (Elt Ideal) ((c.tc : Thread Cert.InBwdIdeal.nD Cert.InBwdIdeal.τ).loc Cert.InBwdIdeal.main_v27_1)) (v2 : (c : Dev Cert.InBwdIdeal.nD) → Buf (Elt Ideal) ((c.tc : Thread Cert.InBwdIdeal.nD Cert.InBwdIdeal.τ).loc Cert.InBwdIdeal.main_v27_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v27_0) = v0 c
          ∧ r.2.mem ((c.tc : Thread Cert.InBwdIdeal.nD Cert.InBwdIdeal.τ).loc Cert.InBwdIdeal.main_v27_1) = v1 c
          ∧ r.2.mem ((c.tc : Thread Cert.InBwdIdeal.nD Cert.InBwdIdeal.τ).loc Cert.InBwdIdeal.main_v27_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ θ_run (Cert.InVjpIdeal.defs (F := Ideal)) (onTc (τ := Cert.InVjpIdeal.τ) (Cert.InVjpIdeal.main (F := Ideal))) ⟨m', fun _ => 0, g'⟩ (fun r => ∀ c : Dev Cert.InVjpIdeal.nD,
          r.2.mem ((c.tc : Thread Cert.InVjpIdeal.nD Cert.InVjpIdeal.τ).loc Cert.InVjpIdeal.main_v52) = v0 c
          ∧ r.2.mem ((c.tc : Thread Cert.InVjpIdeal.nD Cert.InVjpIdeal.τ).loc Cert.InVjpIdeal.main_v53) = v1 c
          ∧ r.2.mem ((c.tc : Thread Cert.InVjpIdeal.nD Cert.InVjpIdeal.τ).loc Cert.InVjpIdeal.main_v55) = v2 c
          ∧ r.2.mem ((c.tc : Thread Cert.InVjpIdeal.nD Cert.InVjpIdeal.τ).loc Cert.InVjpIdeal.main_arg0) = m' ((c.tc : Thread Cert.InVjpIdeal.nD Cert.InVjpIdeal.τ).loc Cert.InVjpIdeal.main_arg0)
          ∧ r.2.mem ((c.tc : Thread Cert.InVjpIdeal.nD Cert.InVjpIdeal.τ).loc Cert.InVjpIdeal.main_arg1) = m' ((c.tc : Thread Cert.InVjpIdeal.nD Cert.InVjpIdeal.τ).loc Cert.InVjpIdeal.main_arg1)
          ∧ r.2.mem ((c.tc : Thread Cert.InVjpIdeal.nD Cert.InVjpIdeal.τ).loc Cert.InVjpIdeal.main_arg2) = m' ((c.tc : Thread Cert.InVjpIdeal.nD Cert.InVjpIdeal.τ).loc Cert.InVjpIdeal.main_arg2)
          ∧ r.2.mem ((c.tc : Thread Cert.InVjpIdeal.nD Cert.InVjpIdeal.τ).loc Cert.InVjpIdeal.main_arg3) = m' ((c.tc : Thread Cert.InVjpIdeal.nD Cert.InVjpIdeal.τ).loc Cert.InVjpIdeal.main_arg3)
          ∧ r.2.mem ((c.tc : Thread Cert.InVjpIdeal.nD Cert.InVjpIdeal.τ).loc Cert.InVjpIdeal.main_arg4) = m' ((c.tc : Thread Cert.InVjpIdeal.nD Cert.InVjpIdeal.τ).loc Cert.InVjpIdeal.main_arg4)
          ∧ r.2.mem ((c.tc : Thread Cert.InVjpIdeal.nD Cert.InVjpIdeal.τ).loc Cert.InVjpIdeal.main_arg5) = m' ((c.tc : Thread Cert.InVjpIdeal.nD Cert.InVjpIdeal.τ).loc Cert.InVjpIdeal.main_arg5))

def preserves_FfnBwd_FfnBwdIdeal : Prop :=
  True

def algebraic_FfnBwdIdeal_FfnVjpIdeal_pre_ffn_finite [hFfnBwdIdeal : Cert.FfnBwdIdeal.Facts] [hFfnVjpIdeal : Cert.FfnVjpIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnVjpIdeal.nD Cert.FfnVjpIdeal.τ Cert.FfnVjpIdeal.sig) → Buf (Elt Ideal) ℓ) (g' : Dev Cert.FfnVjpIdeal.nD → PrngReg), Pre_FfnBwdIdeal_ffn_finite m →
    (∀ c : Dev Cert.FfnBwdIdeal.nD,
      m' ((c.tc : Thread Cert.FfnVjpIdeal.nD Cert.FfnVjpIdeal.τ).loc Cert.FfnVjpIdeal.main_arg0) = m ((c.tc : Thread Cert.FfnBwdIdeal.nD Cert.FfnBwdIdeal.τ).loc Cert.FfnBwdIdeal.main_arg0)
      ∧ m' ((c.tc : Thread Cert.FfnVjpIdeal.nD Cert.FfnVjpIdeal.τ).loc Cert.FfnVjpIdeal.main_arg1) = m ((c.tc : Thread Cert.FfnBwdIdeal.nD Cert.FfnBwdIdeal.τ).loc Cert.FfnBwdIdeal.main_arg1)
      ∧ m' ((c.tc : Thread Cert.FfnVjpIdeal.nD Cert.FfnVjpIdeal.τ).loc Cert.FfnVjpIdeal.main_arg2) = m ((c.tc : Thread Cert.FfnBwdIdeal.nD Cert.FfnBwdIdeal.τ).loc Cert.FfnBwdIdeal.main_arg2)
      ∧ m' ((c.tc : Thread Cert.FfnVjpIdeal.nD Cert.FfnVjpIdeal.τ).loc Cert.FfnVjpIdeal.main_arg3) = m ((c.tc : Thread Cert.FfnBwdIdeal.nD Cert.FfnBwdIdeal.τ).loc Cert.FfnBwdIdeal.main_arg3)
      ∧ m' ((c.tc : Thread Cert.FfnVjpIdeal.nD Cert.FfnVjpIdeal.τ).loc Cert.FfnVjpIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v20_0)) (v1 : (c : Dev Cert.FfnBwdIdeal.nD) → Buf (Elt Ideal) ((c.tc : Thread Cert.FfnBwdIdeal.nD Cert.FfnBwdIdeal.τ).loc Cert.FfnBwdIdeal.main_v20_1)) (v2 : (c : Dev Cert.FfnBwdIdeal.nD) → Buf (Elt Ideal) ((c.tc : Thread Cert.FfnBwdIdeal.nD Cert.FfnBwdIdeal.τ).loc Cert.FfnBwdIdeal.main_v20_2)) (v3 : (c : Dev Cert.FfnBwdIdeal.nD) → Buf (Elt Ideal) ((c.tc : Thread Cert.FfnBwdIdeal.nD Cert.FfnBwdIdeal.τ).loc Cert.FfnBwdIdeal.main_v20_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v20_0) = v0 c
          ∧ r.2.mem ((c.tc : Thread Cert.FfnBwdIdeal.nD Cert.FfnBwdIdeal.τ).loc Cert.FfnBwdIdeal.main_v20_1) = v1 c
          ∧ r.2.mem ((c.tc : Thread Cert.FfnBwdIdeal.nD Cert.FfnBwdIdeal.τ).loc Cert.FfnBwdIdeal.main_v20_2) = v2 c
          ∧ r.2.mem ((c.tc : Thread Cert.FfnBwdIdeal.nD Cert.FfnBwdIdeal.τ).loc Cert.FfnBwdIdeal.main_v20_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnVjpIdeal.defs (F := Ideal)) (onTc (τ := Cert.FfnVjpIdeal.τ) (Cert.FfnVjpIdeal.main (F := Ideal))) ⟨m', fun _ => 0, g'⟩ (fun r => ∀ c : Dev Cert.FfnVjpIdeal.nD,
          r.2.mem ((c.tc : Thread Cert.FfnVjpIdeal.nD Cert.FfnVjpIdeal.τ).loc Cert.FfnVjpIdeal.main_v38) = v0 c
          ∧ r.2.mem ((c.tc : Thread Cert.FfnVjpIdeal.nD Cert.FfnVjpIdeal.τ).loc Cert.FfnVjpIdeal.main_v40) = v1 c
          ∧ r.2.mem ((c.tc : Thread Cert.FfnVjpIdeal.nD Cert.FfnVjpIdeal.τ).loc Cert.FfnVjpIdeal.main_v42) = v2 c
          ∧ r.2.mem ((c.tc : Thread Cert.FfnVjpIdeal.nD Cert.FfnVjpIdeal.τ).loc Cert.FfnVjpIdeal.main_v44) = v3 c
          ∧ r.2.mem ((c.tc : Thread Cert.FfnVjpIdeal.nD Cert.FfnVjpIdeal.τ).loc Cert.FfnVjpIdeal.main_arg0) = m' ((c.tc : Thread Cert.FfnVjpIdeal.nD Cert.FfnVjpIdeal.τ).loc Cert.FfnVjpIdeal.main_arg0)
          ∧ r.2.mem ((c.tc : Thread Cert.FfnVjpIdeal.nD Cert.FfnVjpIdeal.τ).loc Cert.FfnVjpIdeal.main_arg1) = m' ((c.tc : Thread Cert.FfnVjpIdeal.nD Cert.FfnVjpIdeal.τ).loc Cert.FfnVjpIdeal.main_arg1)
          ∧ r.2.mem ((c.tc : Thread Cert.FfnVjpIdeal.nD Cert.FfnVjpIdeal.τ).loc Cert.FfnVjpIdeal.main_arg2) = m' ((c.tc : Thread Cert.FfnVjpIdeal.nD Cert.FfnVjpIdeal.τ).loc Cert.FfnVjpIdeal.main_arg2)
          ∧ r.2.mem ((c.tc : Thread Cert.FfnVjpIdeal.nD Cert.FfnVjpIdeal.τ).loc Cert.FfnVjpIdeal.main_arg3) = m' ((c.tc : Thread Cert.FfnVjpIdeal.nD Cert.FfnVjpIdeal.τ).loc Cert.FfnVjpIdeal.main_arg3)
          ∧ r.2.mem ((c.tc : Thread Cert.FfnVjpIdeal.nD Cert.FfnVjpIdeal.τ).loc Cert.FfnVjpIdeal.main_arg4) = m' ((c.tc : Thread Cert.FfnVjpIdeal.nD Cert.FfnVjpIdeal.τ).loc Cert.FfnVjpIdeal.main_arg4))

def Claim : Prop :=
  ∃ (hMemBwd : Cert.MemBwd.Facts) (hMemBwdIdeal : Cert.MemBwdIdeal.Facts) (hMemVjpIdeal : Cert.MemVjpIdeal.Facts) (hFoxBwd : Cert.FoxBwd.Facts) (hFoxBwdIdeal : Cert.FoxBwdIdeal.Facts) (hFoxVjpIdeal : Cert.FoxVjpIdeal.Facts) (hGateBwd : Cert.GateBwd.Facts) (hGateBwdIdeal : Cert.GateBwdIdeal.Facts) (hGateVjpIdeal : Cert.GateVjpIdeal.Facts) (hKvBwd : Cert.KvBwd.Facts) (hKvBwdIdeal : Cert.KvBwdIdeal.Facts) (hKvVjpIdeal : Cert.KvVjpIdeal.Facts) (hInBwd : Cert.InBwd.Facts) (hInBwdIdeal : Cert.InBwdIdeal.Facts) (hInVjpIdeal : Cert.InVjpIdeal.Facts) (hFfnBwd : Cert.FfnBwd.Facts) (hFfnBwdIdeal : Cert.FfnBwdIdeal.Facts) (hFfnVjpIdeal : Cert.FfnVjpIdeal.Facts) (hPre_mem_finite : Cert.Pre_mem_finite.Facts) (hPre_fox_finite : Cert.Pre_fox_finite.Facts) (hPre_in_finite : Cert.Pre_in_finite.Facts) (hPre_ffn_finite : Cert.Pre_ffn_finite.Facts),
    quiescent_MemBwd (hMemBwd := hMemBwd)
    ∧ quiescent_MemBwdIdeal (hMemBwdIdeal := hMemBwdIdeal)
    ∧ quiescent_MemBwdIdeal_pre_mem_finite (hMemBwdIdeal := hMemBwdIdeal) (hPre_mem_finite := hPre_mem_finite)
    ∧ quiescent_MemVjpIdeal (hMemVjpIdeal := hMemVjpIdeal)
    ∧ quiescent_MemVjpIdeal_pre_mem_finite (hMemVjpIdeal := hMemVjpIdeal) (hPre_mem_finite := hPre_mem_finite)
    ∧ quiescent_FoxBwd (hFoxBwd := hFoxBwd)
    ∧ quiescent_FoxBwdIdeal (hFoxBwdIdeal := hFoxBwdIdeal)
    ∧ quiescent_FoxBwdIdeal_pre_fox_finite (hFoxBwdIdeal := hFoxBwdIdeal) (hPre_fox_finite := hPre_fox_finite)
    ∧ quiescent_FoxVjpIdeal (hFoxVjpIdeal := hFoxVjpIdeal)
    ∧ quiescent_FoxVjpIdeal_pre_fox_finite (hFoxVjpIdeal := hFoxVjpIdeal) (hPre_fox_finite := hPre_fox_finite)
    ∧ quiescent_GateBwd (hGateBwd := hGateBwd)
    ∧ quiescent_GateBwdIdeal (hGateBwdIdeal := hGateBwdIdeal)
    ∧ quiescent_GateVjpIdeal (hGateVjpIdeal := hGateVjpIdeal)
    ∧ quiescent_KvBwd (hKvBwd := hKvBwd)
    ∧ quiescent_KvBwdIdeal (hKvBwdIdeal := hKvBwdIdeal)
    ∧ quiescent_KvVjpIdeal (hKvVjpIdeal := hKvVjpIdeal)
    ∧ quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InVjpIdeal (hInVjpIdeal := hInVjpIdeal)
    ∧ quiescent_InVjpIdeal_pre_in_finite (hInVjpIdeal := hInVjpIdeal) (hPre_in_finite := hPre_in_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnVjpIdeal (hFfnVjpIdeal := hFfnVjpIdeal)
    ∧ quiescent_FfnVjpIdeal_pre_ffn_finite (hFfnVjpIdeal := hFfnVjpIdeal) (hPre_ffn_finite := hPre_ffn_finite)
    ∧ preserves_MemBwd_MemBwdIdeal
    ∧ algebraic_MemBwdIdeal_MemVjpIdeal_pre_mem_finite (hMemBwdIdeal := hMemBwdIdeal) (hMemVjpIdeal := hMemVjpIdeal) (hPre_mem_finite := hPre_mem_finite)
    ∧ preserves_FoxBwd_FoxBwdIdeal
    ∧ algebraic_FoxBwdIdeal_FoxVjpIdeal_pre_fox_finite (hFoxBwdIdeal := hFoxBwdIdeal) (hFoxVjpIdeal := hFoxVjpIdeal) (hPre_fox_finite := hPre_fox_finite)
    ∧ preserves_GateBwd_GateBwdIdeal
    ∧ algebraic_GateBwdIdeal_GateVjpIdeal (hGateBwdIdeal := hGateBwdIdeal) (hGateVjpIdeal := hGateVjpIdeal)
    ∧ preserves_KvBwd_KvBwdIdeal
    ∧ algebraic_KvBwdIdeal_KvVjpIdeal (hKvBwdIdeal := hKvBwdIdeal) (hKvVjpIdeal := hKvVjpIdeal)
    ∧ preserves_InBwd_InBwdIdeal
    ∧ algebraic_InBwdIdeal_InVjpIdeal_pre_in_finite (hInBwdIdeal := hInBwdIdeal) (hInVjpIdeal := hInVjpIdeal) (hPre_in_finite := hPre_in_finite)
    ∧ preserves_FfnBwd_FfnBwdIdeal
    ∧ algebraic_FfnBwdIdeal_FfnVjpIdeal_pre_ffn_finite (hFfnBwdIdeal := hFfnBwdIdeal) (hFfnVjpIdeal := hFfnVjpIdeal) (hPre_ffn_finite := hPre_ffn_finite)
-- ==== Pre_ffn_finite.lean ====
abbrev S2x2048x1024 : Shape := ⟨3, ![2, 2048, 1024]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2x2048x1024 .f32) (main_arg1 : FVec F S1024x2816 .f32) (main_arg2 : FVec F S1024x2816 .f32) (main_arg3 : FVec F S2816x1024 .f32) (main_arg4 : FVec F S2x2048x1024 .f32) : IVec S2x2048x1024 1 × IVec S1024x2816 1 × IVec S2816x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S2x2048x1024 .f32 := Host.absf main_arg4
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  (main_v2, main_v5, main_v8, main_v11)
-- ==== Pre_fox_finite.lean ====
abbrev S2x2048x384 : Shape := ⟨3, ![2, 2048, 384]⟩
abbrev S2x2048x6 : Shape := ⟨3, ![2, 2048, 6]⟩
abbrev S_ : Shape := ⟨0, ![]⟩

class Facts : Prop where
  bcast_S_S2x2048x384 : S_.BroadcastsInDim S2x2048x384 (![] : Fin 0 → Fin S2x2048x384.rank)
  bcast_S_S2x2048x6 : S_.BroadcastsInDim S2x2048x6 (![] : Fin 0 → Fin S2x2048x6.rank)

variable [Facts]

def fn {F : FTy → Type} [FloatOps F] (main_arg0 : FVec F S2x2048x384 .f32) (main_arg1 : FVec F S2x2048x384 .f32) (main_arg2 : FVec F S2x2048x384 .f32) (main_arg3 : FVec F S2x2048x6 .f32) (main_arg4 : FVec F S2x2048x384 .f32) : IVec S2x2048x384 1 × IVec S2x2048x384 1 × IVec S2x2048x384 1 × IVec S2x2048x6 1 × IVec S2x2048x384 1 :=
  let main_v0 : FVec F S2x2048x384 .f32 := Host.absf main_arg0
  let main_cst : FVec F S_ .f32 := constant S_ .f32 0x7F800000#32
  let main_v1 : FVec F S2x2048x384 .f32 := broadcastInDim S2x2048x384 ![] bcast_S_S2x2048x384 main_cst
  let main_v2 : IVec S2x2048x384 1 := cmpf .olt main_v0 main_v1
  let main_v3 : FVec F S2x2048x384 .f32 := Host.absf main_arg1
  let main_cst_0 : FVec F S_ .f32 := constant S_ .f32 0x7F800000#32
  let main_v4 : FVec F S2x2048x384 .f32 := broadcastInDim S2x2048x384 ![] bcast_S_S2x2048x384 main_cst_0
  let main_v5 : IVec S2x2048x384 1 := cmpf .olt main_v3 main_v4
  let main_v6 : FVec F S2x2048x384 .f32 := Host.absf main_arg2
  let main_cst_1 : FVec F S_ .f32 := constant S_ .f32 0x7F800000#32
  let main_v7 : FVec F S2x2048x384 .f32 := broadcastInDim S2x2048x384 ![] bcast_S_S2x2048x384 main_cst_1
  let main_v8 : IVec S2x2048x384 1 := cmpf .olt main_v6 main_v7
  let main_v9 : FVec F S2x2048x6 .f32 := Host.absf main_arg3
  let main_cst_2 : FVec F S_ .f32 := constant S_ .f32 0x7F800000#32
  let main_v10 : FVec F S2x2048x6 .f32 := broadcastInDim S2x2048x6 ![] bcast_S_S2x2048x6 main_cst_2
  let main_v11 : IVec S2x2048x6 1 := cmpf .olt main_v9 main_v10
  let main_v12 : FVec F S2x2048x384 .f32 := Host.absf main_arg4
  let main_cst_3 : FVec F S_ .f32 := constant S_ .f32 0x7F800000#32
  let main_v13 : FVec F S2x2048x384 .f32 := broadcastInDim S2x2048x384 ![] bcast_S_S2x2048x384 main_cst_3
  let main_v14 : IVec S2x2048x384 1 := cmpf .olt main_v12 main_v13
  (main_v2, main_v5, main_v8, main_v11, main_v14)
-- ==== Pre_in_finite.lean ====
abbrev S2x2048x1024 : Shape := ⟨3, ![2, 2048, 1024]⟩
abbrev S1024 : Shape := ⟨1, ![1024]⟩
abbrev S1024x2182 : Shape := ⟨2, ![1024, 2182]⟩
abbrev S6 : Shape := ⟨1, ![6]⟩
abbrev S2x2048x2182 : Shape := ⟨3, ![2, 2048, 2182]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S_S1024x2182 : S_.BroadcastsInDim S1024x2182 (![] : Fin 0 → Fin S1024x2182.rank)
  bcast_S_S2x2048x2182 : S_.BroadcastsInDim S2x2048x2182 (![] : Fin 0 → Fin S2x2048x2182.rank)

variable [Facts]

def fn {F : FTy → Type} [FloatOps F] (main_arg0 : FVec F S2x2048x1024 .f32) (main_arg1 : FVec F S1024 .f32) (main_arg2 : FVec F S1024x2182 .f32) (main_arg3 : FVec F S6 .f32) (main_arg4 : FVec F S2x2048x2182 .f32) (main_arg5 : FVec F S2x2048x1024 .f32) : IVec S2x2048x1024 1 × IVec S1024 1 × IVec S1024x2182 1 × IVec S2x2048x2182 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2182 .f32 := Host.absf main_arg2
  let main_cst_1 : FVec F S_ .f32 := constant S_ .f32 0x7F800000#32
  let main_v7 : FVec F S1024x2182 .f32 := broadcastInDim S1024x2182 ![] bcast_S_S1024x2182 main_cst_1
  let main_v8 : IVec S1024x2182 1 := cmpf .olt main_v6 main_v7
  let main_v9 : FVec F S2x2048x2182 .f32 := Host.absf main_arg4
  let main_cst_2 : FVec F S_ .f32 := constant S_ .f32 0x7F800000#32
  let main_v10 : FVec F S2x2048x2182 .f32 := broadcastInDim S2x2048x2182 ![] bcast_S_S2x2048x2182 main_cst_2
  let main_v11 : IVec S2x2048x2182 1 := cmpf .olt main_v9 main_v10
  (main_v2, main_v5, main_v8, main_v11)
-- ==== Pre_mem_finite.lean ====
abbrev S2x2048x256 : Shape := ⟨3, ![2, 2048, 256]⟩
abbrev S2x256x512 : Shape := ⟨3, ![2, 256, 512]⟩
abbrev S_ : Shape := ⟨0, ![]⟩

class Facts : Prop where
  bcast_S_S2x2048x256 : S_.BroadcastsInDim S2x2048x256 (![] : Fin 0 → Fin S2x2048x256.rank)
  bcast_S_S2x256x512 : S_.BroadcastsInDim S2x256x512 (![] : Fin 0 → Fin S2x256x512.rank)

variable [Facts]

def fn {F : FTy → Type} [FloatOps F] (main_arg0 : FVec F S2x2048x256 .f32) (main_arg1 : FVec F S2x256x512 .f32) (main_arg2 : FVec F S2x2048x256 .f32) : IVec S2x2048x256 1 × IVec S2x256x512 1 × IVec S2x2048x256 1 :=
  let main_v0 : FVec F S2x2048x256 .f32 := Host.absf main_arg0
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_v3 : FVec F S2x256x512 .f32 := Host.absf main_arg1
  let main_cst_0 : FVec F S_ .f32 := constant S_ .f32 0x7F800000#32
  let main_v4 : FVec F S2x256x512 .f32 := broadcastInDim S2x256x512 ![] bcast_S_S2x256x512 main_cst_0
  let main_v5 : IVec S2x256x512 1 := cmpf .olt main_v3 main_v4
  let main_v6 : FVec F S2x2048x256 .f32 := Host.absf main_arg2
  let main_cst_1 : FVec F S_ .f32 := constant S_ .f32 0x7F800000#32
  let main_v7 : FVec F S2x2048x256 .f32 := broadcastInDim S2x2048x256 ![] bcast_S_S2x2048x256 main_cst_1
  let main_v8 : IVec S2x2048x256 1 := cmpf .olt main_v6 main_v7
  (main_v2, main_v5, main_v8)
-- ==== MemBwd.lean ====
abbrev S2x2048x256 : Shape := ⟨3, ![2, 2048, 256]⟩
abbrev S2x256x512 : Shape := ⟨3, ![2, 256, 512]⟩
abbrev S_ : Shape := ⟨0, ![]⟩
abbrev S4096x1920 : Shape := ⟨2, ![4096, 1920]⟩
abbrev S4096x256 : Shape := ⟨2, ![4096, 256]⟩
abbrev S4096x2176 : Shape := ⟨2, ![4096, 2176]⟩
abbrev S2x256x256 : Shape := ⟨3, ![2, 256, 256]⟩
abbrev S2048x128 : Shape := ⟨2, ![2048, 128]⟩
abbrev S1x256x128 : Shape := ⟨3, ![1, 256, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x2048x256, .f32⟩
  | .hbm, ⟨1, _⟩ => ⟨S2x256x512, .f32⟩
  | .hbm, ⟨2, _⟩ => ⟨S2x2048x256, .f32⟩
  | .hbm, ⟨3, _⟩ => ⟨S_, .f32⟩
  | .hbm, ⟨4, _⟩ => ⟨S4096x1920, .f32⟩
  | .hbm, ⟨5, _⟩ => ⟨S4096x256, .f32⟩
  | .hbm, ⟨6, _⟩ => ⟨S4096x2176, .f32⟩
  | .hbm, ⟨7, _⟩ => ⟨S4096x2176, .bf16⟩
  | .hbm, ⟨8, _⟩ => ⟨S2x256x512, .bf16⟩
  | .hbm, ⟨9, _⟩ => ⟨S4096x256, .f32⟩
  | .hbm, ⟨10, _⟩ => ⟨S4096x256, .bf16⟩
  | .hbm, ⟨11, _⟩ => ⟨S4096x256, .bf16⟩
  | .hbm, ⟨12, _⟩ => ⟨S2x256x256, .f32⟩
  | .hbm, ⟨13, _⟩ => ⟨S2x256x256, .f32⟩
  | .local _ .vmem, ⟨0, _⟩ => ⟨S2048x128, .bf16⟩
  | .local _ .vmem, ⟨1, _⟩ => ⟨S2048x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v96 : BitVec 32 := Scalar.extui v0
  let c0_i32_50 : BitVec 32 := 0#32
  let v97 : BitVec 1 := Scalar.cmpi .ne v96 c0_i32_50
  v97

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v98 : BitVec 1 := Scalar.xori v0 v_true
  let v99 : BitVec 32 := Scalar.extui v98
  let c0_i32_51 : BitVec 32 := 0#32
  let v100 : BitVec 1 := Scalar.cmpi .ne v99 c0_i32_51
  v100

def k0_cond3 (i : grid0.Coords) : BitVec 1 :=
  let arg2 : BitVec 32 := BitVec.ofNat 32 (i 2).val
  let c0_i32 : BitVec 32 := 0#32
  let v0 : BitVec 1 := Scalar.cmpi .eq arg2 c0_i32
  let v102 : BitVec 32 := Scalar.extui v0
  let c0_i32_52 : BitVec 32 := 0#32
  let v103 : BitVec 1 := Scalar.cmpi .ne v102 c0_i32_52
  v103

def k0_cond4 (i : grid0.Coords) : BitVec 1 :=
  let arg2 : BitVec 32 := BitVec.ofNat 32 (i 2).val
  let c0_i32 : BitVec 32 := 0#32
  let v0 : BitVec 1 := Scalar.cmpi .eq arg2 c0_i32
  let true_53 : BitVec 1 := 1#1
  let v104 : BitVec 1 := Scalar.xori v0 true_53
  let v105 : BitVec 32 := Scalar.extui v104
  let c0_i32_54 : BitVec 32 := 0#32
  let v106 : BitVec 1 := Scalar.cmpi .ne v105 c0_i32_54
  v106

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c15_i32 : BitVec 32 := 15#32
  let v2 : BitVec 32 := Scalar.addi c15_i32 arg1
  let c0_i32 : BitVec 32 := 0#32
  ![v1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MemVjpIdeal.lean ====
abbrev S2x2048x256 : Shape := ⟨3, ![2, 2048, 256]⟩
abbrev S2x256x512 : Shape := ⟨3, ![2, 256, 512]⟩
abbrev S2x256x256 : Shape := ⟨3, ![2, 256, 256]⟩
abbrev S2x2048x4x64 : Shape := ⟨4, ![2, 2048, 4, 64]⟩
abbrev S2x256x4x64 : Shape := ⟨4, ![2, 256, 4, 64]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x4x64x256 : Shape := ⟨4, ![2, 4, 64, 256]⟩
abbrev S2x4x256x64 : Shape := ⟨4, ![2, 4, 256, 64]⟩
abbrev S2x4x2048x64 : Shape := ⟨4, ![2, 4, 2048, 64]⟩
abbrev S4096x256 : Shape := ⟨2, ![4096, 256]⟩

abbrev nBuf : Space → Nat
  | .hbm => 87
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x256x512, .f32⟩
  | .hbm, ⟨2, _⟩ => ⟨S2x2048x256, .f32⟩
  | .hbm, ⟨3, _⟩ => ⟨S2x256x256, .f32⟩
  | .hbm, ⟨4, _⟩ => ⟨S2x256x256, .f32⟩
  | .hbm, ⟨5, _⟩ => ⟨S2x2048x4x64, .f32⟩
  | .hbm, ⟨6, _⟩ => ⟨S2x256x4x64, .f32⟩
  | .hbm, ⟨7, _⟩ => ⟨S2x256x4x64, .f32⟩
  | .hbm, ⟨8, _⟩ => ⟨S2x4x2048x256, .f32⟩
  | .hbm, ⟨9, _⟩ => ⟨S_, .f32⟩
  | .hbm, ⟨10, _⟩ => ⟨S2x4x2048x256, .f32⟩
  | .hbm, ⟨11, _⟩ => ⟨S2x4x2048x256, .f32⟩
  | .hbm, ⟨12, _⟩ => ⟨S_, .f32⟩
  | .hbm, ⟨13, _⟩ => ⟨S2x4x2048, .f32⟩
  | .hbm, ⟨14, _⟩ => ⟨S2x4x2048x1, .f32⟩
  | .hbm, ⟨15, _⟩ => ⟨S2x4x2048x256, .f32⟩
  | .hbm, ⟨16, _⟩ => ⟨S2x4x2048x256, .i1⟩
  | .hbm, ⟨17, _⟩ => ⟨S2x4x2048x256, .f32⟩
  | .hbm, ⟨18, _⟩ => ⟨S_, .f32⟩
  | .hbm, ⟨19, _⟩ => ⟨S2x4x2048, .f32⟩
  | .hbm, ⟨20, _⟩ => ⟨S_, .f32⟩
  | .hbm, ⟨21, _⟩ => ⟨S2x4x2048, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .i1⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S2x4x2048, .f32⟩
  | .hbm, ⟨36, _⟩ => ⟨S2x4x2048, .f32⟩
  | .hbm, ⟨37, _⟩ => ⟨S2x4x2048x1, .f32⟩
  | .hbm, ⟨38, _⟩ => ⟨S2x4x2048x256, .f32⟩
  | .hbm, ⟨39, _⟩ => ⟨S2x4x2048x256, .f32⟩
  | .hbm, ⟨40, _⟩ => ⟨S2x4x2048x256, .f32⟩
  | .hbm, ⟨41, _⟩ => ⟨S_, .f32⟩
  | .hbm, ⟨42, _⟩ => ⟨S2x4x2048, .f32⟩
  | .hbm, ⟨43, _⟩ => ⟨S2x4x2048x1, .f32⟩
  | .hbm, ⟨44, _⟩ => ⟨S2x4x2048x256, .f32⟩
  | .hbm, ⟨45, _⟩ => ⟨S2x4x2048x256, .f32⟩
  | .hbm, ⟨46, _⟩ => ⟨S2x4x2048x1, .f32⟩
  | .hbm, ⟨47, _⟩ => ⟨S_, .f32⟩
  | .hbm, ⟨48, _⟩ => ⟨S2x4x2048x1, .f32⟩
  | .hbm, ⟨49, _⟩ => ⟨S2x4x2048x1, .f32⟩
  | .hbm, ⟨50, _⟩ => ⟨S2x4x64x2048, .f32⟩
  | .hbm, ⟨51, _⟩ => ⟨S2x2048x4x64, .f32⟩
  | .hbm, ⟨52, _⟩ => ⟨S2x2048x256, .f32⟩
  | .hbm, ⟨53, _⟩ => ⟨S2x2048x4x64, .f32⟩
  | .hbm, ⟨54, _⟩ => ⟨S2x4x64x2048, .f32⟩
  | .hbm, ⟨55, _⟩ => ⟨S2x4x2048x256, .f32⟩
  | .hbm, ⟨56, _⟩ => ⟨S2x4x64x256, .f32⟩
  | .hbm, ⟨57, _⟩ => ⟨S2x256x4x64, .f32⟩
  | .hbm, ⟨58, _⟩ => ⟨S2x4x2048x256, .f32⟩
  | .hbm, ⟨59, _⟩ => ⟨S2x4x2048x256, .f32⟩
  | .hbm, ⟨60, _⟩ => ⟨S2x4x2048x256, .f32⟩
  | .hbm, ⟨61, _⟩ => ⟨S_, .f32⟩
  | .hbm, ⟨62, _⟩ => ⟨S2x4x2048, .f32⟩
  | .hbm, ⟨63, _⟩ => ⟨S2x4x2048x1, .f32⟩
  | .hbm, ⟨64, _⟩ => ⟨S2x4x2048x1, .f32⟩
  | .hbm, ⟨65, _⟩ => ⟨S2x4x2048x256, .f32⟩
  | .hbm, ⟨66, _⟩ => ⟨S2x4x2048x256, .f32⟩
  | .hbm, ⟨67, _⟩ => ⟨S_, .f32⟩
  | .hbm, ⟨68, _⟩ => ⟨S2x4x2048, .f32⟩
  | .hbm, ⟨69, _⟩ => ⟨S2x4x2048x256, .f32⟩
  | .hbm, ⟨70, _⟩ => ⟨S2x4x2048x256, .f32⟩
  | .hbm, ⟨71, _⟩ => ⟨S2x4x2048x256, .f32⟩
  | .hbm, ⟨72, _⟩ => ⟨S_, .f32⟩
  | .hbm, ⟨73, _⟩ => ⟨S2x4x2048x256, .f32⟩
  | .hbm, ⟨74, _⟩ => ⟨S2x4x2048x256, .f32⟩
  | .hbm, ⟨75, _⟩ => ⟨S2x4x256x64, .f32⟩
  | .hbm, ⟨76, _⟩ => ⟨S2x256x4x64, .f32⟩
  | .hbm, ⟨77, _⟩ => ⟨S2x4x2048x64, .f32⟩
  | .hbm, ⟨78, _⟩ => ⟨S2x2048x4x64, .f32⟩
  | .hbm, ⟨79, _⟩ => ⟨S2x256x256, .f32⟩
  | .hbm, ⟨80, _⟩ => ⟨S2x256x256, .f32⟩
  | .hbm, ⟨81, _⟩ => ⟨S2x2048x256, .f32⟩
  | .hbm, ⟨82, _⟩ => ⟨S2x256x512, .f32⟩
  | .hbm, ⟨83, _⟩ => ⟨S2x256x256, .f32⟩
  | .hbm, ⟨84, _⟩ => ⟨S2x256x256, .f32⟩
  | .hbm, ⟨85, _⟩ => ⟨S4096x256, .f32⟩
  | .hbm, ⟨86, _⟩ => ⟨S4096x256, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== FoxBwd.lean ====
abbrev S2x2048x384 : Shape := ⟨3, ![2, 2048, 384]⟩
abbrev S2x2048x6 : Shape := ⟨3, ![2, 2048, 6]⟩
abbrev S_ : Shape := ⟨0, ![]⟩
abbrev S4096x768 : Shape := ⟨2, ![4096, 768]⟩
abbrev S4096x384 : Shape := ⟨2, ![4096, 384]⟩
abbrev S4096x256 : Shape := ⟨2, ![4096, 256]⟩
abbrev S4096x2176 : Shape := ⟨2, ![4096, 2176]⟩
abbrev S2x6x2048 : Shape := ⟨3, ![2, 6, 2048]⟩
abbrev S2x2048x6x64 : Shape := ⟨4, ![2, 2048, 6, 64]⟩
abbrev S2x6x2048x2048 : Shape := ⟨4, ![2, 6, 2048, 2048]⟩
abbrev S2x6x2048x1 : Shape := ⟨4, ![2, 6, 2048, 1]⟩
abbrev S2x6x1x2048 : Shape := ⟨4, ![2, 6, 1, 2048]⟩
abbrev S2048x2048 : Shape := ⟨2, ![2048, 2048]⟩
abbrev S2x2048x6x1 : Shape := ⟨4, ![2, 2048, 6, 1]⟩
abbrev S4096x3x128 : Shape := ⟨3, ![4096, 3, 128]⟩
abbrev S3x4096x128 : Shape := ⟨3, ![3, 4096, 128]⟩
abbrev S2x6x2048x128 : Shape := ⟨4, ![2, 6, 2048, 128]⟩
abbrev S2x16x8x128 : Shape := ⟨4, ![2, 16, 8, 128]⟩
abbrev S2048x128 : Shape := ⟨2, ![2048, 128]⟩
abbrev S1x2048x128 : Shape := ⟨3, ![1, 2048, 128]⟩
abbrev S1x2x2048x128 : Shape := ⟨4, ![1, 2, 2048, 128]⟩
abbrev S1x16x8x128 : Shape := ⟨4, ![1, 16, 8, 128]⟩
abbrev S2x2048x128 : Shape := ⟨3, ![2, 2048, 128]⟩
abbrev S512x128 : Shape := ⟨2, ![512, 128]⟩
abbrev S8x128 : Shape := ⟨2, ![8, 128]⟩
abbrev S512x512 : Shape := ⟨2, ![512, 512]⟩
abbrev S1x1x2048x128 : Shape := ⟨4, ![1, 1, 2048, 128]⟩
abbrev S1x512x128 : Shape := ⟨3, ![1, 512, 128]⟩
abbrev S1x1x512x128 : Shape := ⟨4, ![1, 1, 512, 128]⟩
abbrev S512 : Shape := ⟨1, ![512]⟩
abbrev S512x1 : Shape := ⟨2, ![512, 1]⟩
abbrev S1x512 : Shape := ⟨2, ![1, 512]⟩
abbrev S1x1x8x128 : Shape := ⟨4, ![1, 1, 8, 128]⟩
abbrev S1x128 : Shape := ⟨2, ![1, 128]⟩
abbrev S1x1024x128 : Shape := ⟨3, ![1, 1024, 128]⟩
abbrev S1024x128 : Shape := ⟨2, ![1024, 128]⟩
abbrev S512x1024 : Shape := ⟨2, ![512, 1024]⟩
abbrev S1024 : Shape := ⟨1, ![1024]⟩
abbrev S1x1024 : Shape := ⟨2, ![1, 1024]⟩
abbrev S1x1536x128 : Shape := ⟨3, ![1, 1536, 128]⟩
abbrev S1536x128 : Shape := ⟨2, ![1536, 128]⟩
abbrev S512x1536 : Shape := ⟨2, ![512, 1536]⟩
abbrev S1536 : Shape := ⟨1, ![1536]⟩
abbrev S1x1536 : Shape := ⟨2, ![1, 1536]⟩

abbrev nBuf : Space → Nat
  | .hbm => 172
  | .vmem => 25
  | .smem => 0
  | _ => 0

abbrev hbmTy0_0 (i : Nat) : BufTy := match i % 128 with
  | 0 => ⟨S2x2048x384, .f32⟩
  | 1 => ⟨S2x2048x384, .f32⟩
  | 2 => ⟨S2x2048x384, .f32⟩
  | 3 => ⟨S2x2048x6, .f32⟩
  | 4 => ⟨S2x2048x384, .f32⟩
  | 5 => ⟨S_, .f32⟩
  | 6 => ⟨S4096x768, .f32⟩
  | 7 => ⟨S4096x384, .f32⟩
  | 8 => ⟨S4096x384, .f32⟩
  | 9 => ⟨S4096x384, .f32⟩
  | 10 => ⟨S_, .f32⟩
  | 11 => ⟨S4096x256, .f32⟩
  | 12 => ⟨S4096x2176, .f32⟩
  | 13 => ⟨S2x2048x6, .f32⟩
  | 14 => ⟨S_, .f32⟩
  | 15 => ⟨S2x2048x6, .f32⟩
  | 16 => ⟨S2x2048x6, .f32⟩
  | 17 => ⟨S2x2048x6, .f32⟩
  | 18 => ⟨S2x2048x6, .f32⟩
  | 19 => ⟨S2x2048x6, .i1⟩
  | 20 => ⟨S2x2048x6, .f32⟩
  | 21 => ⟨S2x2048x6, .f32⟩
  | 22 => ⟨S2x2048x6, .f32⟩
  | 23 => ⟨S2x2048x6, .f32⟩
  | 24 => ⟨S2x2048x6, .f32⟩
  | 25 => ⟨S2x2048x6, .f32⟩
  | 26 => ⟨S2x2048x6, .f32⟩
  | 27 => ⟨S2x2048x6, .f32⟩
  | 28 => ⟨S2x2048x6, .f32⟩
  | 29 => ⟨S_, .f32⟩
  | 30 => ⟨S_, .f32⟩
  | 31 => ⟨S2x2048x6, .f32⟩
  | 32 => ⟨S2x6x2048, .f32⟩
  | 33 => ⟨S2x2048x6x64, .f32⟩
  | 34 => ⟨S2x2048x6x64, .f32⟩
  | 35 => ⟨S2x6x2048x2048, .f32⟩
  | 36 => ⟨S_, .f32⟩
  | 37 => ⟨S2x6x2048x2048, .f32⟩
  | 38 => ⟨S2x6x2048x2048, .f32⟩
  | 39 => ⟨S2x6x2048x1, .f32⟩
  | 40 => ⟨S2x6x2048x2048, .f32⟩
  | 41 => ⟨S2x6x2048x2048, .f32⟩
  | 42 => ⟨S2x6x1x2048, .f32⟩
  | 43 => ⟨S2x6x2048x2048, .f32⟩
  | 44 => ⟨S2x6x2048x2048, .f32⟩
  | 45 => ⟨S2048x2048, .i32⟩
  | 46 => ⟨S2048x2048, .i32⟩
  | 47 => ⟨S2048x2048, .i1⟩
  | 48 => ⟨S_, .f32⟩
  | 49 => ⟨S_, .f32⟩
  | 50 => ⟨S2x6x2048x2048, .i1⟩
  | 51 => ⟨S2x6x2048x2048, .f32⟩
  | 52 => ⟨S2x6x2048x2048, .f32⟩
  | 53 => ⟨S_, .f32⟩
  | 54 => ⟨S2x6x2048, .f32⟩
  | 55 => ⟨S2x6x2048x1, .f32⟩
  | 56 => ⟨S2x6x2048x2048, .f32⟩
  | 57 => ⟨S2x6x2048x2048, .f32⟩
  | 58 => ⟨S2x6x2048x2048, .f32⟩
  | 59 => ⟨S_, .f32⟩
  | 60 => ⟨S2x6x2048, .f32⟩
  | 61 => ⟨S2x6x2048x1, .f32⟩
  | 62 => ⟨S2x6x2048x1, .f32⟩
  | 63 => ⟨S2x6x2048x1, .f32⟩
  | 64 => ⟨S2x6x2048, .f32⟩
  | 65 => ⟨S2x2048x6, .f32⟩
  | 66 => ⟨S2x2048x6x1, .f32⟩
  | 67 => ⟨S2x2048x6x64, .f32⟩
  | 68 => ⟨S4096x3x128, .f32⟩
  | 69 => ⟨S3x4096x128, .f32⟩
  | 70 => ⟨S2x6x2048x1, .f32⟩
  | 71 => ⟨S2x6x2048x1, .bf16⟩
  | 72 => ⟨S2x6x2048x1, .f32⟩
  | 73 => ⟨S2x6x2048x1, .f32⟩
  | 74 => ⟨S2x6x2048x1, .bf16⟩
  | 75 => ⟨S2x6x2048x1, .f32⟩
  | 76 => ⟨S2x6x2048x1, .f32⟩
  | 77 => ⟨S2x6x2048x1, .bf16⟩
  | 78 => ⟨S2x6x2048x128, .i32⟩
  | 79 => ⟨S2x6x2048x128, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S2x6x2048x128, .i32⟩
  | 87 => ⟨S2x6x2048x128, .i32⟩
  | 88 => ⟨S_, .i32⟩
  | 89 => ⟨S2x6x2048x128, .i32⟩
  | 90 => ⟨S2x6x2048x128, .i1⟩
  | 91 => ⟨S_, .i32⟩
  | 92 => ⟨S2x6x2048x128, .i32⟩
  | 93 => ⟨S2x6x2048x128, .i1⟩
  | 94 => ⟨S_, .i32⟩
  | 95 => ⟨S_, .i1⟩
  | 96 => ⟨S2x6x2048x128, .i1⟩
  | 97 => ⟨S2x6x2048x128, .i1⟩
  | 98 => ⟨S2x6x2048x128, .i1⟩
  | 99 => ⟨S2x6x2048x128, .i32⟩
  | 100 => ⟨S2x6x2048x128, .i32⟩
  | 101 => ⟨S2x6x2048x128, .i32⟩
  | 102 => ⟨S_, .i32⟩
  | 103 => ⟨S2x6x2048x128, .i32⟩
  | 104 => ⟨S2x6x2048x128, .i1⟩
  | 105 => ⟨S_, .i32⟩
  | 106 => ⟨S_, .i32⟩
  | 107 => ⟨S2x6x2048x128, .i32⟩
  | 108 => ⟨S2x6x2048x128, .i32⟩
  | 109 => ⟨S2x6x2048x128, .i32⟩
  | 110 => ⟨S2x6x2048x128, .i32⟩
  | 111 => ⟨S2x6x2048x128, .i32⟩
  | 112 => ⟨S_, .bf16⟩
  | 113 => ⟨S2x6x2048x128, .bf16⟩
  | 114 => ⟨S_, .bf16⟩
  | 115 => ⟨S2x6x2048x128, .bf16⟩
  | 116 => ⟨S_, .i32⟩
  | 117 => ⟨S2x6x2048x128, .i32⟩
  | 118 => ⟨S2x6x2048x128, .i1⟩
  | 119 => ⟨S_, .i32⟩
  | 120 => ⟨S2x6x2048x128, .i32⟩
  | 121 => ⟨S2x6x2048x128, .i1⟩
  | 122 => ⟨S_, .i32⟩
  | 123 => ⟨S2x6x2048x128, .i32⟩
  | 124 => ⟨S2x6x2048x128, .i1⟩
  | 125 => ⟨S2x6x2048x128, .bf16⟩
  | 126 => ⟨S2x6x2048x128, .bf16⟩
  | 127 => ⟨S2x6x2048x128, .bf16⟩
  | _ => ⟨S2x2048x384, .f32⟩

abbrev hbmTy0_1 (i : Nat) : BufTy := match i % 128 with
  | 0 => ⟨S2x6x2048x128, .bf16⟩
  | 1 => ⟨S2x6x2048x128, .bf16⟩
  | 2 => ⟨S2x6x2048x128, .bf16⟩
  | 3 => ⟨S_, .i32⟩
  | 4 => ⟨S2x6x2048x128, .i32⟩
  | 5 => ⟨S2x6x2048x128, .i1⟩
  | 6 => ⟨S_, .i32⟩
  | 7 => ⟨S2x6x2048x128, .i32⟩
  | 8 => ⟨S2x6x2048x128, .i1⟩
  | 9 => ⟨S2x6x2048x128, .i1⟩
  | 10 => ⟨S2x6x2048x128, .bf16⟩
  | 11 => ⟨S_, .i32⟩
  | 12 => ⟨S2x6x2048x128, .i32⟩
  | 13 => ⟨S2x6x2048x128, .i1⟩
  | 14 => ⟨S2x6x2048x1, .bf16⟩
  | 15 => ⟨S_, .i32⟩
  | 16 => ⟨S2x6x2048x128, .i32⟩
  | 17 => ⟨S2x6x2048x128, .i1⟩
  | 18 => ⟨S2x6x2048x1, .bf16⟩
  | 19 => ⟨S_, .i32⟩
  | 20 => ⟨S2x6x2048x128, .i32⟩
  | 21 => ⟨S2x6x2048x128, .i1⟩
  | 22 => ⟨S2x6x2048x1, .bf16⟩
  | 23 => ⟨S2x6x2048x128, .bf16⟩
  | 24 => ⟨S2x6x2048x128, .bf16⟩
  | 25 => ⟨S2x6x2048x128, .bf16⟩
  | 26 => ⟨S2x6x2048x128, .bf16⟩
  | 27 => ⟨S2x6x2048x128, .bf16⟩
  | 28 => ⟨S2x6x2048x128, .bf16⟩
  | 29 => ⟨S_, .i32⟩
  | 30 => ⟨S2x6x2048x128, .i32⟩
  | 31 => ⟨S2x6x2048x128, .i1⟩
  | 32 => ⟨S_, .i32⟩
  | 33 => ⟨S2x6x2048x128, .i32⟩
  | 34 => ⟨S2x6x2048x128, .i1⟩
  | 35 => ⟨S2x6x2048x128, .i1⟩
  | 36 => ⟨S2x6x2048x128, .bf16⟩
  | 37 => ⟨S4096x2176, .bf16⟩
  | 38 => ⟨S4096x384, .f32⟩
  | 39 => ⟨S4096x384, .bf16⟩
  | 40 => ⟨S4096x384, .bf16⟩
  | 41 => ⟨S4096x384, .bf16⟩
  | 42 => ⟨S4096x384, .bf16⟩
  | 43 => ⟨S2x16x8x128, .f32⟩
  | _ => ⟨S2x2048x384, .f32⟩

abbrev hbmTy (i : Nat) : BufTy := match i / 128 with
  | 0 => hbmTy0_0 i
  | 1 => hbmTy0_1 i
  | _ => ⟨S2x2048x384, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x2x2048x128, .bf16⟩
  | .local _ .vmem, ⟨11, _⟩ => ⟨S1x2x2048x128, .bf16⟩
  | .local _ .vmem, ⟨12, _⟩ => ⟨S1x2x2048x128, .bf16⟩
  | .local _ .vmem, ⟨13, _⟩ => ⟨S1x2x2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x16x8x128, .f32⟩
  | .local _ .vmem, ⟨21, _⟩ => ⟨S1x16x8x128, .f32⟩
  | .local _ .vmem, ⟨22, _⟩ => ⟨S2x2048x128, .bf16⟩
  | .local _ .vmem, ⟨23, _⟩ => ⟨S2048x128, .f32⟩
  | .local _ .vmem, ⟨24, _⟩ => ⟨S2048x128, .f32⟩
  | _, _ => ⟨S2x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v6 : Ref sig .tc := ⟨.hbm, 28, rfl⟩
abbrev main_call1_call0_cst : Ref sig .tc := ⟨.hbm, 29, rfl⟩
abbrev main_call1_call0_v0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_2 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v23 : Ref sig .tc := ⟨.hbm, 52, rfl⟩
abbrev main_cst_3 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c : Ref sig .tc := ⟨.hbm, 80, rfl⟩
abbrev main_call3_v0 : Ref sig .tc := ⟨.hbm, 81, rfl⟩
abbrev main_call3_c : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_c_1 : Ref sig .tc := ⟨.hbm, 88, rfl⟩
abbrev main_call3_v5 : Ref sig .tc := ⟨.hbm, 89, rfl⟩
abbrev main_call3_v6 : Ref sig .tc := ⟨.hbm, 90, rfl⟩
abbrev main_call3_c_2 : Ref sig .tc := ⟨.hbm, 91, rfl⟩
abbrev main_call3_v7 : Ref sig .tc := ⟨.hbm, 92, rfl⟩
abbrev main_call3_v8 : Ref sig .tc := ⟨.hbm, 93, rfl⟩
abbrev main_call3_c_3 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_v49 : Ref sig .tc := ⟨.hbm, 101, rfl⟩
abbrev main_c_5 : Ref sig .tc := ⟨.hbm, 102, rfl⟩
abbrev main_v50 : Ref sig .tc := ⟨.hbm, 103, rfl⟩
abbrev main_v51 : Ref sig .tc := ⟨.hbm, 104, rfl⟩
abbrev main_c_6 : Ref sig .tc := ⟨.hbm, 105, rfl⟩
abbrev main_c_7 : Ref sig .tc := ⟨.hbm, 106, rfl⟩
abbrev main_call4_v0 : Ref sig .tc := ⟨.hbm, 107, rfl⟩
abbrev main_call4_v1 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_cst_8 : Ref sig .tc := ⟨.hbm, 112, rfl⟩
abbrev main_v55 : Ref sig .tc := ⟨.hbm, 113, rfl⟩
abbrev main_cst_9 : Ref sig .tc := ⟨.hbm, 114, rfl⟩
abbrev main_v56 : Ref sig .tc := ⟨.hbm, 115, rfl⟩
abbrev main_c_10 : Ref sig .tc := ⟨.hbm, 116, rfl⟩
abbrev main_v57 : Ref sig .tc := ⟨.hbm, 117, rfl⟩
abbrev main_v58 : Ref sig .tc := ⟨.hbm, 118, rfl⟩
abbrev main_c_11 : Ref sig .tc := ⟨.hbm, 119, rfl⟩
abbrev main_v59 : Ref sig .tc := ⟨.hbm, 120, rfl⟩
abbrev main_v60 : Ref sig .tc := ⟨.hbm, 121, rfl⟩
abbrev main_c_12 : Ref sig .tc := ⟨.hbm, 122, rfl⟩
abbrev main_v61 : Ref sig .tc := ⟨.hbm, 123, rfl⟩
abbrev main_v62 : Ref sig .tc := ⟨.hbm, 124, rfl⟩
abbrev main_call5_v0 : Ref sig .tc := ⟨.hbm, 125, rfl⟩
abbrev main_v63 : Ref sig .tc := ⟨.hbm, 126, rfl⟩
abbrev main_call6_v0 : Ref sig .tc := ⟨.hbm, 127, rfl⟩
abbrev main_v64 : Ref sig .tc := ⟨.hbm, 128, rfl⟩
abbrev main_call7_v0 : Ref sig .tc := ⟨.hbm, 129, rfl⟩
abbrev main_v65 : Ref sig .tc := ⟨.hbm, 130, rfl⟩
abbrev main_c_13 : Ref sig .tc := ⟨.hbm, 131, rfl⟩
abbrev main_v66 : Ref sig .tc := ⟨.hbm, 132, rfl⟩
abbrev main_v67 : Ref sig .tc := ⟨.hbm, 133, rfl⟩
abbrev main_c_14 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_c_15 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_c_16 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_c_17 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_call9_v0 : Ref sig .tc := ⟨.hbm, 151, rfl⟩
abbrev main_v81 : Ref sig .tc := ⟨.hbm, 152, rfl⟩
abbrev main_call10_v0 : Ref sig .tc := ⟨.hbm, 153, rfl⟩
abbrev main_v82 : Ref sig .tc := ⟨.hbm, 154, rfl⟩
abbrev main_call11_v0 : Ref sig .tc := ⟨.hbm, 155, rfl⟩
abbrev main_v83 : Ref sig .tc := ⟨.hbm, 156, rfl⟩
abbrev main_c_18 : Ref sig .tc := ⟨.hbm, 157, rfl⟩
abbrev main_v84 : Ref sig .tc := ⟨.hbm, 158, rfl⟩
abbrev main_v85 : Ref sig .tc := ⟨.hbm, 159, rfl⟩
abbrev main_c_19 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93_0 : Ref sig .tc := ⟨.hbm, 168, rfl⟩
abbrev main_v93_1 : Ref sig .tc := ⟨.hbm, 169, rfl⟩
abbrev main_v93_2 : Ref sig .tc := ⟨.hbm, 170, rfl⟩
abbrev main_v93_3 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FoxVjpIdeal.lean ====
abbrev S2x2048x384 : Shape := ⟨3, ![2, 2048, 384]⟩
abbrev S2x2048x6 : Shape := ⟨3, ![2, 2048, 6]⟩
abbrev S2x2048x6x64 : Shape := ⟨4, ![2, 2048, 6, 64]⟩
abbrev S_ : Shape := ⟨0, ![]⟩
abbrev S2x6x2048 : Shape := ⟨3, ![2, 6, 2048]⟩
abbrev S2x6x2048x2048 : Shape := ⟨4, ![2, 6, 2048, 2048]⟩
abbrev S2x6x2048x1 : Shape := ⟨4, ![2, 6, 2048, 1]⟩
abbrev S2x6x1x2048 : Shape := ⟨4, ![2, 6, 1, 2048]⟩
abbrev S2048x2048 : Shape := ⟨2, ![2048, 2048]⟩
abbrev S2x6x64x2048 : Shape := ⟨4, ![2, 6, 64, 2048]⟩
abbrev S2x6x2048x64 : Shape := ⟨4, ![2, 6, 2048, 64]⟩
abbrev S2x8x2048 : Shape := ⟨3, ![2, 8, 2048]⟩
abbrev S2x8x16x128 : Shape := ⟨4, ![2, 8, 16, 128]⟩
abbrev S2x16x8x128 : Shape := ⟨4, ![2, 16, 8, 128]⟩
abbrev S4096x384 : Shape := ⟨2, ![4096, 384]⟩

abbrev nBuf : Space → Nat
  | .hbm => 118
  | .vmem => 0
  | .smem => 0
  | _ => 0

abbrev bufTy : (tb : Table) → Fin (tcTables nBuf tb) → BufTy
  | .hbm, ⟨0, _⟩ => ⟨S2x2048x384, .f32⟩
  | .hbm, ⟨1, _⟩ => ⟨S2x2048x384, .f32⟩
  | .hbm, ⟨2, _⟩ => ⟨S2x2048x384, .f32⟩
  | .hbm, ⟨3, _⟩ => ⟨S2x2048x6, .f32⟩
  | .hbm, ⟨4, _⟩ => ⟨S2x2048x384, .f32⟩
  | .hbm, ⟨5, _⟩ => ⟨S2x2048x6x64, .f32⟩
  | .hbm, ⟨6, _⟩ => ⟨S2x2048x6x64, .f32⟩
  | .hbm, ⟨7, _⟩ => ⟨S2x2048x6x64, .f32⟩
  | .hbm, ⟨8, _⟩ => ⟨S2x2048x6, .f32⟩
  | .hbm, ⟨9, _⟩ => ⟨S_, .f32⟩
  | .hbm, ⟨10, _⟩ => ⟨S2x2048x6, .f32⟩
  | .hbm, ⟨11, _⟩ => ⟨S2x2048x6, .f32⟩
  | .hbm, ⟨12, _⟩ => ⟨S2x2048x6, .f32⟩
  | .hbm, ⟨13, _⟩ => ⟨S2x2048x6, .f32⟩
  | .hbm, ⟨14, _⟩ => ⟨S2x2048x6, .i1⟩
  | .hbm, ⟨15, _⟩ => ⟨S2x2048x6, .f32⟩
  | .hbm, ⟨16, _⟩ => ⟨S2x2048x6, .f32⟩
  | .hbm, ⟨17, _⟩ => ⟨S2x2048x6, .f32⟩
  | .hbm, ⟨18, _⟩ => ⟨S2x2048x6, .f32⟩
  | .hbm, ⟨19, _⟩ => ⟨S2x2048x6, .f32⟩
  | .hbm, ⟨20, _⟩ => ⟨S2x2048x6, .f32⟩
  | .hbm, ⟨21, _⟩ => ⟨S2x2048x6, .f32⟩
  | .hbm, ⟨22, _⟩ => ⟨S2x2048x6, .f32⟩
  | .hbm, ⟨23, _⟩ => ⟨S2x2048x6, .f32⟩
  | .hbm, ⟨24, _⟩ => ⟨S_, .f32⟩
  | .hbm, ⟨25, _⟩ => ⟨S_, .f32⟩
  | .hbm, ⟨26, _⟩ => ⟨S2x2048x6, .f32⟩
  | .hbm, ⟨27, _⟩ => ⟨S2x6x2048, .f32⟩
  | .hbm, ⟨28, _⟩ => ⟨S2x6x2048x2048, .f32⟩
  | .hbm, ⟨29, _⟩ => ⟨S_, .f32⟩
  | .hbm, ⟨30, _⟩ => ⟨S2x6x2048x2048, .f32⟩
  | .hbm, ⟨31, _⟩ => ⟨S2x6x2048x2048, .f32⟩
  | .hbm, ⟨32, _⟩ => ⟨S2x6x2048x1, .f32⟩
  | .hbm, ⟨33, _⟩ => ⟨S2x6x2048x2048, .f32⟩
  | .hbm, ⟨34, _⟩ => ⟨S2x6x2048x2048, .f32⟩
  | .hbm, ⟨35, _⟩ => ⟨S2x6x1x2048, .f32⟩
  | .hbm, ⟨36, _⟩ => ⟨S2x6x2048x2048, .f32⟩
  | .hbm, ⟨37, _⟩ => ⟨S2x6x2048x2048, .f32⟩
  | .hbm, ⟨38, _⟩ => ⟨S2048x2048, .i32⟩
  | .hbm, ⟨39, _⟩ => ⟨S2048x2048, .i32⟩
  | .hbm, ⟨40, _⟩ => ⟨S2048x2048, .i1⟩
  | .hbm, ⟨41, _⟩ => ⟨S_, .f32⟩
  | .hbm, ⟨42, _⟩ => ⟨S_, .f32⟩
  | .hbm, ⟨43, _⟩ => ⟨S2x6x2048x2048, .i1⟩
  | .hbm, ⟨44, _⟩ => ⟨S2x6x2048x2048, .f32⟩
  | .hbm, ⟨45, _⟩ => ⟨S2x6x2048x2048, .f32⟩
  | .hbm, ⟨46, _⟩ => ⟨S_, .f32⟩
  | .hbm, ⟨47, _⟩ => ⟨S2x6x2048x2048, .f32⟩
  | .hbm, ⟨48, _⟩ => ⟨S_, .f32⟩
  | .hbm, ⟨49, _⟩ => ⟨S2x6x2048, .f32⟩
  | .hbm, ⟨50, _⟩ => ⟨S2x6x2048x1, .f32⟩
  | .hbm, ⟨51, _⟩ => ⟨S2x6x2048x2048, .f32⟩
  | .hbm, ⟨52, _⟩ => ⟨S2x6x2048x2048, .f32⟩
  | .hbm, ⟨53, _⟩ => ⟨S2x6x2048x2048, .f32⟩
  | .hbm, ⟨54, _⟩ => ⟨S_, .f32⟩
  | .hbm, ⟨55, _⟩ => ⟨S2x6x2048, .f32⟩
  | .hbm, ⟨56, _⟩ => ⟨S2x6x2048x1, .f32⟩
  | .hbm, ⟨57, _⟩ => ⟨S2x6x2048x2048, .f32⟩
  | .hbm, ⟨58, _⟩ => ⟨S2x6x2048x2048, .f32⟩
  | .hbm, ⟨59, _⟩ => ⟨S2x6x2048x1, .f32⟩
  | .hbm, ⟨60, _⟩ => ⟨S_, .f32⟩
  | .hbm, ⟨61, _⟩ => ⟨S2x6x2048x1, .f32⟩
  | .hbm, ⟨62, _⟩ => ⟨S2x6x2048x1, .f32⟩
  | .hbm, ⟨63, _⟩ => ⟨S2x6x64x2048, .f32⟩
  | .hbm, ⟨64, _⟩ => ⟨S2x2048x6x64, .f32⟩
  | .hbm, ⟨65, _⟩ => ⟨S2x2048x6x64, .f32⟩
  | .hbm, ⟨66, _⟩ => ⟨S2x6x64x2048, .f32⟩
  | .hbm, ⟨67, _⟩ => ⟨S2x6x2048x2048, .f32⟩
  | .hbm, ⟨68, _⟩ => ⟨S2x6x64x2048, .f32⟩
  | .hbm, ⟨69, _⟩ => ⟨S2x2048x6x64, .f32⟩
  | .hbm, ⟨70, _⟩ => ⟨S2x6x2048x2048, .f32⟩
  | .hbm, ⟨71, _⟩ => ⟨S2x6x2048x2048, .f32⟩
  | .hbm, ⟨72, _⟩ => ⟨S2x6x2048x2048, .f32⟩
  | .hbm, ⟨73, _⟩ => ⟨S_, .f32⟩
  | .hbm, ⟨74, _⟩ => ⟨S2x6x2048, .f32⟩
  | .hbm, ⟨75, _⟩ => ⟨S2x6x2048x1, .f32⟩
  | .hbm, ⟨76, _⟩ => ⟨S2x6x2048x1, .f32⟩
  | .hbm, ⟨77, _⟩ => ⟨S2x6x2048x2048, .f32⟩
  | .hbm, ⟨78, _⟩ => ⟨S2x6x2048x2048, .f32⟩
  | .hbm, ⟨79, _⟩ => ⟨S_, .f32⟩
  | .hbm, ⟨80, _⟩ => ⟨S2x6x2048, .f32⟩
  | .hbm, ⟨81, _⟩ => ⟨S2x6x2048x2048, .f32⟩
  | .hbm, ⟨82, _⟩ => ⟨S2x6x2048x2048, .f32⟩
  | .hbm, ⟨83, _⟩ => ⟨S2x6x2048x2048, .f32⟩
  | .hbm, ⟨84, _⟩ => ⟨S_, .f32⟩
  | .hbm, ⟨85, _⟩ => ⟨S2x6x2048x2048, .f32⟩
  | .hbm, ⟨86, _⟩ => ⟨S2x6x2048x2048, .f32⟩
  | .hbm, ⟨87, _⟩ => ⟨S2x6x2048x2048, .f32⟩
  | .hbm, ⟨88, _⟩ => ⟨S_, .f32⟩
  | .hbm, ⟨89, _⟩ => ⟨S2x6x2048, .f32⟩
  | .hbm, ⟨90, _⟩ => ⟨S2x6x1x2048, .f32⟩
  | .hbm, ⟨91, _⟩ => ⟨S_, .f32⟩
  | .hbm, ⟨92, _⟩ => ⟨S2x6x2048, .f32⟩
  | .hbm, ⟨93, _⟩ => ⟨S_, .f32⟩
  | .hbm, ⟨94, _⟩ => ⟨S2x6x2048, .f32⟩
  | .hbm, ⟨95, _⟩ => ⟨S2x6x2048x1, .f32⟩
  | .hbm, ⟨96, _⟩ => ⟨S_, .f32⟩
  | .hbm, ⟨97, _⟩ => ⟨S2x6x2048, .f32⟩
  | .hbm, ⟨98, _⟩ => ⟨S2x6x2048, .f32⟩
  | .hbm, ⟨99, _⟩ => ⟨S_, .f32⟩
  | .hbm, ⟨100, _⟩ => ⟨S2x6x2048x2048, .f32⟩
  | .hbm, ⟨101, _⟩ => ⟨S2x6x2048x2048, .f32⟩
  | .hbm, ⟨102, _⟩ => ⟨S2x6x2048x64, .f32⟩
  | .hbm, ⟨103, _⟩ => ⟨S2x2048x6x64, .f32⟩
  | .hbm, ⟨104, _⟩ => ⟨S2x6x2048x64, .f32⟩
  | .hbm, ⟨105, _⟩ => ⟨S2x2048x6x64, .f32⟩
  | .hbm, ⟨106, _⟩ => ⟨S2x6x2048, .f32⟩
  | .hbm, ⟨107, _⟩ => ⟨S_, .i32⟩
  | .hbm, ⟨108, _⟩ => ⟨S_, .f32⟩
  | .hbm, ⟨109, _⟩ => ⟨S2x8x2048, .f32⟩
  | .hbm, ⟨110, _⟩ => ⟨S2x8x16x128, .f32⟩
  | .hbm, ⟨111, _⟩ => ⟨S2x16x8x128, .f32⟩
  | .hbm, ⟨112, _⟩ => ⟨S4096x384, .f32⟩
  | .hbm, ⟨113, _⟩ => ⟨S4096x384, .bf16⟩
  | .hbm, ⟨114, _⟩ => ⟨S4096x384, .f32⟩
  | .hbm, ⟨115, _⟩ => ⟨S4096x384, .bf16⟩
  | .hbm, ⟨116, _⟩ => ⟨S4096x384, .f32⟩
  | .hbm, ⟨117, _⟩ => ⟨S4096x384, .bf16⟩
  | _, _ => ⟨S2x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v3 : Ref sig .tc := ⟨.hbm, 23, rfl⟩
abbrev main_call1_call0_cst : Ref sig .tc := ⟨.hbm, 24, rfl⟩
abbrev main_call1_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_0 : Ref sig .tc := ⟨.hbm, 41, rfl⟩
abbrev main_call2_v0 : Ref sig .tc := ⟨.hbm, 42, rfl⟩
abbrev main_v18_1 : Ref sig .tc := ⟨.hbm, 43, rfl⟩
abbrev main_call2_v2 : Ref sig .tc := ⟨.hbm, 44, rfl⟩
abbrev main_v18_0 : Ref sig .tc := ⟨.hbm, 45, rfl⟩
abbrev main_call2_cst : Ref sig .tc := ⟨.hbm, 46, rfl⟩
abbrev main_v18_2 : Ref sig .tc := ⟨.hbm, 47, rfl⟩
abbrev main_cst_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_2 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_3 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_4 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_5 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_call3_cst : Ref sig .tc := ⟨.hbm, 84, rfl⟩
abbrev main_call3_v0 : Ref sig .tc := ⟨.hbm, 85, rfl⟩
abbrev main_v50 : Ref sig .tc := ⟨.hbm, 86, rfl⟩
abbrev main_v51 : Ref sig .tc := ⟨.hbm, 87, rfl⟩
abbrev main_cst_6 : Ref sig .tc := ⟨.hbm, 88, rfl⟩
abbrev main_v52 : Ref sig .tc := ⟨.hbm, 89, rfl⟩
abbrev main_v53 : Ref sig .tc := ⟨.hbm, 90, rfl⟩
abbrev main_cst_7 : Ref sig .tc := ⟨.hbm, 91, rfl⟩
abbrev main_v54 : Ref sig .tc := ⟨.hbm, 92, rfl⟩
abbrev main_cst_8 : Ref sig .tc := ⟨.hbm, 93, rfl⟩
abbrev main_v55 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_v58 : Ref sig .tc := ⟨.hbm, 98, rfl⟩
abbrev main_cst_10 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c : Ref sig .tc := ⟨.hbm, 107, rfl⟩
abbrev main_call4_v0 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩

abbrev nD : Nat := 1
abbrev τ : Topo := Topo.v7x

variable {F : FTy → Type} [FloatOps F]
-- ==== GateBwd.lean ====
abbrev S2x2048x6 : Shape := ⟨3, ![2, 2048, 6]⟩
abbrev S2x6x2048 : Shape := ⟨3, ![2, 6, 2048]⟩
abbrev S_ : Shape := ⟨0, ![]⟩
abbrev S2x8x2048 : Shape := ⟨3, ![2, 8, 2048]⟩
abbrev S2x8x16x128 : Shape := ⟨4, ![2, 8, 16, 128]⟩
abbrev S2x16x8x128 : Shape := ⟨4, ![2, 16, 8, 128]⟩
abbrev S2x2048x128 : Shape := ⟨3, ![2, 2048, 128]⟩
abbrev S1x16x8x128 : Shape := ⟨4, ![1, 16, 8, 128]⟩
abbrev S1x2048x128 : Shape := ⟨3, ![1, 2048, 128]⟩
abbrev S8x128 : Shape := ⟨2, ![8, 128]⟩
abbrev S8x1 : Shape := ⟨2, ![8, 1]⟩
abbrev S1x1x8x128 : Shape := ⟨4, ![1, 1, 8, 128]⟩
abbrev S8 : Shape := ⟨1, ![8]⟩
abbrev S120x128 : Shape := ⟨2, ![120, 128]⟩
abbrev S128x128 : Shape := ⟨2, ![128, 128]⟩
abbrev S1x128x128 : Shape := ⟨3, ![1, 128, 128]⟩

abbrev nBuf : Space → Nat
  | .hbm => 15
  | .vmem => 6
  | .smem => 0
  | _ => 0

abbrev bufTy : (tb : Table) → Fin (tcTables nBuf tb) → BufTy
  | .hbm, ⟨0, _⟩ => ⟨S2x2048x6, .f32⟩
  | .hbm, ⟨1, _⟩ => ⟨S2x6x2048, .f32⟩
  | .hbm, ⟨2, _⟩ => ⟨S2x6x2048, .f32⟩
  | .hbm, ⟨3, _⟩ => ⟨S_, .i32⟩
  | .hbm, ⟨4, _⟩ => ⟨S_, .f32⟩
  | .hbm, ⟨5, _⟩ => ⟨S2x8x2048, .f32⟩
  | .hbm, ⟨6, _⟩ => ⟨S2x8x16x128, .f32⟩
  | .hbm, ⟨7, _⟩ => ⟨S2x16x8x128, .f32⟩
  | .hbm, ⟨8, _⟩ => ⟨S2x6x2048, .f32⟩
  | .hbm, ⟨9, _⟩ => ⟨S_, .i32⟩
  | .hbm, ⟨10, _⟩ => ⟨S_, .f32⟩
  | .hbm, ⟨11, _⟩ => ⟨S2x8x2048, .f32⟩
  | .hbm, ⟨12, _⟩ => ⟨S2x8x16x128, .f32⟩
  | .hbm, ⟨13, _⟩ => ⟨S2x16x8x128, .f32⟩
  | .hbm, ⟨14, _⟩ => ⟨S2x2048x128, .f32⟩
  | .local _ .vmem, ⟨0, _⟩ => ⟨S1x16x8x128, .f32⟩
  | .local _ .vmem, ⟨1, _⟩ => ⟨S1x16x8x128, .f32⟩
  | .local _ .vmem, ⟨2, _⟩ => ⟨S1x16x8x128, .f32⟩
  | .local _ .vmem, ⟨3, _⟩ => ⟨S1x16x8x128, .f32⟩
  | .local _ .vmem, ⟨4, _⟩ => ⟨S1x2048x128, .f32⟩
  | .local _ .vmem, ⟨5, _⟩ => ⟨S1x2048x128, .f32⟩
  | _, _ => ⟨S2x2048x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateVjpIdeal.lean ====
abbrev S2x2048x6 : Shape := ⟨3, ![2, 2048, 6]⟩
abbrev S2x6x2048 : Shape := ⟨3, ![2, 6, 2048]⟩
abbrev S_ : Shape := ⟨0, ![]⟩
abbrev S2x2048x128 : Shape := ⟨3, ![2, 2048, 128]⟩

abbrev nBuf : Space → Nat
  | .hbm => 64
  | .vmem => 0
  | .smem => 0
  | _ => 0

abbrev bufTy : (tb : Table) → Fin (tcTables nBuf tb) → BufTy
  | .hbm, ⟨0, _⟩ => ⟨S2x2048x6, .f32⟩
  | .hbm, ⟨1, _⟩ => ⟨S2x6x2048, .f32⟩
  | .hbm, ⟨2, _⟩ => ⟨S2x2048x6, .f32⟩
  | .hbm, ⟨3, _⟩ => ⟨S_, .f32⟩
  | .hbm, ⟨4, _⟩ => ⟨S2x2048x6, .f32⟩
  | .hbm, ⟨5, _⟩ => ⟨S2x2048x6, .f32⟩
  | .hbm, ⟨6, _⟩ => ⟨S2x2048x6, .f32⟩
  | .hbm, ⟨7, _⟩ => ⟨S2x2048x6, .f32⟩
  | .hbm, ⟨8, _⟩ => ⟨S2x2048x6, .i1⟩
  | .hbm, ⟨9, _⟩ => ⟨S2x2048x6, .f32⟩
  | .hbm, ⟨10, _⟩ => ⟨S2x2048x6, .f32⟩
  | .hbm, ⟨11, _⟩ => ⟨S2x2048x6, .f32⟩
  | .hbm, ⟨12, _⟩ => ⟨S2x2048x6, .f32⟩
  | .hbm, ⟨13, _⟩ => ⟨S2x2048x6, .f32⟩
  | .hbm, ⟨14, _⟩ => ⟨S2x2048x6, .f32⟩
  | .hbm, ⟨15, _⟩ => ⟨S2x2048x6, .f32⟩
  | .hbm, ⟨16, _⟩ => ⟨S2x2048x6, .f32⟩
  | .hbm, ⟨17, _⟩ => ⟨S_, .f32⟩
  | .hbm, ⟨18, _⟩ => ⟨S2x2048x6, .f32⟩
  | .hbm, ⟨19, _⟩ => ⟨S2x2048x6, .i1⟩
  | .hbm, ⟨20, _⟩ => ⟨S_, .f32⟩
  | .hbm, ⟨21, _⟩ => ⟨S2x2048x6, .f32⟩
  | .hbm, ⟨22, _⟩ => ⟨S2x2048x6, .f32⟩
  | .hbm, ⟨23, _⟩ => ⟨S_, .f32⟩
  | .hbm, ⟨24, _⟩ => ⟨S2x2048x6, .f32⟩
  | .hbm, ⟨25, _⟩ => ⟨S2x2048x6, .i1⟩
  | .hbm, ⟨26, _⟩ => ⟨S_, .f32⟩
  | .hbm, ⟨27, _⟩ => ⟨S2x2048x6, .f32⟩
  | .hbm, ⟨28, _⟩ => ⟨S2x2048x6, .f32⟩
  | .hbm, ⟨29, _⟩ => ⟨S2x2048x6, .f32⟩
  | .hbm, ⟨30, _⟩ => ⟨S2x2048x6, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x2048x6, .f32⟩
  | .hbm, ⟨39, _⟩ => ⟨S2x2048x6, .i1⟩
  | .hbm, ⟨40, _⟩ => ⟨S_, .f32⟩
  | .hbm, ⟨41, _⟩ => ⟨S2x2048x6, .f32⟩
  | .hbm, ⟨42, _⟩ => ⟨S2x2048x6, .f32⟩
  | .hbm, ⟨43, _⟩ => ⟨S2x2048x6, .f32⟩
  | .hbm, ⟨44, _⟩ => ⟨S2x2048x6, .f32⟩
  | .hbm, ⟨45, _⟩ => ⟨S2x2048x6, .f32⟩
  | .hbm, ⟨46, _⟩ => ⟨S_, .f32⟩
  | .hbm, ⟨47, _⟩ => ⟨S2x2048x6, .f32⟩
  | .hbm, ⟨48, _⟩ => ⟨S2x2048x6, .f32⟩
  | .hbm, ⟨49, _⟩ => ⟨S2x2048x6, .f32⟩
  | .hbm, ⟨50, _⟩ => ⟨S_, .f32⟩
  | .hbm, ⟨51, _⟩ => ⟨S_, .f32⟩
  | .hbm, ⟨52, _⟩ => ⟨S2x2048x6, .f32⟩
  | .hbm, ⟨53, _⟩ => ⟨S2x6x2048, .f32⟩
  | .hbm, ⟨54, _⟩ => ⟨S2x2048x6, .f32⟩
  | .hbm, ⟨55, _⟩ => ⟨S_, .f32⟩
  | .hbm, ⟨56, _⟩ => ⟨S_, .f32⟩
  | .hbm, ⟨57, _⟩ => ⟨S2x2048x6, .f32⟩
  | .hbm, ⟨58, _⟩ => ⟨S2x2048x6, .f32⟩
  | .hbm, ⟨59, _⟩ => ⟨S2x2048x6, .f32⟩
  | .hbm, ⟨60, _⟩ => ⟨S2x2048x6, .f32⟩
  | .hbm, ⟨61, _⟩ => ⟨S_, .i32⟩
  | .hbm, ⟨62, _⟩ => ⟨S_, .f32⟩
  | .hbm, ⟨63, _⟩ => ⟨S2x2048x128, .f32⟩
  | _, _ => ⟨S2x2048x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_v8 : Ref sig .tc := ⟨.hbm, 12, rfl⟩
abbrev main_call0_call0_v9 : Ref sig .tc := ⟨.hbm, 13, rfl⟩
abbrev main_call0_call0_v10 : Ref sig .tc := ⟨.hbm, 14, rfl⟩
abbrev main_call0_call0_v11 : Ref sig .tc := ⟨.hbm, 15, rfl⟩
abbrev main_call0_v1_0 : Ref sig .tc := ⟨.hbm, 16, rfl⟩
abbrev main_call0_call0_cst_0 : Ref sig .tc := ⟨.hbm, 17, rfl⟩
abbrev main_call0_call0_v13 : Ref sig .tc := ⟨.hbm, 18, rfl⟩
abbrev main_call0_call0_v14 : Ref sig .tc := ⟨.hbm, 19, rfl⟩
abbrev main_call0_call0_cst_1 : Ref sig .tc := ⟨.hbm, 20, rfl⟩
abbrev main_call0_call0_v15 : Ref sig .tc := ⟨.hbm, 21, rfl⟩
abbrev main_call0_call0_v16 : Ref sig .tc := ⟨.hbm, 22, rfl⟩
abbrev main_call0_call0_cst_2 : Ref sig .tc := ⟨.hbm, 23, rfl⟩
abbrev main_call0_call0_v17 : Ref sig .tc := ⟨.hbm, 24, rfl⟩
abbrev main_call0_call0_v18 : Ref sig .tc := ⟨.hbm, 25, rfl⟩
abbrev main_call0_call0_cst_3 : Ref sig .tc := ⟨.hbm, 26, rfl⟩
abbrev main_call0_call0_v19 : Ref sig .tc := ⟨.hbm, 27, rfl⟩
abbrev main_call0_call0_v20 : Ref sig .tc := ⟨.hbm, 28, rfl⟩
abbrev main_call0_call0_v21 : Ref sig .tc := ⟨.hbm, 29, rfl⟩
abbrev main_v0_1 : Ref sig .tc := ⟨.hbm, 30, rfl⟩
abbrev main_call0_call0_cst_4 : Ref sig .tc := ⟨.hbm, 31, rfl⟩
abbrev main_call0_call0_cst_5 : Ref sig .tc := ⟨.hbm, 32, rfl⟩
abbrev main_call0_call0_v23 : Ref sig .tc := ⟨.hbm, 33, rfl⟩
abbrev main_call0_call0_cst_6 : Ref sig .tc := ⟨.hbm, 34, rfl⟩
abbrev main_call0_call0_cst_7 : Ref sig .tc := ⟨.hbm, 35, rfl⟩
abbrev main_call0_call0_v24 : Ref sig .tc := ⟨.hbm, 36, rfl⟩
abbrev main_call0_call0_cst_8 : Ref sig .tc := ⟨.hbm, 37, rfl⟩
abbrev main_call0_call0_v25 : Ref sig .tc := ⟨.hbm, 38, rfl⟩
abbrev main_call0_call0_v26 : Ref sig .tc := ⟨.hbm, 39, rfl⟩
abbrev main_call0_call0_cst_9 : Ref sig .tc := ⟨.hbm, 40, rfl⟩
abbrev main_call0_call0_v27 : Ref sig .tc := ⟨.hbm, 41, rfl⟩
abbrev main_call0_call0_v28 : Ref sig .tc := ⟨.hbm, 42, rfl⟩
abbrev main_call0_call0_v29 : Ref sig .tc := ⟨.hbm, 43, rfl⟩
abbrev main_call0_call0_v30 : Ref sig .tc := ⟨.hbm, 44, rfl⟩
abbrev main_call0_call0_v31 : Ref sig .tc := ⟨.hbm, 45, rfl⟩
abbrev main_call0_call0_cst_10 : Ref sig .tc := ⟨.hbm, 46, rfl⟩
abbrev main_call0_call0_v32 : Ref sig .tc := ⟨.hbm, 47, rfl⟩
abbrev main_v0_2 : Ref sig .tc := ⟨.hbm, 48, rfl⟩
abbrev main_v0_0 : Ref sig .tc := ⟨.hbm, 49, rfl⟩
abbrev main_call1_call0_cst : Ref sig .tc := ⟨.hbm, 50, rfl⟩
abbrev main_call1_call0_v0 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_call2_call0_cst : Ref sig .tc := ⟨.hbm, 55, rfl⟩
abbrev main_call2_call0_v0 : Ref sig .tc := ⟨.hbm, 56, rfl⟩
abbrev main_v4 : Ref sig .tc := ⟨.hbm, 57, rfl⟩
abbrev main_call3_v0 : Ref sig .tc := ⟨.hbm, 58, rfl⟩
abbrev main_call3_v1 : Ref sig .tc := ⟨.hbm, 59, rfl⟩
abbrev main_v5 : Ref sig .tc := ⟨.hbm, 60, rfl⟩
abbrev main_c : Ref sig .tc := ⟨.hbm, 61, rfl⟩
abbrev main_call4_v0 : Ref sig .tc := ⟨.hbm, 62, rfl⟩
abbrev main_v6 : Ref sig .tc := ⟨.hbm, 63, rfl⟩

abbrev nD : Nat := 1
abbrev τ : Topo := Topo.v7x

variable {F : FTy → Type} [FloatOps F]
-- ==== KvBwd.lean ====
abbrev S2x256x1024 : Shape := ⟨3, ![2, 256, 1024]⟩
abbrev S1024 : Shape := ⟨1, ![1024]⟩
abbrev S1024x512 : Shape := ⟨2, ![1024, 512]⟩
abbrev S2x256x512 : Shape := ⟨3, ![2, 256, 512]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x256 : Shape := ⟨3, ![2, 256, 256]⟩
abbrev S1x1024 : Shape := ⟨2, ![1, 1024]⟩
abbrev S1x256x256 : Shape := ⟨3, ![1, 256, 256]⟩
abbrev S1x256x1024 : Shape := ⟨3, ![1, 256, 1024]⟩
abbrev S256x256 : Shape := ⟨2, ![256, 256]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 27
  | .vmem => 12
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x512, .f32⟩
  | .hbm, ⟨3, _⟩ => ⟨S2x256x512, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x1024, .bf16⟩
  | .hbm, ⟨21, _⟩ => ⟨S2x256x256, .f32⟩
  | .hbm, ⟨22, _⟩ => ⟨S2x256x256, .f32⟩
  | .hbm, ⟨23, _⟩ => ⟨S1x1024, .f32⟩
  | .hbm, ⟨24, _⟩ => ⟨S1024x512, .bf16⟩
  | .hbm, ⟨25, _⟩ => ⟨S1024x512, .f32⟩
  | .hbm, ⟨26, _⟩ => ⟨S1x1024, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S1024x512, .bf16⟩
  | .local _ .vmem, ⟨10, _⟩ => ⟨S1024x512, .f32⟩
  | .local _ .vmem, ⟨11, _⟩ => ⟨S1x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v31 : BitVec 32 := Scalar.extui v0
  let c0_i32_19 : BitVec 32 := 0#32
  let v32 : BitVec 1 := Scalar.cmpi .ne v31 c0_i32_19
  v32

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v33 : BitVec 1 := Scalar.xori v0 v_true
  let v34 : BitVec 32 := Scalar.extui v33
  let c0_i32_20 : BitVec 32 := 0#32
  let v35 : BitVec 1 := Scalar.cmpi .ne v34 c0_i32_20
  v35

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KvVjpIdeal.lean ====
abbrev S2x256x1024 : Shape := ⟨3, ![2, 256, 1024]⟩
abbrev S1024 : Shape := ⟨1, ![1024]⟩
abbrev S1024x512 : Shape := ⟨2, ![1024, 512]⟩
abbrev S2x256x512 : Shape := ⟨3, ![2, 256, 512]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x512, .f32⟩
  | .hbm, ⟨3, _⟩ => ⟨S2x256x512, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x512, .f32⟩
  | .hbm, ⟨21, _⟩ => ⟨S512x1024, .f32⟩
  | .hbm, ⟨22, _⟩ => ⟨S1024x512, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S1024, .f32⟩
  | .hbm, ⟨27, _⟩ => ⟨S1x1x1024, .f32⟩
  | .hbm, ⟨28, _⟩ => ⟨S_, .f32⟩
  | .hbm, ⟨29, _⟩ => ⟨S1024, .f32⟩
  | .hbm, ⟨30, _⟩ => ⟨S1x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== InBwd.lean ====
abbrev S2x2048x1024 : Shape := ⟨3, ![2, 2048, 1024]⟩
abbrev S1024 : Shape := ⟨1, ![1024]⟩
abbrev S1024x2182 : Shape := ⟨2, ![1024, 2182]⟩
abbrev S6 : Shape := ⟨1, ![6]⟩
abbrev S2x2048x2182 : Shape := ⟨3, ![2, 2048, 2182]⟩
abbrev S4096x2182 : Shape := ⟨2, ![4096, 2182]⟩
abbrev S4096x384 : Shape := ⟨2, ![4096, 384]⟩
abbrev S4096x6 : Shape := ⟨2, ![4096, 6]⟩
abbrev S4096x256 : Shape := ⟨2, ![4096, 256]⟩
abbrev S_ : Shape := ⟨0, ![]⟩
abbrev S4096x128 : Shape := ⟨2, ![4096, 128]⟩
abbrev S4096x1024 : Shape := ⟨2, ![4096, 1024]⟩
abbrev S1x1024 : Shape := ⟨2, ![1, 1024]⟩
abbrev S2182x1024 : Shape := ⟨2, ![2182, 1024]⟩
abbrev S1926x1024 : Shape := ⟨2, ![1926, 1024]⟩
abbrev S2304x1024 : Shape := ⟨2, ![2304, 1024]⟩
abbrev S256x1024 : Shape := ⟨2, ![256, 1024]⟩
abbrev S2304x4x256 : Shape := ⟨3, ![2304, 4, 256]⟩
abbrev S4x2304x256 : Shape := ⟨3, ![4, 2304, 256]⟩
abbrev S1x128 : Shape := ⟨2, ![1, 128]⟩
abbrev S512x384 : Shape := ⟨2, ![512, 384]⟩
abbrev S512x128 : Shape := ⟨2, ![512, 128]⟩
abbrev S512x256 : Shape := ⟨2, ![512, 256]⟩
abbrev S512x1024 : Shape := ⟨2, ![512, 1024]⟩
abbrev S512x2304 : Shape := ⟨2, ![512, 2304]⟩
abbrev S1x2304x256 : Shape := ⟨3, ![1, 2304, 256]⟩
abbrev S2304x256 : Shape := ⟨2, ![2304, 256]⟩
abbrev S512 : Shape := ⟨1, ![512]⟩
abbrev S512x1 : Shape := ⟨2, ![512, 1]⟩
abbrev S128 : Shape := ⟨1, ![128]⟩

abbrev nBuf : Space → Nat
  | .hbm => 42
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2182, .f32⟩
  | .hbm, ⟨3, _⟩ => ⟨S6, .f32⟩
  | .hbm, ⟨4, _⟩ => ⟨S2x2048x2182, .f32⟩
  | .hbm, ⟨5, _⟩ => ⟨S2x2048x1024, .f32⟩
  | .hbm, ⟨6, _⟩ => ⟨S4096x2182, .f32⟩
  | .hbm, ⟨7, _⟩ => ⟨S4096x384, .f32⟩
  | .hbm, ⟨8, _⟩ => ⟨S4096x384, .f32⟩
  | .hbm, ⟨9, _⟩ => ⟨S4096x384, .f32⟩
  | .hbm, ⟨10, _⟩ => ⟨S4096x384, .f32⟩
  | .hbm, ⟨11, _⟩ => ⟨S4096x384, .f32⟩
  | .hbm, ⟨12, _⟩ => ⟨S4096x6, .f32⟩
  | .hbm, ⟨13, _⟩ => ⟨S4096x256, .f32⟩
  | .hbm, ⟨14, _⟩ => ⟨S4096x384, .bf16⟩
  | .hbm, ⟨15, _⟩ => ⟨S4096x384, .bf16⟩
  | .hbm, ⟨16, _⟩ => ⟨S4096x384, .bf16⟩
  | .hbm, ⟨17, _⟩ => ⟨S4096x384, .bf16⟩
  | .hbm, ⟨18, _⟩ => ⟨S4096x384, .bf16⟩
  | .hbm, ⟨19, _⟩ => ⟨S_, .i32⟩
  | .hbm, ⟨20, _⟩ => ⟨S_, .f32⟩
  | .hbm, ⟨21, _⟩ => ⟨S4096x128, .f32⟩
  | .hbm, ⟨22, _⟩ => ⟨S4096x256, .bf16⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S2182x1024, .f32⟩
  | .hbm, ⟨27, _⟩ => ⟨S1926x1024, .f32⟩
  | .hbm, ⟨28, _⟩ => ⟨S_, .i32⟩
  | .hbm, ⟨29, _⟩ => ⟨S_, .f32⟩
  | .hbm, ⟨30, _⟩ => ⟨S2304x1024, .f32⟩
  | .hbm, ⟨31, _⟩ => ⟨S256x1024, .f32⟩
  | .hbm, ⟨32, _⟩ => ⟨S_, .i32⟩
  | .hbm, ⟨33, _⟩ => ⟨S_, .f32⟩
  | .hbm, ⟨34, _⟩ => ⟨S2304x1024, .f32⟩
  | .hbm, ⟨35, _⟩ => ⟨S2304x1024, .f32⟩
  | .hbm, ⟨36, _⟩ => ⟨S2304x4x256, .f32⟩
  | .hbm, ⟨37, _⟩ => ⟨S4x2304x256, .f32⟩
  | .hbm, ⟨38, _⟩ => ⟨S4x2304x256, .bf16⟩
  | .hbm, ⟨39, _⟩ => ⟨S4096x1024, .f32⟩
  | .hbm, ⟨40, _⟩ => ⟨S1x1024, .f32⟩
  | .hbm, ⟨41, _⟩ => ⟨S1x128, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x384, .bf16⟩
  | .local _ .vmem, ⟨9, _⟩ => ⟨S512x384, .bf16⟩
  | .local _ .vmem, ⟨10, _⟩ => ⟨S512x128, .f32⟩
  | .local _ .vmem, ⟨11, _⟩ => ⟨S512x128, .f32⟩
  | .local _ .vmem, ⟨12, _⟩ => ⟨S512x256, .bf16⟩
  | .local _ .vmem, ⟨13, _⟩ => ⟨S512x256, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S4x2304x256, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S1x128, .f32⟩
  | .local _ .vmem, ⟨24, _⟩ => ⟨S512x2304, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_0 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_call2_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v87 : BitVec 32 := Scalar.extui v0
  let c0_i32_55 : BitVec 32 := 0#32
  let v88 : BitVec 1 := Scalar.cmpi .ne v87 c0_i32_55
  v88

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v89 : BitVec 1 := Scalar.xori v0 v_true
  let v90 : BitVec 32 := Scalar.extui v89
  let c0_i32_56 : BitVec 32 := 0#32
  let v91 : BitVec 1 := Scalar.cmpi .ne v90 c0_i32_56
  v91

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v96 : BitVec 32 := Scalar.extui v0
  let c0_i32_60 : BitVec 32 := 0#32
  let v97 : BitVec 1 := Scalar.cmpi .ne v96 c0_i32_60
  v97

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_61 : BitVec 1 := 1#1
  let v98 : BitVec 1 := Scalar.xori v0 true_61
  let v99 : BitVec 32 := Scalar.extui v98
  let c0_i32_62 : BitVec 32 := 0#32
  let v100 : BitVec 1 := Scalar.cmpi .ne v99 c0_i32_62
  v100

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x2304x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InVjpIdeal.lean ====
abbrev S2x2048x1024 : Shape := ⟨3, ![2, 2048, 1024]⟩
abbrev S1024 : Shape := ⟨1, ![1024]⟩
abbrev S1024x2182 : Shape := ⟨2, ![1024, 2182]⟩
abbrev S6 : Shape := ⟨1, ![6]⟩
abbrev S2x2048x2182 : Shape := ⟨3, ![2, 2048, 2182]⟩
abbrev S2x2048x1920 : Shape := ⟨3, ![2, 2048, 1920]⟩
abbrev S2x2048x6 : Shape := ⟨3, ![2, 2048, 6]⟩
abbrev S2x2048x256 : Shape := ⟨3, ![2, 2048, 256]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x1x6 : Shape := ⟨3, ![1, 1, 6]⟩
abbrev S4096x1024 : Shape := ⟨2, ![4096, 1024]⟩
abbrev S1x1024 : Shape := ⟨2, ![1, 1024]⟩
abbrev S1x6 : Shape := ⟨2, ![1, 6]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2182, .f32⟩
  | .hbm, ⟨3, _⟩ => ⟨S6, .f32⟩
  | .hbm, ⟨4, _⟩ => ⟨S2x2048x2182, .f32⟩
  | .hbm, ⟨5, _⟩ => ⟨S2x2048x1024, .f32⟩
  | .hbm, ⟨6, _⟩ => ⟨S2x2048x1920, .f32⟩
  | .hbm, ⟨7, _⟩ => ⟨S2x2048x6, .f32⟩
  | .hbm, ⟨8, _⟩ => ⟨S2x2048x256, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S2x2048x2182, .f32⟩
  | .hbm, ⟨30, _⟩ => ⟨S2x2048x1920, .f32⟩
  | .hbm, ⟨31, _⟩ => ⟨S2x2048x6, .f32⟩
  | .hbm, ⟨32, _⟩ => ⟨S2x2048x256, .f32⟩
  | .hbm, ⟨33, _⟩ => ⟨S1x1x6, .f32⟩
  | .hbm, ⟨34, _⟩ => ⟨S2x2048x6, .f32⟩
  | .hbm, ⟨35, _⟩ => ⟨S2x2048x6, .f32⟩
  | .hbm, ⟨36, _⟩ => ⟨S_, .f32⟩
  | .hbm, ⟨37, _⟩ => ⟨S6, .f32⟩
  | .hbm, ⟨38, _⟩ => ⟨S1x1x6, .f32⟩
  | .hbm, ⟨39, _⟩ => ⟨S_, .f32⟩
  | .hbm, ⟨40, _⟩ => ⟨S6, .f32⟩
  | .hbm, ⟨41, _⟩ => ⟨S2x2048x2182, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S1024, .f32⟩
  | .hbm, ⟨46, _⟩ => ⟨S1x1x1024, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S1024, .f32⟩
  | .hbm, ⟨51, _⟩ => ⟨S2x2048x1024, .f32⟩
  | .hbm, ⟨52, _⟩ => ⟨S_, .f32⟩
  | .hbm, ⟨53, _⟩ => ⟨S2x2048, .f32⟩
  | .hbm, ⟨54, _⟩ => ⟨S2x2048x1, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S2x2048x1, .f32⟩
  | .hbm, ⟨59, _⟩ => ⟨S_, .f32⟩
  | .hbm, ⟨60, _⟩ => ⟨S2x2048x1, .f32⟩
  | .hbm, ⟨61, _⟩ => ⟨S2x2048x1, .f32⟩
  | .hbm, ⟨62, _⟩ => ⟨S_, .f32⟩
  | .hbm, ⟨63, _⟩ => ⟨S2x2048, .f32⟩
  | .hbm, ⟨64, _⟩ => ⟨S2x2048x1024, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S4096x1024, .f32⟩
  | .hbm, ⟨70, _⟩ => ⟨S1x1024, .f32⟩
  | .hbm, ⟨71, _⟩ => ⟨S1x6, .f32⟩
  | .hbm, ⟨72, _⟩ => ⟨S_, .i32⟩
  | .hbm, ⟨73, _⟩ => ⟨S_, .f32⟩
  | .hbm, ⟨74, _⟩ => ⟨S1x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c : Ref sig .tc := ⟨.hbm, 72, rfl⟩
abbrev main_call0_v0 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== FfnBwd.lean ====
abbrev S2x2048x1024 : Shape := ⟨3, ![2, 2048, 1024]⟩
abbrev S1024x2816 : Shape := ⟨2, ![1024, 2816]⟩
abbrev S2816x1024 : Shape := ⟨2, ![2816, 1024]⟩
abbrev S4096x1024 : Shape := ⟨2, ![4096, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4x4096x1024 : Shape := ⟨3, ![4, 4096, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S1x1024x1024 : Shape := ⟨3, ![1, 1024, 1024]⟩
abbrev S704x1024 : Shape := ⟨2, ![704, 1024]⟩
abbrev S256x1024 : Shape := ⟨2, ![256, 1024]⟩
abbrev S256x704 : Shape := ⟨2, ![256, 704]⟩
abbrev S1x256x704 : Shape := ⟨3, ![1, 256, 704]⟩
abbrev S1x256x1024 : Shape := ⟨3, ![1, 256, 1024]⟩
abbrev S1024x704 : Shape := ⟨2, ![1024, 704]⟩

abbrev nBuf : Space → Nat
  | .hbm => 29
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2x2048x1024, .f32⟩
  | .hbm, ⟨5, _⟩ => ⟨S4096x1024, .f32⟩
  | .hbm, ⟨6, _⟩ => ⟨S4096x2816, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x2816, .f32⟩
  | .hbm, ⟨11, _⟩ => ⟨S4096x4x704, .f32⟩
  | .hbm, ⟨12, _⟩ => ⟨S4x4096x704, .f32⟩
  | .hbm, ⟨13, _⟩ => ⟨S4x4096x704, .bf16⟩
  | .hbm, ⟨14, _⟩ => ⟨S4096x1024, .f32⟩
  | .hbm, ⟨15, _⟩ => ⟨S4096x1024, .bf16⟩
  | .hbm, ⟨16, _⟩ => ⟨S4096x1024, .bf16⟩
  | .hbm, ⟨17, _⟩ => ⟨S2816x1024, .f32⟩
  | .hbm, ⟨18, _⟩ => ⟨S4x704x1024, .f32⟩
  | .hbm, ⟨19, _⟩ => ⟨S4x704x1024, .bf16⟩
  | .hbm, ⟨20, _⟩ => ⟨S2816x1024, .f32⟩
  | .hbm, ⟨21, _⟩ => ⟨S4x704x1024, .f32⟩
  | .hbm, ⟨22, _⟩ => ⟨S4x704x1024, .bf16⟩
  | .hbm, ⟨23, _⟩ => ⟨S4x704x1024, .f32⟩
  | .hbm, ⟨24, _⟩ => ⟨S4x704x1024, .bf16⟩
  | .hbm, ⟨25, _⟩ => ⟨S4x4096x1024, .bf16⟩
  | .hbm, ⟨26, _⟩ => ⟨S4x704x1024, .bf16⟩
  | .hbm, ⟨27, _⟩ => ⟨S4x704x1024, .bf16⟩
  | .hbm, ⟨28, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S1x704x1024, .bf16⟩
  | .local _ .vmem, ⟨19, _⟩ => ⟨S1x704x1024, .bf16⟩
  | .local _ .vmem, ⟨20, _⟩ => ⟨S1x704x1024, .bf16⟩
  | .local _ .vmem, ⟨21, _⟩ => ⟨S1x704x1024, .bf16⟩
  | .local _ .vmem, ⟨22, _⟩ => ⟨S704x1024, .f32⟩
  | .local _ .vmem, ⟨23, _⟩ => ⟨S704x1024, .f32⟩
  | .local _ .vmem, ⟨24, _⟩ => ⟨S704x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v20_2 : Ref sig .tc := ⟨.hbm, 27, rfl⟩
abbrev main_v20_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond7 (i : grid0.Coords) : BitVec 1 :=
  let arg1 : BitVec 32 := BitVec.ofNat 32 (i 1).val
  let c3_i32 : BitVec 32 := 3#32
  let v186 : BitVec 1 := Scalar.cmpi .eq arg1 c3_i32
  let v187 : BitVec 32 := Scalar.extui v186
  let c0_i32_110 : BitVec 32 := 0#32
  let v188 : BitVec 1 := Scalar.cmpi .ne v187 c0_i32_110
  v188

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x704x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnVjpIdeal.lean ====
abbrev S2x2048x1024 : Shape := ⟨3, ![2, 2048, 1024]⟩
abbrev S1024x2816 : Shape := ⟨2, ![1024, 2816]⟩
abbrev S2816x1024 : Shape := ⟨2, ![2816, 1024]⟩
abbrev S2x2048x2816 : Shape := ⟨3, ![2, 2048, 2816]⟩
abbrev S_ : Shape := ⟨0, ![]⟩
abbrev S1024x4x704 : Shape := ⟨3, ![1024, 4, 704]⟩
abbrev S4x1024x704 : Shape := ⟨3, ![4, 1024, 704]⟩
abbrev S4x704x1024 : Shape := ⟨3, ![4, 704, 1024]⟩
abbrev S2x2048x4x704 : Shape := ⟨4, ![2, 2048, 4, 704]⟩
abbrev S4x2x2048x1024 : Shape := ⟨4, ![4, 2, 2048, 1024]⟩
abbrev S4x4096x1024 : Shape := ⟨3, ![4, 4096, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2x2048x1024, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S_, .f32⟩
  | .hbm, ⟨9, _⟩ => ⟨S2x2048x2816, .f32⟩
  | .hbm, ⟨10, _⟩ => ⟨S2x2048x2816, .f32⟩
  | .hbm, ⟨11, _⟩ => ⟨S_, .f32⟩
  | .hbm, ⟨12, _⟩ => ⟨S2x2048x2816, .f32⟩
  | .hbm, ⟨13, _⟩ => ⟨S2x2048x2816, .f32⟩
  | .hbm, ⟨14, _⟩ => ⟨S_, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S2x2048x2816, .f32⟩
  | .hbm, ⟨20, _⟩ => ⟨S2x2048x2816, .f32⟩
  | .hbm, ⟨21, _⟩ => ⟨S2x2048x1024, .f32⟩
  | .hbm, ⟨22, _⟩ => ⟨S1024x2816, .f32⟩
  | .hbm, ⟨23, _⟩ => ⟨S2816x1024, .f32⟩
  | .hbm, ⟨24, _⟩ => ⟨S2x2048x2816, .f32⟩
  | .hbm, ⟨25, _⟩ => ⟨S2x2048x2816, .f32⟩
  | .hbm, ⟨26, _⟩ => ⟨S2x2048x2816, .f32⟩
  | .hbm, ⟨27, _⟩ => ⟨S2816x1024, .f32⟩
  | .hbm, ⟨28, _⟩ => ⟨S1024x2816, .f32⟩
  | .hbm, ⟨29, _⟩ => ⟨S2x2048x1024, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S2816x1024, .f32⟩
  | .hbm, ⟨35, _⟩ => ⟨S1024x2816, .f32⟩
  | .hbm, ⟨36, _⟩ => ⟨S2x2048x1024, .f32⟩
  | .hbm, ⟨37, _⟩ => ⟨S2x2048x1024, .f32⟩
  | .hbm, ⟨38, _⟩ => ⟨S1024x4x704, .f32⟩
  | .hbm, ⟨39, _⟩ => ⟨S4x1024x704, .f32⟩
  | .hbm, ⟨40, _⟩ => ⟨S1024x4x704, .f32⟩
  | .hbm, ⟨41, _⟩ => ⟨S4x1024x704, .f32⟩
  | .hbm, ⟨42, _⟩ => ⟨S4x704x1024, .f32⟩
  | .hbm, ⟨43, _⟩ => ⟨S2x2048x4x704, .f32⟩
  | .hbm, ⟨44, _⟩ => ⟨S2x2048x4x704, .f32⟩
  | .hbm, ⟨45, _⟩ => ⟨S2x2048x4x704, .f32⟩
  | .hbm, ⟨46, _⟩ => ⟨S_, .f32⟩
  | .hbm, ⟨47, _⟩ => ⟨S2x2048x4x704, .f32⟩
  | .hbm, ⟨48, _⟩ => ⟨S2x2048x4x704, .f32⟩
  | .hbm, ⟨49, _⟩ => ⟨S_, .f32⟩
  | .hbm, ⟨50, _⟩ => ⟨S2x2048x4x704, .f32⟩
  | .hbm, ⟨51, _⟩ => ⟨S2x2048x4x704, .f32⟩
  | .hbm, ⟨52, _⟩ => ⟨S_, .f32⟩
  | .hbm, ⟨53, _⟩ => ⟨S2x2048x4x704, .f32⟩
  | .hbm, ⟨54, _⟩ => ⟨S2x2048x4x704, .f32⟩
  | .hbm, ⟨55, _⟩ => ⟨S2x2048x4x704, .f32⟩
  | .hbm, ⟨56, _⟩ => ⟨S2x2048x4x704, .f32⟩
  | .hbm, ⟨57, _⟩ => ⟨S2x2048x4x704, .f32⟩
  | .hbm, ⟨58, _⟩ => ⟨S2x2048x4x704, .f32⟩
  | .hbm, ⟨59, _⟩ => ⟨S4x2x2048x1024, .f32⟩
  | .hbm, ⟨60, _⟩ => ⟨S2x2048x4x704, .f32⟩
  | .hbm, ⟨61, _⟩ => ⟨S2x2048x4x704, .f32⟩
  | .hbm, ⟨62, _⟩ => ⟨S2x2048x4x704, .f32⟩
  | .hbm, ⟨63, _⟩ => ⟨S4x2x2048x1024, .f32⟩
  | .hbm, ⟨64, _⟩ => ⟨S2x2048x4x704, .f32⟩
  | .hbm, ⟨65, _⟩ => ⟨S2x2048x4x704, .f32⟩
  | .hbm, ⟨66, _⟩ => ⟨S2x2048x4x704, .f32⟩
  | .hbm, ⟨67, _⟩ => ⟨S2x2048x4x704, .f32⟩
  | .hbm, ⟨68, _⟩ => ⟨S4x2x2048x1024, .f32⟩
  | .hbm, ⟨69, _⟩ => ⟨S4x2x2048x1024, .f32⟩
  | .hbm, ⟨70, _⟩ => ⟨S2816x1024, .f32⟩
  | .hbm, ⟨71, _⟩ => ⟨S2816x1024, .f32⟩
  | .hbm, ⟨72, _⟩ => ⟨S4x4096x1024, .f32⟩
  | .hbm, ⟨73, _⟩ => ⟨S4x4096x1024, .bf16⟩
  | .hbm, ⟨74, _⟩ => ⟨S4x704x1024, .f32⟩
  | .hbm, ⟨75, _⟩ => ⟨S4x704x1024, .bf16⟩
  | .hbm, ⟨76, _⟩ => ⟨S4x704x1024, .f32⟩
  | .hbm, ⟨77, _⟩ => ⟨S4x704x1024, .bf16⟩
  | .hbm, ⟨78, _⟩ => ⟨S4x704x1024, .f32⟩
  | .hbm, ⟨79, _⟩ => ⟨S4x704x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_v24_2 : Ref sig .tc := ⟨.hbm, 51, rfl⟩
abbrev main_call2_cst_1 : Ref sig .tc := ⟨.hbm, 52, rfl⟩
abbrev main_call2_v6 : Ref sig .tc := ⟨.hbm, 53, rfl⟩
abbrev main_call2_v7 : Ref sig .tc := ⟨.hbm, 54, rfl⟩
abbrev main_v24_1 : Ref sig .tc := ⟨.hbm, 55, rfl⟩
abbrev main_v24_0 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩

abbrev nD : Nat := 1
abbrev τ : Topo := Topo.v7x

variable {F : FTy → Type} [FloatOps F]
-- ==== Proof.Reals.lean ====
/-
  Real arithmetic inside the extended reals, used by every pair of this certificate. A program on finite
  arguments computes finite values: `lift` lists the coercions of the operations involved, so that `simp`
  moves "↑" from the operands of an expression to its whole, and the rest is algebra on the reals.
-/
module

public import Idealize.ShloMosaic.Lib.Pointwise
public import Idealize.ShloMosaic.PureOps.Ideal.Laws
public import Mathlib.Tactic.FieldSimp

@[expose] public section

noncomputable section

namespace Cert.Reals

open Idealize.ShloMosaic

/-- A real function of one to four coordinates as the array of its values. -/
def up1 {a : ℕ} (f : Fin a → ℝ) : (⟨1, ![a]⟩ : Shape).Idx → EReal := fun i => ((f (i 0) : ℝ) : EReal)
def up2 {a b : ℕ} (f : Fin a → Fin b → ℝ) : (⟨2, ![a, b]⟩ : Shape).Idx → EReal :=
  fun i => ((f (i 0) (i 1) : ℝ) : EReal)
def up3 {a b c : ℕ} (f : Fin a → Fin b → Fin c → ℝ) : (⟨3, ![a, b, c]⟩ : Shape).Idx → EReal :=
  fun i => ((f (i 0) (i 1) (i 2) : ℝ) : EReal)
def up4 {a b c d : ℕ} (f : Fin a → Fin b → Fin c → Fin d → ℝ) : (⟨4, ![a, b, c, d]⟩ : Shape).Idx → EReal :=
  fun i => ((f (i 0) (i 1) (i 2) (i 3) : ℝ) : EReal)

@[pointwise] theorem up1_ix {a : ℕ} (f : Fin a → ℝ) (i : Fin a) : up1 f (ix1 i) = ((f i : ℝ) : EReal) := rfl
@[pointwise] theorem up2_ix {a b : ℕ} (f : Fin a → Fin b → ℝ) (i : Fin a) (j : Fin b) :
    up2 f (ix2 i j) = ((f i j : ℝ) : EReal) := rfl
@[pointwise] theorem up3_ix {a b c : ℕ} (f : Fin a → Fin b → Fin c → ℝ) (i : Fin a) (j : Fin b) (k : Fin c) :
    up3 f (ix3 i j k) = ((f i j k : ℝ) : EReal) := rfl
@[pointwise] theorem up4_ix {a b c d : ℕ} (f : Fin a → Fin b → Fin c → Fin d → ℝ) (i : Fin a) (j : Fin b) (k : Fin c)
    (l : Fin d) : up4 f (ix4 i j k l) = ((f i j k l : ℝ) : EReal) := rfl

/-! ### The operations on reals -/

@[pointwise] theorem lift_add (a b : ℝ) : ((a : ℝ) : EReal) + ((b : ℝ) : EReal) = ((a + b : ℝ) : EReal) := (EReal.coe_add a b).symm
@[pointwise] theorem lift_sub (a b : ℝ) : ((a : ℝ) : EReal) - ((b : ℝ) : EReal) = ((a - b : ℝ) : EReal) := (EReal.coe_sub a b).symm
@[pointwise] theorem lift_mul (a b : ℝ) : ((a : ℝ) : EReal) * ((b : ℝ) : EReal) = ((a * b : ℝ) : EReal) := (EReal.coe_mul a b).symm
@[pointwise] theorem lift_neg (a : ℝ) : -((a : ℝ) : EReal) = ((-a : ℝ) : EReal) := (EReal.coe_neg a).symm
@[pointwise] theorem lift_exp (a : ℝ) : Ideal.exp ((a : ℝ) : EReal) = ((Real.exp a : ℝ) : EReal) := Ideal.exp_coe a
@[pointwise] theorem lift_ite {p : Prop} [Decidable p] (a b : ℝ) :
    (if p then ((a : ℝ) : EReal) else ((b : ℝ) : EReal)) = ((if p then a else b : ℝ) : EReal) := by split <;> rfl
@[pointwise] theorem lift_ite_zero {p : Prop} [Decidable p] (a : ℝ) :
    (if p then ((a : ℝ) : EReal) else 0) = ((if p then a else 0 : ℝ) : EReal) := by split <;> rfl
@[pointwise] theorem max_bot_coe (a : ℝ) : max (⊥ : EReal) ((a : ℝ) : EReal) = ((a : ℝ) : EReal) := max_eq_right bot_le

/-- A sum of reals is a real. -/
@[pointwise] theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The quotient of two reals, the divisor not zero. -/
theorem coe_div {y : ℝ} (h : y ≠ 0) (x : ℝ) : Ideal.div ((x : ℝ) : EReal) ((y : ℝ) : EReal) = ((x / y : ℝ) : EReal) := by
  rw [Ideal.div_coe h, ← EReal.coe_mul]; congr 1; field_simp

/-- The running maximum of reals from −∞ is a real, as soon as there is one of them. -/
theorem exists_fold_max {ι : Type} (s : Finset ι) (hs : s.Nonempty) (f : ι → ℝ) :
    ∃ M : ℝ, s.fold max (⊥ : EReal) (fun k => ((f k : ℝ) : EReal)) = ((M : ℝ) : EReal) := by
  classical
  induction hs using Finset.Nonempty.cons_induction with
  | singleton a => exact ⟨f a, by simp⟩
  | cons a s h hs ih =>
    obtain ⟨M, hM⟩ := ih
    refine ⟨max (f a) M, ?_⟩
    rw [Finset.fold_cons, hM]
    exact (EReal.coe_strictMono.monotone.map_max).symm

/-- That maximum. -/
def top {n : ℕ} [NeZero n] (f : Fin n → ℝ) : ℝ :=
  (exists_fold_max Finset.univ ⟨(0 : Fin n), Finset.mem_univ _⟩ f).choose

@[pointwise] theorem fold_max {n : ℕ} [NeZero n] (f : Fin n → ℝ) :
    Finset.univ.fold max (⊥ : EReal) (fun k => ((f k : ℝ) : EReal)) = ((top f : ℝ) : EReal) :=
  (exists_fold_max Finset.univ ⟨(0 : Fin n), Finset.mem_univ _⟩ f).choose_spec

/-- The comparison |x| < ∞ that a precondition makes holds of a real only. -/
theorem exists_real {x : EReal} (h : max x (-x) < ⊤) : ∃ r : ℝ, x = ((r : ℝ) : EReal) := by
  induction x using EReal.rec with
  | bot => simp at h
  | top => simp at h
  | coe r => exact ⟨r, rfl⟩

/-- An array that passes it elementwise is the array of real values. -/
theorem eq_up2 {a b : ℕ} {x : (⟨2, ![a, b]⟩ : Shape).Idx → EReal} (h : ∀ i, max (x i) (-(x i)) < ⊤) :
    ∃ f, x = up2 f := by
  choose r hr using fun i => exists_real (h i)
  exact ⟨fun i j => r (ix2 i j), funext fun i => (hr i).trans (congrArg (fun l => ((r l : ℝ) : EReal)) (eq_ix2 i))⟩
theorem eq_up3 {a b c : ℕ} {x : (⟨3, ![a, b, c]⟩ : Shape).Idx → EReal} (h : ∀ i, max (x i) (-(x i)) < ⊤) :
    ∃ f, x = up3 f := by
  choose r hr using fun i => exists_real (h i)
  exact ⟨fun i j k => r (ix3 i j k), funext fun i => (hr i).trans (congrArg (fun l => ((r l : ℝ) : EReal)) (eq_ix3 i))⟩

/-! ### Constants -/

@[pointwise] theorem ofBits_inf : Ideal.ofBits .f32 0x7F800000#32 = ⊤ := by simp [Ideal.ofBits, Ideal.ieee]
@[pointwise] theorem ofBits_neg_inf : Ideal.ofBits .f32 0xFF800000#32 = ⊥ := by simp [Ideal.ofBits, Ideal.ieee]
/-- The precondition `|x| < inf`, element by element. -/
theorem finite {s s₀ : Shape} {d : Fin s₀.rank → Fin s.rank} {hb : s₀.BroadcastsInDim s d} {x : FVec Ideal s .f32}
    (h : cmpf (F := Ideal) .olt (Host.absf x) (broadcastInDim s d hb (constant s₀ .f32 0x7F800000#32)) = fun _ => 1#1) (i : s.Idx) :
    max (x i) (-(x i)) < ⊤ := by
  have h1 : Ideal.cmp .olt (max (x i) (-(x i))) (Ideal.ofBits .f32 0x7F800000#32) = 1 := congrFun h i
  rw [ofBits_inf] at h1
  exact (Ideal.cmp_olt_eq_one _ _).mp h1
/-- One eighth, `HEAD_DIM ** -0.5`. -/
@[pointwise] theorem ofBits_eighth : Ideal.ofBits .f32 0x3E000000#32 = ((1 / 8 : ℝ) : EReal) := by
  simp [Ideal.ofBits, Ideal.ieee, -EReal.coe_mul]; norm_num
@[pointwise] theorem ofBits_eighth_bf16 : Ideal.ofBits .bf16 0x3E00#16 = ((1 / 8 : ℝ) : EReal) := by
  simp [Ideal.ofBits, Ideal.ieee, -EReal.coe_mul]; norm_num

/-! ### The softmax and its derivative -/

/-- Every sum of exponentials is positive. -/
theorem sum_exp_pos {n : ℕ} [NeZero n] (f : Fin n → ℝ) : 0 < ∑ k, Real.exp (f k) :=
  Finset.sum_pos (fun _ _ => Real.exp_pos _) ⟨0, Finset.mem_univ _⟩

@[pointwise] theorem div_sum_exp {n : ℕ} [NeZero n] (x : ℝ) (f : Fin n → ℝ) :
    Ideal.div ((x : ℝ) : EReal) ((∑ k, Real.exp (f k) : ℝ) : EReal) = ((x / ∑ k, Real.exp (f k) : ℝ) : EReal) :=
  coe_div (sum_exp_pos f).ne' x

@[pointwise] theorem one_div_sum_exp_sq {n : ℕ} [NeZero n] (f : Fin n → ℝ) :
    Ideal.div 1 (((∑ k, Real.exp (f k)) * ∑ k, Real.exp (f k) : ℝ) : EReal)
      = ((1 / ((∑ k, Real.exp (f k)) * ∑ k, Real.exp (f k)) : ℝ) : EReal) :=
  coe_div (mul_pos (sum_exp_pos f) (sum_exp_pos f)).ne' 1

/-- The softmax of a row. -/
def soft {n : ℕ} (s : Fin n → ℝ) (k : Fin n) : ℝ := Real.exp (s k) / ∑ j, Real.exp (s j)

/-- Subtracting one number from the whole row changes nothing. -/
theorem soft_shift {n : ℕ} (s : Fin n → ℝ) (M : ℝ) (k : Fin n) :
    Real.exp (s k - M) / ∑ j, Real.exp (s j - M) = soft s k := by
  unfold soft
  simp only [sub_eq_add_neg, Real.exp_add]
  rw [← Finset.sum_mul, mul_div_mul_right _ _ (Real.exp_ne_zero _)]

/-- The derivative of the softmax of the row `s` along the cotangent `d`. -/
def dsoft {n : ℕ} (s d : Fin n → ℝ) (k : Fin n) : ℝ := soft s k * (d k - ∑ j, soft s j * d j)

/-- The same as differentiating numerator and denominator of the shifted quotient gives it. -/
theorem dsoft_quotient {n : ℕ} [NeZero n] (s d : Fin n → ℝ) (M : ℝ) (k : Fin n) :
    (d k / (∑ j, Real.exp (s j - M))
      + -(∑ j, d j * (1 / ((∑ j, Real.exp (s j - M)) * ∑ j, Real.exp (s j - M))) * Real.exp (s j - M)))
        * Real.exp (s k - M) = dsoft s d k := by
  have h := (sum_exp_pos fun j => s j - M).ne'
  unfold dsoft
  simp only [← soft_shift s M]
  generalize hZ : ∑ j, Real.exp (s j - M) = Z at h ⊢
  have : ∑ j, d j * (1 / (Z * Z)) * Real.exp (s j - M) = (∑ j, Real.exp (s j - M) / Z * d j) / Z := by
    rw [Finset.sum_div]; refine Finset.sum_congr rfl fun j _ => ?_; field_simp
  rw [this]; field_simp; ring

end Cert.Reals

end
-- ==== Proof.MemModel.lean ====
/-
  The derivative of the cross-attention into the memory tokens, on the reals: what both programs of the pair
  MemBwd / MemVjp compute. `q` and `ct` are indexed by batch, token and column (head times 64 plus lane), `kv` by
  batch, memory token and column (the keys' 256 columns, then the values').
-/
module

public import proofs.«01_k».proof.Proof.Reals

@[expose] public section

noncomputable section

namespace Cert.MemModel

open Cert.Reals

variable (q : Fin 2 → Fin 2048 → Fin 256 → ℝ) (kv : Fin 2 → Fin 256 → Fin 512 → ℝ) (ct : Fin 2 → Fin 2048 → Fin 256 → ℝ)

/-- A head's scores of a token's query against every memory token. -/
def score (b : Fin 2) (h : Fin 4) (t : Fin 2048) (m : Fin 256) : ℝ :=
  (∑ d : Fin 64, q b t ⟨h * 64 + d, by omega⟩ * kv b m ⟨h * 64 + d, by omega⟩) * (1 / 8)

/-- The cotangent of the softmax. -/
def dprob (b : Fin 2) (h : Fin 4) (t : Fin 2048) (m : Fin 256) : ℝ :=
  ∑ d : Fin 64, ct b t ⟨h * 64 + d, by omega⟩ * kv b m ⟨256 + (h * 64 + d), by omega⟩

/-- The cotangent of the scores. -/
def dscore (b : Fin 2) (h : Fin 4) (t : Fin 2048) (m : Fin 256) : ℝ :=
  dsoft (score q kv b h t) (dprob kv ct b h t) m

/-- The head a column belongs to. -/
def headOf (c : Fin 256) : Fin 4 := ⟨c / 64, by omega⟩

/-- The gradients of the queries, keys and values. -/
def dq (b : Fin 2) (t : Fin 2048) (c : Fin 256) : ℝ :=
  (∑ m, dscore q kv ct b (headOf c) t m * kv b m ⟨c, by omega⟩) * (1 / 8)
def dk (b : Fin 2) (m c : Fin 256) : ℝ := (∑ t, dscore q kv ct b (headOf c) t m * q b t c) * (1 / 8)
def dv (b : Fin 2) (m c : Fin 256) : ℝ := ∑ t, soft (score q kv b (headOf c) t) m * ct b t c

end Cert.MemModel

end
-- ==== Proof.MemRef.lean ====
/-
  The reference of the pair MemBwd / MemVjp on finite arguments: its three results are the gradients of MemModel.
  The printed term is taken apart into the stages a reader of `jax.vjp` of a softmax attention expects; each stage
  maps real arrays to a real array.
-/
module

public import proofs.«01_k».proof.Proof.Gen.MemVjpIdeal.Run
public import proofs.«01_k».proof.Proof.MemModel

@[expose] public section

set_option maxRecDepth 16384

noncomputable section

namespace Cert.MemRef

open Cert.MemVjpIdeal Cert.MemVjpIdeal.Gen Idealize.ShloMosaic Idealize.ShloMosaic.TcCoe Cert.Reals Cert.MemModel
open Cert.MemVjpIdeal.Facts

/-! ### The stages -/

/-- Queries (and the result's cotangent), keys and values by heads. -/
def heads (x : FVec Ideal S2x2048x256 .f32) : FVec Ideal S2x2048x4x64 .f32 :=
  shapeCast _ x shapeCasts_S2x2048x256_S2x2048x4x64
def keys (kv : FVec Ideal S2x256x512 .f32) : FVec Ideal S2x256x4x64 .f32 :=
  shapeCast _ (extractStridedSlice S2x256x256 ![0, 0, 0] kv slices_S2x256x512_S2x256x256_0_0_0)
    shapeCasts_S2x256x256_S2x256x4x64
def vals (kv : FVec Ideal S2x256x512 .f32) : FVec Ideal S2x256x4x64 .f32 :=
  shapeCast _ (extractStridedSlice S2x256x256 ![0, 0, 256] kv slices_S2x256x512_S2x256x256_0_0_256)
    shapeCasts_S2x256x256_S2x256x4x64
def cots (x : FVec Ideal S2x2048x256 .f32) : FVec Ideal S2x4x64x2048 .f32 :=
  transpose S2x4x64x2048 [0, 2, 3, 1] (heads x) transposes_S2x2048x4x64_S2x4x64x2048_0_2_3_1

/-- The scores, their rows' maxima, the shifted exponentials and the softmax. -/
def scores (q : FVec Ideal S2x2048x4x64 .f32) (k : FVec Ideal S2x256x4x64 .f32) : FVec Ideal S2x4x2048x256 .f32 :=
  mulf (Host.dotGeneral dot_S2x2048x4x64_S2x256x4x64_S2x4x2048x256_3_3_1_1_02_02 none q k)
    (broadcastInDim S2x4x2048x256 ![] bcast_S_S2x4x2048x256 (constant S_ .f32 0x3E000000#32))
def rowMax (s : FVec Ideal S2x4x2048x256 .f32) : FVec Ideal S2x4x2048 .f32 :=
  Host.reduce FloatOps.maximumf s (constant S_ .f32 0xFF800000#32) reducesTo_S2x4x2048x256_S2x4x2048_d3 h_S_
def along (z : FVec Ideal S2x4x2048x1 .f32) : FVec Ideal S2x4x2048x256 .f32 :=
  broadcastInDim S2x4x2048x256 ![0, 1, 2, 3] bcast_S2x4x2048x1_S2x4x2048x256_0_1_2_3 z
def expShift (s : FVec Ideal S2x4x2048x256 .f32) (r : FVec Ideal S2x4x2048 .f32) : FVec Ideal S2x4x2048x256 .f32 :=
  Host.exp (subf s (along (broadcastInDim S2x4x2048x1 ![0, 1, 2] bcast_S2x4x2048_S2x4x2048x1_0_1_2
    (maximumf (broadcastInDim S2x4x2048 ![] bcast_S_S2x4x2048 (constant S_ .f32 0xFF800000#32)) r))))
def rowSum (e : FVec Ideal S2x4x2048x256 .f32) : FVec Ideal S2x4x2048 .f32 :=
  Host.reduceAdd e (constant S_ .f32 0x00000000#32) reducesTo_S2x4x2048x256_S2x4x2048_d3 h_S_
def denom (e : FVec Ideal S2x4x2048x256 .f32) : FVec Ideal S2x4x2048x1 .f32 :=
  broadcastInDim S2x4x2048x1 ![0, 1, 2] bcast_S2x4x2048_S2x4x2048x1_0_1_2 (rowSum e)
def probs (e : FVec Ideal S2x4x2048x256 .f32) : FVec Ideal S2x4x2048x256 .f32 := Host.divf e (along (denom e))

/-- The cotangents of the softmax and of the scores. -/
def dprobs (ct : FVec Ideal S2x4x64x2048 .f32) (v : FVec Ideal S2x256x4x64 .f32) : FVec Ideal S2x4x2048x256 .f32 :=
  Host.dotGeneral dot_S2x4x64x2048_S2x256x4x64_S2x4x2048x256_2_3_3_1_01_02 none ct v
def inner (e g : FVec Ideal S2x4x2048x256 .f32) : FVec Ideal S2x4x2048 .f32 :=
  rowSum (mulf (mulf g (along (Host.divf
    (broadcastInDim S2x4x2048x1 ![] bcast_S_S2x4x2048x1 (constant S_ .f32 0x3F800000#32))
    (mulf (denom e) (denom e))))) e)
def dscores (e g : FVec Ideal S2x4x2048x256 .f32) (i : FVec Ideal S2x4x2048 .f32) : FVec Ideal S2x4x2048x256 .f32 :=
  mulf (mulf (addf (Host.divf g (along (denom e)))
    (broadcastInDim S2x4x2048x256 ![0, 1, 2] bcast_S2x4x2048_S2x4x2048x256_0_1_2
      (Host.reduceAdd (Host.negf (shapeCast S2x4x2048x1 i shapeCasts_S2x4x2048_S2x4x2048x1))
        (constant S_ .f32 0x00000000#32) reducesTo_S2x4x2048x1_S2x4x2048_d3 h_S_))) e)
    (broadcastInDim S2x4x2048x256 ![] bcast_S_S2x4x2048x256 (constant S_ .f32 0x3E000000#32))

/-- The three gradients. -/
def gradQ (g : FVec Ideal S2x4x2048x256 .f32) (k : FVec Ideal S2x256x4x64 .f32) : FVec Ideal S4096x256 .bf16 :=
  truncf .bf16 (shapeCast _ (shapeCast S2x2048x256 (transpose S2x2048x4x64 [0, 2, 1, 3]
    (Host.dotGeneral dot_S2x4x2048x256_S2x256x4x64_S2x4x2048x64_3_1_2_3_01_02 none g k : FVec Ideal S2x4x2048x64 .f32)
    transposes_S2x4x2048x64_S2x2048x4x64_0_2_1_3) shapeCasts_S2x2048x4x64_S2x2048x256)
    shapeCasts_S2x2048x256_S4096x256) bitsLt_bf16_f32
def gradK (g : FVec Ideal S2x4x2048x256 .f32) (q : FVec Ideal S2x2048x4x64 .f32) : FVec Ideal S2x256x256 .f32 :=
  shapeCast _ (transpose S2x256x4x64 [0, 2, 1, 3]
    (Host.dotGeneral dot_S2x4x2048x256_S2x2048x4x64_S2x4x256x64_2_1_3_3_01_02 none g q : FVec Ideal S2x4x256x64 .f32)
    transposes_S2x4x256x64_S2x256x4x64_0_2_1_3) shapeCasts_S2x256x4x64_S2x256x256
def gradV (ct : FVec Ideal S2x4x64x2048 .f32) (p : FVec Ideal S2x4x2048x256 .f32) : FVec Ideal S2x256x256 .f32 :=
  shapeCast _ (transpose S2x256x4x64 [0, 3, 1, 2]
    (Host.dotGeneral dot_S2x4x64x2048_S2x4x2048x256_S2x4x64x256_3_2_2_3_01_01 none ct p : FVec Ideal S2x4x64x256 .f32)
    transposes_S2x4x64x256_S2x256x4x64_0_3_1_2) shapeCasts_S2x256x4x64_S2x256x256
def joined (k v : FVec Ideal S2x256x256 .f32) : FVec Ideal S2x256x512 .f32 :=
  concatenate S2x256x512 2 [⟨S2x256x256, k⟩, ⟨S2x256x256, v⟩] concatenates_S2x256x256_S2x256x256_S2x256x512_d2
def fstHalf (x : FVec Ideal S2x256x512 .f32) : FVec Ideal S2x256x256 .f32 :=
  extractStridedSlice S2x256x256 ![0, 0, 0] x slices_S2x256x512_S2x256x256_0_0_0
def sndHalf (x : FVec Ideal S2x256x512 .f32) : FVec Ideal S2x256x256 .f32 :=
  extractStridedSlice S2x256x256 ![0, 0, 256] x slices_S2x256x512_S2x256x256_0_0_256

/-! ### The stages of the arguments -/

section
variable (q : FVec Ideal S2x2048x256 .f32) (kv : FVec Ideal S2x256x512 .f32) (ct : FVec Ideal S2x2048x256 .f32)

def expo : FVec Ideal S2x4x2048x256 .f32 :=
  expShift (scores (heads q) (keys kv)) (rowMax (scores (heads q) (keys kv)))
def cot : FVec Ideal S2x4x2048x256 .f32 :=
  dscores (expo q kv) (dprobs (cots ct) (vals kv)) (inner (expo q kv) (dprobs (cots ct) (vals kv)))
def both : FVec Ideal S2x256x512 .f32 := joined (gradK (cot q kv ct) (heads q)) (gradV (cots ct) (probs (expo q kv)))

end

section
variable (m : (ℓ : Loc nD τ sig) → Buf (Elt Ideal) ℓ) (c : Dev nD)

theorem out0_eq : Value.res_out0 m c = gradQ (cot (m ((c.tc : Thread nD τ).loc main_arg0))
    (m ((c.tc : Thread nD τ).loc main_arg1)) (m ((c.tc : Thread nD τ).loc main_arg2)))
    (keys (m ((c.tc : Thread nD τ).loc main_arg1))) := rfl
theorem out1_eq : Value.res_out1 m c = fstHalf (both (m ((c.tc : Thread nD τ).loc main_arg0))
    (m ((c.tc : Thread nD τ).loc main_arg1)) (m ((c.tc : Thread nD τ).loc main_arg2))) := rfl
theorem out2_eq : Value.res_out2 m c = sndHalf (both (m ((c.tc : Thread nD τ).loc main_arg0))
    (m ((c.tc : Thread nD τ).loc main_arg1)) (m ((c.tc : Thread nD τ).loc main_arg2))) := rfl

end

/-! ### Each stage on real arrays -/

section
variable (x : Fin 2 → Fin 2048 → Fin 256 → ℝ) (kv : Fin 2 → Fin 256 → Fin 512 → ℝ)
  (q : Fin 2 → Fin 2048 → Fin 4 → Fin 64 → ℝ) (k : Fin 2 → Fin 256 → Fin 4 → Fin 64 → ℝ)
  (s g : Fin 2 → Fin 4 → Fin 2048 → Fin 256 → ℝ) (r : Fin 2 → Fin 4 → Fin 2048 → ℝ)
  (ct : Fin 2 → Fin 4 → Fin 64 → Fin 2048 → ℝ)

theorem heads_up : heads (up3 x) = up4 fun b t h d => x b t ⟨h * 64 + d, by omega⟩ := by
  funext i; idx_vars i; pointwise [heads]
theorem keys_up : keys (up3 kv) = up4 fun b m h d => kv b m ⟨h * 64 + d, by omega⟩ := by
  funext i; idx_vars i; pointwise [keys]
theorem vals_up : vals (up3 kv) = up4 fun b m h d => kv b m ⟨256 + (h * 64 + d), by omega⟩ := by
  funext i; idx_vars i; pointwise [vals]
theorem cots_up : cots (up3 x) = up4 fun b h d t => x b t ⟨h * 64 + d, by omega⟩ := by
  funext i; idx_vars i; pointwise [cots, heads_up]
theorem scores_up : scores (up4 q) (up4 k) = up4 fun b h t m => (∑ d, q b t h d * k b m h d) * (1 / 8) := by
  funext i; idx_vars i; pointwise [scores]
theorem rowMax_up : rowMax (up4 s) = up3 fun b h t => top (s b h t) := by
  funext i; idx_vars i; pointwise [rowMax]
theorem expShift_up : expShift (up4 s) (up3 r) = up4 fun b h t m => Real.exp (s b h t m - r b h t) := by
  funext i; idx_vars i; pointwise [expShift, along]
theorem probs_up : probs (up4 fun b h t m => Real.exp (s b h t m - r b h t)) = up4 fun b h t => soft (s b h t) := by
  funext i; idx_vars i; pointwise [probs, along, denom, rowSum, soft_shift]
theorem dprobs_up : dprobs (up4 ct) (up4 k) = up4 fun b h t m => ∑ d, ct b h d t * k b m h d := by
  funext i; idx_vars i; pointwise [dprobs]
theorem inner_up : inner (up4 fun b h t m => Real.exp (s b h t m - r b h t)) (up4 g)
    = up3 fun b h t => ∑ j, g b h t j * (1 / ((∑ j, Real.exp (s b h t j - r b h t)) * ∑ j, Real.exp (s b h t j - r b h t)))
        * Real.exp (s b h t j - r b h t) := by
  funext i; idx_vars i; pointwise [inner, along, denom, rowSum]
theorem dscores_up : dscores (up4 fun b h t m => Real.exp (s b h t m - r b h t)) (up4 g) (up3 fun b h t =>
      ∑ j, g b h t j * (1 / ((∑ j, Real.exp (s b h t j - r b h t)) * ∑ j, Real.exp (s b h t j - r b h t)))
        * Real.exp (s b h t j - r b h t))
    = up4 fun b h t m => dsoft (s b h t) (g b h t) m * (1 / 8) := by
  funext i; idx_vars i; pointwise [dscores, along, denom, rowSum, Fin.sum_univ_one, dsoft_quotient]
theorem gradQ_up : gradQ (up4 g) (up4 k) = up2 fun t c =>
    ∑ m, g ⟨t / 2048, by omega⟩ ⟨c / 64, by omega⟩ ⟨t % 2048, by omega⟩ m * k ⟨t / 2048, by omega⟩ m ⟨c / 64, by omega⟩ ⟨c % 64, by omega⟩ := by
  funext i; idx_vars i; pointwise [gradQ]
theorem gradK_up : gradK (up4 g) (up4 q) = up3 fun b m c =>
    ∑ t, g b ⟨c / 64, by omega⟩ t m * q b t ⟨c / 64, by omega⟩ ⟨c % 64, by omega⟩ := by
  funext i; idx_vars i; pointwise [gradK]
theorem gradV_up : gradV (up4 ct) (up4 s) = up3 fun b m c =>
    ∑ t, ct b ⟨c / 64, by omega⟩ ⟨c % 64, by omega⟩ t * s b ⟨c / 64, by omega⟩ t m := by
  funext i; idx_vars i; pointwise [gradV]
theorem fstHalf_joined (k v : FVec Ideal S2x256x256 .f32) : fstHalf (joined k v) = k := by
  funext i; idx_vars i; pointwise [fstHalf, joined]
theorem sndHalf_joined (k v : FVec Ideal S2x256x256 .f32) : sndHalf (joined k v) = v := by
  funext i; idx_vars i; pointwise [sndHalf, joined]

end

/-! ### The results -/

section
variable (q : Fin 2 → Fin 2048 → Fin 256 → ℝ) (kv : Fin 2 → Fin 256 → Fin 512 → ℝ) (ct : Fin 2 → Fin 2048 → Fin 256 → ℝ)

theorem cot_up : cot (up3 q) (up3 kv) (up3 ct) = up4 fun b h t m => dscore q kv ct b h t m * (1 / 8) := by
  simp only [cot, expo, heads_up, keys_up, vals_up, cots_up, scores_up, rowMax_up, expShift_up, dprobs_up, inner_up,
    dscores_up]
  rfl

theorem gradQ_eq : gradQ (cot (up3 q) (up3 kv) (up3 ct)) (keys (up3 kv))
    = up2 fun t c => dq q kv ct ⟨t / 2048, by omega⟩ ⟨t % 2048, by omega⟩ c := by
  simp only [cot_up, keys_up, gradQ_up, dq, Finset.sum_mul, Nat.div_add_mod']
  refine congrArg up2 (funext fun t => funext fun c => Finset.sum_congr rfl fun m _ => ?_)
  exact mul_right_comm _ _ _

theorem gradK_eq : fstHalf (both (up3 q) (up3 kv) (up3 ct)) = up3 (dk q kv ct) := by
  simp only [both, fstHalf_joined, cot_up, heads_up, gradK_up, Nat.div_add_mod']
  refine congrArg up3 (funext fun b => funext fun m => funext fun c => ?_)
  rw [dk, Finset.sum_mul]
  exact Finset.sum_congr rfl fun t _ => mul_right_comm _ _ _

theorem gradV_eq : sndHalf (both (up3 q) (up3 kv) (up3 ct)) = up3 (dv q kv ct) := by
  simp only [both, sndHalf_joined, expo, heads_up, keys_up, cots_up, scores_up, rowMax_up, expShift_up, probs_up, gradV_up,
    Nat.div_add_mod']
  refine congrArg up3 (funext fun b => funext fun m => funext fun c => ?_)
  exact Finset.sum_congr rfl fun t _ => mul_comm _ _

end

end Cert.MemRef

end
-- ==== Proof.MemKernel.lean ====
/-
  The kernel's body of the pair MemBwd / MemVjp on real blocks: a block holds two heads' 64 lanes side by side, and the
  body masks the lanes of the other head instead of slicing. Each payload maps real arrays to a real array; the three
  stores hold the two heads' gradients.
-/
module

public import proofs.«01_k».proof.Proof.Gen.MemBwdIdeal.Value
public import proofs.«01_k».proof.Proof.MemModel

@[expose] public section

set_option maxRecDepth 16384

noncomputable section

namespace Cert.MemKernel

open Cert.MemBwdIdeal Cert.MemBwdIdeal.Gen Idealize.ShloMosaic Idealize.ShloMosaic.TcCoe Cert.Reals Cert.MemModel
open Cert.MemBwdIdeal.Facts

/-- Lane `d` of the block's head `o`. -/
def lane (o : Fin 2) (d : Fin 64) : Fin 128 := ⟨64 * o + d, by omega⟩

theorem lane_zero (d : Fin 64) (h : (d : ℕ) < 128) : (⟨d, h⟩ : Fin 128) = lane 0 d := Fin.ext (by simp [lane])
theorem lane_one (d : Fin 64) (h : 64 + (d : ℕ) < 128) : (⟨64 + d, h⟩ : Fin 128) = lane 1 d := Fin.ext (by simp [lane])

section
variable (x y : Fin 2048 → Fin 128 → ℝ) (k v : Fin 1 → Fin 256 → Fin 128 → ℝ) (p g : Fin 2048 → Fin 256 → ℝ)

/-- A head's scores, its softmax's cotangent and its scores' cotangent, from the block's lanes. -/
def bscore (o : Fin 2) (t : Fin 2048) (m : Fin 256) : ℝ := ∑ d, x t (lane o d) * (1 / 8) * k 0 m (lane o d)
def bdprob (o : Fin 2) (t : Fin 2048) (m : Fin 256) : ℝ := ∑ d, y t (lane o d) * v 0 m (lane o d)
def bdscore (o : Fin 2) (t : Fin 2048) (m : Fin 256) : ℝ := dsoft (bscore x k o t) (bdprob y v o t) m

abbrev lanes : IVec S2048x128 32 := iota .tc S2048x128 32 [1] iota_S2048x128_d1_w32

theorem mask0 (t : Fin 2048) (l : Fin 128) : k0_pay12 (ix2 t l) = BitVec.ofBool (decide ((l : ℕ) < 64)) := by
  pointwise [k0_pay12]; revert l; decide +kernel
theorem mask1 (t : Fin 2048) (l : Fin 128) : k0_pay22 lanes (ix2 t l) = BitVec.ofBool (decide (64 ≤ (l : ℕ))) := by
  pointwise [k0_pay22]; revert l; decide +kernel

theorem qs0 : k0_pay13 (F := Ideal) (up2 x) = up2 fun t l => (if (l : ℕ) < 64 then x t l else 0) * (1 / 8) := by
  funext i; idx_vars i; pointwise [k0_pay13, k0_pay7, mask0]
theorem qs1 : k0_pay23 (F := Ideal) lanes (up2 x) = up2 fun t l => (if 64 ≤ (l : ℕ) then x t l else 0) * (1 / 8) := by
  funext i; idx_vars i; pointwise [k0_pay23, mask1]
theorem do0 : k0_pay14 (F := Ideal) (up2 y) = up2 fun t l => if (l : ℕ) < 64 then y t l else 0 := by
  funext i; idx_vars i; pointwise [k0_pay14, k0_pay8, mask0]
theorem do1 : k0_pay24 (F := Ideal) lanes (up2 y) = up2 fun t l => if 64 ≤ (l : ℕ) then y t l else 0 := by
  funext i; idx_vars i; pointwise [k0_pay24, mask1]

theorem p0 : k0_pay15 (F := Ideal) (up2 x) (up3 k) = up2 fun t => soft (bscore x k 0 t) := by
  funext i; idx_vars i
  pointwise [k0_pay15, qs0, zero_mul, Finset.sum_const_zero, add_zero, lane_zero]
  exact congrArg _ (soft_shift (bscore x k 0 i0) _ i1)
theorem p1 : k0_pay25 (F := Ideal) lanes (up2 x) (up3 k) = up2 fun t => soft (bscore x k 1 t) := by
  funext i; idx_vars i
  pointwise [k0_pay25, qs1, zero_mul, Finset.sum_const_zero, zero_add, lane_one]
  exact congrArg _ (soft_shift (bscore x k 1 i0) _ i1)
theorem dp0 : k0_pay16 (F := Ideal) (up2 y) (up3 v) = up2 (bdprob y v 0) := by
  funext i; idx_vars i
  pointwise [k0_pay16, do0, zero_mul, Finset.sum_const_zero, add_zero, lane_zero]
  rfl
theorem values : k0_pay26 (F := Ideal) (up3 v) = up2 (v 0) := by
  funext i; idx_vars i; pointwise [k0_pay26]
theorem pdp0 : k0_pay17 (F := Ideal) (up2 x) (up2 y) (up3 k) (up3 v)
    = up2 fun t m => soft (bscore x k 0 t) m * bdprob y v 0 t m := by
  funext i; idx_vars i; pointwise [k0_pay17, p0, dp0]
theorem ds0 : k0_pay18 (F := Ideal) (up2 p) (up2 g) (up2 fun t m => p t m * g t m)
    = up2 fun t m => p t m * (g t m - ∑ j, p t j * g t j) := by
  funext i; idx_vars i; pointwise [k0_pay18]
theorem ds1 : k0_pay1 (F := Ideal) (up2 fun t l => if 64 ≤ (l : ℕ) then y t l else 0)
      (up2 fun t => soft (bscore x k 1 t)) (up2 (v 0)) = up2 (bdscore x y k v 1) := by
  funext i; idx_vars i
  pointwise [k0_pay1, zero_mul, Finset.sum_const_zero, zero_add, lane_one]
  rfl

/-- The first head's part of the three stores. -/
theorem dqA : k0_pay19 (F := Ideal) k0_pay9 k0_pay12 (up2 p) (up2 g) (up2 fun t m => p t m * g t m) (up3 k)
    = up2 fun t l => if (l : ℕ) < 64 then (∑ m, p t m * (g t m - ∑ j, p t j * g t j) * k 0 m l) * (1 / 8) else 0 := by
  funext i; idx_vars i; pointwise [k0_pay19, ds0, k0_pay9, mask0]
theorem dkA : k0_pay20 (F := Ideal) k0_pay10 (up2 x) (up2 p) (up2 g) (up2 fun t m => p t m * g t m)
    = up2 fun m l => ∑ t, p t m * (g t m - ∑ j, p t j * g t j) * x t l := by
  funext i; idx_vars i; pointwise [k0_pay20, ds0, k0_pay10]
theorem dvA : k0_pay21 (F := Ideal) k0_pay11 (up2 y) (up2 p) = up2 fun m l => ∑ t, p t m * y t l := by
  funext i; idx_vars i; pointwise [k0_pay21, k0_pay11]

/-- The three stores, in the other head's lanes the first head's part. -/
theorem store_dq (a : Fin 2048 → Fin 128 → ℝ) :
    k0_pay2 (F := Ideal) (up2 a) (k0_pay22 lanes) (up2 fun t l => if 64 ≤ (l : ℕ) then y t l else 0)
      (up2 fun t => soft (bscore x k 1 t)) (up2 (v 0)) (up3 k)
    = up2 fun t l => if 64 ≤ (l : ℕ) then (∑ m, bdscore x y k v 1 t m * k 0 m l) * (1 / 8) else a t l := by
  funext i; idx_vars i; pointwise [k0_pay2, ds1, mask1]
theorem store_dk (a : Fin 256 → Fin 128 → ℝ) (z : Fin 2048 → Fin 128 → ℝ) :
    k0_pay3 (F := Ideal) (up2 a) (up2 z) (up2 fun t l => if 64 ≤ (l : ℕ) then y t l else 0)
      (up2 fun t => soft (bscore x k 1 t)) (up2 (v 0))
    = up3 fun _ m l => a m l + ∑ t, bdscore x y k v 1 t m * z t l := by
  funext i; idx_vars i; pointwise [k0_pay3, ds1]
theorem store_dv (a : Fin 256 → Fin 128 → ℝ) :
    k0_pay5 (F := Ideal) (up2 a) (up2 y) (up2 p) = up3 fun _ m l => a m l + ∑ t, p t m * y t l := by
  funext i; idx_vars i; pointwise [k0_pay5]

theorem id_q : k0_pay7 (F := Ideal) (up2 x) = up2 x := by
  funext i; idx_vars i; pointwise [k0_pay7]
theorem id_do : k0_pay8 (F := Ideal) (up2 y) = up2 y := by
  funext i; idx_vars i; pointwise [k0_pay8]

/-- The head of a lane. -/
def headIn (l : Fin 128) : Fin 2 := ⟨l / 64, by omega⟩

/-- The three stores of one grid point, of its four blocks. -/
theorem out_dq : k0_pay2 (F := Ideal)
      (k0_pay19 k0_pay9 k0_pay12 (k0_pay15 (up2 x) (up3 k)) (k0_pay16 (up2 y) (up3 v))
        (k0_pay17 (up2 x) (up2 y) (up3 k) (up3 v)) (up3 k))
      (k0_pay22 lanes) (k0_pay24 lanes (k0_pay8 (up2 y))) (k0_pay25 lanes (k0_pay7 (up2 x)) (up3 k)) (k0_pay26 (up3 v)) (up3 k)
    = up2 fun t l => (∑ m, bdscore x y k v (headIn l) t m * k 0 m l) * (1 / 8) := by
  rw [p0, dp0, pdp0, dqA, id_do, do1, id_q, p1, values, store_dq]
  refine congrArg up2 (funext fun t => funext fun l => ?_)
  by_cases hl : (l : ℕ) < 64
  · rw [if_neg (by omega), if_pos hl, show headIn l = 0 from Fin.ext (by simp [headIn]; omega)]; rfl
  · rw [if_pos (by omega), show headIn l = 1 from Fin.ext (by simp [headIn]; omega)]

theorem out_dk : k0_pay3 (F := Ideal)
      (k0_pay20 k0_pay10 (k0_pay13 (up2 x)) (k0_pay15 (up2 x) (up3 k)) (k0_pay16 (up2 y) (up3 v))
        (k0_pay17 (up2 x) (up2 y) (up3 k) (up3 v)))
      (k0_pay23 lanes (k0_pay7 (up2 x))) (k0_pay24 lanes (k0_pay8 (up2 y))) (k0_pay25 lanes (k0_pay7 (up2 x)) (up3 k))
      (k0_pay26 (up3 v))
    = up3 fun _ m l => (∑ t, bdscore x y k v (headIn l) t m * x t l) * (1 / 8) := by
  rw [p0, dp0, pdp0, qs0, dkA, id_do, do1, id_q, p1, qs1, values, store_dk]
  refine congrArg up3 (funext fun _ => funext fun m => funext fun l => ?_)
  rw [Finset.sum_mul]
  by_cases hl : (l : ℕ) < 64
  · rw [show headIn l = 0 from Fin.ext (by simp [headIn]; omega)]
    simp only [if_pos hl, if_neg (show ¬64 ≤ (l : ℕ) by omega), zero_mul, mul_zero, Finset.sum_const_zero, add_zero, mul_assoc]
    simp only [bdscore, dsoft, mul_assoc]
  · rw [show headIn l = 1 from Fin.ext (by simp [headIn]; omega)]
    simp only [if_neg hl, if_pos (show 64 ≤ (l : ℕ) by omega), zero_mul, mul_zero, Finset.sum_const_zero, zero_add, mul_assoc]

theorem out_dv : k0_pay5 (F := Ideal)
      (k0_pay21 k0_pay11 (k0_pay14 (up2 y)) (k0_pay15 (up2 x) (up3 k)))
      (k0_pay24 lanes (k0_pay8 (up2 y))) (k0_pay25 lanes (k0_pay7 (up2 x)) (up3 k))
    = up3 fun _ m l => ∑ t, soft (bscore x k (headIn l) t) m * y t l := by
  rw [p0, do0, dvA, id_do, do1, id_q, p1, store_dv]
  refine congrArg up3 (funext fun _ => funext fun m => funext fun l => ?_)
  by_cases hl : (l : ℕ) < 64
  · rw [show headIn l = 0 from Fin.ext (by simp [headIn]; omega)]
    simp only [if_pos hl, if_neg (show ¬64 ≤ (l : ℕ) by omega), mul_zero, Finset.sum_const_zero, add_zero]
  · rw [show headIn l = 1 from Fin.ext (by simp [headIn]; omega)]
    simp only [if_neg hl, if_pos (show 64 ≤ (l : ℕ) by omega), mul_zero, Finset.sum_const_zero, zero_add]

end

end Cert.MemKernel

end
-- ==== Proof.MemFinal.lean ====
/-
  The kernel of the pair MemBwd / MemVjp: its three result arrays are the gradients of MemModel. Grid point `t` handles
  batch `t / 2` and the pair of heads `t % 2`; its input blocks are read off the arguments through the host lines.
-/
module

public import proofs.«01_k».proof.Proof.MemKernel
public import Idealize.ShloMosaic.Lib.Pipeline.ValueKit
public import Idealize.ShloMosaic.Lib.Claim

@[expose] public section

set_option maxRecDepth 16384

noncomputable section

namespace Cert.MemKernel

open Cert.MemBwdIdeal Cert.MemBwdIdeal.Gen Idealize.ShloMosaic Idealize.ShloMosaic.TcCoe Cert.Reals Cert.MemModel
open Cert.MemBwdIdeal.Facts

variable {m : (ℓ : Loc nD τ sig) → Buf (Elt Ideal) ℓ} (c : Dev nD)
  {q ct : Fin 2 → Fin 2048 → Fin 256 → ℝ} {kv : Fin 2 → Fin 256 → Fin 512 → ℝ}

/-- Every window's block of point `t`: batch `t / 2`, pair of heads `t % 2`. -/
theorem idx : ∀ t : Fin cfg0.N, win0_0.index t = ![t.val / 2, 15 + t.val % 2] ∧ win0_1.index t = ![t.val / 2, 0, t.val % 2]
    ∧ win0_2.index t = ![t.val / 2, 0, 2 + t.val % 2] ∧ win0_3.index t = ![t.val / 2, t.val % 2]
    ∧ win0_4.index t = ![t.val / 2, t.val % 2] ∧ win0_5.index t = ![t.val / 2, 0, t.val % 2]
    ∧ win0_6.index t = ![t.val / 2, 0, t.val % 2] :=
  (by decide +kernel : ∀ t : Fin grid0.N, _)

/-- The batch and the pair of heads of a grid point. -/
def batch (t : Fin cfg0.N) : Fin 2 := ⟨t.val / 2, by have := t.isLt; have : cfg0.N = 4 := N_0; omega⟩
def pair (t : Fin cfg0.N) : Fin 2 := ⟨t.val % 2, by omega⟩
/-- Column `l` of a pair of heads. -/
def col (p : Fin 2) (l : Fin 128) : Fin 256 := ⟨p * 128 + l, by omega⟩

theorem operand_q (h : m ((c.tc : Thread nD τ).loc main_arg0) = up3 q) (r : Fin 4096) (l : Fin 256) :
    V m c main_v3 (ix2 r ⟨1920 + l, by omega⟩) = ((q ⟨r / 2048, by omega⟩ ⟨r % 2048, by omega⟩ l : ℝ) : EReal) := by
  entry_read; rw [h]; pointwise
theorem operand_kv (h : m ((c.tc : Thread nD τ).loc main_arg1) = up3 kv) : V m c main_v4 = up3 kv := by
  entry_read; rw [h]; rfl
theorem operand_ct (h : m ((c.tc : Thread nD τ).loc main_arg2) = up3 ct) (r : Fin 4096) (l : Fin 256) :
    V m c main_v6 (ix2 r l) = ((ct ⟨r / 2048, by omega⟩ ⟨r % 2048, by omega⟩ l : ℝ) : EReal) := by
  entry_read; rw [h]; pointwise

theorem block_q (h : m ((c.tc : Thread nD τ).loc main_arg0) = up3 q) (t : Fin cfg0.N) :
    iblk m c 0 t = up2 fun r l => q (batch t) r (col (pair t) l) := by
  have ht : t.val < 4 := lt_of_lt_of_eq t.isLt N_0
  funext y; idx_vars y
  have e : iblk m c 0 t (ix2 y0 y1) = V m c main_v3 (ix2 (⟨t.val / 2 * 2048 + y0, by omega⟩ : Fin 4096)
      (⟨1920 + (col (pair t) y1 : ℕ), by omega⟩ : Fin 2176)) := by
    blk_ext [iblk, idx t, col, pair]
  refine e.trans ((operand_q c h _ _).trans ?_)
  congr 2
  · exact Fin.ext (show (t.val / 2 * 2048 + (y0 : ℕ)) / 2048 = t.val / 2 by omega)
  · exact Fin.ext (show (t.val / 2 * 2048 + (y0 : ℕ)) % 2048 = y0 by omega)
theorem block_ct (h : m ((c.tc : Thread nD τ).loc main_arg2) = up3 ct) (t : Fin cfg0.N) :
    iblk m c 3 t = up2 fun r l => ct (batch t) r (col (pair t) l) := by
  have ht : t.val < 4 := lt_of_lt_of_eq t.isLt N_0
  funext y; idx_vars y
  have e : iblk m c 3 t (ix2 y0 y1) = V m c main_v6 (ix2 (⟨t.val / 2 * 2048 + y0, by omega⟩ : Fin 4096)
      (col (pair t) y1)) := by
    blk_ext [iblk, idx t, col, pair]
  refine e.trans ((operand_ct c h _ _).trans ?_)
  congr 2
  · exact Fin.ext (show (t.val / 2 * 2048 + (y0 : ℕ)) / 2048 = t.val / 2 by omega)
  · exact Fin.ext (show (t.val / 2 * 2048 + (y0 : ℕ)) % 2048 = y0 by omega)
theorem block_k (h : m ((c.tc : Thread nD τ).loc main_arg1) = up3 kv) (t : Fin cfg0.N) :
    iblk m c 1 t = up3 fun _ r l => kv (batch t) r ⟨col (pair t) l, by omega⟩ := by
  funext y; idx_vars y
  have e : iblk m c 1 t (ix3 y0 y1 y2) = V m c main_v4 (ix3 (batch t) y1 (⟨col (pair t) y2, by omega⟩ : Fin 512)) := by
    blk_ext [iblk, idx t, batch, col, pair]
  rw [e, operand_kv c h]; rfl
theorem block_v (h : m ((c.tc : Thread nD τ).loc main_arg1) = up3 kv) (t : Fin cfg0.N) :
    iblk m c 2 t = up3 fun _ r l => kv (batch t) r ⟨256 + (col (pair t) l : ℕ), by omega⟩ := by
  funext y; idx_vars y
  have e : iblk m c 2 t (ix3 y0 y1 y2)
      = V m c main_v4 (ix3 (batch t) y1 (⟨256 + (col (pair t) y2 : ℕ), by omega⟩ : Fin 512)) := by
    blk_ext [iblk, idx t, batch, col, pair]
  rw [e, operand_kv c h]; rfl

/-! ### A block's heads are the model's -/

section
variable (q ct : Fin 2 → Fin 2048 → Fin 256 → ℝ) (kv : Fin 2 → Fin 256 → Fin 512 → ℝ) (b p o : Fin 2)

theorem bscore_eq (t : Fin 2048) : bscore (fun r l => q b r (col p l)) (fun _ r l => kv b r ⟨col p l, by omega⟩) o t
    = score q kv b ⟨2 * p + o, by omega⟩ t := by
  funext m
  rw [bscore, score, Finset.sum_mul]
  refine Finset.sum_congr rfl fun d _ => ?_
  have e : col p (lane o d) = ⟨(2 * p + o) * 64 + d, by omega⟩ := Fin.ext (by simp only [col, lane]; omega)
  simp only [e]; ring
theorem bdprob_eq (t : Fin 2048) :
    bdprob (fun r l => ct b r (col p l)) (fun _ r l => kv b r ⟨256 + (col p l : ℕ), by omega⟩) o t
    = dprob kv ct b ⟨2 * p + o, by omega⟩ t := by
  funext m
  rw [bdprob, dprob]
  refine Finset.sum_congr rfl fun d _ => ?_
  have e : col p (lane o d) = ⟨(2 * p + o) * 64 + d, by omega⟩ := Fin.ext (by simp only [col, lane]; omega)
  simp only [e]
theorem headOf_col (l : Fin 128) : headOf (col p l) = ⟨2 * p + headIn l, by omega⟩ :=
  Fin.ext (by simp only [headOf, col, headIn]; omega)

end

/-! ### The result arrays -/

/-- An element of a block is the array's element there. -/
theorem at_dq (t : Fin cfg0.N) (a : Fin 2048) (l : Fin 128) (i : S4096x256.Idx)
    (h0 : (i 0 : ℕ) = t.val / 2 * 2048 + a) (h1 : (i 1 : ℕ) = t.val % 2 * 128 + l) :
    (((∑ m, dscore q kv ct (batch t) ⟨2 * pair t + headIn l, by omega⟩ a m * kv (batch t) m ⟨col (pair t) l, by omega⟩)
      * (1 / 8) : ℝ) : EReal)
    = up2 (fun t c => dq q kv ct ⟨t / 2048, by omega⟩ ⟨t % 2048, by omega⟩ c) i := by
  idx_vars i
  have ht : t.val < 4 := lt_of_lt_of_eq t.isLt N_0
  have h0' : (i0 : ℕ) = t.val / 2 * 2048 + a := h0
  have h1' : i1 = col (pair t) l := Fin.ext h1
  have hb : (⟨i0 / 2048, by omega⟩ : Fin 2) = batch t := Fin.ext (show (i0 : ℕ) / 2048 = t.val / 2 by omega)
  have ha : (⟨i0 % 2048, by omega⟩ : Fin 2048) = a := Fin.ext (show (i0 : ℕ) % 2048 = a by omega)
  rw [up2_ix, hb, ha, h1', dq, headOf_col]
theorem at_dkv (f : Fin 2 → Fin 256 → Fin 256 → ℝ) (t : Fin cfg0.N) (a : Fin 256) (l : Fin 128) (i : S2x256x256.Idx)
    (h0 : (i 0 : ℕ) = t.val / 2) (h1 : (i 1 : ℕ) = a) (h2 : (i 2 : ℕ) = t.val % 2 * 128 + l) :
    ((f (batch t) a (col (pair t) l) : ℝ) : EReal) = up3 f i := by
  idx_vars i
  rw [show i0 = batch t from Fin.ext h0, show i1 = a from Fin.ext h1, show i2 = col (pair t) l from Fin.ext h2, up3_ix]

theorem dk_col (b p : Fin 2) (m : Fin 256) (l : Fin 128) :
    (∑ t, dscore q kv ct b ⟨2 * p + headIn l, by omega⟩ t m * q b t (col p l)) * (1 / 8) = dk q kv ct b m (col p l) := by
  rw [dk, headOf_col]
theorem dv_col (b p : Fin 2) (m : Fin 256) (l : Fin 128) :
    ∑ t, soft (score q kv b ⟨2 * p + headIn l, by omega⟩ t) m * ct b t (col p l) = dv q kv ct b m (col p l) := by
  rw [dv, headOf_col]

section
variable (hq : m ((c.tc : Thread nD τ).loc main_arg0) = up3 q)
    (hkv : m ((c.tc : Thread nD τ).loc main_arg1) = up3 kv) (hct : m ((c.tc : Thread nD τ).loc main_arg2) = up3 ct)
include hq hkv hct

theorem final_dq :
    (dats m 0 c).arrAt 4 cfg0.N = up2 fun t c => dq q kv ct ⟨t / 2048, by omega⟩ ⟨t % 2048, by omega⟩ c := by
  refine (dats m 0 c).arrAt_eq_of_covers 4 _ (by decide +kernel) fun t hf y => ?_
  blk_simp
  rw [after0_4]; unfold Gen.outsAt0; frame_out
  rw [block_q c hq t, block_k c hkv t, block_v c hkv t, block_ct c hct t]
  refine (congrFun (out_dq _ _ _ _) y).trans ?_
  simp only [bdscore, bscore_eq, bdprob_eq]
  refine at_dq t (y 0) (y 1) _ ?_ ?_ <;> blk_simp [idx t]

theorem final_dk : (dats m 0 c).arrAt 5 cfg0.N = up3 (dk q kv ct) := by
  refine (dats m 0 c).arrAt_eq_of_covers 5 _ (by decide +kernel) fun t hf y => ?_
  blk_simp
  rw [after0_5]; unfold Gen.outsAt0; frame_out
  rw [block_q c hq t, block_k c hkv t, block_v c hkv t, block_ct c hct t]
  refine (congrFun (out_dk _ _ _ _) y).trans (Eq.trans ?_ (at_dkv (dk q kv ct) t (y 1) (y 2) _ ?_ ?_ ?_))
  · simp only [bdscore, bscore_eq, bdprob_eq]
    exact congrArg Real.toEReal (dk_col (batch t) (pair t) (y 1) (y 2))
  all_goals blk_simp [idx t]

theorem final_dv : (dats m 0 c).arrAt 6 cfg0.N = up3 (dv q kv ct) := by
  refine (dats m 0 c).arrAt_eq_of_covers 6 _ (by decide +kernel) fun t hf y => ?_
  blk_simp
  rw [after0_6]; unfold Gen.outsAt0; frame_out
  rw [block_q c hq t, block_k c hkv t, block_ct c hct t]
  refine (congrFun (out_dv _ _ _) y).trans (Eq.trans ?_ (at_dkv (dv q kv ct) t (y 1) (y 2) _ ?_ ?_ ?_))
  · simp only [bscore_eq]
    exact congrArg Real.toEReal (dv_col (batch t) (pair t) (y 1) (y 2))
  all_goals blk_simp [idx t]

end

end Cert.MemKernel

end
-- ==== Proof.MemClaim.lean ====
/-
  The claims about the pair MemBwd / MemVjp: the frame of the reference, and the equality of the three gradients.
-/
module

public import proofs.«01_k».proof.Defs
public import proofs.«01_k».proof.Proof.MemRef
public import proofs.«01_k».proof.Proof.MemFinal
public import proofs.«01_k».proof.Proof.Gen.Pre_mem_finite
public import proofs.«01_k».proof.Proof.Gen.MemBwdIdeal.Value
public import Idealize.ShloMosaic.Lib.Quiescent

@[expose] public section

set_option maxRecDepth 16384

noncomputable section

namespace Cert.MemClaim

open Idealize.ShloMosaic Idealize.SL.Sem Idealize.ShloMosaic.TcCoe Cert.Reals

/-- The reference runs, keeps its arguments, and uses no semaphore. -/
theorem frame_reference : Cert.quiescent_MemVjpIdeal := fun m ρ _ =>
  (θ_run Cert.MemVjpIdeal.defs _ _).mono (fun r h => ⟨fun c => (h c).2.2.2, sem_eq_zero_of_no_sems (by decide) r.2⟩)
    (Cert.MemVjpIdeal.Value.run (F := Ideal) m ρ)

/-- Finite arguments are real arrays. -/
theorem real_args {m : (ℓ : Loc Cert.MemBwdIdeal.nD Cert.MemBwdIdeal.τ Cert.MemBwdIdeal.sig) → Buf (Elt Ideal) ℓ}
    (h : Cert.Pre_MemBwdIdeal_mem_finite m) (c : Dev Cert.MemBwdIdeal.nD) :
    ∃ q kv ct, m ((c.tc : Thread Cert.MemBwdIdeal.nD Cert.MemBwdIdeal.τ).loc Cert.MemBwdIdeal.main_arg0) = up3 q
      ∧ m ((c.tc : Thread Cert.MemBwdIdeal.nD Cert.MemBwdIdeal.τ).loc Cert.MemBwdIdeal.main_arg1) = up3 kv
      ∧ m ((c.tc : Thread Cert.MemBwdIdeal.nD Cert.MemBwdIdeal.τ).loc Cert.MemBwdIdeal.main_arg2) = up3 ct := by
  obtain ⟨q, hq⟩ := eq_up3 (finite (h c).1)
  obtain ⟨kv, hkv⟩ := eq_up3 (finite (h c).2.1)
  obtain ⟨ct, hct⟩ := eq_up3 (finite (h c).2.2)
  exact ⟨q, kv, ct, hq, hkv, hct⟩

/-- The kernel's three results are the reference's. -/
theorem value : Cert.algebraic_MemBwdIdeal_MemVjpIdeal_pre_mem_finite := by
  intro m g m' g' hpre hagree
  refine ⟨fun c => Cert.MemVjpIdeal.Value.res_out0 m' c, fun c => Cert.MemVjpIdeal.Value.res_out1 m' c,
    fun c => Cert.MemVjpIdeal.Value.res_out2 m' c, ?_, Cert.MemVjpIdeal.Value.run (F := Ideal) m' g'⟩
  refine (θ_run Cert.MemBwdIdeal.defs _ _).mono (fun r h c => ?_) (Cert.MemBwdIdeal.Value.run_blocks (F := Ideal) m g)
  obtain ⟨q, kv, ct, hq, hkv, hct⟩ := real_args hpre c
  obtain ⟨a0, a1, a2⟩ := hagree c
  obtain ⟨r0, r1, r2, kept⟩ := h c
  refine ⟨r0.trans ?_, r1.trans ?_, r2.trans ?_, kept⟩
  · show _ = MemVjpIdeal.Value.res_out0 m' c
    rw [MemKernel.final_dq c hq hkv hct, MemRef.out0_eq, a0, a1, a2, hq, hkv, hct, MemRef.gradQ_eq]
  · show _ = MemVjpIdeal.Value.res_out1 m' c
    rw [MemKernel.final_dk c hq hkv hct, MemRef.out1_eq, a0, a1, a2, hq, hkv, hct, MemRef.gradK_eq]
  · show _ = MemVjpIdeal.Value.res_out2 m' c
    rw [MemKernel.final_dv c hq hkv hct, MemRef.out2_eq, a0, a1, a2, hq, hkv, hct, MemRef.gradV_eq]

end Cert.MemClaim

end
-- ==== Proof.Arrays.lean ====
/-
  Arrays of reals by functions of natural coordinates: `arr2 m n f` is the m×n array with `f i j` at (i, j). A block of
  an array is then a shifted function, and the operations of a kernel's body on such arrays are operations on the
  functions. The bodies that accumulate into overlapping rows of a scratch are followed this way, store by store.
-/
module

public import proofs.«01_k».proof.Proof.Reals
public import Idealize.ShloMosaic.Lib.Pipeline.ReadBack
public import Idealize.ShloMosaic.Lib.Pipeline.ValueKit
public import Idealize.ShloMosaic.Lib.ValueLayout
public import Idealize.ShloMosaic.Lib.ValueLayoutCasts

@[expose] public section

set_option maxRecDepth 16384

noncomputable section

namespace Cert.Arrays

open Idealize.ShloMosaic Idealize.ShloMosaic.TcCoe Cert.Reals Finset

abbrev Mat := ℕ → ℕ → ℝ

def arr1 (m : ℕ) (f : ℕ → ℝ) : (⟨1, ![m]⟩ : Shape).Idx → EReal := fun i => ((f (i 0) : ℝ) : EReal)
def arr2 (m n : ℕ) (f : Mat) : (⟨2, ![m, n]⟩ : Shape).Idx → EReal := fun i => ((f (i 0) (i 1) : ℝ) : EReal)
def arr3 (l m n : ℕ) (f : ℕ → Mat) : (⟨3, ![l, m, n]⟩ : Shape).Idx → EReal :=
  fun i => ((f (i 0) (i 1) (i 2) : ℝ) : EReal)
def arr4 (k l m n : ℕ) (f : ℕ → ℕ → Mat) : (⟨4, ![k, l, m, n]⟩ : Shape).Idx → EReal :=
  fun i => ((f (i 0) (i 1) (i 2) (i 3) : ℝ) : EReal)
/-- A mask. -/
def bits (m n : ℕ) (p : ℕ → ℕ → Bool) : (⟨2, ![m, n]⟩ : Shape).Idx → BitVec 1 := fun i => BitVec.ofBool (p (i 0) (i 1))

@[pointwise] theorem arr1_ix {m : ℕ} (f : ℕ → ℝ) (i : Fin m) : arr1 m f (ix1 i) = ((f i : ℝ) : EReal) := rfl
@[pointwise] theorem arr2_ix {m n : ℕ} (f : Mat) (i : Fin m) (j : Fin n) : arr2 m n f (ix2 i j) = ((f i j : ℝ) : EReal) := rfl
@[pointwise] theorem arr3_ix {l m n : ℕ} (f : ℕ → Mat) (h : Fin l) (i : Fin m) (j : Fin n) :
    arr3 l m n f (ix3 h i j) = ((f h i j : ℝ) : EReal) := rfl
@[pointwise] theorem arr4_ix {k l m n : ℕ} (f : ℕ → ℕ → Mat) (g : Fin k) (h : Fin l) (i : Fin m) (j : Fin n) :
    arr4 k l m n f (ix4 g h i j) = ((f g h i j : ℝ) : EReal) := rfl
@[pointwise] theorem bits_ix {m n : ℕ} (p : ℕ → ℕ → Bool) (i : Fin m) (j : Fin n) :
    bits m n p (ix2 i j) = BitVec.ofBool (p i j) := rfl

theorem ext1 {α : Type} {m : ℕ} {u v : (⟨1, ![m]⟩ : Shape).Idx → α} (h : ∀ i : Fin m, u (ix1 i) = v (ix1 i)) : u = v :=
  funext fun i => by rw [eq_ix1 i]; exact h _
theorem ext2 {α : Type} {m n : ℕ} {u v : (⟨2, ![m, n]⟩ : Shape).Idx → α}
    (h : ∀ (i : Fin m) (j : Fin n), u (ix2 i j) = v (ix2 i j)) : u = v :=
  funext fun i => by rw [eq_ix2 i]; exact h _ _
theorem ext3 {α : Type} {l m n : ℕ} {u v : (⟨3, ![l, m, n]⟩ : Shape).Idx → α}
    (h : ∀ (k : Fin l) (i : Fin m) (j : Fin n), u (ix3 k i j) = v (ix3 k i j)) : u = v :=
  funext fun i => by rw [eq_ix3 i]; exact h _ _ _
theorem ext4 {α : Type} {k l m n : ℕ} {u v : (⟨4, ![k, l, m, n]⟩ : Shape).Idx → α}
    (h : ∀ (a : Fin k) (b : Fin l) (i : Fin m) (j : Fin n), u (ix4 a b i j) = v (ix4 a b i j)) : u = v :=
  funext fun i => by rw [eq_ix4 i]; exact h _ _ _ _

/-- Two functions that agree inside the array make the same array. -/
theorem arr2_congr {m n : ℕ} {f g : Mat} (h : ∀ i < m, ∀ j < n, f i j = g i j) : arr2 m n f = arr2 m n g :=
  funext fun i => congrArg _ (h _ (i 0).isLt _ (i 1).isLt)

/-! ### The operations on functions -/

def Add (f g : Mat) : Mat := fun i j => f i j + g i j
def Sub (f g : Mat) : Mat := fun i j => f i j - g i j
def Mul (f g : Mat) : Mat := fun i j => f i j * g i j
def Div (f g : Mat) : Mat := fun i j => f i j / g i j
def Exp (f : Mat) : Mat := fun i j => Real.exp (f i j)
def Const (r : ℝ) : Mat := fun _ _ => r
def Sel (p : ℕ → ℕ → Bool) (f g : Mat) : Mat := fun i j => if p i j then f i j else g i j
/-- The part from row `a` and column `b` on. -/
def Shift (a b : ℕ) (f : Mat) : Mat := fun i j => f (a + i) (b + j)
/-- A column and a row repeated. -/
def Along (f : Mat) : Mat := fun i _ => f i 0
def Down (f : Mat) : Mat := fun _ j => f 0 j
/-- The rows' and the columns' sums, a column and a row by a list, and one face repeated. -/
def RowSum (n : ℕ) (f : Mat) : ℕ → ℝ := fun i => ∑ k ∈ range n, f i k
def ColSum (m : ℕ) (f : Mat) : ℕ → ℝ := fun j => ∑ k ∈ range m, f k j
def Column (u : ℕ → ℝ) : Mat := fun i _ => u i
def Row (u : ℕ → ℝ) : Mat := fun _ j => u j
def Face (f : Mat) : ℕ → Mat := fun _ => f
def Face2 (f : Mat) : ℕ → ℕ → Mat := fun _ _ => f
theorem face_at (f : Mat) (k : ℕ) : Face f k = f := rfl
theorem face2_at (f : Mat) (k l : ℕ) : Face2 f k l = f := rfl
/-- The columns up to the row's own. -/
def Lower : ℕ → ℕ → Bool := fun i j => decide (j ≤ i)
/-- The three products: with the second transposed, plain, with the first transposed. -/
def NT (n : ℕ) (f g : Mat) : Mat := fun i j => ∑ k ∈ range n, f i k * g j k
def NN (n : ℕ) (f g : Mat) : Mat := fun i j => ∑ k ∈ range n, f i k * g k j
def TN (n : ℕ) (f g : Mat) : Mat := fun i j => ∑ k ∈ range n, f k i * g k j
/-- `f` with rows `a` to `a + m` replaced by, or raised by, `g`. -/
def Put (a m : ℕ) (g f : Mat) : Mat := fun i j => if a ≤ i ∧ i < a + m then g (i - a) j else f i j
def Raise (a m : ℕ) (g f : Mat) : Mat := fun i j => f i j + if a ≤ i ∧ i < a + m then g (i - a) j else 0

theorem put_add (a m : ℕ) (g f : Mat) : Put a m (Add (Shift a 0 f) g) f = Raise a m g f := by
  funext i j
  unfold Put Raise Add Shift
  split
  · next h => rw [Nat.add_sub_cancel' h.1, Nat.zero_add]
  · rw [add_zero]

theorem shift_shift (a b c d : ℕ) (f : Mat) : Shift a b (Shift c d f) = Shift (c + a) (d + b) f := by
  funext i j; unfold Shift; rw [Nat.add_assoc, Nat.add_assoc]
theorem shift_zero (f : Mat) : Shift 0 0 f = f := by funext i j; simp [Shift]

section
variable (m n : ℕ) (f g : Mat) (φ ψ : FTy)

theorem add_arr : addf (F := Ideal) (φ := φ) (arr2 m n f) (arr2 m n g) = arr2 m n (Add f g) := by
  refine ext2 fun i0 i1 => ?_; pointwise; rfl
theorem sub_arr : subf (F := Ideal) (φ := φ) (arr2 m n f) (arr2 m n g) = arr2 m n (Sub f g) := by
  refine ext2 fun i0 i1 => ?_; pointwise; rfl
theorem mul_arr : mulf (F := Ideal) (φ := φ) (arr2 m n f) (arr2 m n g) = arr2 m n (Mul f g) := by
  refine ext2 fun i0 i1 => ?_; pointwise; rfl
theorem diag_pos (k : ℕ) (i : ℕ) (hk : i < k) : 0 < RowSum k (Sel Lower (Exp g) (Const 0)) i := by
  refine sum_pos' (fun j _ => ?_) ⟨i, mem_range.mpr hk, ?_⟩
  · unfold Sel Const; split
    · exact (Real.exp_pos _).le
    · exact le_refl _
  · unfold Sel Lower; rw [if_pos (by simp)]; exact Real.exp_pos _
/-- A quotient by sums of exponentials over the columns up to the row's own, that one among them. -/
theorem div_diag (k : ℕ) (hk : m ≤ k) :
    divf (F := Ideal) (φ := φ) (arr2 m 1 f) (arr2 m 1 (Column (RowSum k (Sel Lower (Exp g) (Const 0)))))
    = arr2 m 1 (Div f (Column (RowSum k (Sel Lower (Exp g) (Const 0))))) :=
  ext2 fun i0 i1 => coe_div (diag_pos g k i0 (lt_of_lt_of_le i0.isLt hk)).ne' _
/-- The same with the sum of the columns of earlier blocks added. -/
theorem div_both (h : Mat) (k l : ℕ) (hk : m ≤ k) :
    divf (F := Ideal) (φ := φ) (arr2 m 1 f)
      (arr2 m 1 (Add (Column (RowSum k (Sel Lower (Exp g) (Const 0)))) (Column (RowSum l (Exp h)))))
    = arr2 m 1 (Div f (Add (Column (RowSum k (Sel Lower (Exp g) (Const 0)))) (Column (RowSum l (Exp h))))) :=
  ext2 fun i0 i1 => Reals.coe_div (y := RowSum k (Sel Lower (Exp g) (Const 0)) i0 + RowSum l (Exp h) i0)
    (add_pos_of_pos_of_nonneg (diag_pos g k i0 (lt_of_lt_of_le i0.isLt hk))
      (sum_nonneg fun j _ => (Real.exp_pos _).le)).ne' _
theorem exp_arr : exp (F := Ideal) (φ := φ) (arr2 m n f) = arr2 m n (Exp f) := by
  refine ext2 fun i0 i1 => ?_; pointwise; rfl
theorem truncf_arr (h) : truncf (F := Ideal) (φ := φ) ψ (arr2 m n f) h = arr2 m n f := by
  refine ext2 fun i0 i1 => ?_; pointwise
theorem zero_arr : (constant (F := Ideal) ⟨2, ![m, n]⟩ .f32 0x00000000#32) = arr2 m n (Const 0) := by
  refine ext2 fun i0 i1 => ?_; pointwise [Const, EReal.coe_zero]
theorem zero_bc : (broadcast (⟨2, ![m, n]⟩ : Shape) (Scalar.ofBits (F := Ideal) .f32 0x00000000#32)) = arr2 m n (Const 0) := by
  refine ext2 fun i0 i1 => ?_; pointwise [Const, EReal.coe_zero]
theorem zero_bc_bf16 :
    (broadcast (⟨2, ![m, n]⟩ : Shape) (Scalar.ofBits (F := Ideal) .bf16 0x0000#16)) = arr2 m n (Const 0) := by
  refine ext2 fun i0 i1 => ?_; pointwise [Const, EReal.coe_zero]
theorem zero_bc_trunc (h) : (broadcast (⟨2, ![m, n]⟩ : Shape)
    (Scalar.truncf (F := Ideal) .bf16 h (Scalar.ofBits .f32 0x00000000#32))) = arr2 m n (Const 0) := by
  refine ext2 fun i0 i1 => ?_; pointwise [Const, EReal.coe_zero]
theorem eighth_bc : (broadcast (⟨2, ![m, n]⟩ : Shape) (Scalar.ofBits (F := Ideal) .f32 0x3E000000#32))
    = arr2 m n (Const (1 / 8)) := by
  refine ext2 fun i0 i1 => ?_; pointwise [Const]
theorem eighth_bc_bf16 : (broadcast (⟨2, ![m, n]⟩ : Shape) (Scalar.ofBits (F := Ideal) .bf16 0x3E00#16))
    = arr2 m n (Const (1 / 8)) := by
  refine ext2 fun i0 i1 => ?_; pointwise [Const]
theorem select_arr (p : ℕ → ℕ → Bool) : select (bits m n p) (arr2 m n f) (arr2 m n g) = arr2 m n (Sel p f g) := by
  refine ext2 fun i0 i1 => ?_; pointwise [Sel, bits]
theorem along_arr (k : ℕ) (h) : broadcastTo (⟨2, ![m, k]⟩ : Shape) (arr2 m 1 f) h = arr2 m k (Along f) := by
  refine ext2 fun i0 i1 => congrArg (fun r : ℝ => (r : EReal)) ?_
  refine congrArg₂ f ?_ rfl
  by_cases hm : m = 1
  · subst hm; rw [Fin.fin_one_eq_zero i0]; rfl
  · exact congrArg Fin.val (dif_neg hm)
theorem down_arr (k : ℕ) (h) : broadcastTo (⟨2, ![k, n]⟩ : Shape) (arr2 1 n f) h = arr2 k n (Down f) := by
  refine ext2 fun i0 i1 => ?_
  exact ValueIdx.broadcastTo_1b_ab_apply _ h i0 i1
theorem rows_arr (h) (h1) (h2 : (0x00000000#32 : BitVec 32) = 0x00000000#32) : (multiReduction (F := Ideal) (φ := .f32) .add (no_index [1]) ⟨1, ![m]⟩ (arr2 m n f) 0x00000000#32 h h1 h2)
    = arr1 m (RowSum n f) := by
  refine ext1 fun i0 => ?_; pointwise [RowSum, Fin.sum_univ_eq_sum_range]
theorem cols_arr (h) (h1) (h2 : (0x00000000#32 : BitVec 32) = 0x00000000#32) : (multiReduction (F := Ideal) (φ := .f32) .add (no_index [0]) ⟨1, ![n]⟩ (arr2 m n f) 0x00000000#32 h h1 h2)
    = arr1 n (ColSum m f) := by
  refine ext1 fun i0 => ?_; pointwise [ColSum, Fin.sum_univ_eq_sum_range fun k => f k i0]
theorem column_arr (u : ℕ → ℝ) (h) : shapeCast (⟨2, ![m, 1]⟩ : Shape) (arr1 m u) h = arr2 m 1 (Column u) :=
  ext2 fun _ _ => ValueIdx.shapeCast_a_a1_apply _ h _ _
theorem row_arr (u : ℕ → ℝ) (h) : shapeCast (⟨2, ![1, m]⟩ : Shape) (arr1 m u) h = arr2 1 m (Row u) :=
  ext2 fun _ _ => ValueIdx.shapeCast_a_1a_apply _ h _ _
theorem same_arr (h) : shapeCast (⟨2, ![m, n]⟩ : Shape) (arr2 m n f) h = arr2 m n f := by
  refine ext2 fun i0 i1 => ?_; pointwise
theorem slice_arr (b k : ℕ) (h) : extractStridedSlice (⟨2, ![m, k]⟩ : Shape) ![0, b] (arr2 m n f) h
    = arr2 m k (Shift 0 b f) :=
  ext2 fun _ _ => rfl
theorem face_arr3 (F3 : ℕ → Mat) (h) : shapeCast (⟨2, ![m, n]⟩ : Shape) (arr3 1 m n F3) h = arr2 m n (F3 0) :=
  ext2 fun _ _ => ValueIdx.shapeCast_1ab_ab_apply _ h _ _
theorem to_arr3 (h) : shapeCast (⟨3, ![1, m, n]⟩ : Shape) (arr2 m n f) h = arr3 1 m n (Face f) :=
  ext3 fun _ _ _ => ValueIdx.shapeCast_ab_1ab_apply _ h _ _ _
theorem face_arr4 (F4 : ℕ → ℕ → Mat) (h) : shapeCast (⟨2, ![m, n]⟩ : Shape) (arr4 1 1 m n F4) h = arr2 m n (F4 0 0) :=
  ext2 fun _ _ => congrArg (arr4 1 1 m n F4) (ValueIdx.reshapeEquiv_ix2_11ab _ _ _)
theorem to_arr4 (h) : shapeCast (⟨4, ![1, 1, m, n]⟩ : Shape) (arr2 m n f) h = arr4 1 1 m n (Face2 f) :=
  ext4 fun a b i j => shapeCast_apply _ h _ (ix2 i j) (by
    rw [Shape.rowMajor_val_two, Shape.rowMajor_val_four]
    have ha : a.val = 0 := by omega
    have hb : b.val = 0 := by omega
    show _ = ((a.val * 1 + b.val) * m + i.val) * n + j.val
    rw [ha, hb]; simp)
end

/-! ### Blocks read from and written into an array -/

/-- `f` with face `h` replaced by the one face of `g`; the same under a leading unit axis. -/
def Put3 (h : ℕ) (g f : ℕ → Mat) : ℕ → Mat := fun a => if a = h then g 0 else f a
def Put4 (h : ℕ) (g f : ℕ → ℕ → Mat) : ℕ → ℕ → Mat := fun a b => if b = h then g 0 0 else f a b
/-- `f` with face `h` raised by `g`, under a leading unit axis. -/
def Raise4 (h : ℕ) (g : Mat) (f : ℕ → ℕ → Mat) : ℕ → ℕ → Mat := fun a b => if b = h then Add (f 0 b) g else f a b
theorem put4_add (h : ℕ) (g : Mat) (f : ℕ → ℕ → Mat) :
    Put4 h (Face2 (Add (Shift 0 0 (f 0 h)) g)) f = Raise4 h g f := by
  funext a b
  unfold Put4 Raise4
  split
  · next e => rw [shift_zero, e]; rfl
  · rfl
/-- Four blocks of rows, one below the other. -/
def Four (m : ℕ) (f0 f1 f2 f3 : Mat) : Mat := fun i j =>
  if i < m then f0 i j else if i < m + m then f1 (i - m) j else if i < m + m + m then f2 (i - (m + m)) j
    else f3 (i - (m + m + m)) j
/-- Two faces. -/
def Two (f g : Mat) : ℕ → Mat := fun h => if h = 0 then f else g
theorem two_0 (f g : Mat) : Two f g 0 = f := rfl
theorem two_1 (f g : Mat) : Two f g 1 = g := rfl

section
variable {k l m n k' l' m' n' a b : ℕ}

theorem part2 (f : Mat) (inb) (i : (⟨2, ![m', n']⟩ : Shape).Idx) :
    arr2 m n f ((Rect.unit (s := ⟨2, ![m, n]⟩) ![a, b] ![m', n'] inb).idx i) = arr2 m' n' (Shift a b f) i := by
  have e0 : ((Rect.unit (s := ⟨2, ![m, n]⟩) ![a, b] ![m', n'] inb).idx i 0 : ℕ) = a + i 0 := by
    show a + 1 * (i 0 : ℕ) = _; rw [one_mul]
  have e1 : ((Rect.unit (s := ⟨2, ![m, n]⟩) ![a, b] ![m', n'] inb).idx i 1 : ℕ) = b + i 1 := by
    show b + 1 * (i 1 : ℕ) = _; rw [one_mul]
  unfold arr2 Shift
  rw [e0, e1]

theorem ld2 (f : Mat) (inb) : View.ld (Val := Elt Ideal) (e' := .f32) (arr2 m n f)
    (Rect.unit (s := ⟨2, ![m, n]⟩) ![a, b] (no_index ![m', n']) inb) = arr2 m' n' (Shift a b f) := funext (part2 f inb)
theorem ld2_bf16 (f : Mat) (inb) : View.ld (Val := Elt Ideal) (e' := .bf16) (arr2 m n f)
    (Rect.unit (s := ⟨2, ![m, n]⟩) ![a, b] (no_index ![m', n']) inb) = arr2 m' n' (Shift a b f) := funext (part2 f inb)
theorem ld3 (f : ℕ → Mat) (inb) : View.ld (Val := Elt Ideal) (e' := .f32) (arr3 l m n f)
    (Rect.unit (s := ⟨3, ![l, m, n]⟩) ![k, a, b] (no_index ![1, m', n']) inb)
      = arr3 1 m' n' (Face (Shift a b (f k))) := by
  refine ext3 fun h i j => congrArg (fun r : ℝ => (r : EReal)) ?_
  have e : h = 0 := Subsingleton.elim _ _
  subst e
  show f (k + 1 * 0) (a + 1 * i) (b + 1 * j) = f k (a + i) (b + j)
  rw [Nat.mul_zero, Nat.add_zero, one_mul, one_mul]
theorem ld3_bf16 (f : ℕ → Mat) (inb) : View.ld (Val := Elt Ideal) (e' := .bf16) (arr3 l m n f)
    (Rect.unit (s := ⟨3, ![l, m, n]⟩) ![k, a, b] (no_index ![1, m', n']) inb)
      = arr3 1 m' n' (Face (Shift a b (f k))) := ld3 f inb
theorem ld4 (f : ℕ → ℕ → Mat) (inb) : View.ld (Val := Elt Ideal) (e' := .f32) (arr4 1 l m n f)
    (Rect.unit (s := ⟨4, ![1, l, m, n]⟩) ![0, k, a, b] (no_index ![1, 1, m', n']) inb)
      = arr4 1 1 m' n' (Face2 (Shift a b (f 0 k))) := by
  refine ext4 fun g h i j => congrArg (fun r : ℝ => (r : EReal)) ?_
  have e : h = 0 := Subsingleton.elim _ _
  have e' : g = 0 := Subsingleton.elim _ _
  subst e; subst e'
  show f (0 + 1 * 0) (k + 1 * 0) (a + 1 * i) (b + 1 * j) = f 0 k (a + i) (b + j)
  rw [Nat.mul_zero, Nat.add_zero, one_mul, one_mul, Nat.add_zero]
theorem ld4_bf16 (f : ℕ → ℕ → Mat) (inb) : View.ld (Val := Elt Ideal) (e' := .bf16) (arr4 1 l m n f)
    (Rect.unit (s := ⟨4, ![1, l, m, n]⟩) ![0, k, a, b] (no_index ![1, 1, m', n']) inb)
      = arr4 1 1 m' n' (Face2 (Shift a b (f 0 k))) := ld4 f inb
theorem read_back {sig : RefSig} {κ : Kind} {sp : Space} {S : Shape} {e : EltTy} (v : View sig κ sp S e)
    (L : List (View.Piece (Elt Ideal) S e)) (r : Rect S) : v.readCov L r.toLoadRect = View.ld (View.canon L) r :=
  View.readCov_eq_canon' v L r.toLoadRect

theorem overlay_at {S : Shape} {α : Type} (off sz : Fin S.rank → ℕ) (inb) (X : S.Idx → α)
    (G : (Rect.unit off sz inb).shape.Idx → α) (i : S.Idx) (h : ∀ c, off c ≤ i c ∧ (i c : ℕ) < off c + sz c) :
    (Rect.unit off sz inb).overlay X G i = G fun c => ⟨i c - off c, by have := h c; show _ < sz c; omega⟩ := by
  have e : i = (Rect.unit off sz inb).emb fun c => ⟨i c - off c, by have := h c; show _ < sz c; omega⟩ := by
    funext c
    refine Fin.ext ?_
    have := h c
    show (i c : ℕ) = off c + 1 * (i c - off c)
    omega
  conv_lhs => rw [e]
  exact Rect.overlay_emb _ _ _ _

theorem overlay_off {S : Shape} {α : Type} (off sz : Fin S.rank → ℕ) (inb) (X : S.Idx → α)
    (G : (Rect.unit off sz inb).shape.Idx → α) (i : S.Idx) (h : ¬∀ c, off c ≤ i c ∧ (i c : ℕ) < off c + sz c) :
    (Rect.unit off sz inb).overlay X G i = X i :=
  Rect.overlay_of_not_mem _ _ _ fun hm => h (Rect.mem_set_unit.mp hm)

theorem over2 (f g : Mat) (inb) :
    (Rect.unit (s := ⟨2, ![m, n]⟩) ![a, 0] (no_index ![m', n]) inb).overlay (arr2 m n f) (arr2 m' n g) = arr2 m n (Put a m' g f) := by
  funext i
  by_cases h : ∀ c, (![a, 0] : Fin 2 → ℕ) c ≤ i c ∧ (i c : ℕ) < (![a, 0] : Fin 2 → ℕ) c + (![m', n] : Fin 2 → ℕ) c
  · refine (overlay_at _ _ inb _ _ i h).trans (congrArg (fun r : ℝ => (r : EReal)) ?_)
    exact (if_pos (h 0)).symm
  · refine (overlay_off _ _ inb _ _ i h).trans (congrArg (fun r : ℝ => (r : EReal)) ?_)
    refine (if_neg fun h0 => h fun c => ?_).symm
    match c with
    | ⟨0, _⟩ => exact h0
    | ⟨1, _⟩ => exact ⟨Nat.zero_le _, (i 1).isLt.trans_eq (Nat.zero_add n).symm⟩

theorem over2_whole (X : (⟨2, ![m, n]⟩ : Shape).Idx → EReal) (g : Mat) (inb) :
    (Rect.unit (s := ⟨2, ![m, n]⟩) ![0, 0] (no_index ![m, n]) inb).overlay X (arr2 m n g) = arr2 m n g := by
  funext i
  refine (overlay_at _ _ inb _ _ i fun c => ?_).trans rfl
  match c with
  | ⟨0, _⟩ => exact ⟨Nat.zero_le _, (i 0).isLt.trans_eq (Nat.zero_add m).symm⟩
  | ⟨1, _⟩ => exact ⟨Nat.zero_le _, (i 1).isLt.trans_eq (Nat.zero_add n).symm⟩

theorem over2_in (X : (⟨2, ![m, n]⟩ : Shape).Idx → EReal) (g : Mat) (inb) (i : (⟨2, ![m, n]⟩ : Shape).Idx)
    (h : a ≤ i 0 ∧ (i 0 : ℕ) < a + m') :
    (Rect.unit (s := ⟨2, ![m, n]⟩) ![a, 0] ![m', n] inb).overlay X (arr2 m' n g) i = ((g (i 0 - a) (i 1) : ℝ) : EReal) := by
  refine (overlay_at _ _ inb _ _ i fun c => ?_).trans rfl
  match c with
  | ⟨0, _⟩ => exact h
  | ⟨1, _⟩ => exact ⟨Nat.zero_le _, (i 1).isLt.trans_eq (Nat.zero_add n).symm⟩
theorem over2_out (X : (⟨2, ![m, n]⟩ : Shape).Idx → EReal) (g : Mat) (inb) (i : (⟨2, ![m, n]⟩ : Shape).Idx)
    (h : ¬(a ≤ i 0 ∧ (i 0 : ℕ) < a + m')) :
    (Rect.unit (s := ⟨2, ![m, n]⟩) ![a, 0] ![m', n] inb).overlay X (arr2 m' n g) i = X i :=
  overlay_off _ _ inb _ _ i fun hc => h (hc 0)

/-- An array stored as four blocks of 512 rows. -/
theorem over2_four (X : (⟨2, ![2048, n]⟩ : Shape).Idx → EReal) (f0 f1 f2 f3 : Mat) (i0) (i1) (i2) (i3) :
    (Rect.unit (s := ⟨2, ![2048, n]⟩) ![1536, 0] (no_index ![512, n]) i3).overlay
      ((Rect.unit (s := ⟨2, ![2048, n]⟩) ![1024, 0] (no_index ![512, n]) i2).overlay
        ((Rect.unit (s := ⟨2, ![2048, n]⟩) ![512, 0] (no_index ![512, n]) i1).overlay
          ((Rect.unit (s := ⟨2, ![2048, n]⟩) ![0, 0] (no_index ![512, n]) i0).overlay X (arr2 512 n f0))
          (arr2 512 n f1)) (arr2 512 n f2)) (arr2 512 n f3) = arr2 2048 n (Four 512 f0 f1 f2 f3) := by
  funext i
  have hi : (i 0 : ℕ) < 2048 := (i 0).isLt
  show _ = ((Four 512 f0 f1 f2 f3 (i 0) (i 1) : ℝ) : EReal)
  unfold Four
  by_cases h3 : 1536 ≤ (i 0 : ℕ)
  · rw [over2_in _ _ _ _ ⟨h3, by omega⟩, if_neg (by omega), if_neg (by omega), if_neg (by omega)]
  rw [over2_out _ _ _ _ (by omega)]
  by_cases h2 : 1024 ≤ (i 0 : ℕ)
  · rw [over2_in _ _ _ _ ⟨h2, by omega⟩, if_neg (by omega), if_neg (by omega), if_pos (by omega)]
  rw [over2_out _ _ _ _ (by omega)]
  by_cases h1 : 512 ≤ (i 0 : ℕ)
  · rw [over2_in _ _ _ _ ⟨h1, by omega⟩, if_neg (by omega), if_pos (by omega)]
  rw [over2_out _ _ _ _ (by omega), over2_in _ _ _ _ ⟨Nat.zero_le _, by omega⟩, if_pos (by omega), Nat.sub_zero]

theorem over3 (f g : ℕ → Mat) (inb) :
    (Rect.unit (s := ⟨3, ![l, m, n]⟩) ![a, 0, 0] (no_index ![1, m, n]) inb).overlay (arr3 l m n f) (arr3 1 m n g)
      = arr3 l m n (Put3 a g f) := by
  funext i
  by_cases h : ∀ c, (![a, 0, 0] : Fin 3 → ℕ) c ≤ i c ∧ (i c : ℕ) < (![a, 0, 0] : Fin 3 → ℕ) c + (![1, m, n] : Fin 3 → ℕ) c
  · refine (overlay_at _ _ inb _ _ i h).trans (congrArg (fun r : ℝ => (r : EReal)) ?_)
    have h0 : a ≤ (i 0 : ℕ) ∧ (i 0 : ℕ) < a + 1 := h 0
    have e : (i 0 : ℕ) = a := by omega
    show g ((i 0 : ℕ) - a) (i 1) (i 2) = (if (i 0 : ℕ) = a then g 0 else f (i 0)) (i 1) (i 2)
    rw [if_pos e, e, Nat.sub_self]
  · refine (overlay_off _ _ inb _ _ i h).trans (congrArg (fun r : ℝ => (r : EReal)) ?_)
    have e : (i 0 : ℕ) ≠ a := fun e => h fun c => by
      match c with
      | ⟨0, _⟩ => exact ⟨e.ge, e.trans_lt (Nat.lt_succ_self a)⟩
      | ⟨1, _⟩ => exact ⟨Nat.zero_le _, (i 1).isLt.trans_eq (Nat.zero_add m).symm⟩
      | ⟨2, _⟩ => exact ⟨Nat.zero_le _, (i 2).isLt.trans_eq (Nat.zero_add n).symm⟩
    show f (i 0) (i 1) (i 2) = (if (i 0 : ℕ) = a then g 0 else f (i 0)) (i 1) (i 2)
    rw [if_neg e]

/-- The two faces of an array stored one after the other. -/
theorem over3_both (X : (⟨3, ![2, m, n]⟩ : Shape).Idx → EReal) (f g : ℕ → Mat) (inb) (inb') :
    (Rect.unit (s := ⟨3, ![2, m, n]⟩) ![1, 0, 0] (no_index ![1, m, n]) inb).overlay
      ((Rect.unit (s := ⟨3, ![2, m, n]⟩) ![0, 0, 0] (no_index ![1, m, n]) inb').overlay X (arr3 1 m n f)) (arr3 1 m n g)
      = arr3 2 m n (Two (f 0) (g 0)) := by
  funext i
  have hi : (i 0 : ℕ) < 2 := (i 0).isLt
  have h1 : 0 ≤ (i 1 : ℕ) ∧ (i 1 : ℕ) < 0 + m := ⟨Nat.zero_le _, (i 1).isLt.trans_eq (Nat.zero_add m).symm⟩
  have h2 : 0 ≤ (i 2 : ℕ) ∧ (i 2 : ℕ) < 0 + n := ⟨Nat.zero_le _, (i 2).isLt.trans_eq (Nat.zero_add n).symm⟩
  by_cases e : (i 0 : ℕ) = 0
  · refine (overlay_off _ _ inb _ _ i fun h => ?_).trans ((overlay_at _ _ inb' _ _ i fun c => ?_).trans
      (congrArg (fun r : ℝ => (r : EReal)) ?_))
    · have h0 : 1 ≤ (i 0 : ℕ) ∧ (i 0 : ℕ) < 1 + 1 := h 0
      omega
    · match c with
      | ⟨0, _⟩ => exact ⟨Nat.zero_le _, e.trans_lt Nat.zero_lt_one⟩
      | ⟨1, _⟩ => exact h1
      | ⟨2, _⟩ => exact h2
    · show f ((i 0 : ℕ) - 0) (i 1) (i 2) = (if (i 0 : ℕ) = 0 then f 0 else g 0) (i 1) (i 2)
      rw [if_pos e, e]
  · refine (overlay_at _ _ inb _ _ i fun c => ?_).trans (congrArg (fun r : ℝ => (r : EReal)) ?_)
    · match c with
      | ⟨0, _⟩ => exact ⟨Nat.one_le_iff_ne_zero.mpr e, hi⟩
      | ⟨1, _⟩ => exact h1
      | ⟨2, _⟩ => exact h2
    · show g ((i 0 : ℕ) - 1) (i 1) (i 2) = (if (i 0 : ℕ) = 0 then f 0 else g 0) (i 1) (i 2)
      have e1 : (i 0 : ℕ) - 1 = 0 := by omega
      rw [if_neg e, e1]

theorem over4 (f g : ℕ → ℕ → Mat) (inb) :
    (Rect.unit (s := ⟨4, ![1, l, m, n]⟩) ![0, a, 0, 0] (no_index ![1, 1, m, n]) inb).overlay (arr4 1 l m n f) (arr4 1 1 m n g)
      = arr4 1 l m n (Put4 a g f) := by
  funext i
  by_cases h : ∀ c, (![0, a, 0, 0] : Fin 4 → ℕ) c ≤ i c ∧ (i c : ℕ) < (![0, a, 0, 0] : Fin 4 → ℕ) c + (![1, 1, m, n] : Fin 4 → ℕ) c
  · refine (overlay_at _ _ inb _ _ i h).trans (congrArg (fun r : ℝ => (r : EReal)) ?_)
    have h1 : a ≤ (i 1 : ℕ) ∧ (i 1 : ℕ) < a + 1 := h 1
    have h0 : (i 0 : ℕ) < 1 := (i 0).isLt
    have e : (i 1 : ℕ) = a := by omega
    have e0 : (i 0 : ℕ) = 0 := by omega
    show g ((i 0 : ℕ) - 0) ((i 1 : ℕ) - a) (i 2) (i 3) = (if (i 1 : ℕ) = a then g 0 0 else f (i 0) (i 1)) (i 2) (i 3)
    rw [if_pos e, e, Nat.sub_self, e0]
  · refine (overlay_off _ _ inb _ _ i h).trans (congrArg (fun r : ℝ => (r : EReal)) ?_)
    have e : (i 1 : ℕ) ≠ a := fun e => h fun c => by
      match c with
      | ⟨0, _⟩ => exact ⟨Nat.zero_le _, (i 0).isLt.trans_eq (Nat.zero_add 1).symm⟩
      | ⟨1, _⟩ => exact ⟨e.ge, e.trans_lt (Nat.lt_succ_self a)⟩
      | ⟨2, _⟩ => exact ⟨Nat.zero_le _, (i 2).isLt.trans_eq (Nat.zero_add m).symm⟩
      | ⟨3, _⟩ => exact ⟨Nat.zero_le _, (i 3).isLt.trans_eq (Nat.zero_add n).symm⟩
    show f (i 0) (i 1) (i 2) (i 3) = (if (i 1 : ℕ) = a then g 0 0 else f (i 0) (i 1)) (i 2) (i 3)
    rw [if_neg e]
/-- The first `c` faces stored, the others still what they were. -/
def mix (l m n c : ℕ) (J : (⟨4, ![1, l, m, n]⟩ : Shape).Idx → EReal) (F : ℕ → ℕ → Mat) :
    (⟨4, ![1, l, m, n]⟩ : Shape).Idx → EReal :=
  fun i => if (i 1 : ℕ) < c then ((F (i 0) (i 1) (i 2) (i 3) : ℝ) : EReal) else J i
theorem mix_zero (J) (F : ℕ → ℕ → Mat) : mix l m n 0 J F = J := funext fun _ => if_neg (Nat.not_lt_zero _)
theorem mix_all (J) (F : ℕ → ℕ → Mat) : mix l m n l J F = arr4 1 l m n F := funext fun i => if_pos (i 1).isLt
theorem over4_mix (c c' : ℕ) (J) (f g : ℕ → ℕ → Mat) (inb) (hc : c ≤ c') (ha : a < c') (hc' : ∀ i, i < c' → i < c ∨ i = a) :
    (Rect.unit (s := ⟨4, ![1, l, m, n]⟩) ![0, a, 0, 0] ![1, 1, m, n] inb).overlay (mix l m n c J f) (arr4 1 1 m n g)
      = mix l m n c' J (Put4 a g f) := by
  funext i
  by_cases h : ∀ c, (![0, a, 0, 0] : Fin 4 → ℕ) c ≤ i c ∧ (i c : ℕ) < (![0, a, 0, 0] : Fin 4 → ℕ) c + (![1, 1, m, n] : Fin 4 → ℕ) c
  · refine (overlay_at _ _ inb _ _ i h).trans ?_
    have h1 : a ≤ (i 1 : ℕ) ∧ (i 1 : ℕ) < a + 1 := h 1
    have h0 : (i 0 : ℕ) < 1 := (i 0).isLt
    have e : (i 1 : ℕ) = a := by omega
    have e0 : (i 0 : ℕ) = 0 := by omega
    refine Eq.trans (congrArg (fun r : ℝ => (r : EReal)) ?_) (if_pos (by omega)).symm
    show g ((i 0 : ℕ) - 0) ((i 1 : ℕ) - a) (i 2) (i 3) = (if (i 1 : ℕ) = a then g 0 0 else f (i 0) (i 1)) (i 2) (i 3)
    rw [if_pos e, e, Nat.sub_self, e0]
  · refine (overlay_off _ _ inb _ _ i h).trans ?_
    have e : (i 1 : ℕ) ≠ a := fun e => h fun c => by
      match c with
      | ⟨0, _⟩ => exact ⟨Nat.zero_le _, (i 0).isLt.trans_eq (Nat.zero_add 1).symm⟩
      | ⟨1, _⟩ => exact ⟨e.ge, e.trans_lt (Nat.lt_succ_self a)⟩
      | ⟨2, _⟩ => exact ⟨Nat.zero_le _, (i 2).isLt.trans_eq (Nat.zero_add m).symm⟩
      | ⟨3, _⟩ => exact ⟨Nat.zero_le _, (i 3).isLt.trans_eq (Nat.zero_add n).symm⟩
    show (if (i 1 : ℕ) < c then _ else _) = if (i 1 : ℕ) < c' then _ else _
    by_cases hi : (i 1 : ℕ) < c
    · rw [if_pos hi, if_pos (by omega)]
      unfold Put4
      rw [if_neg e]
    · rw [if_neg hi, if_neg fun h => (hc' _ h).elim hi e]
theorem over4_old {c : ℕ} (J) (f g : ℕ → ℕ → Mat) (inb) (h : a < c) :
    (Rect.unit (s := ⟨4, ![1, l, m, n]⟩) ![0, a, 0, 0] (no_index ![1, 1, m, n]) inb).overlay (mix l m n c J f) (arr4 1 1 m n g)
      = mix l m n c J (Put4 a g f) := over4_mix c c J f g inb le_rfl h fun _ h => Or.inl h
theorem over4_new (J) (f g : ℕ → ℕ → Mat) (inb) :
    (Rect.unit (s := ⟨4, ![1, l, m, n]⟩) ![0, a, 0, 0] (no_index ![1, 1, m, n]) inb).overlay (mix l m n a J f) (arr4 1 1 m n g)
      = mix l m n (a + 1) J (Put4 a g f) := over4_mix a (a + 1) J f g inb (by omega) (by omega) (by omega)
/-- The first face stored over what is not known. -/
theorem over4_start (f g : ℕ → ℕ → Mat) (inb) :
    (Rect.unit (s := ⟨4, ![1, l, m, n]⟩) ![0, 0, 0, 0] (no_index ![1, 1, m, n]) inb).overlay
      (View.canon (Val := Elt Ideal) (e := .f32) (s := ⟨4, ![1, l, m, n]⟩) []) (arr4 1 1 m n g)
      = mix l m n 1 (View.canon (Val := Elt Ideal) (e := .f32) (s := ⟨4, ![1, l, m, n]⟩) []) (Put4 0 g f) := by
  have e := over4_new (l := l) (m := m) (n := n) (a := 0)
    (View.canon (Val := Elt Ideal) (e := .f32) (s := ⟨4, ![1, l, m, n]⟩) []) f g inb
  rw [mix_zero] at e
  exact e
theorem ld4_mix {c : ℕ} (J) (f : ℕ → ℕ → Mat) (inb) (h : k < c) : View.ld (Val := Elt Ideal) (e' := .f32) (mix l m n c J f)
    (Rect.unit (s := ⟨4, ![1, l, m, n]⟩) ![0, k, a, b] (no_index ![1, 1, m', n']) inb)
      = arr4 1 1 m' n' (Face2 (Shift a b (f 0 k))) := by
  refine Eq.trans ?_ (ld4 f inb)
  refine ext4 fun i0 i1 i2 i3 => if_pos ?_
  show k + 1 * (i1 : ℕ) < c
  omega
theorem over4_whole (X : (⟨4, ![1, l, m, n]⟩ : Shape).Idx → EReal) (g : ℕ → ℕ → Mat) (inb) :
    (Rect.unit (s := ⟨4, ![1, l, m, n]⟩) ![0, 0, 0, 0] (no_index ![1, l, m, n]) inb).overlay X (arr4 1 l m n g) = arr4 1 l m n g := by
  funext i
  refine (overlay_at _ _ inb _ _ i fun c => ?_).trans rfl
  match c with
  | ⟨0, _⟩ => exact ⟨Nat.zero_le _, (i 0).isLt.trans_eq (Nat.zero_add 1).symm⟩
  | ⟨1, _⟩ => exact ⟨Nat.zero_le _, (i 1).isLt.trans_eq (Nat.zero_add l).symm⟩
  | ⟨2, _⟩ => exact ⟨Nat.zero_le _, (i 2).isLt.trans_eq (Nat.zero_add m).symm⟩
  | ⟨3, _⟩ => exact ⟨Nat.zero_le _, (i 3).isLt.trans_eq (Nat.zero_add n).symm⟩
theorem zero_bc4 : (broadcast (⟨4, ![k, l, m, n]⟩ : Shape) (Scalar.ofBits (F := Ideal) .f32 0x00000000#32))
    = arr4 k l m n (Face2 (Const 0)) := by
  refine ext4 fun i0 i1 i2 i3 => ?_; pointwise [Face2, Const, EReal.coe_zero]
end

end Cert.Arrays

end
-- ==== Proof.FoxModel.lean ====
/-
  The derivative of the forgetting attention, on the reals: what both programs of the pair FoxBwd / FoxVjp compute. `q`,
  `k`, `v` and `ct` are indexed by batch, position and column (head times 64 plus lane), the cumulated gates `c` by batch,
  head and position. A row's weights stop at the diagonal.
-/
module

public import proofs.«01_k».proof.Proof.Arrays

@[expose] public section

noncomputable section

namespace Cert.FoxModel

open Idealize.ShloMosaic Cert.Reals Cert.Arrays Finset

/-! ### Rows that stop at the diagonal -/

/-- The maximum of the part of a row up to the diagonal, with −∞ after it, is a real. -/
theorem exists_masked_max {n : ℕ} [NeZero n] (f : ℕ → ℝ) (t : ℕ) :
    ∃ M : ℝ, univ.fold max (⊥ : EReal) (fun k : Fin n => if (k : ℕ) ≤ t then ((f k : ℝ) : EReal) else ⊥) = ((M : ℝ) : EReal) := by
  have h1 : univ.fold max (⊥ : EReal) (fun k : Fin n => if (k : ℕ) ≤ t then ((f k : ℝ) : EReal) else ⊥) < ⊤ := by
    refine (Finset.fold_max_lt _).2 ⟨bot_lt_top, fun k _ => ?_⟩
    split
    · exact EReal.coe_lt_top _
    · exact bot_lt_top
  have h2 : ((f 0 : ℝ) : EReal) ≤ univ.fold max (⊥ : EReal) (fun k : Fin n => if (k : ℕ) ≤ t then ((f k : ℝ) : EReal) else ⊥) := by
    refine (Finset.le_fold_max _).2 (Or.inr ⟨(0 : Fin n), mem_univ _, ?_⟩)
    simp
  exact ⟨_, (EReal.coe_toReal h1.ne ((EReal.bot_lt_coe _).trans_le h2).ne').symm⟩

/-- That maximum, over 2048 columns. -/
def maskedTop (f : ℕ → ℝ) (t : ℕ) : ℝ := (exists_masked_max (n := 2048) f t).choose
@[pointwise] theorem fold_masked_max (f : ℕ → ℝ) (t : ℕ) :
    univ.fold max (⊥ : EReal) (fun k : Fin 2048 => if (k : ℕ) ≤ t then ((f k : ℝ) : EReal) else ⊥)
      = ((maskedTop f t : ℝ) : EReal) := (exists_masked_max (n := 2048) f t).choose_spec

@[pointwise] theorem exp_masked_sub {p : Prop} [Decidable p] (x y : ℝ) :
    Ideal.exp ((if p then ((x : ℝ) : EReal) else ⊥) - ((y : ℝ) : EReal)) = ((if p then Real.exp (x - y) else 0 : ℝ) : EReal) := by
  split
  · exact (congrArg Ideal.exp (lift_sub x y)).trans (lift_exp _)
  · rw [EReal.bot_sub]; exact Ideal.exp_bot

/-- A row's sum of exponentials up to the diagonal is positive. -/
theorem sum_masked_pos {n : ℕ} [NeZero n] (f : Fin n → ℝ) (t : ℕ) :
    0 < ∑ k : Fin n, if (k : ℕ) ≤ t then Real.exp (f k) else 0 := by
  refine Finset.sum_pos' (fun k _ => ?_) ⟨(0 : Fin n), mem_univ _, ?_⟩
  · split
    · exact (Real.exp_pos _).le
    · exact le_rfl
  · simp [Real.exp_pos]

@[pointwise] theorem div_masked {n : ℕ} [NeZero n] (x : ℝ) (f : Fin n → ℝ) (t : ℕ) :
    Ideal.div ((x : ℝ) : EReal) ((∑ k : Fin n, if (k : ℕ) ≤ t then Real.exp (f k) else 0 : ℝ) : EReal)
      = ((x / ∑ k : Fin n, if (k : ℕ) ≤ t then Real.exp (f k) else 0 : ℝ) : EReal) := coe_div (sum_masked_pos f t).ne' x
@[pointwise] theorem one_div_masked_sq {n : ℕ} [NeZero n] (f : Fin n → ℝ) (t : ℕ) :
    Ideal.div 1 (((∑ k : Fin n, if (k : ℕ) ≤ t then Real.exp (f k) else 0) * ∑ k : Fin n, if (k : ℕ) ≤ t then Real.exp (f k) else 0 : ℝ) : EReal)
      = ((1 / ((∑ k : Fin n, if (k : ℕ) ≤ t then Real.exp (f k) else 0) * ∑ k : Fin n, if (k : ℕ) ≤ t then Real.exp (f k) else 0) : ℝ) : EReal) :=
  coe_div (mul_pos (sum_masked_pos f t) (sum_masked_pos f t)).ne' 1
@[pointwise] theorem log_masked {n : ℕ} [NeZero n] (f : Fin n → ℝ) (t : ℕ) :
    Ideal.log ((∑ k : Fin n, if (k : ℕ) ≤ t then Real.exp (f k) else 0 : ℝ) : EReal)
      = ((Real.log (∑ k : Fin n, if (k : ℕ) ≤ t then Real.exp (f k) else 0) : ℝ) : EReal) := by
  exact (Ideal.log_coe _).trans (if_neg (not_le.2 (sum_masked_pos f t)))

/-- The softmax of the row `f` up to `t`. -/
def soft (f : ℕ → ℝ) (t s : ℕ) : ℝ := (if s ≤ t then Real.exp (f s) else 0) / ∑ j ∈ range 2048, if j ≤ t then Real.exp (f j) else 0

theorem mul_masked (f : ℕ → ℝ) (M : ℝ) (t s : ℕ) :
    (if s ≤ t then Real.exp (f s - M) else 0) = (if s ≤ t then Real.exp (f s) else 0) * Real.exp (-M) := by
  split
  · rw [sub_eq_add_neg, Real.exp_add]
  · rw [zero_mul]
theorem sum_range_pos (f : ℕ → ℝ) (t : ℕ) : 0 < ∑ j ∈ range 2048, if j ≤ t then Real.exp (f j) else 0 := by
  have h := sum_masked_pos (fun k : Fin 2048 => f k) t
  rwa [← Finset.sum_range (fun j => if j ≤ t then Real.exp (f j) else 0)] at h
theorem soft_shift (f : ℕ → ℝ) (M : ℝ) (t s : ℕ) :
    (if s ≤ t then Real.exp (f s - M) else 0) / (∑ j ∈ range 2048, if j ≤ t then Real.exp (f j - M) else 0) = soft f t s := by
  simp only [mul_masked f M]
  rw [← Finset.sum_mul, mul_div_mul_right _ _ (Real.exp_ne_zero _), soft]
theorem sum_soft (f : ℕ → ℝ) (t : ℕ) : ∑ s ∈ range 2048, soft f t s = 1 := by
  unfold soft
  rw [← Finset.sum_div, div_self (sum_range_pos f t).ne']

/-- Its derivative along the cotangent `d`. -/
def dsoft (f d : ℕ → ℝ) (t s : ℕ) : ℝ := soft f t s * (d s - ∑ j ∈ range 2048, soft f t j * d j)

/-- The same as differentiating numerator and denominator of the shifted quotient gives it. -/
theorem dsoft_quotient (f d : ℕ → ℝ) (M : ℝ) (t s : ℕ) :
    (d s / (∑ j ∈ range 2048, if j ≤ t then Real.exp (f j - M) else 0)
      + -(∑ j ∈ range 2048, d j * (1 / ((∑ j ∈ range 2048, if j ≤ t then Real.exp (f j - M) else 0)
        * ∑ j ∈ range 2048, if j ≤ t then Real.exp (f j - M) else 0)) * if j ≤ t then Real.exp (f j - M) else 0))
        * (if s ≤ t then Real.exp (f s - M) else 0) = dsoft f d t s := by
  have h := (sum_range_pos (fun j => f j - M) t).ne'
  unfold dsoft
  simp only [← soft_shift f M]
  generalize hZ : (∑ j ∈ range 2048, if j ≤ t then Real.exp (f j - M) else 0) = Z at h ⊢
  have : ∑ j ∈ range 2048, (d j * (1 / (Z * Z)) * if j ≤ t then Real.exp (f j - M) else 0)
      = (∑ j ∈ range 2048, (if j ≤ t then Real.exp (f j - M) else 0) / Z * d j) / Z := by
    rw [Finset.sum_div]; refine Finset.sum_congr rfl fun j _ => ?_; field_simp
  rw [this]; field_simp; ring
/-- It sums to zero. -/
theorem sum_dsoft (f d : ℕ → ℝ) (t : ℕ) : ∑ s ∈ range 2048, dsoft f d t s = 0 := by
  simp only [dsoft, mul_sub, Finset.sum_sub_distrib, ← Finset.sum_mul, sum_soft, one_mul, sub_self]
theorem dsoft_after (f d : ℕ → ℝ) {t s : ℕ} (h : ¬ s ≤ t) : dsoft f d t s = 0 := by
  rw [dsoft, soft, if_neg h, zero_div, zero_mul]

/-- The exponential of a logit minus its row's log-sum is the weight. -/
theorem exp_log_sum (f : ℕ → ℝ) (M : ℝ) (t s : ℕ) (h : s ≤ t) :
    Real.exp (f s - (M + Real.log (∑ j ∈ range 2048, if j ≤ t then Real.exp (f j - M) else 0))) = soft f t s := by
  rw [← soft_shift f M, if_pos h, ← sub_sub, Real.exp_sub, Real.exp_log (sum_range_pos (fun j => f j - M) t)]

/-! ### The attention -/

variable (q k v ct : ℕ → ℕ → ℕ → ℝ) (c : ℕ → ℕ → ℕ → ℝ)

/-- A head's logits of position `t`. -/
def score (b h t s : ℕ) : ℝ := (∑ d ∈ range 64, q b t (h * 64 + d) * k b s (h * 64 + d)) * (1 / 8) + c b h t - c b h s
/-- The cotangent of the softmax. -/
def dprob (b h t s : ℕ) : ℝ := ∑ d ∈ range 64, ct b t (h * 64 + d) * v b s (h * 64 + d)
/-- The weights and the cotangent of the logits. -/
def prob (b h t s : ℕ) : ℝ := soft (score q k c b h t) t s
def dscore (b h t s : ℕ) : ℝ := dsoft (score q k c b h t) (dprob v ct b h t) t s

/-- The gradients of the queries, keys, values and cumulated gates. -/
def dq (b t l : ℕ) : ℝ := (∑ s ∈ range 2048, dscore q k v ct c b (l / 64) t s * k b s l) * (1 / 8)
def dk (b s l : ℕ) : ℝ := ∑ t ∈ range 2048, dscore q k v ct c b (l / 64) t s * (q b t l * (1 / 8))
def dv (b s l : ℕ) : ℝ := ∑ t ∈ range 2048, prob q k c b (l / 64) t s * ct b t l
/-- Minus the last, by chunks of 128 positions and with two rows of padding. -/
def dc (b j i l : ℕ) : ℝ := if i < 6 then ∑ t ∈ range 2048, dscore q k v ct c b i t (128 * j + l) else 0

end Cert.FoxModel

end
-- ==== Proof.FoxRef.lean ====
/-
  The reference of the pair FoxBwd / FoxVjp on finite arguments: its four results are the gradients of FoxModel. The
  printed term is taken apart into the stages a reader of `jax.vjp` of a masked softmax attention expects; each stage maps
  real arrays to a real array, the masked logits excepted, which are −∞ after the diagonal.
-/
module

public import proofs.«01_k».proof.Proof.Gen.FoxVjpIdeal.Run
public import proofs.«01_k».proof.Proof.FoxModel

@[expose] public section

set_option maxRecDepth 16384

noncomputable section

namespace Cert.FoxRef

open Cert.FoxVjpIdeal Cert.FoxVjpIdeal.Gen Idealize.ShloMosaic Idealize.ShloMosaic.TcCoe Cert.Reals Cert.Arrays Cert.FoxModel
open Cert.FoxVjpIdeal.Facts

/-! ### The stages -/

/-- The log-sigmoid of the gates and its cumulated sums. -/
def logSigmoid (x : FVec Ideal S2x2048x6 .f32) : FVec Ideal S2x2048x6 .f32 :=
  let z : FVec Ideal S2x2048x6 .f32 := broadcastInDim S2x2048x6 ![] bcast_S_S2x2048x6 (constant S_ .f32 0x00000000#32)
  Host.negf (select (cmpf .une (subf (Host.negf x) z) (subf (Host.negf x) z)) (addf (Host.negf x) z)
    (addf (maximumf (Host.negf x) z) (Host.log1p (Host.exp (Host.negf (Host.absf (subf (Host.negf x) z)))))))
def cumulated (x : FVec Ideal S2x2048x6 .f32) : FVec Ideal S2x2048x6 .f32 :=
  Host.reduceWindowAdd ![1, 2048, 1] ![1, 1, 1] ![0, 2047, 0] ![0, 0, 0] x
    (broadcastInDim S_ ![] bcast_S_S_ (constant S_ .f32 0x00000000#32))
    reduceWindows_S2x2048x6_S2x2048x6_w1s1p0_0_w2048s1p2047_0_w1s1p0_0 h_S_
def gates (x : FVec Ideal S2x2048x6 .f32) : FVec Ideal S2x6x2048 .f32 :=
  transpose S2x6x2048 [0, 2, 1] (cumulated (logSigmoid x)) transposes_S2x2048x6_S2x6x2048_0_2_1

/-- An argument by heads, and the cotangent with the position last. -/
def heads (x : FVec Ideal S2x2048x384 .f32) : FVec Ideal S2x2048x6x64 .f32 :=
  shapeCast _ x shapeCasts_S2x2048x384_S2x2048x6x64
def cots (x : FVec Ideal S2x2048x384 .f32) : FVec Ideal S2x6x64x2048 .f32 :=
  transpose S2x6x64x2048 [0, 2, 3, 1] (heads x) transposes_S2x2048x6x64_S2x6x64x2048_0_2_3_1

/-- A row's number and a column's number repeated. -/
def col (r : FVec Ideal S2x6x2048 .f32) : FVec Ideal S2x6x2048x1 .f32 :=
  broadcastInDim S2x6x2048x1 ![0, 1, 2] bcast_S2x6x2048_S2x6x2048x1_0_1_2 r
def along (z : FVec Ideal S2x6x2048x1 .f32) : FVec Ideal S2x6x2048x2048 .f32 :=
  broadcastInDim S2x6x2048x2048 ![0, 1, 2, 3] bcast_S2x6x2048x1_S2x6x2048x2048_0_1_2_3 z
def across (r : FVec Ideal S2x6x2048 .f32) : FVec Ideal S2x6x2048x2048 .f32 :=
  broadcastInDim S2x6x2048x2048 ![0, 1, 2, 3] bcast_S2x6x1x2048_S2x6x2048x2048_0_1_2_3
    (broadcastInDim S2x6x1x2048 ![0, 1, 3] bcast_S2x6x2048_S2x6x1x2048_0_1_3 r)
def eighths : FVec Ideal S2x6x2048x2048 .f32 :=
  broadcastInDim S2x6x2048x2048 ![] bcast_S_S2x6x2048x2048 (constant S_ .f32 0x3E000000#32)

/-- The mask, the logits, their rows' maxima, the shifted exponentials and the softmax. -/
def mask : IVec S2x6x2048x2048 1 :=
  broadcastInDim S2x6x2048x2048 ![2, 3] bcast_S2048x2048_S2x6x2048x2048_2_3
    (cmpi .sle (iotaInDim S2048x2048 32 1) (iotaInDim S2048x2048 32 0))
def logits (q k : FVec Ideal S2x2048x6x64 .f32) (c : FVec Ideal S2x6x2048 .f32) : FVec Ideal S2x6x2048x2048 .f32 :=
  subf (addf (mulf (Host.dotGeneral dot_S2x2048x6x64_S2x2048x6x64_S2x6x2048x2048_3_3_1_1_02_02 none q k) eighths)
    (along (col c))) (across c)
def masked (s : FVec Ideal S2x6x2048x2048 .f32) : FVec Ideal S2x6x2048x2048 .f32 :=
  select mask s (broadcastInDim S2x6x2048x2048 ![] bcast_S_S2x6x2048x2048 (id (constant S_ .f32 0xFF800000#32)))
def rowMax (s : FVec Ideal S2x6x2048x2048 .f32) : FVec Ideal S2x6x2048 .f32 :=
  Host.reduce FloatOps.maximumf s (constant S_ .f32 0xFF800000#32) reducesTo_S2x6x2048x2048_S2x6x2048_d3 h_S_
def expShift (s : FVec Ideal S2x6x2048x2048 .f32) (r : FVec Ideal S2x6x2048 .f32) : FVec Ideal S2x6x2048x2048 .f32 :=
  Host.exp (subf s (along (col r)))
def rowSum (e : FVec Ideal S2x6x2048x2048 .f32) : FVec Ideal S2x6x2048 .f32 :=
  Host.reduceAdd e (constant S_ .f32 0x00000000#32) reducesTo_S2x6x2048x2048_S2x6x2048_d3 h_S_
def denom (e : FVec Ideal S2x6x2048x2048 .f32) : FVec Ideal S2x6x2048x1 .f32 := col (rowSum e)
def probs (e : FVec Ideal S2x6x2048x2048 .f32) : FVec Ideal S2x6x2048x2048 .f32 := Host.divf e (along (denom e))

/-- The cotangents of the softmax and of the logits. -/
def dprobs (ct : FVec Ideal S2x6x64x2048 .f32) (v : FVec Ideal S2x2048x6x64 .f32) : FVec Ideal S2x6x2048x2048 .f32 :=
  Host.dotGeneral dot_S2x6x64x2048_S2x2048x6x64_S2x6x2048x2048_2_3_3_1_01_02 none ct v
def inner (e g : FVec Ideal S2x6x2048x2048 .f32) : FVec Ideal S2x6x2048 .f32 :=
  rowSum (mulf (mulf g (along (Host.divf
    (broadcastInDim S2x6x2048x1 ![] bcast_S_S2x6x2048x1 (constant S_ .f32 0x3F800000#32))
    (mulf (denom e) (denom e))))) e)
def dlogits (e g : FVec Ideal S2x6x2048x2048 .f32) (i : FVec Ideal S2x6x2048 .f32) : FVec Ideal S2x6x2048x2048 .f32 :=
  select mask (mulf (addf (Host.divf g (along (denom e)))
    (broadcastInDim S2x6x2048x2048 ![0, 1, 2] bcast_S2x6x2048_S2x6x2048x2048_0_1_2
      (Host.reduceAdd (Host.negf (shapeCast S2x6x2048x1 i shapeCasts_S2x6x2048_S2x6x2048x1))
        (constant S_ .f32 0x00000000#32) reducesTo_S2x6x2048x1_S2x6x2048_d3 h_S_))) e)
    (broadcastInDim S2x6x2048x2048 ![] bcast_S_S2x6x2048x2048 (constant S_ .f32 0x00000000#32))

/-- The four gradients. -/
def rows (x : FVec Ideal S2x2048x6x64 .f32) : FVec Ideal S4096x384 .bf16 :=
  truncf .bf16 (shapeCast _ x shapeCasts_S2x2048x6x64_S4096x384) bitsLt_bf16_f32
def gradQ (g : FVec Ideal S2x6x2048x2048 .f32) (k : FVec Ideal S2x2048x6x64 .f32) : FVec Ideal S4096x384 .bf16 :=
  rows (transpose S2x2048x6x64 [0, 2, 1, 3] (Host.dotGeneral dot_S2x6x2048x2048_S2x2048x6x64_S2x6x2048x64_3_1_2_3_01_02 none
    (mulf g eighths) k : FVec Ideal S2x6x2048x64 .f32) transposes_S2x6x2048x64_S2x2048x6x64_0_2_1_3)
def gradK (g : FVec Ideal S2x6x2048x2048 .f32) (q : FVec Ideal S2x2048x6x64 .f32) : FVec Ideal S4096x384 .bf16 :=
  rows (transpose S2x2048x6x64 [0, 2, 1, 3] (Host.dotGeneral dot_S2x6x2048x2048_S2x2048x6x64_S2x6x2048x64_2_1_3_3_01_02 none
    (mulf g eighths) q : FVec Ideal S2x6x2048x64 .f32) transposes_S2x6x2048x64_S2x2048x6x64_0_2_1_3)
def gradV (ct : FVec Ideal S2x6x64x2048 .f32) (p : FVec Ideal S2x6x2048x2048 .f32) : FVec Ideal S4096x384 .bf16 :=
  rows (transpose S2x2048x6x64 [0, 3, 1, 2] (Host.dotGeneral dot_S2x6x64x2048_S2x6x2048x2048_S2x6x64x2048_3_2_2_3_01_01 none
    ct p : FVec Ideal S2x6x64x2048 .f32) transposes_S2x6x64x2048_S2x2048x6x64_0_3_1_2)
def colSum (g : FVec Ideal S2x6x2048x2048 .f32) : FVec Ideal S2x6x2048 .f32 :=
  Host.reduceAdd (shapeCast S2x6x1x2048 (Host.reduceAdd (Host.negf g) (constant S_ .f32 0x00000000#32)
    reducesTo_S2x6x2048x2048_S2x6x2048_d2 h_S_ : FVec Ideal S2x6x2048 .f32) shapeCasts_S2x6x2048_S2x6x1x2048)
    (constant S_ .f32 0x00000000#32) reducesTo_S2x6x1x2048_S2x6x2048_d2 h_S_
def rowSum' (g : FVec Ideal S2x6x2048x2048 .f32) : FVec Ideal S2x6x2048 .f32 :=
  Host.reduceAdd (shapeCast S2x6x2048x1 (rowSum g) shapeCasts_S2x6x2048_S2x6x2048x1)
    (constant S_ .f32 0x00000000#32) reducesTo_S2x6x2048x1_S2x6x2048_d3 h_S_
def gradC (g : FVec Ideal S2x6x2048x2048 .f32) : FVec Ideal S2x16x8x128 .f32 :=
  transpose S2x16x8x128 [0, 2, 1, 3] (shapeCast S2x8x16x128 (pad S2x8x2048 ![0, 0, 0] ![0, 2, 0] ![0, 0, 0]
    (Host.negf (addf (colSum g) (rowSum' g)) : FVec Ideal S2x6x2048 .f32) (sitofp .f32 (constantI S_ 32 0#32) : FVec Ideal S_ .f32)
    pads_S2x6x2048_S2x8x2048_000_020_000 h_S_) shapeCasts_S2x8x2048_S2x8x16x128) transposes_S2x8x16x128_S2x16x8x128_0_2_1_3

/-! ### The stages of the arguments -/

section
variable (q k v : FVec Ideal S2x2048x384 .f32) (f : FVec Ideal S2x2048x6 .f32) (ct : FVec Ideal S2x2048x384 .f32)

def logit : FVec Ideal S2x6x2048x2048 .f32 := masked (logits (heads q) (heads k) (gates f))
def expo : FVec Ideal S2x6x2048x2048 .f32 := expShift (logit q k f) (rowMax (logit q k f))
def cot : FVec Ideal S2x6x2048x2048 .f32 :=
  dlogits (expo q k f) (dprobs (cots ct) (heads v)) (inner (expo q k f) (dprobs (cots ct) (heads v)))

end

section
variable (m : (ℓ : Loc nD τ sig) → Buf (Elt Ideal) ℓ) (c : Dev nD)

theorem out0_eq : Value.res_out0 m c = gradQ (cot (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)))
    (heads (m ((c.tc : Thread nD τ).loc main_arg1))) := rfl
theorem out1_eq : Value.res_out1 m c = gradK (cot (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)))
    (heads (m ((c.tc : Thread nD τ).loc main_arg0))) := rfl
theorem out2_eq : Value.res_out2 m c = gradV (cots (m ((c.tc : Thread nD τ).loc main_arg4)))
    (probs (expo (m ((c.tc : Thread nD τ).loc main_arg0)) (m ((c.tc : Thread nD τ).loc main_arg1))
    (m ((c.tc : Thread nD τ).loc main_arg3)))) := rfl
theorem out3_eq : Value.res_out3 m c = gradC (cot (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))) := rfl

end

end Cert.FoxRef

end
-- ==== Proof.FoxRefReal.lean ====
/-
  The stages of FoxRef on real arrays, and the four results.
-/
module

public import proofs.«01_k».proof.Proof.FoxRef
public import Idealize.ShloMosaic.Lib.WordCmp

@[expose] public section

set_option maxRecDepth 16384

noncomputable section

namespace Cert.FoxRef

open Cert.FoxVjpIdeal Cert.FoxVjpIdeal.Gen Idealize.ShloMosaic Idealize.ShloMosaic.TcCoe Cert.Reals Cert.Arrays Cert.FoxModel
open Cert.FoxVjpIdeal.Facts

/-- A real function of two positions, −∞ after the diagonal. -/
def low4 (f : ℕ → ℕ → ℕ → ℕ → ℝ) : FVec Ideal S2x6x2048x2048 .f32 :=
  fun i => if (i 3 : ℕ) ≤ (i 2 : ℕ) then ((f (i 0) (i 1) (i 2) (i 3) : ℝ) : EReal) else ⊥
@[pointwise] theorem low4_ix (f : ℕ → ℕ → ℕ → ℕ → ℝ) (b : Fin 2) (h : Fin 6) (t s : Fin 2048) :
    low4 f (ix4 b h t s) = if (s : ℕ) ≤ t then ((f b h t s : ℝ) : EReal) else ⊥ := rfl

theorem zero_word : (FloatOps.sitofp .f32 0#32 : Ideal .f32) = ((0 : ℝ) : EReal) := by
  show (((0#32 : BitVec 32).toInt : ℝ) : EReal) = _
  simp
theorem mask_ix (b : Fin 2) (h : Fin 6) (t s : Fin 2048) : mask (ix4 b h t s) = BitVec.ofBool (decide ((s : ℕ) ≤ t)) := by
  pointwise [mask]
  exact WordCmp.cmpi_sle_ofNat (by omega) (by omega)

section
variable (x : ℕ → ℕ → ℕ → ℝ) (q k v ct : ℕ → ℕ → ℕ → ℕ → ℝ) (c r : ℕ → ℕ → ℕ → ℝ) (s g : ℕ → ℕ → ℕ → ℕ → ℝ)

theorem heads_up : heads (arr3 2 2048 384 x) = arr4 2 2048 6 64 fun b t h d => x b t (h * 64 + d) := by
  funext i; idx_vars i; pointwise [heads]
theorem cots_up : cots (arr3 2 2048 384 x) = arr4 2 6 64 2048 fun b h d t => x b t (h * 64 + d) := by
  funext i; idx_vars i; pointwise [cots, heads_up]
theorem logits_up : logits (arr4 2 2048 6 64 q) (arr4 2 2048 6 64 k) (arr3 2 6 2048 c) = arr4 2 6 2048 2048 fun b h t s =>
    (∑ d : Fin 64, q b t h d * k b s h d) * (1 / 8) + c b h t - c b h s := by
  funext i; idx_vars i; pointwise [logits, eighths, along, col, across]
theorem masked_up : masked (arr4 2 6 2048 2048 s) = low4 s := by
  funext i; idx_vars i; pointwise [masked, mask_ix, id_eq]
theorem rowMax_up : rowMax (low4 s) = arr3 2 6 2048 fun b h t => maskedTop (s b h t) t := by
  funext i; idx_vars i; pointwise [rowMax]
theorem expShift_up : expShift (low4 s) (arr3 2 6 2048 r)
    = arr4 2 6 2048 2048 fun b h t k => if k ≤ t then Real.exp (s b h t k - r b h t) else 0 := by
  funext i; idx_vars i; pointwise [expShift, along, col]
theorem dprobs_up : dprobs (arr4 2 6 64 2048 ct) (arr4 2 2048 6 64 k)
    = arr4 2 6 2048 2048 fun b h t m => ∑ d : Fin 64, ct b h d t * k b m h d := by
  funext i; idx_vars i; pointwise [dprobs]
theorem probs_up : probs (arr4 2 6 2048 2048 fun b h t k => if k ≤ t then Real.exp (s b h t k - r b h t) else 0)
    = arr4 2 6 2048 2048 fun b h t k => soft (s b h t) t k := by
  funext i; idx_vars i; pointwise [probs, along, col, denom, rowSum]
  rw [← soft_shift (s i0 i1 i2) (r i0 i1 i2), Finset.sum_range]
theorem inner_up : inner (arr4 2 6 2048 2048 fun b h t k => if k ≤ t then Real.exp (s b h t k - r b h t) else 0)
      (arr4 2 6 2048 2048 g)
    = arr3 2 6 2048 fun b h t => ∑ j : Fin 2048, g b h t j
      * (1 / ((∑ j : Fin 2048, if (j : ℕ) ≤ t then Real.exp (s b h t j - r b h t) else 0)
        * ∑ j : Fin 2048, if (j : ℕ) ≤ t then Real.exp (s b h t j - r b h t) else 0))
      * if (j : ℕ) ≤ t then Real.exp (s b h t j - r b h t) else 0 := by
  funext i; idx_vars i; pointwise [inner, along, col, denom, rowSum]
theorem dlogits_up : dlogits (arr4 2 6 2048 2048 fun b h t k => if k ≤ t then Real.exp (s b h t k - r b h t) else 0)
      (arr4 2 6 2048 2048 g) (arr3 2 6 2048 fun b h t => ∑ j : Fin 2048, g b h t j
        * (1 / ((∑ j : Fin 2048, if (j : ℕ) ≤ t then Real.exp (s b h t j - r b h t) else 0)
          * ∑ j : Fin 2048, if (j : ℕ) ≤ t then Real.exp (s b h t j - r b h t) else 0))
        * if (j : ℕ) ≤ t then Real.exp (s b h t j - r b h t) else 0)
    = arr4 2 6 2048 2048 fun b h t k => dsoft (s b h t) (g b h t) t k := by
  funext i; idx_vars i
  have e := dsoft_quotient (s i0 i1 i2) (g i0 i1 i2) (r i0 i1 i2) i2 i3
  simp only [Finset.sum_range] at e
  pointwise [dlogits, along, col, denom, rowSum, mask_ix, Fin.sum_univ_one, e]
  split
  · rfl
  · rw [dsoft_after _ _ (by assumption)]
theorem gradQ_up : gradQ (arr4 2 6 2048 2048 g) (arr4 2 2048 6 64 k) = arr2 4096 384 fun t l =>
    ∑ s : Fin 2048, g (t / 2048) (l / 64) (t % 2048) s * (1 / 8) * k (t / 2048) s (l / 64) (l % 64) := by
  funext i; idx_vars i; pointwise [gradQ, rows, eighths]
theorem gradK_up : gradK (arr4 2 6 2048 2048 g) (arr4 2 2048 6 64 q) = arr2 4096 384 fun s l =>
    ∑ t : Fin 2048, g (s / 2048) (l / 64) t (s % 2048) * (1 / 8) * q (s / 2048) t (l / 64) (l % 64) := by
  funext i; idx_vars i; pointwise [gradK, rows, eighths]
theorem gradV_up : gradV (arr4 2 6 64 2048 ct) (arr4 2 6 2048 2048 s) = arr2 4096 384 fun k l =>
    ∑ t : Fin 2048, ct (k / 2048) (l / 64) (l % 64) t * s (k / 2048) (l / 64) t (k % 2048) := by
  funext i; idx_vars i; pointwise [gradV, rows]
theorem colSum_up : colSum (arr4 2 6 2048 2048 g) = arr3 2 6 2048 fun b h s => ∑ t : Fin 2048, -g b h t s := by
  funext i; idx_vars i; pointwise [colSum, Fin.sum_univ_one]
theorem rowSum'_up : rowSum' (arr4 2 6 2048 2048 g) = arr3 2 6 2048 fun b h t => ∑ s : Fin 2048, g b h t s := by
  funext i; idx_vars i; pointwise [rowSum', rowSum, Fin.sum_univ_one]
theorem gradC_up (u w : ℕ → ℕ → ℕ → ℝ) (hu : colSum (arr4 2 6 2048 2048 g) = arr3 2 6 2048 u)
    (hw : rowSum' (arr4 2 6 2048 2048 g) = arr3 2 6 2048 w) : gradC (arr4 2 6 2048 2048 g)
    = arr4 2 16 8 128 fun b j i l => if i < 6 then -(u b i (j * 128 + l) + w b i (j * 128 + l)) else 0 := by
  funext i; idx_vars i; pointwise [gradC, hu, hw]
  have h : (i2 : ℕ) < 6 ∧ (i1 : ℕ) * 128 + i3 < 2048 ↔ (i2 : ℕ) < 6 := by omega
  simp only [h, dite_eq_ite]
  split
  · rfl
  · exact zero_word

end

/-! ### The cumulated gates are real -/

def IsReal (x : EReal) : Prop := ∃ r : ℝ, x = ((r : ℝ) : EReal)

theorem arr3_of_real {a b c : ℕ} {x : (⟨3, ![a, b, c]⟩ : Shape).Idx → EReal} (h : ∀ i, IsReal (x i)) : ∃ f, x = arr3 a b c f := by
  choose r hr using h
  refine ⟨fun i j k => if h : i < a ∧ j < b ∧ k < c then r (ix3 ⟨i, h.1⟩ ⟨j, h.2.1⟩ ⟨k, h.2.2⟩) else 0, funext fun i => ?_⟩
  rw [hr i]
  refine congrArg Real.toEReal ?_
  have hi : (i 0 : ℕ) < a ∧ (i 1 : ℕ) < b ∧ (i 2 : ℕ) < c := ⟨(i 0).isLt, (i 1).isLt, (i 2).isLt⟩
  show r i = if h : (i 0 : ℕ) < a ∧ (i 1 : ℕ) < b ∧ (i 2 : ℕ) < c then r (ix3 ⟨i 0, h.1⟩ ⟨i 1, h.2.1⟩ ⟨i 2, h.2.2⟩) else 0
  rw [dif_pos hi]
  exact congrArg r (eq_ix3 i)

theorem foldl_real {α : Type} (l : List α) (g : α → EReal) (hg : ∀ n, IsReal (g n)) (v : EReal) (hv : IsReal v) :
    IsReal (l.foldl (fun r n => r + g n) v) := by
  induction l generalizing v with
  | nil => exact hv
  | cons n l ih =>
    refine ih _ ?_
    obtain ⟨x, rfl⟩ := hv
    obtain ⟨y, hy⟩ := hg n
    exact ⟨x + y, (congrArg (((x : ℝ) : EReal) + ·) hy).trans (lift_add x y)⟩

theorem logSigmoid_real (x : ℕ → ℕ → ℕ → ℝ) (i : S2x2048x6.Idx) : IsReal (logSigmoid (arr3 2 2048 6 x) i) := by
  idx_vars i
  pointwise [logSigmoid]
  generalize -x i0 i1 i2 = y
  have ha : -(FloatOps.absf (F := Ideal) (φ := .f32) ((y : ℝ) : EReal)) = ((-max y (-y) : ℝ) : EReal) := by
    show -(max ((y : ℝ) : EReal) (-((y : ℝ) : EReal))) = _
    rw [lift_neg, ← EReal.coe_strictMono.monotone.map_max, lift_neg]
  have hl : Ideal.log1p (Ideal.exp ((-max y (-y) : ℝ) : EReal)) = ((Real.log (1 + Real.exp (-max y (-y))) : ℝ) : EReal) := by
    rw [lift_exp]
    show Ideal.log ((1 : ℝ) + ((Real.exp (-max y (-y)) : ℝ) : EReal)) = _
    rw [lift_add]
    exact (Ideal.log_coe _).trans (if_neg (not_le.2 (by positivity)))
  rw [if_neg (not_not.2 rfl), ha, hl, ← EReal.coe_zero, ← EReal.coe_strictMono.monotone.map_max, lift_add, lift_neg]
  exact ⟨_, rfl⟩

theorem cumulated_real {x : FVec Ideal S2x2048x6 .f32} (h : ∀ i, IsReal (x i)) (i : S2x2048x6.Idx) : IsReal (cumulated x i) := by
  have z : IsReal (Ideal.ofBits .f32 0x00000000#32) := ⟨0, by simp [Ideal.ofBits, Ideal.ieee]⟩
  unfold cumulated Host.reduceWindowAdd
  rw [Ideal.hostReduceWindowAdd_def]
  unfold Ideal.hostReduceWindowAdd Host.reduceWindow
  refine foldl_real _ _ (fun n => ?_) _ z
  split
  · exact h _
  · exact z

theorem gates_real (x : ℕ → ℕ → ℕ → ℝ) : ∃ c, gates (arr3 2 2048 6 x) = arr3 2 6 2048 c := by
  obtain ⟨f, hf⟩ := arr3_of_real (cumulated_real (logSigmoid_real x))
  refine ⟨fun b h t => f b t h, ?_⟩
  funext i; idx_vars i; pointwise [gates, hf]

/-! ### The results -/

section
variable {q k v ct : ℕ → ℕ → ℕ → ℝ} {c : ℕ → ℕ → ℕ → ℝ} {f : FVec Ideal S2x2048x6 .f32} (hc : gates f = arr3 2 6 2048 c)
include hc

theorem logit_up : logit (arr3 2 2048 384 q) (arr3 2 2048 384 k) f = low4 (score q k c) := by
  rw [logit, heads_up, heads_up, hc, logits_up, masked_up]
  refine congrArg low4 (funext fun b => funext fun h => funext fun t => funext fun s => ?_)
  rw [score, Finset.sum_range]
theorem expo_up : expo (arr3 2 2048 384 q) (arr3 2 2048 384 k) f = arr4 2 6 2048 2048 fun b h t s =>
    if s ≤ t then Real.exp (score q k c b h t s - maskedTop (score q k c b h t) t) else 0 := by
  rw [expo, logit_up hc, rowMax_up, expShift_up]
theorem probs_eq : probs (expo (arr3 2 2048 384 q) (arr3 2 2048 384 k) f) = arr4 2 6 2048 2048 (prob q k c) := by
  rw [expo_up hc]
  exact probs_up (fun b h t => maskedTop (score q k c b h t) t) (score q k c)
theorem cot_up : cot (arr3 2 2048 384 q) (arr3 2 2048 384 k) (arr3 2 2048 384 v) f (arr3 2 2048 384 ct)
    = arr4 2 6 2048 2048 (dscore q k v ct c) := by
  have hg : dprobs (cots (arr3 2 2048 384 ct)) (heads (arr3 2 2048 384 v)) = arr4 2 6 2048 2048 (dprob v ct) := by
    rw [cots_up, heads_up, dprobs_up]
    refine congrArg (arr4 2 6 2048 2048) (funext fun b => funext fun h => funext fun t => funext fun s => ?_)
    rw [dprob, Finset.sum_range]
  rw [cot, hg, expo_up hc]
  exact (congrArg (dlogits _ _) (inner_up (fun b h t => maskedTop (score q k c b h t) t) (score q k c) (dprob v ct))).trans
    (dlogits_up (fun b h t => maskedTop (score q k c b h t) t) (score q k c) (dprob v ct))

theorem gradQ_eq : gradQ (cot (arr3 2 2048 384 q) (arr3 2 2048 384 k) (arr3 2 2048 384 v) f (arr3 2 2048 384 ct))
    (heads (arr3 2 2048 384 k)) = arr2 4096 384 fun t l => dq q k v ct c (t / 2048) (t % 2048) l := by
  rw [cot_up hc, heads_up, gradQ_up]
  refine congrArg (arr2 4096 384) (funext fun t => funext fun l => ?_)
  rw [dq, Finset.sum_mul, Finset.sum_range]
  refine Finset.sum_congr rfl fun s _ => ?_
  rw [Nat.div_add_mod']; ring
theorem gradK_eq : gradK (cot (arr3 2 2048 384 q) (arr3 2 2048 384 k) (arr3 2 2048 384 v) f (arr3 2 2048 384 ct))
    (heads (arr3 2 2048 384 q)) = arr2 4096 384 fun s l => dk q k v ct c (s / 2048) (s % 2048) l := by
  rw [cot_up hc, heads_up, gradK_up]
  refine congrArg (arr2 4096 384) (funext fun s => funext fun l => ?_)
  rw [dk, Finset.sum_range]
  refine Finset.sum_congr rfl fun t _ => ?_
  rw [Nat.div_add_mod']; ring
theorem gradV_eq : gradV (cots (arr3 2 2048 384 ct)) (probs (expo (arr3 2 2048 384 q) (arr3 2 2048 384 k) f))
    = arr2 4096 384 fun s l => dv q k ct c (s / 2048) (s % 2048) l := by
  rw [probs_eq hc, cots_up, gradV_up]
  refine congrArg (arr2 4096 384) (funext fun s => funext fun l => ?_)
  rw [dv, Finset.sum_range]
  refine Finset.sum_congr rfl fun t _ => ?_
  rw [Nat.div_add_mod', mul_comm]
theorem gradC_eq : gradC (cot (arr3 2 2048 384 q) (arr3 2 2048 384 k) (arr3 2 2048 384 v) f (arr3 2 2048 384 ct))
    = arr4 2 16 8 128 (dc q k v ct c) := by
  rw [cot_up hc, gradC_up _ _ _ (colSum_up _) (rowSum'_up _)]
  refine congrArg (arr4 2 16 8 128) (funext fun b => funext fun j => funext fun i => funext fun l => ?_)
  have e : ∑ s : Fin 2048, dscore q k v ct c b i (j * 128 + l) s = 0 := by
    rw [← Finset.sum_range fun s => dscore q k v ct c b i (j * 128 + l) s]
    exact sum_dsoft _ _ _
  rw [dc, Finset.sum_neg_distrib, e, add_zero, neg_neg, Finset.sum_range, Nat.mul_comm j 128]

end

end Cert.FoxRef

end
-- ==== Proof.FoxHost.lean ====
/-
  The host lines of the program FoxBwd, which prepare the call's arguments: the row log-sums, spread over each head's 64
  lanes, and the gate's bias lanes. Over the reals the two remainders of splitting a cumulated gate are zero.
-/
module

public import proofs.«01_k».proof.Proof.FoxRefReal
public import proofs.«01_k».proof.Proof.Gen.FoxBwdIdeal.Value
public import Idealize.ShloMosaic.Lib.StableHlo.RunRead

@[expose] public section

set_option maxRecDepth 16384
set_option maxHeartbeats 2000000

noncomputable section

namespace Cert.FoxHost

open Cert.FoxBwdIdeal Cert.FoxBwdIdeal.Gen Idealize.ShloMosaic Idealize.ShloMosaic.TcCoe Cert.Reals Cert.Arrays Cert.FoxModel
open Cert.FoxBwdIdeal.Facts

/-! ### The stages -/

/-- Each row's log-sum, from the masked logits and their maxima, and its place in the call's third operand. -/
def logSum (s : FVec Ideal S2x6x2048x2048 .f32) (r : FVec Ideal S2x6x2048 .f32) : FVec Ideal S2x6x2048x1 .f32 :=
  addf (FoxRef.col r) (Host.log (FoxRef.denom (FoxRef.expShift s r)))
def spread (z : FVec Ideal S2x6x2048x1 .f32) : FVec Ideal S3x4096x128 .f32 :=
  transpose S3x4096x128 [1, 0, 2] (shapeCast S4096x3x128 (broadcastInDim S2x2048x6x64 ![0, 1, 2, 3]
    bcast_S2x2048x6x1_S2x2048x6x64_0_1_2_3 (broadcastInDim S2x2048x6x1 ![0, 1, 2] bcast_S2x2048x6_S2x2048x6x1_0_1_2
    (transpose S2x2048x6 [0, 2, 1] (shapeCast S2x6x2048 z shapeCasts_S2x6x2048x1_S2x6x2048)
      transposes_S2x6x2048_S2x2048x6_0_2_1))) shapeCasts_S2x2048x6x64_S4096x3x128) transposes_S4096x3x128_S3x4096x128_1_0_2

/-- A number repeated, and a column of numbers repeated over the lanes. -/
def word (n : BitVec 32) : IVec S2x6x2048x128 32 := broadcastInDim S2x6x2048x128 ![] bcast_S_S2x6x2048x128 (constantI S_ 32 n)
def lanes (z : FVec Ideal S2x6x2048x1 .bf16) : FVec Ideal S2x6x2048x128 .bf16 :=
  broadcastInDim S2x6x2048x128 ![0, 1, 2, 3] bcast_S2x6x2048x1_S2x6x2048x128_0_1_2_3 z
def const (n : BitVec 16) : FVec Ideal S2x6x2048x128 .bf16 :=
  broadcastInDim S2x6x2048x128 ![] bcast_S_S2x6x2048x128 (constant S_ .bf16 n)
/-- Two, as a remainder guards it, and the head modulo two. -/
def two : IVec S_ 32 := select (cmpi .eq (id (constantI S_ 32 2#32)) (constantI S_ 32 0#32)) (constantI S_ 32 1#32) (id (constantI S_ 32 2#32))
def twos : IVec S2x6x2048x128 32 := broadcastInDim S2x6x2048x128 ![] bcast_S_S2x6x2048x128 two
def rem : IVec S2x6x2048x128 32 := Host.remsi (iotaInDim S2x6x2048x128 32 1) twos
def parity : IVec S2x6x2048x128 32 :=
  select (andi (cmpi .ne (cmpi .slt rem (word 0#32)) (broadcastInDim S2x6x2048x128 ![] bcast_S_S2x6x2048x128
    (cmpi .slt two (constantI S_ 32 0#32)))) (cmpi .ne rem (word 0#32))) (addi rem twos) rem
/-- The lane, counted from the first one that is not the head's own. -/
def lane : IVec S2x6x2048x128 32 :=
  subi (iotaInDim S2x6x2048x128 32 3) (id (select (cmpi .eq parity (word 0#32)) (word 64#32) (word 0#32)))
def isLane (n : BitVec 32) : IVec S2x6x2048x128 1 := cmpi .eq lane (word n)
def between (n n' : BitVec 32) : IVec S2x6x2048x128 1 := andi (cmpi .sge lane (word n)) (cmpi .slt lane (word n'))

/-- A cumulated gate as a sum of three, and its bias lanes. -/
def first (z : FVec Ideal S2x6x2048x1 .f32) : FVec Ideal S2x6x2048x1 .bf16 := truncf .bf16 z bitsLt_bf16_f32
def rest (z : FVec Ideal S2x6x2048x1 .f32) : FVec Ideal S2x6x2048x1 .f32 := subf z (extf .f32 (first z) bitsLt_bf16_f32)
def biasQ (hi mid lo : FVec Ideal S2x6x2048x1 .bf16) : FVec Ideal S2x6x2048x128 .bf16 :=
  select (between 3#32 6#32) (const 0x3F80#16) (select (isLane 0#32) (lanes hi)
    (select (isLane 1#32) (lanes mid) (select (isLane 2#32) (lanes lo) (const 0x0000#16))))
def biasK (hi mid lo : FVec Ideal S2x6x2048x1 .bf16) : FVec Ideal S2x6x2048x128 .bf16 :=
  select (between 0#32 3#32) (const 0x3F80#16) (select (isLane 3#32) (lanes (Host.negf hi))
    (select (isLane 4#32) (lanes (Host.negf mid)) (select (isLane 5#32) (lanes (Host.negf lo)) (const 0x0000#16))))

/-- The queries, keys and values side by side, between columns the call does not read, and the cotangent. -/
def beside (o : FVec Ideal S4096x768 .f32) (q k v : FVec Ideal S4096x384 .f32) (o' : FVec Ideal S4096x256 .f32) :
    FVec Ideal S4096x2176 .bf16 :=
  truncf .bf16 (concatenate S4096x2176 1 [⟨S4096x768, o⟩, ⟨S4096x384, q⟩, ⟨S4096x384, k⟩, ⟨S4096x384, v⟩, ⟨S4096x256, o'⟩]
    concatenates_S4096x768_S4096x384_S4096x384_S4096x384_S4096x256_S4096x2176_d1) bitsLt_bf16_f32
def project (q k v : FVec Ideal S2x2048x384 .f32) : FVec Ideal S4096x2176 .bf16 :=
  beside (broadcastInDim S4096x768 ![] bcast_S_S4096x768 (constant (F := Ideal) S_ .f32 0x00000000#32))
    (shapeCast S4096x384 q shapeCasts_S2x2048x384_S4096x384) (shapeCast S4096x384 k shapeCasts_S2x2048x384_S4096x384)
    (shapeCast S4096x384 v shapeCasts_S2x2048x384_S4096x384)
    (broadcastInDim S4096x256 ![] bcast_S_S4096x256 (constant (F := Ideal) S_ .f32 0x00000000#32))
def flat (ct : FVec Ideal S2x2048x384 .f32) : FVec Ideal S4096x384 .bf16 :=
  truncf .bf16 (shapeCast S4096x384 ct shapeCasts_S2x2048x384_S4096x384) bitsLt_bf16_f32

/-! ### The operands -/

section
variable (m : (ℓ : Loc nD τ sig) → Buf (Elt Ideal) ℓ) (c : Dev nD)

/-- The masked logits and the cumulated gates of the arguments. -/
def logit : FVec Ideal S2x6x2048x2048 .f32 :=
  FoxRef.logit (m ((c.tc : Thread nD τ).loc main_arg0)) (m ((c.tc : Thread nD τ).loc main_arg1)) (m ((c.tc : Thread nD τ).loc main_arg3))
def gate : FVec Ideal S2x6x2048x1 .f32 := FoxRef.col (FoxRef.gates (m ((c.tc : Thread nD τ).loc main_arg3)))

open StableHlo in
theorem operand_lse : V m c main_v38 = spread (logSum (logit m c) (FoxRef.rowMax (logit m c))) := by
  show StableHlo.after _ _ _ = _
  simp only [List.flatten_cons, List.flatten_nil, List.append_nil]
  after_reads_simp
  simp only [StableHlo.TRef.toBuf, StableHlo.TRef.ofBuf, cast_eq]
  rfl
open StableHlo in
theorem operand_bq : V m c main_v71 = biasQ (first (gate m c)) (first (rest (gate m c))) (first (rest (rest (gate m c)))) := by
  show StableHlo.after _ _ _ = _
  simp only [List.flatten_cons, List.flatten_nil, List.append_nil]
  after_reads_simp
  simp only [StableHlo.TRef.toBuf, StableHlo.TRef.ofBuf, cast_eq]
  rfl
open StableHlo in
theorem operand_bk : V m c main_v89 = biasK (first (gate m c)) (first (rest (gate m c))) (first (rest (rest (gate m c)))) := by
  show StableHlo.after _ _ _ = _
  simp only [List.flatten_cons, List.flatten_nil, List.append_nil]
  after_reads_simp
  simp only [StableHlo.TRef.toBuf, StableHlo.TRef.ofBuf, cast_eq]
  rfl
open StableHlo in
theorem operand_proj : V m c main_v90 = project (m ((c.tc : Thread nD τ).loc main_arg0)) (m ((c.tc : Thread nD τ).loc main_arg1))
    (m ((c.tc : Thread nD τ).loc main_arg2)) := by
  show StableHlo.after _ _ _ = _
  simp only [List.flatten_cons, List.flatten_nil, List.append_nil]
  after_reads_simp
  show beside (upto (Val := Elt Ideal) _ _ 7 (Proc.devRef .tc main_v0)) (upto (Val := Elt Ideal) _ _ 7 (Proc.devRef .tc main_v1)) (upto (Val := Elt Ideal) _ _ 7 (Proc.devRef .tc main_v2))
    (upto (Val := Elt Ideal) _ _ 7 (Proc.devRef .tc main_v3)) (upto (Val := Elt Ideal) _ _ 7 (Proc.devRef .tc main_v4)) = _
  after_reads_simp
  rfl
open StableHlo in
theorem operand_ct : V m c main_v92 = flat (m ((c.tc : Thread nD τ).loc main_arg4)) := by
  show StableHlo.after _ _ _ = _
  simp only [List.flatten_cons, List.flatten_nil, List.append_nil]
  after_reads_simp
  rfl

end

end Cert.FoxHost

end
-- ==== Proof.FoxHostReal.lean ====
/-
  The host lines of the program FoxBwd over real arguments: each operand of the call is an array of reals.
-/
module

public import proofs.«01_k».proof.Proof.FoxHost

@[expose] public section

set_option maxRecDepth 16384

noncomputable section

namespace Cert.FoxHost

open Cert.FoxBwdIdeal Cert.FoxBwdIdeal.Gen Idealize.ShloMosaic Idealize.ShloMosaic.TcCoe Cert.Reals Cert.Arrays Cert.FoxModel
open Cert.FoxBwdIdeal.Facts

/-- The first of the six lanes that carry a head's bias: the other head's half. -/
def own (h : ℕ) : ℕ := if h % 2 = 0 then 64 else 0
/-- The bias lanes of a query and of a key. -/
def biasRow (c : ℕ → ℕ → ℕ → ℝ) (b h t l : ℕ) : ℝ :=
  if own h + 3 ≤ l ∧ l < own h + 6 then 1 else if l = own h then c b h t else 0
def biasCol (c : ℕ → ℕ → ℕ → ℝ) (b h t l : ℕ) : ℝ :=
  if own h ≤ l ∧ l < own h + 3 then 1 else if l = own h + 3 then - c b h t else 0
/-- A row's log-sum. -/
def total (q k : ℕ → ℕ → ℕ → ℝ) (c : ℕ → ℕ → ℕ → ℝ) (b h t : ℕ) : ℝ :=
  maskedTop (score q k c b h t) t
    + Real.log (∑ s ∈ Finset.range 2048, if s ≤ t then Real.exp (score q k c b h t s - maskedTop (score q k c b h t) t) else 0)

/-! ### The lanes -/

/-- A lane's number, as words compute it. -/
def laneWord (h : Fin 6) (l : Fin 128) : BitVec 32 := lane (ix4 (0 : Fin 2) h (0 : Fin 2048) l)
theorem lane_ix (b : Fin 2) (h : Fin 6) (t : Fin 2048) (l : Fin 128) : lane (ix4 b h t l) = laneWord h l := rfl
theorem isLane_word : ∀ (n h : Fin 6) (l : Fin 128),
    IntOp.cmpi .eq (laneWord h l) (BitVec.ofNat 32 n) = BitVec.ofBool (decide ((l : ℕ) = own h + n)) := by
  decide +kernel
theorem between_word : ∀ (n : Fin 2) (h : Fin 6) (l : Fin 128),
    IntOp.andi (IntOp.cmpi .sge (laneWord h l) (BitVec.ofNat 32 (3 * n))) (IntOp.cmpi .slt (laneWord h l) (BitVec.ofNat 32 (3 * n + 3)))
      = BitVec.ofBool (decide (own h + 3 * n ≤ l ∧ (l : ℕ) < own h + 3 * n + 3)) := by
  decide +kernel
section
variable (b : Fin 2) (h : Fin 6) (t : Fin 2048) (l : Fin 128)

theorem isLane_ix (n : Fin 6) : isLane (BitVec.ofNat 32 n) (ix4 b h t l) = BitVec.ofBool (decide ((l : ℕ) = own h + n)) :=
  isLane_word n h l
theorem lane0_ix : isLane 0#32 (ix4 b h t l) = BitVec.ofBool (decide ((l : ℕ) = own h)) := isLane_ix b h t l 0
theorem lane3_ix : isLane 3#32 (ix4 b h t l) = BitVec.ofBool (decide ((l : ℕ) = own h + 3)) := isLane_ix b h t l 3
theorem queries_ix : between 3#32 6#32 (ix4 b h t l) = BitVec.ofBool (decide (own h + 3 ≤ l ∧ (l : ℕ) < own h + 6)) :=
  between_word 1 h l
theorem keys_ix : between 0#32 3#32 (ix4 b h t l) = BitVec.ofBool (decide (own h ≤ l ∧ (l : ℕ) < own h + 3)) :=
  between_word 0 h l

end

/-- A choice between equals. -/
theorem select_same {α : Type} (p : BitVec 1) (a : α) : Scalar.select p a a = a := by
  unfold Scalar.select; split <;> rfl

/-! ### The stages -/

section
variable (q k v ct : ℕ → ℕ → ℕ → ℝ) (c : ℕ → ℕ → ℕ → ℝ) (x : ℕ → ℕ → ℕ → ℕ → ℝ)

theorem first_up : first (arr4 2 6 2048 1 x) = arr4 2 6 2048 1 x := by
  funext i; idx_vars i; pointwise [first]
theorem rest_up : rest (arr4 2 6 2048 1 x) = arr4 2 6 2048 1 fun _ _ _ _ => 0 := by
  funext i; idx_vars i; pointwise [rest, first_up]; simp
theorem biasQ_up : biasQ (arr4 2 6 2048 1 fun b h t _ => c b h t) (arr4 2 6 2048 1 fun _ _ _ _ => 0) (arr4 2 6 2048 1 fun _ _ _ _ => 0)
    = arr4 2 6 2048 128 (biasRow c) := by
  funext i; idx_vars i
  pointwise [biasQ, lanes, const, queries_ix, lane0_ix, EReal.coe_zero, select_same, biasRow]
  split
  · rfl
  · split
    · rfl
    · rfl
theorem biasK_up : biasK (arr4 2 6 2048 1 fun b h t _ => c b h t) (arr4 2 6 2048 1 fun _ _ _ _ => 0) (arr4 2 6 2048 1 fun _ _ _ _ => 0)
    = arr4 2 6 2048 128 (biasCol c) := by
  funext i; idx_vars i
  pointwise [biasK, lanes, const, keys_ix, lane3_ix, EReal.coe_zero, neg_zero, select_same, biasCol]
  split
  · rfl
  · split
    · rfl
    · rfl
theorem flat_up : flat (arr3 2 2048 384 ct) = arr2 4096 384 fun t l => ct (t / 2048) (t % 2048) l := by
  funext i; idx_vars i; pointwise [flat]
theorem project_q (t : Fin 4096) (l : Fin 384) : project (arr3 2 2048 384 q) (arr3 2 2048 384 k) (arr3 2 2048 384 v)
    (ix2 t ⟨768 + l, by omega⟩) = ((q ((t : ℕ) / 2048) ((t : ℕ) % 2048) l : ℝ) : EReal) := by
  pointwise [project, beside]
theorem project_k (t : Fin 4096) (l : Fin 384) : project (arr3 2 2048 384 q) (arr3 2 2048 384 k) (arr3 2 2048 384 v)
    (ix2 t ⟨1152 + l, by omega⟩) = ((k ((t : ℕ) / 2048) ((t : ℕ) % 2048) l : ℝ) : EReal) := by
  pointwise [project, beside]
  rw [dif_neg (by omega), dif_neg (by omega), dif_pos (by omega), show 1152 + (l : ℕ) - 768 - 384 = l by omega]
theorem project_v (t : Fin 4096) (l : Fin 384) : project (arr3 2 2048 384 q) (arr3 2 2048 384 k) (arr3 2 2048 384 v)
    (ix2 t ⟨1536 + l, by omega⟩) = ((v ((t : ℕ) / 2048) ((t : ℕ) % 2048) l : ℝ) : EReal) := by
  pointwise [project, beside]
  rw [dif_neg (by omega), dif_neg (by omega), dif_neg (by omega), dif_pos (by omega), show 1536 + (l : ℕ) - 768 - 384 - 384 = l by omega]
theorem logSum_up (s : ℕ → ℕ → ℕ → ℕ → ℝ) : logSum (FoxRef.low4 s) (FoxRef.rowMax (FoxRef.low4 s)) = arr4 2 6 2048 1 fun b h t _ =>
    maskedTop (s b h t) t + Real.log (∑ k : Fin 2048, if (k : ℕ) ≤ t then Real.exp (s b h t k - maskedTop (s b h t) t) else 0) := by
  rw [logSum, FoxRef.rowMax_up, FoxRef.expShift_up]
  funext i; idx_vars i; pointwise [FoxRef.col, FoxRef.denom, FoxRef.rowSum]
theorem spread_up : spread (arr4 2 6 2048 1 x) = arr3 3 4096 128 fun p t l =>
    x (t / 2048) (p * 2 + l / 64) (t % 2048) 0 := by
  funext i; idx_vars i; pointwise [spread]

end

/-! ### The operands -/

section
variable {m : (ℓ : Loc nD τ sig) → Buf (Elt Ideal) ℓ} (c : Dev nD) {q k v ct : ℕ → ℕ → ℕ → ℝ} {g : ℕ → ℕ → ℕ → ℝ}

section
variable (hg : FoxRef.gates (m ((c.tc : Thread nD τ).loc main_arg3)) = arr3 2 6 2048 g)
include hg

theorem gate_real : gate m c = arr4 2 6 2048 1 fun b h t _ => g b h t := by
  rw [gate, hg]; funext i; idx_vars i; pointwise [FoxRef.col]
theorem bq_real : V m c main_v71 = arr4 2 6 2048 128 (biasRow g) := by
  rw [operand_bq, gate_real c hg, first_up, rest_up, first_up, rest_up, first_up, biasQ_up]
theorem bk_real : V m c main_v89 = arr4 2 6 2048 128 (biasCol g) := by
  rw [operand_bk, gate_real c hg, first_up, rest_up, first_up, rest_up, first_up, biasK_up]
theorem lse_real (hq : m ((c.tc : Thread nD τ).loc main_arg0) = arr3 2 2048 384 q)
    (hk : m ((c.tc : Thread nD τ).loc main_arg1) = arr3 2 2048 384 k) :
    V m c main_v38 = arr3 3 4096 128 fun p t l => total q k g (t / 2048) (p * 2 + l / 64) (t % 2048) := by
  rw [operand_lse, logit, hq, hk, FoxRef.logit_up hg, logSum_up, spread_up]
  simp only [total, Finset.sum_range]

end

end

end Cert.FoxHost

end
-- ==== Proof.FoxOps.lean ====
/-
  The products, the masks and the windows of the forgetting attention's backward body, on arrays by functions of natural
  coordinates.
-/
module

public import proofs.«01_k».proof.Proof.Arrays
public import proofs.«01_k».proof.Proof.Gen.FoxBwdIdeal
public import Idealize.ShloMosaic.Lib.WordCmp

@[expose] public section

set_option maxRecDepth 16384

noncomputable section

namespace Cert.FoxOps

open Cert.FoxBwdIdeal Idealize.ShloMosaic Idealize.ShloMosaic.TcCoe Cert.Reals Cert.Arrays Finset
open Cert.FoxBwdIdeal.Facts

/-- The two heads' lanes, one lane, one row. -/
def First : ℕ → ℕ → Bool := fun _ l => decide (l < 64)
def Second : ℕ → ℕ → Bool := fun _ l => decide (64 ≤ l)
def Lane (k : ℕ) : ℕ → ℕ → Bool := fun _ l => decide (l = k)
def Sublane (k : ℕ) : ℕ → ℕ → Bool := fun i _ => decide (i = k)

section
variable (f g : Mat) (φ ψ : FTy)

theorem nt_512 : matmul (F := Ideal) (φ₁ := φ) (φ₂ := ψ) dot_S512x128_S512x128_S512x512_1_1_0_0_n_n none
    (arr2 512 128 f) (arr2 512 128 g) (arr2 512 512 (Const 0)) = arr2 512 512 (NT 128 f g) := by
  refine ext2 fun i j => ?_
  pointwise [NT, Const, zero_add, Fin.sum_univ_eq_sum_range fun k => f i k * g j k]
theorem nn_512 : matmul (F := Ideal) (φ₁ := φ) (φ₂ := ψ) dot_S512x512_S512x128_S512x128_1_0_0_1_n_n none
    (arr2 512 512 f) (arr2 512 128 g) (arr2 512 128 (Const 0)) = arr2 512 128 (NN 512 f g) := by
  refine ext2 fun i j => ?_
  pointwise [NN, Const, zero_add, Fin.sum_univ_eq_sum_range fun k => f i k * g k j]
theorem tn_512 : matmul (F := Ideal) (φ₁ := φ) (φ₂ := ψ) dot_S512x512_S512x128_S512x128_0_0_1_1_n_n none
    (arr2 512 512 f) (arr2 512 128 g) (arr2 512 128 (Const 0)) = arr2 512 128 (TN 512 f g) := by
  refine ext2 fun i j => ?_
  pointwise [TN, Const, zero_add, Fin.sum_univ_eq_sum_range fun k => f k i * g k j]
theorem nt_1024 : matmul (F := Ideal) (φ₁ := φ) (φ₂ := ψ) dot_S512x128_S1024x128_S512x1024_1_1_0_0_n_n none
    (arr2 512 128 f) (arr2 1024 128 g) (arr2 512 1024 (Const 0)) = arr2 512 1024 (NT 128 f g) := by
  refine ext2 fun i j => ?_
  pointwise [NT, Const, zero_add, Fin.sum_univ_eq_sum_range fun k => f i k * g j k]
theorem nn_1024 : matmul (F := Ideal) (φ₁ := φ) (φ₂ := ψ) dot_S512x1024_S1024x128_S512x128_1_0_0_1_n_n none
    (arr2 512 1024 f) (arr2 1024 128 g) (arr2 512 128 (Const 0)) = arr2 512 128 (NN 1024 f g) := by
  refine ext2 fun i j => ?_
  pointwise [NN, Const, zero_add, Fin.sum_univ_eq_sum_range fun k => f i k * g k j]
theorem tn_1024 : matmul (F := Ideal) (φ₁ := φ) (φ₂ := ψ) dot_S512x1024_S512x128_S1024x128_0_0_1_1_n_n none
    (arr2 512 1024 f) (arr2 512 128 g) (arr2 1024 128 (Const 0)) = arr2 1024 128 (TN 512 f g) := by
  refine ext2 fun i j => ?_
  pointwise [TN, Const, zero_add, Fin.sum_univ_eq_sum_range fun k => f k i * g k j]
theorem nt_1536 : matmul (F := Ideal) (φ₁ := φ) (φ₂ := ψ) dot_S512x128_S1536x128_S512x1536_1_1_0_0_n_n none
    (arr2 512 128 f) (arr2 1536 128 g) (arr2 512 1536 (Const 0)) = arr2 512 1536 (NT 128 f g) := by
  refine ext2 fun i j => ?_
  pointwise [NT, Const, zero_add, Fin.sum_univ_eq_sum_range fun k => f i k * g j k]
theorem nn_1536 : matmul (F := Ideal) (φ₁ := φ) (φ₂ := ψ) dot_S512x1536_S1536x128_S512x128_1_0_0_1_n_n none
    (arr2 512 1536 f) (arr2 1536 128 g) (arr2 512 128 (Const 0)) = arr2 512 128 (NN 1536 f g) := by
  refine ext2 fun i j => ?_
  pointwise [NN, Const, zero_add, Fin.sum_univ_eq_sum_range fun k => f i k * g k j]
theorem tn_1536 : matmul (F := Ideal) (φ₁ := φ) (φ₂ := ψ) dot_S512x1536_S512x128_S1536x128_0_0_1_1_n_n none
    (arr2 512 1536 f) (arr2 512 128 g) (arr2 1536 128 (Const 0)) = arr2 1536 128 (TN 512 f g) := by
  refine ext2 fun i j => ?_
  pointwise [TN, Const, zero_add, Fin.sum_univ_eq_sum_range fun k => f k i * g k j]
theorem first_lanes (h) : cmpi .slt (iota .tc S512x128 32 (no_index [1]) h) (broadcast S512x128 64#32)
    = bits 512 128 First := by
  refine ext2 fun i l => ?_; pointwise [First, Second, Lane]; revert l; decide +kernel
theorem second_lanes (h) : cmpi .sge (iota .tc S512x128 32 (no_index [1]) h) (broadcast S512x128 64#32)
    = bits 512 128 Second := by
  refine ext2 fun i l => ?_; pointwise [First, Second, Lane]; revert l; decide +kernel
theorem lane_0 (h) : cmpi .eq (iota .tc S512x128 32 (no_index [1]) h) (broadcast S512x128 0#32)
    = bits 512 128 (Lane 0) := by
  refine ext2 fun i l => ?_; pointwise [First, Second, Lane]; revert l; decide +kernel
theorem lane_64 (h) : cmpi .eq (iota .tc S512x128 32 (no_index [1]) h) (broadcast S512x128 64#32)
    = bits 512 128 (Lane 64) := by
  refine ext2 fun i l => ?_; pointwise [First, Second, Lane]; revert l; decide +kernel
theorem first_lanes_all (h) : cmpi .slt (iota .tc S2048x128 32 (no_index [1]) h) (broadcast S2048x128 64#32)
    = bits 2048 128 First := by
  refine ext2 fun i l => ?_; pointwise [First, Second, Lane]; revert l; decide +kernel
theorem second_lanes_all (h) : cmpi .sge (iota .tc S2048x128 32 (no_index [1]) h) (broadcast S2048x128 64#32)
    = bits 2048 128 Second := by
  refine ext2 fun i l => ?_; pointwise [First, Second, Lane]; revert l; decide +kernel
theorem triangle (h h') : cmpi .sle (iota .tc S512x512 32 (no_index [1]) h) (iota .tc S512x512 32 (no_index [0]) h')
    = bits 512 512 Lower := by
  refine ext2 fun i j => ?_; pointwise
  exact WordCmp.cmpi_sle_ofNat (by omega) (by omega)
/-- The mask of one sublane. -/
theorem sublane (h) (x : BitVec 32) : cmpi .eq (iota .tc S8x128 32 (no_index [0]) h) (broadcast S8x128 x)
    = bits 8 128 (Sublane x.toNat) := by
  refine ext2 fun i l => ?_
  pointwise
  have e : BitVec.ofNat 32 (i : ℕ) = x ↔ (i : ℕ) = x.toNat := by
    constructor
    · intro e; rw [← e, BitVec.toNat_ofNat]; omega
    · intro e; rw [e]; exact (BitVec.ofNat_toNat 32 x).trans (BitVec.setWidth_eq x)
  show BitVec.ofBool (decide (BitVec.ofNat 32 (i : ℕ) = x)) = _
  exact congrArg BitVec.ofBool (decide_eq_decide.mpr e)
end

end Cert.FoxOps

end
-- ==== Proof.FoxBlock.lean ====
/-
  What the body of the forgetting attention's backward pass computes at one grid point, as the body computes it: block of
  512 query rows after block, the square on the diagonal apart from the columns before it, head after head. `Block` is
  what a point reads, `Head` the part of it that belongs to one of the two heads.
-/
module

public import proofs.«01_k».proof.Proof.FoxOps

@[expose] public section

noncomputable section

namespace Cert.FoxBlock

open Cert.Arrays Cert.FoxOps

structure Block where
  (Q K V D L : Mat) (BQ BK : ℕ → Mat)

structure Head where
  (lanes : ℕ → ℕ → Bool) (lane : ℕ) (bq bk : Mat)

variable (X : Block) (H : Head) (a : ℕ) (δ : Mat)

def head0 : Head := ⟨First, 0, X.BQ 0, X.BK 0⟩
def head1 : Head := ⟨Second, 64, X.BQ 1, X.BK 1⟩

/-- The rows from `a` on of the scaled queries, with the bias lanes and without; of the cotangent; of the log-sum. -/
def qa : Mat := Sel H.lanes (Mul (Shift a 0 X.Q) (Const (1 / 8))) (Shift a 0 H.bq)
def qs : Mat := Sel H.lanes (Mul (Shift a 0 X.Q) (Const (1 / 8))) (Const 0)
def ka : Mat := Sel H.lanes X.K (Shift 0 0 H.bk)
def dob : Mat := Sel H.lanes (Shift a 0 X.D) (Const 0)
def lse : Mat := Along (Column (RowSum 128 (Sel (Lane H.lane) (Shift a 0 X.L) (Const 0))))
/-- The weights, their cotangents, the rows' sums and the logits' cotangents: `d` on the diagonal, `f` before it. -/
def pd : Mat := Sel Lower (Exp (Sub (NT 128 (qa X H a) (Shift a 0 (ka X H))) (lse X H a))) (Const 0)
def pf : Mat := Exp (Sub (NT 128 (qa X H a) (Shift 0 0 (ka X H))) (lse X H a))
def dpd : Mat := NT 128 (dob X H a) (Shift a 0 X.V)
def dpf : Mat := NT 128 (dob X H a) (Shift 0 0 X.V)
def deltaA : Mat := Div (Column (RowSum 512 (Mul (pd X H a) (dpd X H a)))) (Column (RowSum 512 (pd X H a)))
def deltaB : Mat :=
  Div (Add (Column (RowSum 512 (Mul (pd X H a) (dpd X H a)))) (Column (RowSum a (Mul (pf X H a) (dpf X H a)))))
    (Add (Column (RowSum 512 (pd X H a))) (Column (RowSum a (pf X H a))))
def dsd : Mat := Mul (pd X H a) (Sub (dpd X H a) (Along δ))
def dsf : Mat := Mul (pf X H a) (Sub (dpf X H a) (Along δ))

/-- The queries' gradient of one block of rows. -/
def dqA : Mat := Mul (NN 512 (dsd X H a (deltaA X H a)) (Shift a 0 X.K)) (Const (1 / 8))
def dqB : Mat := Mul (Add (NN 512 (dsd X H a (deltaB X H a)) (Shift a 0 X.K)) (NN a (dsf X H a (deltaB X H a)) (Shift 0 0 X.K)))
  (Const (1 / 8))
def dqRowsA : Mat := Sel Second (dqA X (head1 X) a) (Sel First (dqA X (head0 X) a) (Const 0))
def dqRowsB : Mat := Sel Second (dqB X (head1 X) a) (Sel First (dqB X (head0 X) a) (Const 0))
def dq : Mat := Four 512 (dqRowsA X 0) (dqRowsB X 512) (dqRowsB X 1024) (dqRowsB X 1536)

/-- One head's and one block's additions to the keys', the values' and the gate's gradients. -/
def dkA (F : Mat) : Mat := Raise a 512 (TN 512 (dsd X H a (deltaA X H a)) (qs X H a)) F
def dkB (F : Mat) : Mat := Raise 0 a (TN 512 (dsf X H a (deltaB X H a)) (qs X H a))
  (Raise a 512 (TN 512 (dsd X H a (deltaB X H a)) (qs X H a)) F)
def dvA (F : Mat) : Mat := Raise a 512 (TN 512 (pd X H a) (dob X H a)) F
def dvB (F : Mat) : Mat := Raise 0 a (TN 512 (pf X H a) (dob X H a)) (Raise a 512 (TN 512 (pd X H a) (dob X H a)) F)
def dk : Mat :=
  dkB X (head1 X) 1536 (dkB X (head0 X) 1536 (dkB X (head1 X) 1024 (dkB X (head0 X) 1024 (dkB X (head1 X) 512
    (dkB X (head0 X) 512 (dkA X (head1 X) 0 (dkA X (head0 X) 0 (Const 0))))))))
def dv : Mat :=
  dvB X (head1 X) 1536 (dvB X (head0 X) 1536 (dvB X (head1 X) 1024 (dvB X (head0 X) 1024 (dvB X (head1 X) 512
    (dvB X (head0 X) 512 (dvA X (head1 X) 0 (dvA X (head0 X) 0 (Const 0))))))))

/-- `n` blocks of 128 columns' sums of `f` added to sublane `s`, from face `b` on. -/
def sums (s b : ℕ) (f : Mat) : ℕ → (ℕ → ℕ → Mat) → ℕ → ℕ → Mat
  | 0, F => F
  | n + 1, F => Raise4 (b + n) (Sel (Sublane s) (Down (Shift 0 (128 * n) (Row (ColSum 512 f)))) (Const 0)) (sums s b f n F)
def dcA (s b : ℕ) (F : ℕ → ℕ → Mat) : ℕ → ℕ → Mat := sums s b (dsd X H a (deltaA X H a)) 4 F
def dcB (s b : ℕ) (F : ℕ → ℕ → Mat) : ℕ → ℕ → Mat :=
  sums s 0 (dsf X H a (deltaB X H a)) b (sums s b (dsd X H a (deltaB X H a)) 4 F)
def dc (s0 s1 : ℕ) (F : ℕ → ℕ → Mat) : ℕ → ℕ → Mat :=
  dcB X (head1 X) 1536 s1 12 (dcB X (head0 X) 1536 s0 12 (dcB X (head1 X) 1024 s1 8 (dcB X (head0 X) 1024 s0 8
    (dcB X (head1 X) 512 s1 4 (dcB X (head0 X) 512 s0 4 (dcA X (head1 X) 0 s1 0 (dcA X (head0 X) 0 s0 0 F)))))))

/-- The same when the faces from `b` on are touched for the first time and are read from the window's old contents `G`. -/
def sumsNew (s b : ℕ) (f : Mat) (G : ℕ → ℕ → Mat) : ℕ → (ℕ → ℕ → Mat) → ℕ → ℕ → Mat
  | 0, F => F
  | n + 1, F => Put4 (b + n) (Face2 (Add (Shift 0 0 (G 0 (b + n)))
      (Sel (Sublane s) (Down (Shift 0 (128 * n) (Row (ColSum 512 f)))) (Const 0)))) (sumsNew s b f G n F)
/-- The first four faces, the first of them with `G` raised. -/
def sumsFirst (s : ℕ) (f : Mat) (G : ℕ → ℕ → Mat) : ℕ → (ℕ → ℕ → Mat)
  | 0 => Raise4 0 (Sel (Sublane s) (Down (Shift 0 0 (Row (ColSum 512 f)))) (Const 0)) G
  | n + 1 => Put4 (n + 1) (Face2 (Add (Shift 0 0 (G 0 (n + 1)))
      (Sel (Sublane s) (Down (Shift 0 (128 * (n + 1)) (Row (ColSum 512 f)))) (Const 0)))) (sumsFirst s f G n)
def dcNewA (s : ℕ) (G : ℕ → ℕ → Mat) : ℕ → ℕ → Mat := sumsFirst s (dsd X H a (deltaA X H a)) G 3
def dcNewB (s b : ℕ) (G : ℕ → ℕ → Mat) (F : ℕ → ℕ → Mat) : ℕ → ℕ → Mat :=
  sums s 0 (dsf X H a (deltaB X H a)) b (sumsNew s b (dsd X H a (deltaB X H a)) G 4 F)
def dcNew (s0 s1 : ℕ) (G : ℕ → ℕ → Mat) : ℕ → ℕ → Mat :=
  dcB X (head1 X) 1536 s1 12 (dcNewB X (head0 X) 1536 s0 12 G (dcB X (head1 X) 1024 s1 8 (dcNewB X (head0 X) 1024 s0 8 G
    (dcB X (head1 X) 512 s1 4 (dcNewB X (head0 X) 512 s0 4 G (dcA X (head1 X) 0 s1 0 (dcNewA X (head0 X) 0 s0 G)))))))

theorem sums_off (s b : ℕ) (f : Mat) (F : ℕ → ℕ → Mat) (k n : ℕ) (h : b + n ≤ k) : sums s b f n F 0 k = F 0 k := by
  induction n with
  | zero => rfl
  | succ n ih =>
    show (if k = b + n then _ else _) = _
    rw [if_neg (by omega)]
    exact ih (by omega)
theorem sumsNew_eq (s b : ℕ) (f : Mat) (G F : ℕ → ℕ → Mat) (h : ∀ k, b ≤ k → F 0 k = G 0 k) (n : ℕ) :
    sumsNew s b f G n F = sums s b f n F := by
  induction n with
  | zero => rfl
  | succ n ih =>
    show Put4 _ _ _ = Raise4 _ _ _
    rw [ih, ← h (b + n) (by omega), ← sums_off s b f F (b + n) n le_rfl]
    exact put4_add _ _ _
theorem sumsFirst_eq (s : ℕ) (f : Mat) (G : ℕ → ℕ → Mat) (n : ℕ) : sumsFirst s f G n = sums s 0 f (n + 1) G := by
  induction n with
  | zero => rfl
  | succ n ih =>
    show Put4 _ _ _ = Raise4 _ _ _
    rw [ih, Nat.zero_add, ← sums_off s 0 f G (n + 1) (n + 1) (by omega)]
    exact put4_add _ _ _
theorem dcA_off (s b : ℕ) (F : ℕ → ℕ → Mat) (k : ℕ) (h : b + 4 ≤ k) : dcA X H a s b F 0 k = F 0 k := sums_off _ _ _ _ _ _ h
theorem dcB_off (s b : ℕ) (F : ℕ → ℕ → Mat) (k : ℕ) (h : b + 4 ≤ k) : dcB X H a s b F 0 k = F 0 k :=
  (sums_off _ _ _ _ _ _ (by omega)).trans (sums_off _ _ _ _ _ _ h)
theorem dcNew_eq (s0 s1 : ℕ) (G : ℕ → ℕ → Mat) : dcNew X s0 s1 G = dc X s0 s1 G := by
  unfold dcNew dc
  have e0 : dcNewA X (head0 X) 0 s0 G = dcA X (head0 X) 0 s0 0 G := sumsFirst_eq _ _ _ _
  have eB : ∀ a b F, (∀ k, b ≤ k → F 0 k = G 0 k) → dcNewB X (head0 X) a s0 b G F = dcB X (head0 X) a s0 b F :=
    fun a b F h => congrArg (sums s0 0 _ b) (sumsNew_eq _ _ _ _ _ h _)
  rw [e0, eB 512 4, eB 1024 8, eB 1536 12]
  all_goals
    intro k hk
    repeat first | rw [dcB_off _ _ _ _ _ _ _ (by omega)] | rw [dcA_off _ _ _ _ _ _ _ (by omega)]

end Cert.FoxBlock

end
-- ==== Proof.FoxMath.lean ====
/-
  What a grid point of the forgetting attention's backward pass computes, freed of the body's blocks: with the weights
  `W t s` of all 2048 rows and columns, zero after the diagonal, and the logits' cotangents `DS`, every gradient is one sum
  over all rows or columns. The square on the diagonal and the columns before it together make a whole row, because
  everything after the diagonal is zero.
-/
module

public import proofs.«01_k».proof.Proof.FoxBlock

@[expose] public section

noncomputable section

namespace Cert.FoxBlock

open Cert.Arrays Cert.FoxOps Finset

/-- A row that ends inside a block, from the block's square and the columns before it. -/
theorem sum_row (g : ℕ → ℝ) (a : ℕ) (ha : a + 512 ≤ 2048) (h : ∀ s, a + 512 ≤ s → g s = 0) :
    ∑ k ∈ range 512, g (a + k) + ∑ k ∈ range a, g k = ∑ s ∈ range 2048, g s := by
  rw [add_comm, ← sum_range_add]
  refine sum_subset (range_subset_range.2 ha) fun s _ hs => h s ?_
  simpa using hs

/-- A sum over all rows, block by block. -/
theorem sum_blocks (g : ℕ → ℝ) : ∑ u ∈ range 512, g (0 + u) + ∑ u ∈ range 512, g (512 + u) + ∑ u ∈ range 512, g (1024 + u)
    + ∑ u ∈ range 512, g (1536 + u) = ∑ t ∈ range 2048, g t := by
  rw [show (2048 : ℕ) = 512 + 512 + 512 + 512 from rfl, sum_range_add, sum_range_add, sum_range_add]
  simp only [Nat.zero_add, Nat.reduceAdd]

variable (X : Block) (H : Head) (a : ℕ)

/-- The weights, their cotangents, the rows' sums and the logits' cotangents, over all rows and columns. -/
def W : Mat := pd X H 0
def G : Mat := dpd X H 0
def Delta (t : ℕ) : ℝ := (∑ s ∈ range 2048, W X H t s * G X H t s) / ∑ s ∈ range 2048, W X H t s
def DS : Mat := fun t s => W X H t s * (G X H t s - Delta X H t)

theorem W_zero {t s : ℕ} (h : t < s) : W X H t s = 0 := by
  simp [W, pd, Sel, Lower, Const, Nat.not_le.2 h]
theorem DS_zero {t s : ℕ} (h : t < s) : DS X H t s = 0 := by
  rw [DS, W_zero X H h, zero_mul]

section
variable (hl : ∀ i l, H.lanes i l = H.lanes 0 l) (i j : ℕ)
include hl

theorem pd_at : pd X H a i j = W X H (a + i) (a + j) := by
  simp only [W, pd, Sel, Lower, Arrays.Exp, Arrays.Sub, NT, qa, ka, lse, Arrays.Mul, Shift, Const, Along, Column, RowSum, Lane, Nat.zero_add, hl,
    Nat.add_le_add_iff_left]
theorem pf_at (h : j ≤ a + i) : pf X H a i j = W X H (a + i) j := by
  simp only [W, pd, pf, Sel, Lower, Arrays.Exp, Arrays.Sub, NT, qa, ka, lse, Arrays.Mul, Shift, Const, Along, Column, RowSum, Lane, Nat.zero_add, hl, h,
    decide_true, if_true]
theorem dpd_at : dpd X H a i j = G X H (a + i) (a + j) := by
  simp only [G, dpd, NT, dob, Sel, Shift, Const, Nat.zero_add, hl]
theorem dpf_at : dpf X H a i j = G X H (a + i) j := by
  simp only [G, dpd, dpf, NT, dob, Sel, Shift, Const, Nat.zero_add, hl]

theorem sum_pd (ha : a + 512 ≤ 2048) (hi : i < 512) :
    RowSum 512 (pd X H a) i + RowSum a (pf X H a) i = ∑ s ∈ range 2048, W X H (a + i) s := by
  rw [← sum_row (W X H (a + i)) a ha fun s hs => W_zero X H (by omega)]
  refine congrArg₂ (· + ·) (sum_congr rfl fun k _ => pd_at X H a hl i k) (sum_congr rfl fun k hk => ?_)
  exact pf_at X H a hl i k (by have := mem_range.1 hk; omega)
theorem sum_pd_dpd (ha : a + 512 ≤ 2048) (hi : i < 512) :
    RowSum 512 (Mul (pd X H a) (dpd X H a)) i + RowSum a (Mul (pf X H a) (dpf X H a)) i
      = ∑ s ∈ range 2048, W X H (a + i) s * G X H (a + i) s := by
  rw [← sum_row (fun s => W X H (a + i) s * G X H (a + i) s) a ha fun s hs => by rw [W_zero X H (by omega), zero_mul]]
  refine congrArg₂ (· + ·) (sum_congr rfl fun k _ => ?_) (sum_congr rfl fun k hk => ?_)
  · exact congrArg₂ (· * ·) (pd_at X H a hl i k) (dpd_at X H a hl i k)
  · exact congrArg₂ (· * ·) (pf_at X H a hl i k (by have := mem_range.1 hk; omega)) (dpf_at X H a hl i k)

theorem deltaA_at (hi : i < 512) : deltaA X H 0 i 0 = Delta X H i := by
  have e := sum_pd X H 0 hl i (by omega) hi
  have f := sum_pd_dpd X H 0 hl i (by omega) hi
  simp only [RowSum, range_zero, sum_empty, add_zero, Nat.zero_add] at e f
  simp only [deltaA, Arrays.Div, Column, RowSum, Delta, e, f]
theorem deltaB_at (ha : a + 512 ≤ 2048) (hi : i < 512) : deltaB X H a i 0 = Delta X H (a + i) := by
  simp only [deltaB, Arrays.Div, Arrays.Add, Column, Delta, sum_pd X H a hl i ha hi, sum_pd_dpd X H a hl i ha hi]

theorem dsdA_at (hi : i < 512) : dsd X H 0 (deltaA X H 0) i j = DS X H (0 + i) (0 + j) := by
  simp only [dsd, Arrays.Mul, Arrays.Sub, Along, DS, pd_at X H 0 hl, dpd_at X H 0 hl, deltaA_at X H hl i hi, Nat.zero_add]
theorem dsdB_at (ha : a + 512 ≤ 2048) (hi : i < 512) : dsd X H a (deltaB X H a) i j = DS X H (a + i) (a + j) := by
  simp only [dsd, Arrays.Mul, Arrays.Sub, Along, DS, pd_at X H a hl, dpd_at X H a hl, deltaB_at X H a hl i ha hi]
theorem dsfB_at (ha : a + 512 ≤ 2048) (hi : i < 512) (hj : j < a) :
    dsf X H a (deltaB X H a) i j = DS X H (a + i) j := by
  simp only [dsf, Arrays.Mul, Arrays.Sub, Along, DS, pf_at X H a hl i j (by omega), dpf_at X H a hl, deltaB_at X H a hl i ha hi]

/-! ### The queries' gradient -/

theorem dqA_at (hi : i < 512) : dqA X H 0 i j = (∑ s ∈ range 2048, DS X H (0 + i) s * X.K s j) * (1 / 8) := by
  rw [← sum_row (fun s => DS X H (0 + i) s * X.K s j) 0 (by omega) fun s hs => by rw [DS_zero X H (by omega), zero_mul]]
  rw [range_zero, sum_empty, add_zero]
  refine congrArg (· * (1 / 8 : ℝ)) (sum_congr rfl fun k _ => congrArg₂ (· * ·) (dsdA_at X H hl i k hi) ?_)
  simp only [Shift, Nat.zero_add]
theorem dqB_at (ha : a + 512 ≤ 2048) (hi : i < 512) :
    dqB X H a i j = (∑ s ∈ range 2048, DS X H (a + i) s * X.K s j) * (1 / 8) := by
  rw [← sum_row (fun s => DS X H (a + i) s * X.K s j) a ha fun s hs => by rw [DS_zero X H (by omega), zero_mul]]
  refine congrArg (· * (1 / 8 : ℝ)) (congrArg₂ (· + ·) (sum_congr rfl fun k _ => ?_) (sum_congr rfl fun k hk => ?_))
  · refine congrArg₂ (· * ·) (dsdB_at X H a hl i k ha hi) ?_
    simp only [Shift, Nat.zero_add]
  · refine congrArg₂ (· * ·) (dsfB_at X H a hl i k ha hi (mem_range.1 hk)) ?_
    simp only [Shift, Nat.zero_add]

/-! ### One block's share of the keys', the values' and the gate's gradients -/

theorem dkA_at (F : Mat) : dkA X H 0 F i j = F i j + ∑ u ∈ range 512, DS X H (0 + u) i * qs X H 0 (0 + u) j := by
  refine congrArg (F i j + ·) ?_
  split
  · refine sum_congr rfl fun u hu => congrArg₂ (· * ·) ((dsdA_at X H hl u (i - 0) (mem_range.1 hu)).trans ?_) ?_
    · rw [Nat.sub_zero, Nat.zero_add i]
    · rw [Nat.zero_add]
  · refine (sum_eq_zero fun u hu => ?_).symm
    rw [DS_zero X H (by have := mem_range.1 hu; omega), zero_mul]
theorem qs_at : qs X H a i j = qs X H 0 (a + i) j := by simp only [qs, Sel, Shift, Arrays.Mul, Const, Nat.zero_add, hl]
theorem dob_at : dob X H a i j = dob X H 0 (a + i) j := by simp only [dob, Sel, Shift, Const, Nat.zero_add, hl]
theorem dkB_at (ha : a + 512 ≤ 2048) (F : Mat) :
    dkB X H a F i j = F i j + ∑ u ∈ range 512, DS X H (a + u) i * qs X H 0 (a + u) j := by
  have hR : dkB X H a F i j = F i j + (if a ≤ i ∧ i < a + 512 then TN 512 (dsd X H a (deltaB X H a)) (qs X H a) (i - a) j else 0)
      + if 0 ≤ i ∧ i < 0 + a then TN 512 (dsf X H a (deltaB X H a)) (qs X H a) (i - 0) j else 0 := rfl
  rw [hR, add_assoc]
  refine congrArg (F i j + ·) ?_
  rcases Nat.lt_or_ge i a with h | h
  · rw [if_neg (by omega), if_pos (by omega), zero_add]
    exact sum_congr rfl fun u hu => congrArg₂ (· * ·) (dsfB_at X H a hl u i ha (mem_range.1 hu) h) (qs_at X H a hl u j)
  · rw [if_neg (show ¬(0 ≤ i ∧ i < 0 + a) by omega), add_zero]
    split
    · refine sum_congr rfl fun u hu => congrArg₂ (· * ·) ((dsdB_at X H a hl u (i - a) ha (mem_range.1 hu)).trans ?_) (qs_at X H a hl u j)
      rw [Nat.add_sub_cancel' h]
    · refine (sum_eq_zero fun u hu => ?_).symm
      rw [DS_zero X H (by have := mem_range.1 hu; omega), zero_mul]

theorem dvA_at (F : Mat) : dvA X H 0 F i j = F i j + ∑ u ∈ range 512, W X H (0 + u) i * dob X H 0 (0 + u) j := by
  refine congrArg (F i j + ·) ?_
  split
  · refine sum_congr rfl fun u hu => congrArg₂ (· * ·) ((pd_at X H 0 hl u (i - 0)).trans ?_) ?_
    · rw [Nat.sub_zero, Nat.zero_add i]
    · rw [Nat.zero_add]
  · refine (sum_eq_zero fun u hu => ?_).symm
    rw [W_zero X H (by have := mem_range.1 hu; omega), zero_mul]
theorem dvB_at (F : Mat) : dvB X H a F i j = F i j + ∑ u ∈ range 512, W X H (a + u) i * dob X H 0 (a + u) j := by
  have hR : dvB X H a F i j = F i j + (if a ≤ i ∧ i < a + 512 then TN 512 (pd X H a) (dob X H a) (i - a) j else 0)
      + if 0 ≤ i ∧ i < 0 + a then TN 512 (pf X H a) (dob X H a) (i - 0) j else 0 := rfl
  rw [hR, add_assoc]
  refine congrArg (F i j + ·) ?_
  rcases Nat.lt_or_ge i a with h | h
  · rw [if_neg (by omega), if_pos (by omega), zero_add]
    exact sum_congr rfl fun u _ => congrArg₂ (· * ·) (pf_at X H a hl u i (by omega)) (dob_at X H a hl u j)
  · rw [if_neg (show ¬(0 ≤ i ∧ i < 0 + a) by omega), add_zero]
    split
    · refine sum_congr rfl fun u _ => congrArg₂ (· * ·) ((pd_at X H a hl u (i - a)).trans ?_) (dob_at X H a hl u j)
      rw [Nat.add_sub_cancel' h]
    · refine (sum_eq_zero fun u hu => ?_).symm
      rw [W_zero X H (by have := mem_range.1 hu; omega), zero_mul]

omit hl in
theorem sums_at (s b : ℕ) (f : Mat) (n : ℕ) (F : ℕ → ℕ → Mat) (k : ℕ) : sums s b f n F 0 k i j
    = F 0 k i j + if b ≤ k ∧ k < b + n then if i = s then ∑ u ∈ range 512, f u (128 * (k - b) + j) else 0 else 0 := by
  induction n with
  | zero => rw [if_neg (by omega), add_zero]; rfl
  | succ n ih =>
    show (if k = b + n then Add (sums s b f n F 0 k) _ else sums s b f n F 0 k) i j = _
    split
    · rename_i h
      show sums s b f n F 0 k i j + _ = _
      rw [ih, if_neg (by omega), add_zero, if_pos (by omega)]
      refine congrArg (F 0 k i j + ·) ?_
      simp [Sel, Sublane, Down, Shift, Row, ColSum, Const, h]
    · rw [ih]
      refine congrArg (F 0 k i j + ·) (if_congr (by omega) rfl rfl)

theorem dcA_at (s : ℕ) (F : ℕ → ℕ → Mat) (k : ℕ) :
    dcA X H 0 s 0 F 0 k i j = F 0 k i j + if i = s then ∑ u ∈ range 512, DS X H (0 + u) (128 * k + j) else 0 := by
  rw [dcA, sums_at]
  refine congrArg (F 0 k i j + ·) ?_
  split
  · refine if_congr Iff.rfl (sum_congr rfl fun u hu => ?_) rfl
    rw [dsdA_at X H hl u _ (mem_range.1 hu), Nat.sub_zero, Nat.zero_add (128 * k + j)]
  · rw [sum_eq_zero fun u hu => DS_zero X H (by have := mem_range.1 hu; omega), ite_self]
theorem dcB_at (s b : ℕ) (hb : 128 * b + 512 ≤ 2048) (hj : j < 128) (F : ℕ → ℕ → Mat) (k : ℕ) :
    dcB X H (128 * b) s b F 0 k i j
      = F 0 k i j + if i = s then ∑ u ∈ range 512, DS X H (128 * b + u) (128 * k + j) else 0 := by
  rw [dcB, sums_at, sums_at, add_assoc]
  refine congrArg (F 0 k i j + ·) ?_
  rcases Nat.lt_or_ge k b with h | h
  · rw [if_neg (by omega), if_pos (by omega), zero_add]
    refine if_congr Iff.rfl (sum_congr rfl fun u hu => ?_) rfl
    rw [dsfB_at X H _ hl u _ hb (mem_range.1 hu) (by omega), Nat.sub_zero]
  · rw [if_neg (show ¬(0 ≤ k ∧ k < 0 + b) by omega), add_zero]
    split
    · refine if_congr Iff.rfl (sum_congr rfl fun u hu => ?_) rfl
      rw [dsdB_at X H _ hl u _ hb (mem_range.1 hu)]
      exact congrArg (DS X H (128 * b + u)) (by omega)
    · rw [sum_eq_zero fun u hu => DS_zero X H (by have := mem_range.1 hu; omega), ite_self]

end

/-! ### The gradients of a grid point -/

theorem lanes0 (i l : ℕ) : (head0 X).lanes i l = (head0 X).lanes 0 l := rfl
theorem lanes1 (i l : ℕ) : (head1 X).lanes i l = (head1 X).lanes 0 l := rfl

/-- The head a lane belongs to. -/
def headAt (l : ℕ) : Head := if l < 64 then head0 X else head1 X

theorem dq_at (t l : ℕ) (ht : t < 2048) :
    dq X t l = (∑ s ∈ range 2048, DS X (headAt X l) t s * X.K s l) * (1 / 8) := by
  have hA : ∀ i, i < 512 → dqRowsA X 0 i l = (∑ s ∈ range 2048, DS X (headAt X l) (0 + i) s * X.K s l) * (1 / 8) := by
    intro i hi
    simp only [dqRowsA, Sel, Second, First, dqA_at X _ (lanes0 X) _ _ hi, dqA_at X _ (lanes1 X) _ _ hi, headAt]
    by_cases h : l < 64
    · simp [h, Nat.not_le.2 h]
    · simp [h, Nat.not_lt.1 h]
  have hB : ∀ a i, a + 512 ≤ 2048 → i < 512 →
      dqRowsB X a i l = (∑ s ∈ range 2048, DS X (headAt X l) (a + i) s * X.K s l) * (1 / 8) := by
    intro a i ha hi
    simp only [dqRowsB, Sel, Second, First, dqB_at X _ _ (lanes0 X) _ _ ha hi, dqB_at X _ _ (lanes1 X) _ _ ha hi, headAt]
    by_cases h : l < 64
    · simp [h, Nat.not_le.2 h]
    · simp [h, Nat.not_lt.1 h]
  unfold dq Four
  split
  · rw [hA t (by assumption), Nat.zero_add]
  split
  · rw [hB 512 _ (by omega) (by omega), Nat.add_sub_cancel' (by omega)]
  split
  · rw [hB 1024 _ (by omega) (by omega), show 1024 + (t - (512 + 512)) = t by omega]
  · rw [hB 1536 _ (by omega) (by omega), show 1536 + (t - (512 + 512 + 512)) = t by omega]

theorem two_heads (u v : ℕ → ℝ) : 0 + ∑ i ∈ range 512, u (0 + i) + ∑ i ∈ range 512, v (0 + i)
      + ∑ i ∈ range 512, u (512 + i) + ∑ i ∈ range 512, v (512 + i) + ∑ i ∈ range 512, u (1024 + i)
      + ∑ i ∈ range 512, v (1024 + i) + ∑ i ∈ range 512, u (1536 + i) + ∑ i ∈ range 512, v (1536 + i)
    = ∑ t ∈ range 2048, u t + ∑ t ∈ range 2048, v t := by
  rw [← sum_blocks u, ← sum_blocks v]; ring

theorem dk_at (s l : ℕ) : dk X s l = ∑ t ∈ range 2048, DS X (headAt X l) t s * (X.Q t l * (1 / 8)) := by
  unfold dk
  rw [dkB_at X _ _ (lanes1 X) _ _ (by omega), dkB_at X _ _ (lanes0 X) _ _ (by omega), dkB_at X _ _ (lanes1 X) _ _ (by omega),
    dkB_at X _ _ (lanes0 X) _ _ (by omega), dkB_at X _ _ (lanes1 X) _ _ (by omega), dkB_at X _ _ (lanes0 X) _ _ (by omega),
    dkA_at X _ (lanes1 X), dkA_at X _ (lanes0 X)]
  refine (two_heads (fun t => DS X (head0 X) t s * qs X (head0 X) 0 t l) (fun t => DS X (head1 X) t s * qs X (head1 X) 0 t l)).trans ?_
  simp only [qs, Sel, Arrays.Mul, Shift, Const, Nat.zero_add, headAt]
  by_cases h : l < 64
  · simp [head0, head1, First, Second, h, Nat.not_le.2 h]
  · simp [head0, head1, First, Second, h, Nat.not_lt.1 h]

theorem dv_at (s l : ℕ) : dv X s l = ∑ t ∈ range 2048, W X (headAt X l) t s * X.D t l := by
  unfold dv
  rw [dvB_at X _ _ (lanes1 X), dvB_at X _ _ (lanes0 X), dvB_at X _ _ (lanes1 X), dvB_at X _ _ (lanes0 X),
    dvB_at X _ _ (lanes1 X), dvB_at X _ _ (lanes0 X), dvA_at X _ (lanes1 X), dvA_at X _ (lanes0 X)]
  refine (two_heads (fun t => W X (head0 X) t s * dob X (head0 X) 0 t l) (fun t => W X (head1 X) t s * dob X (head1 X) 0 t l)).trans ?_
  simp only [dob, Sel, Shift, Const, Nat.zero_add, headAt]
  by_cases h : l < 64
  · simp [head0, head1, First, Second, h, Nat.not_le.2 h]
  · simp [head0, head1, First, Second, h, Nat.not_lt.1 h]

theorem dc_at (s0 s1 : ℕ) (F : ℕ → ℕ → Mat) (k i l : ℕ) (hl : l < 128) : dc X s0 s1 F 0 k i l
    = F 0 k i l + ((if i = s0 then ∑ t ∈ range 2048, DS X (head0 X) t (128 * k + l) else 0)
      + if i = s1 then ∑ t ∈ range 2048, DS X (head1 X) t (128 * k + l) else 0) := by
  unfold dc
  rw [dcB_at X _ (lanes1 X) _ _ _ 12 (by omega) hl, dcB_at X _ (lanes0 X) _ _ _ 12 (by omega) hl,
    dcB_at X _ (lanes1 X) _ _ _ 8 (by omega) hl, dcB_at X _ (lanes0 X) _ _ _ 8 (by omega) hl,
    dcB_at X _ (lanes1 X) _ _ _ 4 (by omega) hl, dcB_at X _ (lanes0 X) _ _ _ 4 (by omega) hl,
    dcA_at X _ (lanes1 X), dcA_at X _ (lanes0 X)]
  rw [← sum_blocks fun t => DS X (head0 X) t (128 * k + l), ← sum_blocks fun t => DS X (head1 X) t (128 * k + l)]
  split <;> split <;> ring

end Cert.FoxBlock

end
-- ==== Proof.FoxHead.lean ====
/-
  The blocks of one grid point of FoxBwd, and its weights: over the blocks the host lines prepare, a row of the scaled
  queries against a key adds up to the score, so that the weights and the cotangents of the point's two heads are those of
  the attention.
-/
module

public import proofs.«01_k».proof.Proof.FoxHostReal
public import proofs.«01_k».proof.Proof.FoxMath

@[expose] public section

noncomputable section

namespace Cert.FoxHead

open Cert.Arrays Cert.FoxOps Cert.FoxBlock Cert.FoxModel Cert.FoxHost Finset

/-- A sum over 128 lanes by halves. -/
theorem sum_halves (f : ℕ → ℝ) : ∑ l ∈ range 128, f l = ∑ l ∈ range 64, f l + ∑ l ∈ range 64, f (64 + l) := by
  rw [show (128 : ℕ) = 64 + 64 from rfl, sum_range_add]

variable (q k v ct : ℕ → ℕ → ℕ → ℝ) (c : ℕ → ℕ → ℕ → ℝ) (b p : ℕ)

/-- The blocks of batch `b` and pair of heads `p`. -/
def point : Block where
  Q := fun i l => q b i (128 * p + l)
  K := fun i l => k b i (128 * p + l)
  V := fun i l => v b i (128 * p + l)
  D := fun i l => ct b i (128 * p + l)
  L := fun i l => total q k c b (p * 2 + l / 64) i
  BQ := fun n => biasRow c b (2 * p + n)
  BK := fun n => biasCol c b (2 * p + n)

/-- The bias lanes of a query against those of a key: the difference of the two cumulated gates. -/
theorem bias_sum (h t s : ℕ) : ∑ l ∈ range 64, biasRow c b h t (own h + l) * biasCol c b h s (own h + l) = c b h t - c b h s := by
  rw [← sum_subset (range_subset_range.2 (show 6 ≤ 64 by decide)) fun l _ hl => ?_]
  · simp [sum_range_succ, biasRow, biasCol, sub_eq_add_neg]
  · have hl : 6 ≤ l := by simpa using hl
    unfold biasRow
    rw [if_neg (by omega), if_neg (by omega), zero_mul]

variable {X : Block} (hX : X = point q k v ct c b p)
include hX

/-- A row of the scaled queries against a key, for the point's first and second head. -/
theorem dot0 (t s : ℕ) : ∑ l ∈ range 128, qa X (head0 X) 0 t l * Shift 0 0 (ka X (head0 X)) s l = score q k c b (2 * p) t s := by
  subst hX
  have e := bias_sum c b (2 * p) t s
  rw [show own (2 * p) = 64 by simp [own]] at e
  rw [sum_halves, score, add_sub_assoc, ← e, sum_mul]
  refine congrArg₂ (· + ·) (sum_congr rfl fun l hl => ?_) (sum_congr rfl fun l _ => ?_)
  · have hl := mem_range.1 hl
    simp only [qa, ka, Shift, Sel, First, head0, point, Arrays.Mul, Const, hl, decide_true, if_true, Nat.zero_add]
    rw [show 2 * p * 64 + l = 128 * p + l by ring]; ring
  · simp only [qa, ka, Shift, Sel, First, head0, point, Nat.zero_add, Nat.add_zero, show ¬ 64 + l < 64 by omega, decide_false]
    rfl
theorem dot1 (t s : ℕ) : ∑ l ∈ range 128, qa X (head1 X) 0 t l * Shift 0 0 (ka X (head1 X)) s l = score q k c b (2 * p + 1) t s := by
  subst hX
  have e := bias_sum c b (2 * p + 1) t s
  rw [show own (2 * p + 1) = 0 by simp [own, Nat.add_mod]] at e
  rw [sum_halves, add_comm, score, add_sub_assoc, ← e, sum_mul]
  refine congrArg₂ (· + ·) (sum_congr rfl fun l hl => ?_) (sum_congr rfl fun l hl => ?_)
  · simp only [qa, ka, Shift, Sel, Second, head1, point, Arrays.Mul, Const, show 64 ≤ 64 + l by omega, decide_true, if_true, Nat.zero_add]
    rw [show (2 * p + 1) * 64 + l = 128 * p + (64 + l) by ring]; ring
  · have hl := mem_range.1 hl
    simp only [qa, ka, Shift, Sel, Second, head1, point, Nat.zero_add, show ¬ 64 ≤ l by omega, decide_false]
    rfl

/-- A cotangent's row against a value. -/
theorem dprob0 (t s : ℕ) : G X (head0 X) t s = dprob v ct b (2 * p) t s := by
  subst hX
  simp only [G, dpd, NT, sum_halves, dprob]
  rw [add_eq_left.2 (sum_eq_zero fun l _ => ?_)]
  · refine sum_congr rfl fun l hl => ?_
    have hl := mem_range.1 hl
    simp only [dob, Shift, Sel, First, head0, point, hl, decide_true, if_true, Nat.zero_add]
    rw [show 2 * p * 64 + l = 128 * p + l by ring]
  · simp only [dob, Shift, Sel, First, head0, Const, show ¬ 64 + l < 64 by omega, decide_false]
    exact zero_mul _
theorem dprob1 (t s : ℕ) : G X (head1 X) t s = dprob v ct b (2 * p + 1) t s := by
  subst hX
  simp only [G, dpd, NT, sum_halves, dprob]
  rw [add_eq_right.2 (sum_eq_zero fun l hl => ?_)]
  · refine sum_congr rfl fun l hl => ?_
    simp only [dob, Shift, Sel, Second, head1, point, show 64 ≤ 64 + l by omega, decide_true, if_true, Nat.zero_add]
    rw [show (2 * p + 1) * 64 + l = 128 * p + (64 + l) by ring]
  · have hl := mem_range.1 hl
    simp only [dob, Shift, Sel, Second, head1, Const, show ¬ 64 ≤ l by omega, decide_false]
    exact zero_mul _

/-- A row's log-sum, picked off its lane. -/
theorem lse_at (H : Head) (hH : H.lane < 128) (t s : ℕ) : lse X H 0 t s = total q k c b (p * 2 + H.lane / 64) t := by
  subst hX
  simp only [lse, Along, Column, RowSum, Sel, Lane, Shift, Const, decide_eq_true_eq, Nat.zero_add]
  rw [sum_ite_eq' (range 128), if_pos (mem_range.2 hH)]
  rfl

/-- A head whose scores and cotangents are the attention's has its weights and its logits' cotangents. -/
theorem prob_of {H : Head} {h : ℕ} (hH : H.lane < 128) (hh : p * 2 + H.lane / 64 = h)
    (dot : ∀ t s, ∑ l ∈ range 128, qa X H 0 t l * Shift 0 0 (ka X H) s l = score q k c b h t s) (t s : ℕ) :
    W X H t s = prob q k c b h t s := by
  simp only [W, pd, Sel, Lower, Arrays.Exp, Arrays.Sub, NT, dot, decide_eq_true_eq, Const, lse_at q k v ct c b p hX H hH, hh, total]
  split
  · next e => exact exp_log_sum _ _ _ _ e
  · next e => rw [prob, soft, if_neg e, zero_div]
omit hX in
theorem dscore_of {H : Head} {h : ℕ} (w : ∀ t s, W X H t s = prob q k c b h t s) (g : ∀ t s, G X H t s = dprob v ct b h t s)
    (t s : ℕ) : DS X H t s = dscore q k v ct c b h t s := by
  have e : ∑ j ∈ range 2048, prob q k c b h t j = 1 := sum_soft _ _
  simp only [DS, Delta, w, g, e, div_one]
  rfl

theorem prob0 (t s : ℕ) : W X (head0 X) t s = prob q k c b (2 * p) t s :=
  prob_of q k v ct c b p hX (H := head0 X) (show (0 : ℕ) < 128 by decide) (show p * 2 + 0 / 64 = 2 * p by omega) (dot0 q k v ct c b p hX) t s
theorem prob1 (t s : ℕ) : W X (head1 X) t s = prob q k c b (2 * p + 1) t s :=
  prob_of q k v ct c b p hX (H := head1 X) (show (64 : ℕ) < 128 by decide) (show p * 2 + 64 / 64 = 2 * p + 1 by omega) (dot1 q k v ct c b p hX) t s
theorem dscore0 (t s : ℕ) : DS X (head0 X) t s = dscore q k v ct c b (2 * p) t s :=
  dscore_of q k v ct c b (prob0 q k v ct c b p hX) (dprob0 q k v ct c b p hX) t s
theorem dscore1 (t s : ℕ) : DS X (head1 X) t s = dscore q k v ct c b (2 * p + 1) t s :=
  dscore_of q k v ct c b (prob1 q k v ct c b p hX) (dprob1 q k v ct c b p hX) t s

/-- The head of a column. -/
theorem column_head {l : ℕ} (hl : l < 128) : (128 * p + l) / 64 = if l < 64 then 2 * p else 2 * p + 1 := by
  split <;> omega

end Cert.FoxHead

end
-- ==== Proof.FoxPoint.lean ====
/-
  The body of the forgetting attention's backward pass at one grid point, read off: its four windows are the functions of
  `FoxBlock`. At the points of case A the gate's window starts from zero, at those of case B from what the point before
  left.
-/
module

public import proofs.«01_k».proof.Proof.FoxBlock
public import proofs.«01_k».proof.Proof.Gen.FoxBwdIdeal.Value

@[expose] public section

set_option maxRecDepth 16384
set_option maxHeartbeats 2000000

noncomputable section

namespace Cert.FoxPoint

open Cert.FoxBwdIdeal Cert.FoxBwdIdeal.Gen Idealize.ShloMosaic Idealize.ShloMosaic.TcCoe Cert.Reals Cert.Arrays Cert.FoxOps
  Cert.FoxBlock Finset
open Cert.FoxBwdIdeal.Facts

variable (m : (ℓ : Loc nD τ sig) → Buf (Elt Ideal) ℓ) (c : Dev nD)

/-- The blocks a point reads. -/
def Reads (t : Fin cfg0.N) (X : Block) : Prop :=
  iblk m c 0 t = arr2 2048 128 X.Q ∧ iblk m c 1 t = arr2 2048 128 X.K ∧ iblk m c 2 t = arr2 2048 128 X.V ∧
    iblk m c 3 t = arr2 2048 128 X.D ∧ iblk m c 4 t = arr3 1 2048 128 (Face X.L) ∧
    iblk m c 5 t = arr4 1 2 2048 128 (fun _ => X.BQ) ∧ iblk m c 6 t = arr4 1 2 2048 128 (fun _ => X.BK)

/-- The row of the gate's window that belongs to head `k` of the point's pair. -/
def rowOf (t : Fin cfg0.N) (k : BitVec 32) : ℕ :=
  (Scalar.addi (Scalar.muli 2#32 (BitVec.ofNat 32 (grid0.coords t 1).val)) k).toNat

variable {m c} {t : Fin cfg0.N} {X : Block}

theorem pointA (e : Reads m c t X) (h0 : t.val % 3 = 0) :
    (outsAt0 m c t.val t.isLt).1 = arr2 2048 128 (dq X) ∧ (outsAt0 m c t.val t.isLt).2.1 = arr2 2048 128 (dk X) ∧
      (outsAt0 m c t.val t.isLt).2.2.1 = arr2 2048 128 (dv X) ∧
      (outsAt0 m c t.val t.isLt).2.2.2 = arr4 1 16 8 128 (dc X (rowOf t 0#32) (rowOf t 1#32) (Face2 (Const 0))) := by
  obtain ⟨e0, e1, e2, e3, e4, e5, e6⟩ := e
  rw [outsAt0_A m c t h0, e0, e1, e2, e3, e4, e5, e6]
  dsimp only
  frame_open
  unfold_payloads
  refine ⟨?_, ?_, ?_, ?_⟩
  all_goals
  simp (maxSteps := 2000000) (disch := decide) only [View.read_writes_junk_eq_canon, View.canon_cons_unit_lit', View.ld_unit_lit',
    Memref.IsWhole.read_unread, View.readAt_eq_ld, read_back, View.canon_cons, over2, over2_whole, over2_four, over3_both, two_0, two_1, face_at, face2_at, put_add, over4, over4_whole, put4_add, zero_bc4, sublane, div_diag, div_both, ld2, ld2_bf16, ld3,
    ld3_bf16, ld4, ld4_bf16, add_arr, sub_arr, mul_arr, exp_arr, truncf_arr, zero_arr, zero_bc, zero_bc_bf16, zero_bc_trunc,
    eighth_bc, eighth_bc_bf16, select_arr, along_arr, down_arr, rows_arr, cols_arr, column_arr, row_arr, same_arr, slice_arr,
    face_arr3, to_arr3, face_arr4, to_arr4, nt_512, nt_1024, nt_1536, nn_512, nn_1024, nn_1536, tn_512, tn_1024, tn_1536, first_lanes, second_lanes, lane_0, lane_64,
    first_lanes_all, second_lanes_all, triangle]
  all_goals rfl

theorem pointB (e : Reads m c t X) (h0 : ¬t.val % 3 = 0) {G : ℕ → ℕ → Mat}
    (eg : (outsAt0 m c (t.val - 1) (by have := t.isLt; omega)).2.2.2 = arr4 1 16 8 128 G) :
    (outsAt0 m c t.val t.isLt).1 = arr2 2048 128 (dq X) ∧ (outsAt0 m c t.val t.isLt).2.1 = arr2 2048 128 (dk X) ∧
      (outsAt0 m c t.val t.isLt).2.2.1 = arr2 2048 128 (dv X) ∧
      (outsAt0 m c t.val t.isLt).2.2.2 = arr4 1 16 8 128 (dc X (rowOf t 0#32) (rowOf t 1#32) G) := by
  obtain ⟨e0, e1, e2, e3, e4, e5, e6⟩ := e
  rw [← dcNew_eq, outsAt0_B m c t h0, e0, e1, e2, e3, e4, e5, e6, eg]
  dsimp only
  frame_open
  unfold_payloads
  refine ⟨?_, ?_, ?_, ?_⟩
  all_goals
  simp (maxSteps := 2000000) (disch := decide) only [View.read_writes_junk_eq_canon, View.canon_cons_unit_lit', View.ld_unit_lit',
    Memref.IsWhole.read_unread, View.readAt_eq_ld, read_back, View.canon_cons, over2, over2_whole, over2_four, over3_both, two_0, two_1, face_at, face2_at, put_add, over4, over4_whole, over4_start G, over4_old, over4_new, ld4_mix, mix_all, Nat.reduceAdd, put4_add, zero_bc4, sublane, div_diag, div_both, ld2, ld2_bf16, ld3,
    ld3_bf16, ld4, ld4_bf16, add_arr, sub_arr, mul_arr, exp_arr, truncf_arr, zero_arr, zero_bc, zero_bc_bf16, zero_bc_trunc,
    eighth_bc, eighth_bc_bf16, select_arr, along_arr, down_arr, rows_arr, cols_arr, column_arr, row_arr, same_arr, slice_arr,
    face_arr3, to_arr3, face_arr4, to_arr4, nt_512, nt_1024, nt_1536, nn_512, nn_1024, nn_1536, tn_512, tn_1024, tn_1536, first_lanes, second_lanes, lane_0, lane_64,
    first_lanes_all, second_lanes_all, triangle]
  all_goals rfl

end Cert.FoxPoint

end
-- ==== Proof.FoxFinal.lean ====
/-
  The kernel of the pair FoxBwd / FoxVjp: its four result arrays are the gradients of FoxModel. Grid point `t` handles
  batch `t / 3` and the pair of heads `t % 3`; the fourth result's block stays in place over the three points of a batch,
  and each of them fills its two heads' rows.
-/
module

public import proofs.«01_k».proof.Proof.FoxHead
public import proofs.«01_k».proof.Proof.FoxPoint

@[expose] public section

set_option maxRecDepth 16384

noncomputable section

namespace Cert.FoxFinal

open Cert.FoxBwdIdeal Cert.FoxBwdIdeal.Gen Idealize.ShloMosaic Idealize.ShloMosaic.TcCoe Cert.Reals Cert.Arrays Cert.FoxModel
  Cert.FoxHost Cert.FoxHead Cert.FoxPoint
open Cert.FoxBwdIdeal.Facts

/-- Every window's block of point `t`: batch `t / 3`, pair of heads `t % 3`. -/
theorem idx : ∀ t : Fin cfg0.N, win0_0.index t = ![t.val / 3, 6 + t.val % 3] ∧ win0_1.index t = ![t.val / 3, 9 + t.val % 3]
    ∧ win0_2.index t = ![t.val / 3, 12 + t.val % 3] ∧ win0_3.index t = ![t.val / 3, t.val % 3]
    ∧ win0_4.index t = ![t.val % 3, t.val / 3, 0] ∧ win0_5.index t = ![t.val / 3, t.val % 3, 0, 0]
    ∧ win0_6.index t = ![t.val / 3, t.val % 3, 0, 0] ∧ win0_7.index t = ![t.val / 3, t.val % 3]
    ∧ win0_8.index t = ![t.val / 3, t.val % 3] ∧ win0_9.index t = ![t.val / 3, t.val % 3]
    ∧ win0_10.index t = ![t.val / 3, 0, 0, 0] :=
  (by decide +kernel : ∀ t : Fin grid0.N, _)
/-- The two rows that the point's heads fill. -/
theorem rows : ∀ t : Fin cfg0.N, rowOf t 0#32 = 2 * (t.val % 3) ∧ rowOf t 1#32 = 2 * (t.val % 3) + 1 :=
  (by decide +kernel : ∀ t : Fin grid0.N, _)

section
variable (q k v ct : ℕ → ℕ → ℕ → ℝ) (g : ℕ → ℕ → ℕ → ℝ)

/-! ### A point's results -/

variable (b p : ℕ)

theorem point_dq {t l : ℕ} (ht : t < 2048) (hl : l < 128) :
    FoxBlock.dq (point q k v ct g b p) t l = dq q k v ct g b t (128 * p + l) := by
  rw [FoxBlock.dq_at _ _ _ ht, dq, column_head q k v ct g b p rfl hl, FoxBlock.headAt]
  split <;> simp only [dscore0 q k v ct g b p rfl, dscore1 q k v ct g b p rfl] <;> rfl
theorem point_dk {s l : ℕ} (hl : l < 128) : FoxBlock.dk (point q k v ct g b p) s l = dk q k v ct g b s (128 * p + l) := by
  rw [FoxBlock.dk_at, dk, column_head q k v ct g b p rfl hl, FoxBlock.headAt]
  split <;> simp only [dscore0 q k v ct g b p rfl, dscore1 q k v ct g b p rfl] <;> rfl
theorem point_dv {s l : ℕ} (hl : l < 128) : FoxBlock.dv (point q k v ct g b p) s l = dv q k ct g b s (128 * p + l) := by
  rw [FoxBlock.dv_at, dv, column_head q k v ct g b p rfl hl, FoxBlock.headAt]
  split <;> simp only [prob0 q k v ct g b p rfl, prob1 q k v ct g b p rfl] <;> rfl

/-- The fourth result's block after the points of pairs `0` to `p`. -/
def kept : ℕ → ℕ → ℕ → Mat
  | 0 => FoxBlock.dc (point q k v ct g b 0) 0 1 (Face2 (Const 0))
  | p + 1 => FoxBlock.dc (point q k v ct g b (p + 1)) (2 * (p + 1)) (2 * (p + 1) + 1) (kept p)

/-- The sum over the queries that belongs to a head and a position. -/
def total (h s : ℕ) : ℝ := ∑ t ∈ Finset.range 2048, dscore q k v ct g b h t s

theorem kept_at {j i l : ℕ} (hl : l < 128) : kept q k v ct g b p 0 j i l = if i < 2 * p + 2 then total q k v ct g b i (128 * j + l) else 0 := by
  induction p with
  | zero =>
    rw [kept, FoxBlock.dc_at _ _ _ _ _ _ _ hl]
    simp only [dscore0 q k v ct g b 0 rfl, dscore1 q k v ct g b 0 rfl, Face2, Const, zero_add]
    rcases i with _ | _ | i
    · simp [total]
    · simp [total]
    · simp
  | succ p ih =>
    rw [kept, FoxBlock.dc_at _ _ _ _ _ _ _ hl, ih]
    simp only [dscore0 q k v ct g b (p + 1) rfl, dscore1 q k v ct g b (p + 1) rfl]
    rcases lt_trichotomy i (2 * (p + 1)) with h | h | h
    · rw [if_pos (by omega), if_neg (by omega), if_neg (by omega), if_pos (by omega), add_zero, add_zero]
    · subst h
      rw [if_neg (by omega), if_pos rfl, if_neg (by omega), if_pos (by omega), add_zero, zero_add]; rfl
    · rw [if_neg (by omega), if_neg (by omega), zero_add, zero_add]
      by_cases h' : i = 2 * (p + 1) + 1
      · subst h'; rw [if_pos rfl, if_pos (by omega)]; rfl
      · rw [if_neg h', if_neg (by omega)]

end

/-! ### A point's blocks -/

section
variable {m : (ℓ : Loc nD τ sig) → Buf (Elt Ideal) ℓ} (c : Dev nD) {q k v ct : ℕ → ℕ → ℕ → ℝ} {g : ℕ → ℕ → ℕ → ℝ}
variable (hq : m ((c.tc : Thread nD τ).loc main_arg0) = arr3 2 2048 384 q)
  (hk : m ((c.tc : Thread nD τ).loc main_arg1) = arr3 2 2048 384 k) (hv : m ((c.tc : Thread nD τ).loc main_arg2) = arr3 2 2048 384 v)
  (hg : FoxRef.gates (m ((c.tc : Thread nD τ).loc main_arg3)) = arr3 2 6 2048 g)
  (hct : m ((c.tc : Thread nD τ).loc main_arg4) = arr3 2 2048 384 ct) (t : Fin cfg0.N)

/-- A row of a batch, and the columns of a pair of heads. -/
theorem row_batch {n r : ℕ} (h : r < 2048) : (n * 2048 + r) / 2048 = n ∧ (n * 2048 + r) % 2048 = r := by omega

section
include hq hk hv

theorem block_q : iblk m c 0 t = arr2 2048 128 fun i l => q (t.val / 3) i (128 * (t.val % 3) + l) := by
  have ht : t.val < 6 := lt_of_lt_of_eq t.isLt N_0
  funext y; idx_vars y
  have e : iblk m c 0 t (ix2 y0 y1) = V m c main_v90 (ix2 (⟨t.val / 3 * 2048 + y0, by omega⟩ : Fin 4096)
      (⟨768 + ((⟨128 * (t.val % 3) + y1, by omega⟩ : Fin 384) : ℕ), by omega⟩ : Fin 2176)) := by
    blk_ext [iblk, idx t]
  rw [e, operand_proj, hq, hk, hv, project_q, arr2_ix]
  simp only [row_batch y0.isLt]
theorem block_k : iblk m c 1 t = arr2 2048 128 fun i l => k (t.val / 3) i (128 * (t.val % 3) + l) := by
  have ht : t.val < 6 := lt_of_lt_of_eq t.isLt N_0
  funext y; idx_vars y
  have e : iblk m c 1 t (ix2 y0 y1) = V m c main_v90 (ix2 (⟨t.val / 3 * 2048 + y0, by omega⟩ : Fin 4096)
      (⟨1152 + ((⟨128 * (t.val % 3) + y1, by omega⟩ : Fin 384) : ℕ), by omega⟩ : Fin 2176)) := by
    blk_ext [iblk, idx t]
  rw [e, operand_proj, hq, hk, hv, project_k, arr2_ix]
  simp only [row_batch y0.isLt]
theorem block_v : iblk m c 2 t = arr2 2048 128 fun i l => v (t.val / 3) i (128 * (t.val % 3) + l) := by
  have ht : t.val < 6 := lt_of_lt_of_eq t.isLt N_0
  funext y; idx_vars y
  have e : iblk m c 2 t (ix2 y0 y1) = V m c main_v90 (ix2 (⟨t.val / 3 * 2048 + y0, by omega⟩ : Fin 4096)
      (⟨1536 + ((⟨128 * (t.val % 3) + y1, by omega⟩ : Fin 384) : ℕ), by omega⟩ : Fin 2176)) := by
    blk_ext [iblk, idx t]
  rw [e, operand_proj, hq, hk, hv, project_v, arr2_ix]
  simp only [row_batch y0.isLt]

end

include hct in
theorem block_ct : iblk m c 3 t = arr2 2048 128 fun i l => ct (t.val / 3) i (128 * (t.val % 3) + l) := by
  have ht : t.val < 6 := lt_of_lt_of_eq t.isLt N_0
  funext y; idx_vars y
  have e : iblk m c 3 t (ix2 y0 y1) = V m c main_v92 (ix2 (⟨t.val / 3 * 2048 + y0, by omega⟩ : Fin 4096)
      (⟨128 * (t.val % 3) + y1, by omega⟩ : Fin 384)) := by
    blk_ext [iblk, idx t]
  rw [e, operand_ct, hct, flat_up, arr2_ix, arr2_ix]
  simp only [row_batch y0.isLt]
/-- The blocks of the log-sums' array and of the bias arrays. -/
theorem read_lse (A : FVec Ideal S3x4096x128 .f32) (y0 : Fin 1) (y1 : Fin 2048) (y2 : Fin 128) :
    ((cfg0.win 4).blk t).view.read (Elt Ideal) A (ix3 y0 y1 y2) = A (ix3 (⟨t.val % 3, by omega⟩ : Fin 3)
      (⟨t.val / 3 * 2048 + y1, by have ht : t.val < 6 := lt_of_lt_of_eq t.isLt N_0; omega⟩ : Fin 4096) y2) := by
  blk_ext [idx t]
theorem read_bq (A : FVec Ideal S2x6x2048x128 .bf16) (y0 : Fin 1) (y1 : Fin 2) (y2 : Fin 2048) (y3 : Fin 128) :
    ((cfg0.win 5).blk t).view.read (Elt Ideal) A (ix4 y0 y1 y2 y3)
      = A (ix4 (⟨t.val / 3, by have ht : t.val < 6 := lt_of_lt_of_eq t.isLt N_0; omega⟩ : Fin 2)
        (⟨2 * (t.val % 3) + y1, by omega⟩ : Fin 6) y2 y3) := by
  blk_ext [idx t]
theorem read_bk (A : FVec Ideal S2x6x2048x128 .bf16) (y0 : Fin 1) (y1 : Fin 2) (y2 : Fin 2048) (y3 : Fin 128) :
    ((cfg0.win 6).blk t).view.read (Elt Ideal) A (ix4 y0 y1 y2 y3)
      = A (ix4 (⟨t.val / 3, by have ht : t.val < 6 := lt_of_lt_of_eq t.isLt N_0; omega⟩ : Fin 2)
        (⟨2 * (t.val % 3) + y1, by omega⟩ : Fin 6) y2 y3) := by
  blk_ext [idx t]

include hq hk hg in
theorem block_lse : iblk m c 4 t = arr3 1 2048 128 (Face fun i l => FoxHost.total q k g (t.val / 3) (t.val % 3 * 2 + l / 64) i) := by
  have h : V m c (Pipeline.arrRef spec0 4) = _ := lse_real c hg hq hk
  unfold iblk; rw [h]
  refine ext3 fun y0 y1 y2 => (read_lse t _ y0 y1 y2).trans ?_
  rw [arr3_ix, arr3_ix]
  simp only [row_batch y1.isLt, Face]
include hg in
theorem block_bq : iblk m c 5 t = arr4 1 2 2048 128 fun _ n => biasRow g (t.val / 3) (2 * (t.val % 3) + n) := by
  have h : V m c (Pipeline.arrRef spec0 5) = _ := bq_real c hg
  unfold iblk; rw [h]
  exact ext4 fun y0 y1 y2 y3 => (read_bq t _ y0 y1 y2 y3).trans rfl
include hg in
theorem block_bk : iblk m c 6 t = arr4 1 2 2048 128 fun _ n => biasCol g (t.val / 3) (2 * (t.val % 3) + n) := by
  have h : V m c (Pipeline.arrRef spec0 6) = _ := bk_real c hg
  unfold iblk; rw [h]
  exact ext4 fun y0 y1 y2 y3 => (read_bk t _ y0 y1 y2 y3).trans rfl

include hq hk hv hg hct

theorem reads : Reads m c t (point q k v ct g (t.val / 3) (t.val % 3)) :=
  ⟨block_q c hq hk hv t, block_k c hq hk hv t, block_v c hq hk hv t, block_ct c hct t, block_lse c hq hk hg t, block_bq c hg t,
    block_bk c hg t⟩

/-! ### The result arrays -/

/-- What point `t` leaves in the four blocks. -/
theorem outs (n : ℕ) (hn : n < cfg0.N) :
    (outsAt0 m c n hn).1 = arr2 2048 128 (FoxBlock.dq (point q k v ct g (n / 3) (n % 3)))
    ∧ (outsAt0 m c n hn).2.1 = arr2 2048 128 (FoxBlock.dk (point q k v ct g (n / 3) (n % 3)))
    ∧ (outsAt0 m c n hn).2.2.1 = arr2 2048 128 (FoxBlock.dv (point q k v ct g (n / 3) (n % 3)))
    ∧ (outsAt0 m c n hn).2.2.2 = arr4 1 16 8 128 (kept q k v ct g (n / 3) (n % 3)) := by
  induction n with
  | zero =>
    have h := pointA (reads c hq hk hv hg hct ⟨0, hn⟩) (show 0 % 3 = 0 from rfl)
    rw [(rows ⟨0, hn⟩).1, (rows ⟨0, hn⟩).2] at h
    exact h
  | succ n ih =>
    by_cases h0 : (n + 1) % 3 = 0
    · have h := pointA (reads c hq hk hv hg hct ⟨n + 1, hn⟩) h0
      rw [(rows ⟨n + 1, hn⟩).1, (rows ⟨n + 1, hn⟩).2] at h
      refine ⟨h.1, h.2.1, h.2.2.1, h.2.2.2.trans ?_⟩
      simp only [h0, kept]
    · have h := pointB (reads c hq hk hv hg hct ⟨n + 1, hn⟩) h0 (ih (by omega)).2.2.2
      rw [(rows ⟨n + 1, hn⟩).1, (rows ⟨n + 1, hn⟩).2] at h
      refine ⟨h.1, h.2.1, h.2.2.1, h.2.2.2.trans ?_⟩
      simp only [show (n + 1) / 3 = n / 3 by omega, show (n + 1) % 3 = n % 3 + 1 by omega, kept]

end

end Cert.FoxFinal

end
-- ==== Proof.FoxArrays.lean ====
/-
  The four result arrays of FoxBwd, put together from the grid points' blocks.
-/
module

public import proofs.«01_k».proof.Proof.FoxFinal

@[expose] public section

set_option maxRecDepth 16384

noncomputable section

namespace Cert.FoxFinal

open Cert.FoxBwdIdeal Cert.FoxBwdIdeal.Gen Idealize.ShloMosaic Idealize.ShloMosaic.TcCoe Cert.Reals Cert.Arrays Cert.FoxModel
open Cert.FoxBwdIdeal.Facts

/-- An element of a block of 2048 rows and 128 columns is the array's element there. -/
theorem at_block (f : ℕ → ℕ → ℕ → ℝ) {t : Fin cfg0.N} (a : Fin 2048) (l : Fin 128) (i : S4096x384.Idx)
    (h0 : (i 0 : ℕ) = t.val / 3 * 2048 + a) (h1 : (i 1 : ℕ) = t.val % 3 * 128 + l) :
    ((f (t.val / 3) a (128 * (t.val % 3) + l) : ℝ) : EReal) = arr2 4096 384 (fun t l => f (t / 2048) (t % 2048) l) i := by
  have e : ((i 0 : ℕ)) / 2048 = t.val / 3 := by rw [h0]; omega
  have e' : ((i 0 : ℕ)) % 2048 = a := by rw [h0]; omega
  have e'' : ((i 1 : ℕ)) = 128 * (t.val % 3) + l := by rw [h1]; omega
  rw [arr2, e, e', e'']
/-- An element of a batch's block of the fourth result. -/
theorem at_gate (f : ℕ → ℕ → ℕ → ℕ → ℝ) {t : Fin cfg0.N} (a : Fin 16) (b : Fin 8) (l : Fin 128) (i : S2x16x8x128.Idx)
    (h0 : (i 0 : ℕ) = t.val / 3) (h1 : (i 1 : ℕ) = a) (h2 : (i 2 : ℕ) = b) (h3 : (i 3 : ℕ) = l) :
    ((f (t.val / 3) a b l : ℝ) : EReal) = arr4 2 16 8 128 f i := by
  rw [arr4, h0, h1, h2, h3]

/-- The points whose block of the fourth result is written back: a batch's last. -/
theorem flush_last : ∀ t : Fin cfg0.N, (cfg0.win 10).flush t = true → t.val % 3 = 2 :=
  (by decide +kernel : ∀ t : Fin grid0.N, win0_10.flush t = true → t.val % 3 = 2)

/-- A batch's block after its last point. -/
theorem kept_last (q k v ct : ℕ → ℕ → ℕ → ℝ) (g : ℕ → ℕ → ℕ → ℝ) (b : ℕ) {a j i l : ℕ} (ha : a < 1) (hl : l < 128) :
    kept q k v ct g b 2 a j i l = dc q k v ct g b j i l := by
  rw [show a = 0 by omega, kept_at q k v ct g b 2 hl]; rfl

section
variable {m : (ℓ : Loc nD τ sig) → Buf (Elt Ideal) ℓ} (c : Dev nD) {q k v ct : ℕ → ℕ → ℕ → ℝ} {g : ℕ → ℕ → ℕ → ℝ}
variable (hq : m ((c.tc : Thread nD τ).loc main_arg0) = arr3 2 2048 384 q)
  (hk : m ((c.tc : Thread nD τ).loc main_arg1) = arr3 2 2048 384 k) (hv : m ((c.tc : Thread nD τ).loc main_arg2) = arr3 2 2048 384 v)
  (hg : FoxRef.gates (m ((c.tc : Thread nD τ).loc main_arg3)) = arr3 2 6 2048 g)
  (hct : m ((c.tc : Thread nD τ).loc main_arg4) = arr3 2 2048 384 ct)
include hq hk hv hg hct

theorem final_dq : (dats m 0 c).arrAt 7 cfg0.N = arr2 4096 384 fun t l => dq q k v ct g (t / 2048) (t % 2048) l := by
  refine (dats m 0 c).arrAt_eq_of_covers 7 _ (by decide +kernel) fun t hf y => ?_
  blk_simp
  rw [after0_7, (outs c hq hk hv hg hct t.val t.isLt).1]
  refine (congrArg Real.toEReal (point_dq q k v ct g _ _ (y 0).isLt (y 1).isLt)).trans
    (at_block (dq q k v ct g) (y 0) (y 1) _ ?_ ?_) <;> blk_simp [idx t]
theorem final_dk : (dats m 0 c).arrAt 8 cfg0.N = arr2 4096 384 fun t l => dk q k v ct g (t / 2048) (t % 2048) l := by
  refine (dats m 0 c).arrAt_eq_of_covers 8 _ (by decide +kernel) fun t hf y => ?_
  blk_simp
  rw [after0_8, (outs c hq hk hv hg hct t.val t.isLt).2.1]
  refine (congrArg Real.toEReal (point_dk q k v ct g _ _ (y 1).isLt)).trans
    (at_block (dk q k v ct g) (y 0) (y 1) _ ?_ ?_) <;> blk_simp [idx t]
theorem final_dv : (dats m 0 c).arrAt 9 cfg0.N = arr2 4096 384 fun t l => dv q k ct g (t / 2048) (t % 2048) l := by
  refine (dats m 0 c).arrAt_eq_of_covers 9 _ (by decide +kernel) fun t hf y => ?_
  blk_simp
  rw [after0_9, (outs c hq hk hv hg hct t.val t.isLt).2.2.1]
  refine (congrArg Real.toEReal (point_dv q k v ct g _ _ (y 1).isLt)).trans
    (at_block (dv q k ct g) (y 0) (y 1) _ ?_ ?_) <;> blk_simp [idx t]

theorem final_dc : (dats m 0 c).arrAt 10 cfg0.N = arr4 2 16 8 128 (dc q k v ct g) := by
  refine (dats m 0 c).arrAt_eq_of_covers 10 _ (by decide +kernel) fun t hf y => ?_
  have h2 := flush_last t hf
  blk_simp
  rw [after0_10, (outs c hq hk hv hg hct t.val t.isLt).2.2.2, h2]
  refine (congrArg Real.toEReal (kept_last q k v ct g _ (y 0).isLt (y 3).isLt)).trans
    (at_gate (dc q k v ct g) (t := t) (y 1) (y 2) (y 3) _ ?_ ?_ ?_ ?_) <;> blk_simp [idx t]

end

end Cert.FoxFinal

end
-- ==== Proof.FoxClaim.lean ====
/-
  The claims of the pair FoxBwd / FoxVjp: the reference's frame, and that over the extended reals both programs return the
  same four gradients of finite arguments.
-/
module

public import proofs.«01_k».proof.Defs
public import proofs.«01_k».proof.Proof.FoxArrays
public import proofs.«01_k».proof.Proof.Gen.Pre_fox_finite
public import Idealize.ShloMosaic.Lib.Quiescent

@[expose] public section

set_option maxRecDepth 16384

noncomputable section

namespace Cert.FoxClaim

open Idealize.ShloMosaic Idealize.SL.Sem Idealize.ShloMosaic.TcCoe Cert.Reals Cert.Arrays

/-- The reference runs, keeps its arguments, and uses no semaphore. -/
theorem frame_reference : Cert.quiescent_FoxVjpIdeal := fun m ρ _ =>
  (θ_run Cert.FoxVjpIdeal.defs _ _).mono (fun r h => ⟨fun c => (h c).2.2.2.2, sem_eq_zero_of_no_sems (by decide) r.2⟩)
    (Cert.FoxVjpIdeal.Value.run (F := Ideal) m ρ)

/-- Finite arguments are real arrays. -/
theorem real_args {m : (ℓ : Loc Cert.FoxBwdIdeal.nD Cert.FoxBwdIdeal.τ Cert.FoxBwdIdeal.sig) → Buf (Elt Ideal) ℓ}
    (h : Cert.Pre_FoxBwdIdeal_fox_finite m) (c : Dev Cert.FoxBwdIdeal.nD) :
    ∃ q k v f ct, m ((c.tc : Thread Cert.FoxBwdIdeal.nD Cert.FoxBwdIdeal.τ).loc Cert.FoxBwdIdeal.main_arg0) = arr3 2 2048 384 q
      ∧ m ((c.tc : Thread Cert.FoxBwdIdeal.nD Cert.FoxBwdIdeal.τ).loc Cert.FoxBwdIdeal.main_arg1) = arr3 2 2048 384 k
      ∧ m ((c.tc : Thread Cert.FoxBwdIdeal.nD Cert.FoxBwdIdeal.τ).loc Cert.FoxBwdIdeal.main_arg2) = arr3 2 2048 384 v
      ∧ m ((c.tc : Thread Cert.FoxBwdIdeal.nD Cert.FoxBwdIdeal.τ).loc Cert.FoxBwdIdeal.main_arg3) = arr3 2 2048 6 f
      ∧ m ((c.tc : Thread Cert.FoxBwdIdeal.nD Cert.FoxBwdIdeal.τ).loc Cert.FoxBwdIdeal.main_arg4) = arr3 2 2048 384 ct := by
  obtain ⟨h0, h1, h2, h3, h4⟩ := h c
  obtain ⟨q, hq⟩ := FoxRef.arr3_of_real fun i => exists_real (finite h0 i)
  obtain ⟨k, hk⟩ := FoxRef.arr3_of_real fun i => exists_real (finite h1 i)
  obtain ⟨v, hv⟩ := FoxRef.arr3_of_real fun i => exists_real (finite h2 i)
  obtain ⟨f, hf⟩ := FoxRef.arr3_of_real fun i => exists_real (finite h3 i)
  obtain ⟨ct, hct⟩ := FoxRef.arr3_of_real fun i => exists_real (finite h4 i)
  exact ⟨q, k, v, f, ct, hq, hk, hv, hf, hct⟩

/-- The kernel's four results are the reference's. -/
theorem value : Cert.algebraic_FoxBwdIdeal_FoxVjpIdeal_pre_fox_finite := by
  intro m g m' g' hpre hagree
  refine ⟨fun c => Cert.FoxVjpIdeal.Value.res_out0 m' c, fun c => Cert.FoxVjpIdeal.Value.res_out1 m' c,
    fun c => Cert.FoxVjpIdeal.Value.res_out2 m' c, fun c => Cert.FoxVjpIdeal.Value.res_out3 m' c, ?_,
    Cert.FoxVjpIdeal.Value.run (F := Ideal) m' g'⟩
  refine (θ_run Cert.FoxBwdIdeal.defs _ _).mono (fun r h c => ?_) (Cert.FoxBwdIdeal.Value.run_blocks (F := Ideal) m g)
  obtain ⟨q, k, v, f, ct, hq, hk, hv, hf, hct⟩ := real_args hpre c
  obtain ⟨a0, a1, a2, a3, a4⟩ := hagree c
  obtain ⟨r0, r1, r2, r3, kept⟩ := h c
  obtain ⟨s, hs⟩ := FoxRef.gates_real f
  have hg := (congrArg FoxRef.gates hf).trans hs
  refine ⟨r0.trans ?_, r1.trans ?_, r2.trans ?_, r3.trans ?_, kept⟩
  · show _ = FoxVjpIdeal.Value.res_out0 m' c
    rw [FoxFinal.final_dq c hq hk hv hg hct, FoxRef.out0_eq, a0, a1, a2, a3, a4, hq, hk, hv, hct, FoxRef.gradQ_eq hg]
  · show _ = FoxVjpIdeal.Value.res_out1 m' c
    rw [FoxFinal.final_dk c hq hk hv hg hct, FoxRef.out1_eq, a0, a1, a2, a3, a4, hq, hk, hv, hct, FoxRef.gradK_eq hg]
  · show _ = FoxVjpIdeal.Value.res_out2 m' c
    rw [FoxFinal.final_dv c hq hk hv hg hct, FoxRef.out2_eq, a0, a1, a3, a4, hq, hk, hct, FoxRef.gradV_eq hg]
  · show _ = FoxVjpIdeal.Value.res_out3 m' c
    rw [FoxFinal.final_dc c hq hk hv hg hct, FoxRef.out3_eq, a0, a1, a2, a3, a4, hq, hk, hv, hct, FoxRef.gradC_eq hg]

end Cert.FoxClaim

end
-- ==== Proof.GateModel.lean ====
/-
  The gates' gradient of the pair GateBwd / GateVjp over the extended reals, and the sums the kernel takes to reach it: the
  sum of a row from an element on, formed within a block of 128 by doubling, and over the blocks by a carry. The sums keep
  their value in any order at infinite elements too, so that nothing is asked of the arguments.
-/
module

public import proofs.«01_k».proof.Proof.Arrays

@[expose] public section

noncomputable section

namespace Cert.GateModel

open Idealize.ShloMosaic Cert.Reals Cert.Arrays Finset

/-! ### Arrays of extended reals by functions of natural coordinates -/

abbrev Tab := ℕ → ℕ → EReal

def tab2 (m n : ℕ) (f : Tab) : (⟨2, ![m, n]⟩ : Shape).Idx → EReal := fun i => f (i 0) (i 1)
def tab3 (l m n : ℕ) (f : ℕ → Tab) : (⟨3, ![l, m, n]⟩ : Shape).Idx → EReal := fun i => f (i 0) (i 1) (i 2)
def tab4 (k l m n : ℕ) (f : ℕ → ℕ → Tab) : (⟨4, ![k, l, m, n]⟩ : Shape).Idx → EReal := fun i => f (i 0) (i 1) (i 2) (i 3)

@[pointwise] theorem tab2_ix {m n : ℕ} (f : Tab) (i : Fin m) (j : Fin n) : tab2 m n f (ix2 i j) = f i j := rfl
@[pointwise] theorem tab3_ix {l m n : ℕ} (f : ℕ → Tab) (h : Fin l) (i : Fin m) (j : Fin n) :
    tab3 l m n f (ix3 h i j) = f h i j := rfl
@[pointwise] theorem tab4_ix {k l m n : ℕ} (f : ℕ → ℕ → Tab) (g : Fin k) (h : Fin l) (i : Fin m) (j : Fin n) :
    tab4 k l m n f (ix4 g h i j) = f g h i j := rfl

theorem tab2_congr {m n : ℕ} {f g : Tab} (h : ∀ i < m, ∀ j < n, f i j = g i j) : tab2 m n f = tab2 m n g :=
  funext fun i => h _ (i 0).isLt _ (i 1).isLt

/-- Every array is one. -/
theorem exists_tab3 {a b c : ℕ} (x : (⟨3, ![a, b, c]⟩ : Shape).Idx → EReal) : ∃ f, x = tab3 a b c f := by
  refine ⟨fun i j k => if h : i < a ∧ j < b ∧ k < c then x (ix3 ⟨i, h.1⟩ ⟨j, h.2.1⟩ ⟨k, h.2.2⟩) else 0, funext fun i => ?_⟩
  have hi : (i 0 : ℕ) < a ∧ (i 1 : ℕ) < b ∧ (i 2 : ℕ) < c := ⟨(i 0).isLt, (i 1).isLt, (i 2).isLt⟩
  show x i = if h : (i 0 : ℕ) < a ∧ (i 1 : ℕ) < b ∧ (i 2 : ℕ) < c then x (ix3 ⟨i 0, h.1⟩ ⟨i 1, h.2.1⟩ ⟨i 2, h.2.2⟩) else 0
  rw [dif_pos hi]
  exact congrArg x (eq_ix3 i)

/-! ### The gradient and its sums -/

/-- The sum of a row's elements from `t` on, below `n`. -/
def tail (n : ℕ) (x : ℕ → EReal) (t : ℕ) : EReal := ∑ s ∈ Ico t n, x s

/-- The logistic function at `-x`: the derivative at `x` of its logarithm. -/
def sigmoid (x : EReal) : EReal := Ideal.div 1 (1 + Ideal.exp x)

/-- The gradient of the gates' logits: the cotangents of the running sums from `t` on, times the derivative of the
    logarithm of the logistic function; nothing in the columns that carry no head. -/
def gradient (f c : ℕ → Tab) : ℕ → Tab := fun b t h =>
  if h < 6 then tail 2048 (c b h) t * sigmoid (f b t h) else 0

/-- One round of doubling, on rows of 128. -/
def Spread (k : ℕ) (f : Tab) : Tab := fun i j => f i j + if j < 128 - k then f i (j + k) else 0

/-- A row's windows: the sums of `k` elements from each on, cut at the row's end. -/
def Windows (k : ℕ) (f : Tab) : Tab := fun i j => ∑ s ∈ Ico j (min (j + k) 128), f i s

theorem windows_one (f : Tab) : ∀ i, ∀ j < 128, Windows 1 f i j = f i j := by
  intro i j hj
  rw [Windows, show min (j + 1) 128 = j + 1 by omega]
  simp

theorem windows_128 (f : Tab) (i j : ℕ) : Windows 128 f i j = tail 128 (f i) j := by
  rw [Windows, show min (j + 128) 128 = 128 by omega]; rfl

/-- A round doubles the windows. -/
theorem spread_windows (k : ℕ) (f : Tab) : ∀ i, ∀ j < 128, Spread k (Windows k f) i j = Windows (k + k) f i j := by
  intro i j hj
  simp only [Spread, Windows]
  split_ifs with h
  · rw [show min (j + k) 128 = j + k by omega, Finset.sum_Ico_consecutive _ (by omega) (by omega),
      show min (j + k + k) 128 = min (j + (k + k)) 128 by omega]
  · rw [show min (j + k) 128 = 128 by omega, show min (j + (k + k)) 128 = 128 by omega, add_zero]

theorem spread_congr {k : ℕ} {f g : Tab} (h : ∀ i, ∀ j < 128, f i j = g i j) : ∀ i, ∀ j < 128, Spread k f i j = Spread k g i j := by
  intro i j hj
  simp only [Spread]
  split_ifs with h1
  · rw [h i j hj, h i (j + k) (by omega)]
  · rw [h i j hj]

/-- Seven rounds give each element the sum of its row from it on. -/
theorem rounds (f : Tab) : ∀ i, ∀ j < 128,
    Spread 64 (Spread 32 (Spread 16 (Spread 8 (Spread 4 (Spread 2 (Spread 1 f)))))) i j = tail 128 (f i) j := by
  have s1 : ∀ i, ∀ j < 128, Spread 1 f i j = Windows 2 f i j := fun i j hj =>
    (spread_congr (fun i j hj => (windows_one f i j hj).symm) i j hj).trans (spread_windows 1 f i j hj)
  have up : ∀ (k : ℕ) (g : Tab), (∀ i, ∀ j < 128, g i j = Windows k f i j) → ∀ i, ∀ j < 128, Spread k g i j = Windows (k + k) f i j :=
    fun k g h i j hj => (spread_congr h i j hj).trans (spread_windows k f i j hj)
  intro i j hj
  exact (up 64 _ (up 32 _ (up 16 _ (up 8 _ (up 4 _ (up 2 _ s1))))) i j hj).trans (windows_128 f i j)

/-- A long row's tail is a block's tail and the tail from the block's end. -/
theorem tail_block (x : ℕ → EReal) (j l : ℕ) (hj : j < 16) (hl : l < 128) :
    tail 128 (fun s => x (128 * j + s)) l + tail 2048 x (128 * j + 128) = tail 2048 x (128 * j + l) := by
  unfold tail
  rw [Finset.sum_Ico_add x l 128 (128 * j), Nat.add_comm l, Nat.add_comm 128,
    Finset.sum_Ico_consecutive _ (by omega) (by omega)]

end Cert.GateModel

end
-- ==== Proof.GateOps.lean ====
/-
  The kernel of the pair GateBwd / GateVjp at one grid point: the sixteen blocks of 128 are taken last first, each by the
  same rounds of doubling with the sums of the blocks behind it carried along; the result block is their sixteen stores.
-/
module

public import proofs.«01_k».proof.Proof.GateModel
public import proofs.«01_k».proof.Proof.Gen.GateBwdIdeal.Value
public import Idealize.ShloMosaic.Lib.KernelVsHost

@[expose] public section

set_option maxRecDepth 16384

noncomputable section

namespace Cert.GateOps

open Cert.GateBwdIdeal Cert.GateBwdIdeal.Gen Idealize.ShloMosaic Idealize.ShloMosaic.TcCoe

abbrev Tile := FVec Ideal S8x128 .f32
abbrev Slab := Vec Ideal S1x16x8x128 .f32

theorem row_in (j : Fin 16) : ∀ a, (![0, j.val, 0, 0] : Fin 4 → ℕ) a + S1x1x8x128.size a ≤ S1x16x8x128.size a := by
  revert j; decide
theorem rows_in (j : Fin 16) : ∀ a, (![0, 128 * j.val, 0] : Fin 3 → ℕ) a + S1x128x128.size a ≤ S1x2048x128.size a := by
  revert j; decide

/-- Block `j` of the operands, and its rows of the result. -/
abbrev row (j : Fin 16) : Rect S1x16x8x128 := Rect.unit (s := S1x16x8x128) ![0, j.val, 0, 0] S1x1x8x128.size (row_in j)
abbrev rows (j : Fin 16) : Rect S1x2048x128 := Rect.unit (s := S1x2048x128) ![0, 128 * j.val, 0] S1x128x128.size (rows_in j)

def zeros : Tile := broadcast S8x128 (Scalar.ofBits .f32 0x00000000#32)
def lane : IVec S8x128 32 := iota .tc S8x128 32 [1] iota_S8x128_d1_w32

/-- One round of doubling: each element takes the one `128 - k` lanes around, while that lies in the row. -/
def spread (k : BitVec 32) (r : Tile) : Tile :=
  addf r (select (cmpi .slt lane (broadcast S8x128 k)) (dynamicRotate 1 k none r rotates_S8x128_d1) zeros)

def scan (r : Tile) : Tile :=
  spread 64#32 (spread 96#32 (spread 112#32 (spread 120#32 (spread 124#32 (spread 126#32 (spread 127#32 r))))))

def negated (d : FVec Ideal S1x1x8x128 .f32) : Tile := subf zeros (shapeCast S8x128 d shapeCasts_S1x1x8x128_S8x128)

/-- The first element of each row of a tile. -/
def first (r : Tile) : FVec Ideal S8x1 .f32 :=
  shapeCast S8x1 (multiReduction .add [1] S8 (select (cmpi .eq lane (broadcast S8x128 0#32)) r zeros) 0x00000000#32
    reduces_S8x128_S8 (.inl rfl) rfl) shapeCasts_S8_S8x1

def sums (d : Slab) (j : Fin 16) : Tile := scan (negated (View.ld (Val := Elt Ideal) (e' := .f32) d (row j)))

/-- What is carried behind the last `n` blocks. -/
def carry (d : Slab) : ℕ → FVec Ideal S8x1 .f32
  | 0 => broadcast S8x1 (Scalar.ofBits .f32 0x00000000#32)
  | n + 1 => addf (carry d n) (first (sums d ⟨15 - n, by omega⟩))

def logistic (f : FVec Ideal S1x1x8x128 .f32) : Tile :=
  divf (broadcast S8x128 (Scalar.ofBits .f32 0x3F800000#32))
    (addf (broadcast S8x128 (Scalar.ofBits .f32 0x3F800000#32)) (exp (subf zeros (negated f))))

/-- The rows a block stores: its gradient beside zeros, turned over. -/
def stored (r : Tile) (c : FVec Ideal S8x1 .f32) (f : FVec Ideal S1x1x8x128 .f32) : FVec Ideal S1x128x128 .f32 :=
  shapeCast S1x128x128 (transpose S128x128 [1, 0] (concatenate S128x128 0
    [⟨S8x128, mulf (addf r (broadcastTo S8x128 c broadcasts_S8x1_S8x128)) (logistic f)⟩,
      ⟨S120x128, broadcast S120x128 (Scalar.ofBits .f32 0x00000000#32)⟩] concatenates_S8x128_S120x128_S128x128_d0)
    transposes_S128x128_p1_0_S128x128) shapeCasts_S128x128_S1x128x128

def piece (d f : Slab) (j : Fin 16) : View.Piece (Elt Ideal) S1x2048x128 .f32 :=
  ⟨rows j, stored (sums d j) (carry d (15 - j.val)) (View.ld (Val := Elt Ideal) (e' := .f32) f (row j))⟩

theorem out_eq (d f : Slab) : out0_2 d f = View.canon ((List.finRange 16).map (piece d f)) := by
  have hl : (List.finRange 16).map (piece d f) = [piece d f 0, piece d f 1, piece d f 2, piece d f 3, piece d f 4,
    piece d f 5, piece d f 6, piece d f 7, piece d f 8, piece d f 9, piece d f 10, piece d f 11, piece d f 12, piece d f 13,
    piece d f 14, piece d f 15] := rfl
  rw [hl]
  unfold_out out0_2
  rfl

/-! ### On arrays of extended reals -/

section
open Cert.Reals Cert.Arrays Cert.GateModel

theorem below : ∀ p ∈ [1, 2, 4, 8, 16, 32, 64], ∀ j : Fin 128,
    IntOp.cmpi .slt (BitVec.ofNat 32 j.val) (BitVec.ofNat 32 (128 - p)) = BitVec.ofBool (decide (j.val < 128 - p)) := by
  decide +kernel
theorem at_zero : ∀ j : Fin 128, IntOp.cmpi .eq (BitVec.ofNat 32 j.val) 0#32 = BitVec.ofBool (decide (j.val = 0)) := by
  decide +kernel
theorem around : ∀ p ∈ [1, 2, 4, 8, 16, 32, 64], ∀ j : Fin 128,
    (j.val + 128 - (BitVec.ofNat 32 (128 - p)).toNat % 128) % 128 = (j.val + p) % 128 := by
  decide +kernel

theorem lane_at (i : Fin 8) (j : Fin 128) : lane (ix2 i j) = BitVec.ofNat 32 j.val := by pointwise [lane]

theorem below_arr (p : ℕ) (hp : p ∈ [1, 2, 4, 8, 16, 32, 64]) : cmpi .slt lane (broadcast S8x128 (BitVec.ofNat 32 (128 - p)))
    = bits 8 128 (fun _ j => decide (j < 128 - p)) :=
  ext2 fun i j => (congrArg (fun w => IntOp.cmpi .slt w (BitVec.ofNat 32 (128 - p))) (lane_at i j)).trans (below p hp j)

theorem at_zero_arr : cmpi .eq lane (broadcast S8x128 0#32) = bits 8 128 (fun _ j => decide (j = 0)) :=
  ext2 fun i j => (congrArg (fun w => IntOp.cmpi .eq w 0#32) (lane_at i j)).trans (at_zero j)

theorem around_arr (p : ℕ) (hp : p ∈ [1, 2, 4, 8, 16, 32, 64]) (f : Tab) :
    dynamicRotate 1 (BitVec.ofNat 32 (128 - p)) none (tab2 8 128 f) rotates_S8x128_d1
      = tab2 8 128 (fun i j => f i ((j + p) % 128)) := by
  refine ext2 fun i j => ?_
  refine (dynamicRotate_apply (1 : Fin 2) _ (tab2 8 128 f) _ _
    (ix2 i (⟨(j.val + p) % 128, Nat.mod_lt _ (by omega)⟩ : Fin 128)) fun b => ?_).trans rfl
  match b with
  | 0 => rfl
  | 1 => exact (around p hp j).symm

theorem spread_arr (p : ℕ) (hp : p ∈ [1, 2, 4, 8, 16, 32, 64]) (f : Tab) :
    spread (BitVec.ofNat 32 (128 - p)) (tab2 8 128 f) = tab2 8 128 (Spread p f) := by
  unfold spread zeros
  rw [below_arr p hp, around_arr p hp]
  refine ext2 fun i j => ?_
  have h := j.isLt
  pointwise [bits, Spread]
  by_cases hj : j.val < 128 - p
  · simp only [hj, if_true, if_pos, decide_true, Nat.mod_eq_of_lt (show j.val + p < 128 by omega)]
  · simp only [hj, if_false, if_neg, decide_false]

theorem scan_arr (f : Tab) : scan (tab2 8 128 f) = tab2 8 128 (fun i => tail 128 (f i)) := by
  unfold scan
  rw [show (127#32 : BitVec 32) = BitVec.ofNat 32 (128 - 1) from rfl, spread_arr 1 (by decide),
    show (126#32 : BitVec 32) = BitVec.ofNat 32 (128 - 2) from rfl, spread_arr 2 (by decide),
    show (124#32 : BitVec 32) = BitVec.ofNat 32 (128 - 4) from rfl, spread_arr 4 (by decide),
    show (120#32 : BitVec 32) = BitVec.ofNat 32 (128 - 8) from rfl, spread_arr 8 (by decide),
    show (112#32 : BitVec 32) = BitVec.ofNat 32 (128 - 16) from rfl, spread_arr 16 (by decide),
    show (96#32 : BitVec 32) = BitVec.ofNat 32 (128 - 32) from rfl, spread_arr 32 (by decide),
    show (64#32 : BitVec 32) = BitVec.ofNat 32 (128 - 64) from rfl, spread_arr 64 (by decide)]
  exact tab2_congr fun i _ j hj => rounds f i j hj

theorem negated_arr (d : ℕ → ℕ → Tab) : negated (tab4 1 1 8 128 d) = tab2 8 128 (fun i j => -d 0 0 i j) := by
  unfold negated zeros
  refine ext2 fun i j => ?_
  pointwise []
  exact zero_sub _

theorem first_arr (f : Tab) : first (tab2 8 128 f) = tab2 8 1 (fun i _ => f i 0) := by
  unfold first zeros
  rw [at_zero_arr]
  refine ext2 fun i j => ?_
  pointwise [bits]
  simp

/-- The operand of a grid point: sixteen blocks of rows of 2048, one by one. -/
def slab (x : Tab) : Slab := tab4 1 16 8 128 (fun _ j i l => x i (128 * j + l))

theorem block_at (x : Tab) (j : Fin 16) : View.ld (Val := Elt Ideal) (e' := .f32) (slab x) (row j)
    = tab4 1 1 8 128 (fun _ _ i l => x i (128 * j.val + l)) := by
  refine ext4 fun a b i l => ?_
  show x (0 + 1 * i.val) (128 * (j.val + 1 * b.val) + (0 + 1 * l.val)) = x i (128 * j.val + l.val)
  simp only [one_mul, zero_add, Fin.val_eq_zero, add_zero]

theorem sums_arr (x : Tab) (j : Fin 16) :
    sums (slab fun i s => -x i s) j = tab2 8 128 (fun i => tail 128 (fun s => x i (128 * j.val + s))) := by
  unfold sums
  rw [block_at, negated_arr, scan_arr]
  simp only [neg_neg]

theorem carry_arr (x : Tab) : ∀ n ≤ 16, carry (slab fun i s => -x i s) n
    = tab2 8 1 (fun i _ => tail 2048 (x i) (2048 - 128 * n))
  | 0, _ => by
    unfold carry
    refine ext2 fun i j => ?_
    pointwise [tail]
    simp
  | n + 1, hn => by
    unfold carry
    rw [carry_arr x n (by omega), sums_arr, first_arr]
    refine tab2_congr (m := 8) (n := 1) (f := fun i _ => tail 2048 (x i) (2048 - 128 * n)
      + tail 128 (fun s => x i (128 * (15 - n) + s)) 0) fun i _ j _ => ?_
    have h := tail_block (x i) (15 - n) 0 (by omega) (by omega)
    rw [show 128 * (15 - n) + 128 = 2048 - 128 * n by omega, show 128 * (15 - n) + 0 = 2048 - 128 * (n + 1) by omega] at h
    rw [← h, add_comm]

theorem logistic_arr (f : ℕ → ℕ → Tab) : logistic (tab4 1 1 8 128 f) = tab2 8 128 (fun i j => sigmoid (f 0 0 i j)) := by
  unfold logistic
  rw [negated_arr]
  refine ext2 fun i j => ?_
  pointwise [zeros, sigmoid]
  rw [zero_sub, neg_neg]

theorem stored_arr (r c f : Tab) : stored (tab2 8 128 r) (tab2 8 1 c) (tab4 1 1 8 128 fun _ _ => f)
    = tab3 1 128 128 (fun _ l h => if h < 8 then (r h l + c h 0) * sigmoid (f h l) else 0) := by
  unfold stored
  rw [logistic_arr]
  refine ext3 fun k l h => ?_
  pointwise []
  split_ifs <;> rfl

/-- What a grid point leaves: the gradient of its batch. -/
def left (x f : Tab) : ℕ → Tab := fun _ t h => if h < 8 then tail 2048 (x h) t * sigmoid (f h t) else 0

theorem piece_arr (x f : Tab) (j : Fin 16) : (piece (slab fun i s => -x i s) (slab f) j).2
    = tab3 1 128 128 (fun _ l h => left x f 0 (128 * j.val + l) h) := by
  show stored (sums _ j) (carry _ _) (View.ld (Val := Elt Ideal) (e' := .f32) (slab f) (row j)) = _
  rw [sums_arr, carry_arr x _ (by omega), block_at, stored_arr]
  refine ext3 fun k l h => ?_
  have e := tail_block (x h) j.val l.val j.isLt l.isLt
  rw [show 128 * j.val + 128 = 2048 - 128 * (15 - j.val) by omega] at e
  simp only [left]
  exact congrArg (fun q => if h.val < 8 then q * sigmoid (f h (128 * j.val + l.val)) else 0) e

theorem out_arr (x f : Tab) : out0_2 (slab fun i s => -x i s) (slab f) = tab3 1 2048 128 (left x f) := by
  rw [out_eq]
  refine ext3 fun b t h => View.canon_apply_of_pieces (Val := Elt Ideal) (S := S1x2048x128) (e := .f32)
    (tab3 1 2048 128 (left x f)) ((List.finRange 16).map (piece (slab fun i s => -x i s) (slab f))) (fun p hp y => ?_) _ ?_
  · obtain ⟨j, -, rfl⟩ := List.mem_map.mp hp
    refine (congrFun (piece_arr x f j) y).trans ?_
    show left x f 0 (128 * j.val + (y 1).val) (y 2) = left x f (0 + 1 * (y 0).val) (128 * j.val + 1 * (y 1).val) (0 + 1 * (y 2).val)
    simp only [one_mul, zero_add]
    rfl
  · refine ⟨_, List.mem_map.mpr ⟨⟨t.val / 128, by omega⟩, List.mem_finRange _, rfl⟩, ?_⟩
    refine (Rect.mem_set_unit (inb := rows_in ⟨t.val / 128, by omega⟩)).mpr fun a => ?_
    match a with
    | 0 => exact ⟨Nat.zero_le _, b.isLt⟩
    | 1 => exact ⟨(by show 128 * (t.val / 128) ≤ t.val; omega), (by show t.val < 128 * (t.val / 128) + 128; omega)⟩
    | 2 => exact ⟨Nat.zero_le _, (by show h.val < 0 + 128; omega)⟩

end

end Cert.GateOps

end
-- ==== Proof.GateFinal.lean ====
/-
  The kernel of the pair GateBwd / GateVjp: its result array is the gradient of GateModel. Grid point `t` handles batch `t`.
  The host lines lay each head's row of 2048 out as sixteen rows of 128 beside the other heads', two rows of zeros added.
-/
module

public import proofs.«01_k».proof.Proof.GateOps
public import Idealize.ShloMosaic.Lib.StableHlo.RunRead

@[expose] public section

set_option maxRecDepth 16384

noncomputable section

namespace Cert.GateFinal

open Cert.GateBwdIdeal Cert.GateBwdIdeal.Gen Idealize.ShloMosaic Idealize.ShloMosaic.TcCoe Cert.Reals Cert.Arrays Cert.GateModel
  Cert.GateOps
open Cert.GateBwdIdeal.Facts

/-- Every window's block of point `t`. -/
theorem idx : ∀ t : Fin cfg0.N, win0_0.index t = ![t.val, 0, 0, 0] ∧ win0_1.index t = ![t.val, 0, 0, 0]
    ∧ win0_2.index t = ![t.val, 0, 0] := by decide +kernel

/-- The host lines' layout of a row for each head. -/
def packed (x : FVec Ideal S2x6x2048 .f32) : FVec Ideal S2x16x8x128 .f32 :=
  transpose S2x16x8x128 [0, 2, 1, 3] (shapeCast S2x8x16x128
    (pad S2x8x2048 ![0, 0, 0] ![0, 2, 0] ![0, 0, 0] x (sitofp .f32 (constantI S_ 32 0#32)) pads_S2x6x2048_S2x8x2048_000_020_000 h_S_)
    shapeCasts_S2x8x2048_S2x8x16x128) transposes_S2x8x16x128_S2x16x8x128_0_2_1_3

section
variable {m : (ℓ : Loc nD τ sig) → Buf (Elt Ideal) ℓ} (c : Dev nD)

open StableHlo in
theorem operand_c : V m c main_v3 = packed (Host.negf (m ((c.tc : Thread nD τ).loc main_arg1))) := by
  show StableHlo.after _ _ _ = _
  simp only [List.flatten_cons, List.flatten_nil, List.append_nil]
  after_reads_simp
  simp only [StableHlo.TRef.toBuf, StableHlo.TRef.ofBuf, cast_eq]
  rfl

open StableHlo in
theorem operand_f : V m c main_v7 = packed (transpose S2x6x2048 [0, 2, 1] (m ((c.tc : Thread nD τ).loc main_arg0))
    transposes_S2x2048x6_S2x6x2048_0_2_1) := by
  show StableHlo.after _ _ _ = _
  simp only [List.flatten_cons, List.flatten_nil, List.append_nil]
  after_reads_simp
  simp only [StableHlo.TRef.toBuf, StableHlo.TRef.ofBuf, cast_eq]
  rfl
end

/-- A head's row, and nothing for the two rows added. -/
def Rows (x : Tab) : Tab := fun h s => if h < 6 then x h s else 0

theorem int_zero : FloatOps.sitofp (F := Ideal) .f32 0#32 = 0 := by
  show ((((0#32 : BitVec 32).toInt : ℤ) : ℝ) : EReal) = _
  simp

theorem packed_arr (x : ℕ → Tab) : packed (tab3 2 6 2048 x) = tab4 2 16 8 128 (fun b j h l => Rows (x b) h (128 * j + l)) := by
  have hp : pad S2x8x2048 ![0, 0, 0] ![0, 2, 0] ![0, 0, 0] (tab3 2 6 2048 x) (sitofp (F := Ideal) .f32 (constantI S_ 32 0#32))
      pads_S2x6x2048_S2x8x2048_000_020_000 h_S_ = tab3 2 8 2048 (fun b => Rows (x b)) := by
    refine ext3 fun b h s => ?_
    pointwise [Rows]
    split_ifs
    · rfl
    · exact int_zero
  unfold packed
  rw [hp]
  refine ext4 fun b j h l => ?_
  pointwise []
  rw [Nat.mul_comm]

section
variable {m : (ℓ : Loc nD τ sig) → Buf (Elt Ideal) ℓ} (c : Dev nD) {f ct : ℕ → Tab}
  (hf : m ((c.tc : Thread nD τ).loc main_arg0) = tab3 2 2048 6 f) (hct : m ((c.tc : Thread nD τ).loc main_arg1) = tab3 2 6 2048 ct)

theorem read_0 (A : FVec Ideal S2x16x8x128 .f32) (t : Fin cfg0.N) (a : Fin 1) (j : Fin 16) (h : Fin 8) (l : Fin 128) :
    ((cfg0.win 0).blk t).view.read (Elt Ideal) A (ix4 a j h l) = A (ix4 (⟨t.val, lt_of_lt_of_eq t.isLt N_0⟩ : Fin 2) j h l) := by
  blk_ext [idx t]
theorem read_1 (A : FVec Ideal S2x16x8x128 .f32) (t : Fin cfg0.N) (a : Fin 1) (j : Fin 16) (h : Fin 8) (l : Fin 128) :
    ((cfg0.win 1).blk t).view.read (Elt Ideal) A (ix4 a j h l) = A (ix4 (⟨t.val, lt_of_lt_of_eq t.isLt N_0⟩ : Fin 2) j h l) := by
  blk_ext [idx t]

theorem read_2 (A : FVec Ideal S2x2048x128 .f32) (t : Fin cfg0.N) (a : Fin 1) (s : Fin 2048) (h : Fin 128) :
    ((cfg0.win 2).blk t).view.read (Elt Ideal) A (ix3 a s h) = A (ix3 (⟨t.val, lt_of_lt_of_eq t.isLt N_0⟩ : Fin 2) s h) := by
  blk_ext [idx t]

include hct in
theorem block_c (t : Fin cfg0.N) : iblk m c 0 t = slab (fun h s => -Rows (ct t.val) h s) := by
  have h : V m c (Pipeline.arrRef spec0 0) = _ := operand_c c
  unfold iblk
  rw [h, hct]
  have hn : Host.negf (F := Ideal) (φ := .f32) (tab3 2 6 2048 ct) = tab3 2 6 2048 (fun b h s => -ct b h s) := by
    refine ext3 fun b h s => ?_
    pointwise []
  rw [hn, packed_arr]
  refine ext4 fun a j h l => (read_0 _ t a j h l).trans ?_
  show Rows (fun h s => -ct t.val h s) h (128 * j.val + l.val) = -Rows (ct t.val) h (128 * j.val + l.val)
  unfold Rows
  split_ifs <;> simp

include hf in
theorem block_f (t : Fin cfg0.N) : iblk m c 1 t = slab (Rows fun h s => f t.val s h) := by
  have h : V m c (Pipeline.arrRef spec0 1) = _ := operand_f c
  unfold iblk
  rw [h, hf]
  have hn : transpose S2x6x2048 [0, 2, 1] (tab3 2 2048 6 f) transposes_S2x2048x6_S2x6x2048_0_2_1
      = tab3 2 6 2048 (fun b h s => f b s h) := by
    refine ext3 fun b h s => ?_
    pointwise []
  rw [hn, packed_arr]
  exact ext4 fun a j h l => read_1 _ t a j h l

theorem left_eq (f x : ℕ → Tab) (b t h : ℕ) : left (Rows (x b)) (Rows fun h s => f b s h) 0 t h = gradient f x b t h := by
  unfold left gradient Rows
  by_cases h6 : h < 6
  · simp [h6, show h < 8 by omega]
  · simp [h6, tail]

include hf hct in
theorem final : (dats m 0 c).arrAt 2 cfg0.N = tab3 2 2048 128 (gradient f ct) := by
  refine (dats m 0 c).arrAt_eq_of_covers 2 _ (by decide +kernel) fun t hf' y => ?_
  blk_simp
  rw [after0_2, block_c c hct t, block_f c hf t, out_arr]
  have key : ∀ y : (⟨3, ![1, 2048, 128]⟩ : Shape).Idx, tab3 1 2048 128 (left (Rows (ct t.val)) (Rows fun h s => f t.val s h)) y
      = ((cfg0.win 2).blk t).view.read (Elt Ideal) (tab3 2 2048 128 (gradient f ct)) y := by
    intro y
    rw [eq_ix3 y]
    exact (left_eq f ct t.val (y 1) (y 2)).trans (read_2 (tab3 2 2048 128 (gradient f ct)) t (y 0) (y 1) (y 2)).symm
  exact key y
end

end Cert.GateFinal

end
-- ==== Proof.GateRef.lean ====
/-
  The reference of the pair GateBwd / GateVjp on any arguments: its result is the gradient of GateModel. The printed
  term is the cotangents' sums from each position on, times the derivative of the logarithm of the logistic function, which
  `jax.vjp` takes through the soft maximum that this logarithm is written with.
-/
module

public import proofs.«01_k».proof.Proof.Gen.GateVjpIdeal.Run
public import proofs.«01_k».proof.Proof.GateModel

@[expose] public section

set_option maxRecDepth 16384

noncomputable section

namespace Cert.GateRef

open Cert.GateVjpIdeal Cert.GateVjpIdeal.Gen Idealize.ShloMosaic Idealize.ShloMosaic.TcCoe Cert.Reals Cert.Arrays Cert.GateModel
open Cert.GateVjpIdeal.Facts Idealize.SL.Sem

/-! ### The stages -/

abbrev Gates := FVec Ideal S2x2048x6 .f32

def nought : Gates := broadcastInDim S2x2048x6 ![] bcast_S_S2x2048x6 (constant S_ .f32 0x00000000#32)
def infinity : Gates := broadcastInDim S2x2048x6 ![] bcast_S_S2x2048x6 (constant S_ .f32 0x7F800000#32)

/-- The soft maximum of `y` and zero. -/
def softMax (y : Gates) : Gates :=
  select (cmpf .une (subf y nought) (subf y nought)) (addf y nought)
    (addf (maximumf y nought) (Host.log1p (Host.exp (Host.negf (Host.absf (subf y nought))))))

/-- An infinite element taken for zero. -/
def tame (y : Gates) : Gates := select (cmpf .oeq y infinity) nought y

/-- The soft maximum's derivative. -/
def slope (y : Gates) : Gates := Host.exp (subf (tame y) (tame (softMax y)))

/-- The sums from each position on. -/
def behind (c : Gates) : Gates :=
  Host.reduceWindowAdd ![1, 2048, 1] ![1, 1, 1] ![0, 0, 0] ![0, 2047, 0] c
    (broadcastInDim S_ ![] bcast_S_S_ (constant S_ .f32 0x00000000#32))
    reduceWindows_S2x2048x6_S2x2048x6_w1s1p0_0_w2048s1p0_2047_w1s1p0_0 h_S_

def turned (ct : FVec Ideal S2x6x2048 .f32) : Gates := transpose S2x2048x6 [0, 2, 1] ct transposes_S2x6x2048_S2x2048x6_0_2_1

def grad (f c : Gates) : Gates := Host.negf (mulf (Host.negf (behind c)) (slope (Host.negf f)))

def result (f : Gates) (ct : FVec Ideal S2x6x2048 .f32) : FVec Ideal S2x2048x128 .f32 :=
  pad S2x2048x128 ![0, 0, 0] ![0, 0, 122] ![0, 0, 0] (grad f (turned ct)) (sitofp .f32 (constantI S_ 32 0#32))
    pads_S2x2048x6_S2x2048x128_000_000_01220 h_S_

/-- The reference's run, its result named by the stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run (F := Ideal) m ρ

/-! ### The sums from each position on -/

theorem foldl_sum {α : Type} (l : List α) (g : α → EReal) (v : EReal) :
    l.foldl (fun r n => r + g n) v = v + (l.map g).sum := by
  induction l generalizing v with
  | nil => simp
  | cons n l ih => rw [List.foldl_cons, ih, List.map_cons, List.sum_cons, add_assoc]

/-- A window's positions, by number and one by one. -/
abbrev place (n : Fin (⟨3, ![1, 2048, 1]⟩ : Shape).numel) : (⟨3, ![1, 2048, 1]⟩ : Shape).Idx :=
  (⟨3, ![1, 2048, 1]⟩ : Shape).rowMajor.symm n
theorem sum_window (F : ℕ → EReal) :
    ∑ n : Fin (⟨3, ![1, 2048, 1]⟩ : Shape).numel, F (place n 1).val
      = ∑ k ∈ Finset.range 2048, F k := by
  rw [Equiv.sum_comp (⟨3, ![1, 2048, 1]⟩ : Shape).rowMajor.symm (fun w => F (w 1).val), Finset.sum_range]
  refine (Fintype.sum_bijective (fun k : Fin 2048 => (ix3 (0 : Fin 1) k (0 : Fin 1) : (⟨3, ![1, 2048, 1]⟩ : Shape).Idx)) ⟨?_, ?_⟩ _ _
    fun k => rfl).symm
  · intro k l h
    exact congrFun h 1
  · intro w
    refine ⟨w 1, ?_⟩
    rw [eq_ix3 w]
    exact congrArg₂ (fun a b => ix3 a (w 1) b) (Subsingleton.elim _ _) (Subsingleton.elim _ _)

theorem tail_eq (x : ℕ → EReal) (t : ℕ) (ht : t < 2048) :
    ∑ k ∈ Finset.range 2048, (if t + k < 2048 then x (t + k) else 0) = tail 2048 x t := by
  rw [tail, Finset.sum_Ico_eq_sum_range, ← Finset.sum_filter]
  refine Finset.sum_congr (Finset.ext fun k => ?_) fun _ _ => rfl
  simp only [Finset.mem_filter, Finset.mem_range]
  omega

theorem behind_arr (c : ℕ → Tab) : behind (tab3 2 2048 6 c) = tab3 2 2048 6 (fun b t h => tail 2048 (fun s => c b s h) t) := by
  refine ext3 fun b t h => ?_
  have z : Ideal.ofBits .f32 0x00000000#32 = 0 := by simp [Ideal.ofBits, Ideal.ieee]
  unfold behind Host.reduceWindowAdd
  rw [Ideal.hostReduceWindowAdd_def]
  unfold Ideal.hostReduceWindowAdd Host.reduceWindow
  refine (foldl_sum _ _ _).trans ?_
  refine (congrArg₂ (· + ·) z (congrArg List.sum (List.map_congr_left (g := fun n => if t.val + (place n 1).val < 2048 then
      c b (t + (place n 1).val) h else 0) fun n _ => ?_))).trans ?_
  · have w0 : (place n 0).val = 0 := Nat.lt_one_iff.mp (place n 0).isLt
    have w2 : (place n 2).val = 0 := Nat.lt_one_iff.mp (place n 2).isLt
    have hb := b.isLt
    have hh := h.isLt
    split
    · next hin =>
      have h1 : t.val * 1 + (place n 1).val - 0 < 2048 := (hin 1).2
      rw [if_pos (by omega)]
      show c (b.val * 1 + (place n 0).val - 0) (t.val * 1 + (place n 1).val - 0) (h.val * 1 + (place n 2).val - 0) = _
      rw [w0, w2, Nat.mul_one, Nat.mul_one, Nat.mul_one]; rfl
    · next hin =>
      refine z.trans (if_neg fun h1 => hin fun a => ?_).symm
      match a with
      | 0 => exact ⟨Nat.zero_le _, (by show b.val * 1 + (place n 0).val - 0 < 2; omega)⟩
      | 1 => exact ⟨Nat.zero_le _, (by show t.val * 1 + (place n 1).val - 0 < 2048; omega)⟩
      | 2 => exact ⟨Nat.zero_le _, (by show h.val * 1 + (place n 2).val - 0 < 6; omega)⟩
  · rw [zero_add, ← List.ofFn_eq_map, List.sum_ofFn, sum_window (fun k => if t.val + k < 2048 then c b (t + k) h else 0)]
    exact tail_eq (fun s => c b s h) t t.isLt

/-! ### The derivative -/

theorem slope_real (f : ℝ) : Real.exp (-f - (max (-f) 0 + Real.log (1 + Real.exp (-max (-f) (- -f))))) = 1 / (1 + Real.exp f) := by
  have h : max (-f) 0 + Real.log (1 + Real.exp (-max (-f) (- -f))) = Real.log (1 + Real.exp (-f)) := by
    rcases le_total f 0 with hf | hf
    · rw [max_eq_left (by linarith), max_eq_left (by linarith)]
      conv_lhs => rw [← Real.log_exp (-f)]
      rw [← Real.log_mul (by positivity) (by positivity), Real.log_exp, mul_add, mul_one, ← Real.exp_add]
      norm_num [add_comm]
    · rw [max_eq_right (by linarith), max_eq_right (by linarith)]
      norm_num
  rw [h, Real.exp_sub, Real.exp_log (by positivity), Real.exp_neg]
  field_simp
  ring

/-- The soft maximum's derivative at one element, as it is printed. -/
theorem slope_at (y : EReal) :
    Ideal.exp ((if -y = ⊤ then 0 else -y) - if max (-y) 0 + Ideal.log1p (Ideal.exp (-FloatOps.absf (F := Ideal) (φ := .f32) (-y))) = ⊤ then 0
      else max (-y) 0 + Ideal.log1p (Ideal.exp (-FloatOps.absf (F := Ideal) (φ := .f32) (-y)))) = sigmoid y := by
  have hz : Ideal.log1p 0 = 0 := by
    show Ideal.log (1 + 0) = 0
    rw [add_zero, ← EReal.coe_one]
    exact (Ideal.log_coe _).trans ((if_neg (by norm_num)).trans (by rw [Real.log_one]; rfl))
  have habs : ∀ x : EReal, FloatOps.absf (F := Ideal) (φ := .f32) x = max x (-x) := fun _ => rfl
  induction y with
  | bot =>
    have e1 : Ideal.exp 0 = 1 := by rw [← EReal.coe_zero, lift_exp, Real.exp_zero]; rfl
    have e2 : sigmoid ⊥ = 1 := by
      show Ideal.div 1 (1 + 0) = 1
      rw [add_zero, ← EReal.coe_one, Reals.coe_div one_ne_zero, div_one]
    rw [EReal.neg_bot, habs, EReal.neg_top, max_eq_left bot_le, EReal.neg_top, Ideal.exp_bot, hz, add_zero, max_eq_left le_top,
      if_pos rfl, sub_zero, e1, e2]
  | top =>
    have e2 : sigmoid ⊤ = 0 := by
      show Ideal.div 1 (1 + ⊤) = 0
      rw [EReal.add_top_of_ne_bot (by decide), Ideal.div, if_neg (by decide), EReal.inv_top, mul_zero]
    rw [EReal.neg_top, habs, EReal.neg_bot, max_eq_right bot_le, max_eq_right bot_le, EReal.neg_top, Ideal.exp_bot, hz, add_zero,
      if_neg (by decide), if_neg (by decide), sub_zero, Ideal.exp_bot, e2]
  | coe f =>
    have ha : -(FloatOps.absf (F := Ideal) (φ := .f32) (-((f : ℝ) : EReal))) = ((-max (-f) (- -f) : ℝ) : EReal) := by
      rw [habs, lift_neg, lift_neg, ← EReal.coe_strictMono.monotone.map_max, lift_neg]
    have hl : Ideal.log1p (Ideal.exp ((-max (-f) (- -f) : ℝ) : EReal)) = ((Real.log (1 + Real.exp (-max (-f) (- -f))) : ℝ) : EReal) := by
      rw [lift_exp]
      show Ideal.log ((1 : ℝ) + ((Real.exp (-max (-f) (- -f)) : ℝ) : EReal)) = _
      rw [lift_add]
      exact (Ideal.log_coe _).trans (if_neg (not_le.2 (by positivity)))
    have hs : sigmoid (f : EReal) = ((1 / (1 + Real.exp f) : ℝ) : EReal) := by
      have hp : (1 : ℝ) + Real.exp f ≠ 0 := by positivity
      exact (congrArg (Ideal.div 1) (lift_add 1 (Real.exp f))).trans (Reals.coe_div hp 1)
    rw [ha, hl, hs, ← slope_real, lift_neg, if_neg (EReal.coe_ne_top _), ← EReal.coe_zero, ← EReal.coe_strictMono.monotone.map_max,
      lift_add, if_neg (EReal.coe_ne_top _), lift_sub, lift_exp]

theorem slope_arr (f : ℕ → Tab) : slope (Host.negf (tab3 2 2048 6 f)) = tab3 2 2048 6 (fun b t h => sigmoid (f b t h)) := by
  refine ext3 fun b t h => ?_
  rw [show tab3 2 2048 6 (fun b t h => sigmoid (f b t h)) (ix3 b t h) = sigmoid (f b t h) from rfl, ← slope_at]
  pointwise [slope, tame, softMax, nought, infinity]
  simp only [ne_eq, not_true_eq_false, if_false]

theorem int_zero : FloatOps.sitofp (F := Ideal) .f32 0#32 = 0 := by
  show ((((0#32 : BitVec 32).toInt : ℤ) : ℝ) : EReal) = _
  simp

theorem turned_arr (c : ℕ → Tab) : turned (tab3 2 6 2048 c) = tab3 2 2048 6 (fun b t h => c b h t) := by
  refine ext3 fun b t h => ?_
  pointwise [turned]

/-- The reference's result. -/
theorem result_eq (f c : ℕ → Tab) : result (tab3 2 2048 6 f) (tab3 2 6 2048 c) = tab3 2 2048 128 (gradient f c) := by
  have hg : grad (tab3 2 2048 6 f) (turned (tab3 2 6 2048 c))
      = tab3 2 2048 6 (fun b t h => tail 2048 (c b h) t * sigmoid (f b t h)) := by
    rw [turned_arr]
    unfold grad
    rw [behind_arr, slope_arr]
    refine ext3 fun b t h => ?_
    pointwise []
    rw [neg_mul, neg_neg]
  unfold result
  rw [hg]
  refine ext3 fun b t h => ?_
  pointwise [gradient]
  split_ifs
  · rfl
  · exact int_zero

end Cert.GateRef

end
-- ==== Proof.GateClaim.lean ====
/-
  The claims of the pair GateBwd / GateVjp: the reference's frame, and that over the extended reals both programs return
  the same gradient.
-/
module

public import proofs.«01_k».proof.Defs
public import proofs.«01_k».proof.Proof.GateFinal
public import proofs.«01_k».proof.Proof.GateRef
public import Idealize.ShloMosaic.Lib.Quiescent

@[expose] public section

set_option maxRecDepth 16384

noncomputable section

namespace Cert.GateClaim

open Idealize.ShloMosaic Idealize.SL.Sem Idealize.ShloMosaic.TcCoe Cert.Reals Cert.Arrays

/-- The reference runs, keeps its arguments, and uses no semaphore. -/
theorem frame_reference : Cert.quiescent_GateVjpIdeal := fun m ρ _ =>
  (θ_run Cert.GateVjpIdeal.defs _ _).mono (fun r h => ⟨fun c => (h c).2, sem_eq_zero_of_no_sems (by decide) r.2⟩)
    (Cert.GateVjpIdeal.Value.run (F := Ideal) m ρ)

/-- The kernel's result is the reference's. -/
theorem value : Cert.algebraic_GateBwdIdeal_GateVjpIdeal := by
  intro m g m' g' _ hagree
  refine ⟨fun c => GateRef.result (m' ((c.tc : Thread Cert.GateVjpIdeal.nD Cert.GateVjpIdeal.τ).loc Cert.GateVjpIdeal.main_arg0))
    (m' ((c.tc : Thread Cert.GateVjpIdeal.nD Cert.GateVjpIdeal.τ).loc Cert.GateVjpIdeal.main_arg1)), ?_, GateRef.run m' g'⟩
  refine (θ_run Cert.GateBwdIdeal.defs _ _).mono (fun r h c => ?_) (Cert.GateBwdIdeal.Value.run_blocks (F := Ideal) m g)
  obtain ⟨f, hf⟩ := GateModel.exists_tab3 (m ((c.tc : Thread Cert.GateBwdIdeal.nD Cert.GateBwdIdeal.τ).loc Cert.GateBwdIdeal.main_arg0))
  obtain ⟨ct, hct⟩ := GateModel.exists_tab3 (m ((c.tc : Thread Cert.GateBwdIdeal.nD Cert.GateBwdIdeal.τ).loc Cert.GateBwdIdeal.main_arg1))
  obtain ⟨a0, a1⟩ := hagree c
  obtain ⟨r0, kept⟩ := h c
  refine ⟨r0.trans ?_, kept⟩
  show _ = GateRef.result _ _
  rw [GateFinal.final c hf hct, a0, a1, hf, hct, GateRef.result_eq]

end Cert.GateClaim

end
-- ==== Proof.KvModel.lean ====
/-
  The gradients of the memory tokens' norm gain and of their projection to keys and values, on arrays of extended reals:
  token `m` of batch `b` is normed, `x / sqrt (mean x² + ε)`, scaled by the gain and multiplied by the projection.
-/
module

public import proofs.«01_k».proof.Proof.Arrays

@[expose] public section

noncomputable section

namespace Cert.KvModel

open Idealize.ShloMosaic Idealize.ShloMosaic.TcCoe

/-- Arrays of extended reals of two and three axes. -/
abbrev Arr2 (m n : ℕ) := (⟨2, ![m, n]⟩ : Shape).Idx → EReal
abbrev Arr3 (l m n : ℕ) := (⟨3, ![l, m, n]⟩ : Shape).Idx → EReal

/-- The scale of a token: one over the root of its mean square and ε. -/
def scale (s : EReal) : EReal := Ideal.rsqrt (Ideal.div s (Ideal.ofBits .f32 0x44800000#32) + Ideal.ofBits .f32 0x358637BD#32)

/-- The normed tokens. -/
def normed (x : Arr3 2 256 1024) (b : Fin 2) (m : Fin 256) (d : Fin 1024) : EReal :=
  x (ix3 b m d) * scale (∑ k : Fin 1024, x (ix3 b m k) * x (ix3 b m k))

/-- The gradient of the projection, and that of the gain. -/
def dw (x : Arr3 2 256 1024) (g : Fin 1024 → EReal) (ct : Arr3 2 256 512) (d : Fin 1024) (j : Fin 512) : EReal :=
  ∑ b : Fin 2, ∑ m : Fin 256, ct (ix3 b m j) * (normed x b m d * g d)
def dg (x : Arr3 2 256 1024) (w : Arr2 1024 512) (ct : Arr3 2 256 512) (d : Fin 1024) : EReal :=
  ∑ b : Fin 2, ∑ m : Fin 256, normed x b m d * ∑ j : Fin 512, ct (ix3 b m j) * w (ix2 d j)

/-- The host's sum over the first two of three axes. -/
theorem sum_first_two {l m n : ℕ} (h : (⟨3, ![l, m, n]⟩ : Shape).ReducesTo [0, 1] ⟨1, ![n]⟩) (v : Arr3 l m n) (a : EReal)
    (d : Fin n) : Ideal.hostReduceAdd h v a (ix1 d) = a + ∑ i : Fin l, ∑ j : Fin m, v (ix3 i j d) := by
  unfold Ideal.hostReduceAdd
  rw [← Fintype.sum_prod_type' fun (i : Fin l) (j : Fin m) => v (ix3 i j d)]
  refine congrArg (a + ·) (Finset.sum_bij' (i := fun y _ => ((y 0, y 1) : Fin l × Fin m)) (j := fun k _ => ix3 k.1 k.2 d)
    (fun _ _ => Finset.mem_univ _) (fun k _ => ?_) (fun y hy => ?_) (fun _ _ => rfl) (fun y hy => ?_))
  · refine Finset.mem_filter.mpr ⟨Finset.mem_univ _, funext fun b => ?_⟩
    match b with
    | ⟨0, _⟩ => exact Fin.ext rfl
  · have e : y 2 = d := Fin.ext (congrArg Fin.val (congrFun (Finset.mem_filter.mp hy).2 0))
    show ix3 (y 0) (y 1) d = y
    rw [← e]; exact (eq_ix3 y).symm
  · have e : y 2 = d := Fin.ext (congrArg Fin.val (congrFun (Finset.mem_filter.mp hy).2 0))
    show v y = v (ix3 (y 0) (y 1) d)
    rw [← e]; exact congrArg v (eq_ix3 y)

end Cert.KvModel

end
-- ==== Proof.KvKernel.lean ====
/-
  What a grid point of the kernel of the pair KvBwd / KvVjp leaves in its two results' blocks.
-/
module

public import proofs.«01_k».proof.Proof.Gen.KvBwdIdeal.Value
public import proofs.«01_k».proof.Proof.KvModel
public import proofs.«01_k».proof.Proof.Arrays
public import Idealize.ShloMosaic.Lib.Pipeline.ValueKit
public import Idealize.ShloMosaic.Lib.Claim

@[expose] public section

set_option maxRecDepth 16384

noncomputable section

namespace Cert.KvKernel

open Cert.KvBwdIdeal Cert.KvBwdIdeal.Gen Idealize.ShloMosaic Idealize.ShloMosaic.TcCoe Cert.KvModel Cert.Arrays
open Cert.KvBwdIdeal.Facts

/-- Column `j` of the keys' and of the values' half of the projection. -/
def lo (j : Fin 256) : Fin 512 := ⟨j.val, by omega⟩
def hi (j : Fin 256) : Fin 512 := ⟨256 + j.val, by omega⟩

/-- One batch's share of half of the projection's gradient, and of the gain's gradient. -/
def partW (y : Vec Ideal S1x256x256 .f32) (n : Vec Ideal S1x256x1024 .bf16) (d : Fin 1024) (j : Fin 256) : EReal :=
  ∑ i : Fin 256, n (ix3 0 i d) * y (ix3 0 i j)
def partG (y z : Vec Ideal S1x256x256 .f32) (w : Vec Ideal S1024x512 .bf16) (x : Vec Ideal S1x256x1024 .f32) (d : Fin 1024) :
    EReal :=
  ∑ i : Fin 256, (∑ k : Fin 256, y (ix3 0 i k) * w (ix2 d (lo k)) + ∑ k : Fin 256, z (ix3 0 i k) * w (ix2 d (hi k)))
    * (x (ix3 0 i d) * scale (∑ k : Fin 1024, x (ix3 0 i k) * x (ix3 0 i k)))

theorem pay3_at (y : Vec Ideal S1x256x256 .f32) (n : Vec Ideal S1x256x1024 .bf16) (p : Vec Ideal S1024x256 .f32) (d : Fin 1024)
    (j : Fin 256) : k0_pay3 (k0_pay5 y) (k0_pay7 n) p (ix2 d j) = p (ix2 d j) + partW y n d j := by
  pointwise [k0_pay3, k0_pay5, k0_pay7, partW]

theorem pay4_at (y : Vec Ideal S1x256x256 .f32) (n : Vec Ideal S1x256x1024 .bf16) (p : Vec Ideal S1024x256 .f32) (d : Fin 1024)
    (j : Fin 256) : k0_pay4 (k0_pay6 y) (k0_pay7 n) p (ix2 d j) = p (ix2 d j) + partW y n d j := by
  pointwise [k0_pay4, k0_pay6, k0_pay7, partW]

theorem pay2_at (i : S1024x512.Idx) : k0_pay2 (F := Ideal) i = 0 := by
  show Ideal.ofBits .f32 0x00000000#32 = 0
  simp

theorem ld_lo {e : EltTy} (w : Vec Ideal S1024x512 e) (inb) (d : Fin 1024) (k : Fin 256) :
    View.ld (Val := Elt Ideal) (e' := e) w (Rect.unit ![0, 0] ![1024, 256] inb) (ix2 d k) = w (ix2 d (lo k)) :=
  View.ld_unit_apply_of w _ _ inb _ (ix2 d (lo k)) fun a => by match a with
    | 0 => exact (Nat.zero_add _).symm
    | 1 => exact (Nat.zero_add _).symm
theorem ld_hi {e : EltTy} (w : Vec Ideal S1024x512 e) (inb) (d : Fin 1024) (k : Fin 256) :
    View.ld (Val := Elt Ideal) (e' := e) w (Rect.unit ![0, 256] ![1024, 256] inb) (ix2 d k) = w (ix2 d (hi k)) :=
  View.ld_unit_apply_of w _ _ inb _ (ix2 d (hi k)) fun a => by match a with
    | 0 => exact (Nat.zero_add _).symm
    | 1 => rfl

theorem pay8_at (y z : Vec Ideal S1x256x256 .f32) (w : Vec Ideal S1024x512 .bf16) (x : Vec Ideal S1x256x1024 .f32) (inb inb')
    (a : Fin 1) (d : Fin 1024) :
    k0_pay8 y z (View.ld (Val := Elt Ideal) (e' := .bf16) w (Rect.unit ![0, 0] ![1024, 256] inb))
      (View.ld (Val := Elt Ideal) (e' := .bf16) w (Rect.unit ![0, 256] ![1024, 256] inb')) x (ix2 a d) = partG y z w x d := by
  pointwise [k0_pay8, k0_pay5, k0_pay6, partG, scale, ld_lo, ld_hi]
  rfl

theorem pay1_at (u v : Vec Ideal S1x1024 .f32) (i : S1x1024.Idx) : k0_pay1 u v i = v i + u i := by
  rw [eq_ix2 i]
  pointwise [k0_pay1]

/-- Two halves of columns, written one after the other. -/
theorem halves_lo (X : Vec Ideal S1024x512 .f32) (L R : Vec Ideal S1024x256 .f32) (inb inb') (d : Fin 1024) (j : Fin 256) :
    (Rect.unit (s := S1024x512) ![0, 256] ![1024, 256] inb').overlay ((Rect.unit (s := S1024x512) ![0, 0] ![1024, 256] inb).overlay X L) R (ix2 d (lo j))
      = L (ix2 d j) := by
  refine (overlay_off _ _ inb' _ _ (ix2 d (lo j)) fun h => ?_).trans ((overlay_at _ _ inb _ _ (ix2 d (lo j)) fun c => ?_).trans ?_)
  · exact absurd (h 1).1 (by show ¬256 ≤ j.val; omega)
  · match c with
    | 0 => exact ⟨Nat.zero_le _, by show d.val < 0 + 1024; omega⟩
    | 1 => exact ⟨Nat.zero_le _, by show j.val < 0 + 256; omega⟩
  · exact congrArg L (funext fun c => by match c with
      | 0 => exact Fin.ext (Nat.sub_zero _)
      | 1 => exact Fin.ext (Nat.sub_zero _))
theorem halves_hi (X : Vec Ideal S1024x512 .f32) (R : Vec Ideal S1024x256 .f32) (inb') (d : Fin 1024) (j : Fin 256) :
    (Rect.unit (s := S1024x512) ![0, 256] ![1024, 256] inb').overlay X R (ix2 d (hi j)) = R (ix2 d j) := by
  refine (overlay_at _ _ inb' _ _ (ix2 d (hi j)) fun c => ?_).trans ?_
  · match c with
    | 0 => exact ⟨Nat.zero_le _, by show d.val < 0 + 1024; omega⟩
    | 1 => exact ⟨Nat.le_add_right _ _, by show 256 + j.val < 256 + 256; omega⟩
  · exact congrArg R (funext fun c => by match c with
      | 0 => exact Fin.ext (Nat.sub_zero _)
      | 1 => exact Fin.ext (Nat.add_sub_cancel_left _ _))
theorem lower_hi (X : Vec Ideal S1024x512 .f32) (L : Vec Ideal S1024x256 .f32) (inb) (d : Fin 1024) (j : Fin 256) :
    (Rect.unit (s := S1024x512) ![0, 0] ![1024, 256] inb).overlay X L (ix2 d (hi j)) = X (ix2 d (hi j)) :=
  overlay_off _ _ inb _ _ (ix2 d (hi j)) fun h => absurd (h 1).2 (by show ¬256 + j.val < 0 + 256; omega)

theorem whole (X P : Vec Ideal S1024x512 .f32) (inb) (i : S1024x512.Idx) :
    (Rect.unit (s := S1024x512) ![0, 0] ![1024, 512] inb).overlay X P i = P i :=
  (overlay_at _ _ inb _ _ i fun c => by match c with
    | 0 => exact ⟨Nat.zero_le _, by have := (i 0).isLt; show (i 0).val < 0 + 1024; simpa using this⟩
    | 1 => exact ⟨Nat.zero_le _, by have := (i 1).isLt; show (i 1).val < 0 + 512; simpa using this⟩).trans
    (congrArg P (funext fun c => by match c with
      | 0 => exact Fin.ext (Nat.sub_zero _)
      | 1 => exact Fin.ext (Nat.sub_zero _)))
theorem wholeG (X P : Vec Ideal S1x1024 .f32) (inb) (i : S1x1024.Idx) :
    (Rect.unit (s := S1x1024) ![0, 0] ![1, 1024] inb).overlay X P i = P i :=
  (overlay_at _ _ inb _ _ i fun c => by match c with
    | 0 => exact ⟨Nat.zero_le _, by have := (i 0).isLt; show (i 0).val < 0 + 1; simpa using this⟩
    | 1 => exact ⟨Nat.zero_le _, by have := (i 1).isLt; show (i 1).val < 0 + 1024; simpa using this⟩).trans
    (congrArg P (funext fun c => by match c with
      | 0 => exact Fin.ext (Nat.sub_zero _)
      | 1 => exact Fin.ext (Nat.sub_zero _)))

variable {m : (ℓ : Loc nD τ sig) → Buf (Elt Ideal) ℓ} {c : Dev nD} {t : Fin cfg0.N} {x0 x1 : Vec Ideal S1x256x256 .f32} {x2 : Vec Ideal S1x256x1024 .bf16}
  {x3 : Vec Ideal S1x256x1024 .f32} {x4 : Vec Ideal S1x1024 .f32} {x5 : Vec Ideal S1024x512 .bf16}
  (e0 : iblk m c 0 t = x0) (e1 : iblk m c 1 t = x1) (e2 : iblk m c 2 t = x2) (e3 : iblk m c 3 t = x3) (e4 : iblk m c 4 t = x4)
  (e5 : iblk m c 5 t = x5)
include e0 e1 e2 e3 e4 e5

/-- What the first batch leaves in the two gradients' blocks. -/
theorem pointA (h0 : t.val % 2 = 0) :
    (∀ d j, (outsAt0 m c t.val t.isLt).1 (ix2 d (lo j)) = partW x0 x2 d j)
      ∧ (∀ d j, (outsAt0 m c t.val t.isLt).1 (ix2 d (hi j)) = partW x1 x2 d j)
      ∧ ∀ a d, (outsAt0 m c t.val t.isLt).2 (ix2 a d) = partG x0 x1 x5 x3 d := by
  rw [outsAt0_A m c t h0 (by omega) h0, e0, e1, e2, e3, e4, e5]
  dsimp only
  frame_open
  simp (disch := decide) only [View.read_writes_junk_eq_canon, View.canon_cons_unit_lit', View.ld_unit_lit',
    Memref.IsWhole.read_unread, View.readAt_eq_ld, Arrays.read_back, View.canon_cons]
  refine ⟨fun d j => ?_, fun d j => ?_, fun a d => ?_⟩
  · refine (halves_lo _ _ _ _ _ d j).trans ((pay3_at _ _ _ d j).trans ?_)
    rw [ld_lo, whole, pay2_at, zero_add]
  · refine (halves_hi _ _ _ d j).trans ((pay4_at _ _ _ d j).trans ?_)
    rw [ld_hi, lower_hi, whole, pay2_at, zero_add]
  · exact (wholeG _ _ _ _).trans (pay8_at _ _ _ _ _ _ a d)

/-- And what the second adds to them. -/
theorem pointB (h0 : ¬t.val % 2 = 0) {W : Vec Ideal S1024x512 .f32} {G : Vec Ideal S1x1024 .f32}
    (eg : outsAt0 m c (t.val - 1) (by have := t.isLt; omega) = (W, G)) :
    (∀ d j, (outsAt0 m c t.val t.isLt).1 (ix2 d (lo j)) = W (ix2 d (lo j)) + partW x0 x2 d j)
      ∧ (∀ d j, (outsAt0 m c t.val t.isLt).1 (ix2 d (hi j)) = W (ix2 d (hi j)) + partW x1 x2 d j)
      ∧ ∀ a d, (outsAt0 m c t.val t.isLt).2 (ix2 a d) = G (ix2 a d) + partG x0 x1 x5 x3 d := by
  rw [outsAt0_B m c t h0 (by omega) h0, e0, e1, e2, e3, e4, e5, eg]
  dsimp only
  frame_open
  simp (disch := decide) only [View.read_writes_junk_eq_canon, View.canon_cons_unit_lit', View.ld_unit_lit',
    Memref.IsWhole.read_unread, View.readAt_eq_ld, Arrays.read_back, View.canon_cons]
  refine ⟨fun d j => ?_, fun d j => ?_, fun a d => ?_⟩
  · refine (halves_lo _ _ _ _ _ d j).trans ((pay3_at _ _ _ d j).trans ?_)
    rw [ld_lo]
  · refine (halves_hi _ _ _ d j).trans ((pay4_at _ _ _ d j).trans ?_)
    rw [ld_hi]
  · refine (wholeG _ _ _ _).trans ((pay1_at _ _ _).trans ?_)
    rw [pay8_at]

end Cert.KvKernel

end
-- ==== Proof.KvFinal.lean ====
/-
  The kernel of the pair KvBwd / KvVjp: its two result arrays are the gradients of KvModel. Grid point `t` handles batch `t`
  and the second point's blocks are the results.
-/
module

public import proofs.«01_k».proof.Proof.KvKernel
public import Idealize.ShloMosaic.Lib.StableHlo.RunRead

@[expose] public section

set_option maxRecDepth 16384

noncomputable section

namespace Cert.KvFinal

open Cert.KvBwdIdeal Cert.KvBwdIdeal.Gen Idealize.ShloMosaic Idealize.ShloMosaic.TcCoe Cert.Arrays Cert.KvModel Cert.KvKernel
open Cert.KvBwdIdeal.Facts

/-- Every window's block of point `t`. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![0, 0] ∧ win0_5.index t = ![0, 0]
    ∧ win0_6.index t = ![0, 0] ∧ win0_7.index t = ![0, 0] := by decide +kernel
theorem last_w : ∀ t : Fin cfg0.N, (cfg0.win 6).flush t = true → t.val = 1 :=
  (by decide +kernel : ∀ t : Fin grid0.N, win0_6.flush t = true → t.val = 1)
theorem last_g : ∀ t : Fin cfg0.N, (cfg0.win 7).flush t = true → t.val = 1 :=
  (by decide +kernel : ∀ t : Fin grid0.N, win0_7.flush t = true → t.val = 1)

/-- The host lines of the normed tokens. -/
def tokens (x : FVec Ideal S2x256x1024 .f32) (g : FVec Ideal S1024 .f32) : FVec Ideal S2x256x1024 .bf16 :=
  truncf .bf16 (mulf (mulf x (broadcastInDim S2x256x1024 ![0, 1, 2] bcast_S2x256x1_S2x256x1024_0_1_2
    (Host.rsqrt (addf (Host.divf (broadcastInDim S2x256x1 ![0, 1] bcast_S2x256_S2x256x1_0_1
      (Host.reduceAdd (mulf x x) (constant S_ .f32 0x00000000#32) reducesTo_S2x256x1024_S2x256_d2 h_S_))
      (broadcastInDim S2x256x1 ![] bcast_S_S2x256x1 (constant S_ .f32 0x44800000#32)))
      (broadcastInDim S2x256x1 ![] bcast_S_S2x256x1 (constant S_ .f32 0x358637BD#32))))))
    (broadcastInDim S2x256x1024 ![0, 1, 2] bcast_S1x1x1024_S2x256x1024_0_1_2
      (broadcastInDim S1x1x1024 ![2] bcast_S1024_S1x1x1024_2 g))) bitsLt_bf16_f32

theorem tokens_at (x : FVec Ideal S2x256x1024 .f32) (g : FVec Ideal S1024 .f32) (b : Fin 2) (i : Fin 256) (d : Fin 1024) :
    tokens x g (ix3 b i d) = normed x b i d * g (ix1 d) := by
  pointwise [tokens, normed, scale]

section
variable {m : (ℓ : Loc nD τ sig) → Buf (Elt Ideal) ℓ} (c : Dev nD)

open StableHlo in
theorem operand_0 : V m c main_v14 = extractStridedSlice S2x256x256 ![0, 0, 0] (m ((c.tc : Thread nD τ).loc main_arg3))
    slices_S2x256x512_S2x256x256_0_0_0 := by
  show StableHlo.after _ _ _ = _
  after_reads_simp
open StableHlo in
theorem operand_1 : V m c main_v15 = extractStridedSlice S2x256x256 ![0, 0, 256] (m ((c.tc : Thread nD τ).loc main_arg3))
    slices_S2x256x512_S2x256x256_0_0_256 := by
  show StableHlo.after _ _ _ = _
  after_reads_simp
open StableHlo in
theorem operand_2 : V m c main_v13 = tokens (m ((c.tc : Thread nD τ).loc main_arg0)) (m ((c.tc : Thread nD τ).loc main_arg1)) := by
  show StableHlo.after _ _ _ = _
  after_reads_simp
  rfl
open StableHlo in
theorem operand_3 : V m c main_arg0 = m ((c.tc : Thread nD τ).loc main_arg0) := by
  show StableHlo.after _ _ _ = _
  after_reads_simp
open StableHlo in
theorem operand_5 : V m c main_v17 = (truncf .bf16 (m ((c.tc : Thread nD τ).loc main_arg2) : FVec Ideal S1024x512 .f32) bitsLt_bf16_f32
    : FVec Ideal S1024x512 .bf16) := by
  show StableHlo.after _ _ _ = _
  after_reads_simp
end

/-- A grid point's batch. -/
def batch (t : Fin cfg0.N) : Fin 2 := ⟨t.val, lt_of_lt_of_eq t.isLt N_0⟩

theorem read_0 (A : FVec Ideal S2x256x256 .f32) (t : Fin cfg0.N) (a : Fin 1) (i j : Fin 256) :
    ((cfg0.win 0).blk t).view.read (Elt Ideal) A (ix3 a i j) = A (ix3 (batch t) i j) := by
  unfold batch; blk_ext [idx t]
theorem read_1 (A : FVec Ideal S2x256x256 .f32) (t : Fin cfg0.N) (a : Fin 1) (i j : Fin 256) :
    ((cfg0.win 1).blk t).view.read (Elt Ideal) A (ix3 a i j) = A (ix3 (batch t) i j) := by
  unfold batch; blk_ext [idx t]
theorem read_2 (A : FVec Ideal S2x256x1024 .bf16) (t : Fin cfg0.N) (a : Fin 1) (i : Fin 256) (d : Fin 1024) :
    ((cfg0.win 2).blk t).view.read (Elt Ideal) A (ix3 a i d) = A (ix3 (batch t) i d) := by
  unfold batch; blk_ext [idx t]
theorem read_3 (A : FVec Ideal S2x256x1024 .f32) (t : Fin cfg0.N) (a : Fin 1) (i : Fin 256) (d : Fin 1024) :
    ((cfg0.win 3).blk t).view.read (Elt Ideal) A (ix3 a i d) = A (ix3 (batch t) i d) := by
  unfold batch; blk_ext [idx t]
theorem read_5 (A : FVec Ideal S1024x512 .bf16) (t : Fin cfg0.N) (i : Fin 1024) (j : Fin 512) :
    ((cfg0.win 5).blk t).view.read (Elt Ideal) A (ix2 i j) = A (ix2 i j) := by
  blk_ext [idx t]
theorem read_6 (A : FVec Ideal S1024x512 .f32) (t : Fin cfg0.N) (i : Fin 1024) (j : Fin 512) :
    ((cfg0.win 6).blk t).view.read (Elt Ideal) A (ix2 i j) = A (ix2 i j) := by
  blk_ext [idx t]
theorem read_7 (A : FVec Ideal S1x1024 .f32) (t : Fin cfg0.N) (i : Fin 1) (j : Fin 1024) :
    ((cfg0.win 7).blk t).view.read (Elt Ideal) A (ix2 i j) = A (ix2 i j) := by
  blk_ext [idx t]

section
variable {m : (ℓ : Loc nD τ sig) → Buf (Elt Ideal) ℓ} (c : Dev nD) {x : FVec Ideal S2x256x1024 .f32} {g : FVec Ideal S1024 .f32}
  {w : FVec Ideal S1024x512 .f32} {ct : FVec Ideal S2x256x512 .f32}
  (hx : m ((c.tc : Thread nD τ).loc main_arg0) = x) (hg : m ((c.tc : Thread nD τ).loc main_arg1) = g)
  (hw : m ((c.tc : Thread nD τ).loc main_arg2) = w) (hct : m ((c.tc : Thread nD τ).loc main_arg3) = ct)

include hct in
theorem block_0 (t : Fin cfg0.N) (i j : Fin 256) : (iblk m c 0 t : Vec Ideal S1x256x256 .f32) (ix3 0 i j) = ct (ix3 (batch t) i (lo j)) := by
  have h : V m c (Pipeline.arrRef spec0 0) = _ := operand_0 c
  unfold iblk
  rw [h, hct]
  refine (read_0 _ t 0 i j).trans ?_
  pointwise [lo]
include hct in
theorem block_1 (t : Fin cfg0.N) (i j : Fin 256) : (iblk m c 1 t : Vec Ideal S1x256x256 .f32) (ix3 0 i j) = ct (ix3 (batch t) i (hi j)) := by
  have h : V m c (Pipeline.arrRef spec0 1) = _ := operand_1 c
  unfold iblk
  rw [h, hct]
  refine (read_1 _ t 0 i j).trans ?_
  pointwise [hi]
include hx hg in
theorem block_2 (t : Fin cfg0.N) (i : Fin 256) (d : Fin 1024) :
    (iblk m c 2 t : Vec Ideal S1x256x1024 .bf16) (ix3 0 i d) = normed x (batch t) i d * g (ix1 d) := by
  have h : V m c (Pipeline.arrRef spec0 2) = _ := operand_2 c
  unfold iblk
  rw [h, hx, hg]
  exact (read_2 _ t 0 i d).trans (tokens_at x g _ i d)
include hx in
theorem block_3 (t : Fin cfg0.N) (i : Fin 256) (d : Fin 1024) :
    (iblk m c 3 t : Vec Ideal S1x256x1024 .f32) (ix3 0 i d) = x (ix3 (batch t) i d) := by
  have h : V m c (Pipeline.arrRef spec0 3) = _ := operand_3 c
  unfold iblk
  rw [h, hx]
  exact read_3 _ t 0 i d
include hw in
theorem block_5 (t : Fin cfg0.N) (i : Fin 1024) (j : Fin 512) :
    (iblk m c 5 t : Vec Ideal S1024x512 .bf16) (ix2 i j) = w (ix2 i j) := by
  have h : V m c (Pipeline.arrRef spec0 5) = _ := operand_5 c
  unfold iblk
  rw [h, hw]
  exact read_5 _ t i j

/-- A batch's shares, of the arrays. -/
def shareW (x : Arr3 2 256 1024) (g : Fin 1024 → EReal) (ct : Arr3 2 256 512) (b : Fin 2) (d : Fin 1024) (j : Fin 512) : EReal :=
  ∑ i : Fin 256, ct (ix3 b i j) * (normed x b i d * g d)
def shareG (x : Arr3 2 256 1024) (w : Arr2 1024 512) (ct : Arr3 2 256 512) (b : Fin 2) (d : Fin 1024) : EReal :=
  ∑ i : Fin 256, normed x b i d * ∑ j : Fin 512, ct (ix3 b i j) * w (ix2 d j)

theorem halves (f : Fin 512 → EReal) : ∑ j, f j = ∑ k, f (lo k) + ∑ k, f (hi k) :=
  Fin.sum_univ_add (a := 256) (b := 256) f

include hx hg hct in
theorem part_lo (t : Fin cfg0.N) (d : Fin 1024) (j : Fin 256) :
    partW (iblk m c 0 t) (iblk m c 2 t) d j = shareW x (fun d => g (ix1 d)) ct (batch t) d (lo j) :=
  Finset.sum_congr rfl fun i _ => by rw [block_0 c hct, block_2 c hx hg, mul_comm]
include hx hg hct in
theorem part_hi (t : Fin cfg0.N) (d : Fin 1024) (j : Fin 256) :
    partW (iblk m c 1 t) (iblk m c 2 t) d j = shareW x (fun d => g (ix1 d)) ct (batch t) d (hi j) :=
  Finset.sum_congr rfl fun i _ => by rw [block_1 c hct, block_2 c hx hg, mul_comm]
include hx hw hct in
theorem part_g (t : Fin cfg0.N) (d : Fin 1024) :
    partG (iblk m c 0 t) (iblk m c 1 t) (iblk m c 5 t) (iblk m c 3 t) d = shareG x w ct (batch t) d :=
  Finset.sum_congr rfl fun i _ => by
    rw [halves, mul_comm]
    simp only [block_0 c hct, block_1 c hct, block_3 c hx, block_5 c hw, normed]

/-- The first point and the second. -/
def first : Fin cfg0.N := ⟨0, lt_of_lt_of_eq (by decide : 0 < 2) N_0.symm⟩

include hx hg hw hct in
theorem both (t : Fin cfg0.N) (ht : t.val = 1) :
    (∀ d j, (outsAt0 m c t.val t.isLt).1 (ix2 d j) = dw x (fun d => g (ix1 d)) ct d j)
      ∧ ∀ a d, (outsAt0 m c t.val t.isLt).2 (ix2 a d) = dg x w ct d := by
  obtain ⟨l, h, k⟩ := pointA (m := m) (c := c) (t := first) rfl rfl rfl rfl rfl rfl rfl
  have hp : outsAt0 m c (t.val - 1) (by have := t.isLt; omega) = outsAt0 m c first.val first.isLt := by
    simp only [ht]; rfl
  obtain ⟨l', h', k'⟩ := pointB (m := m) (c := c) (t := t) (W := (outsAt0 m c first.val first.isLt).1)
    (G := (outsAt0 m c first.val first.isLt).2) rfl rfl rfl rfl rfl rfl (by omega) (hp.trans Prod.mk.eta.symm)
  have b0 : batch first = 0 := rfl
  have b1 : batch t = 1 := Fin.ext ht
  refine ⟨fun d j => ?_, fun a d => ?_⟩
  · have e : dw x (fun d => g (ix1 d)) ct d j = shareW x (fun d => g (ix1 d)) ct 0 d j + shareW x (fun d => g (ix1 d)) ct 1 d j :=
      Fin.sum_univ_two _
    rw [e]
    by_cases hj : j.val < 256
    · have ej : j = lo ⟨j.val, hj⟩ := rfl
      rw [ej, l', l, part_lo c hx hg hct, part_lo c hx hg hct, b0, b1]
    · have ej : j = hi ⟨j.val - 256, by omega⟩ := Fin.ext (by show j.val = 256 + (j.val - 256); omega)
      rw [ej, h', h, part_hi c hx hg hct, part_hi c hx hg hct, b0, b1]
  · have e : dg x w ct d = shareG x w ct 0 d + shareG x w ct 1 d := Fin.sum_univ_two _
    rw [e, k', k, part_g c hx hw hct, part_g c hx hw hct, b0, b1]

/-- The two arrays after the run. -/
def arrayW (x : Arr3 2 256 1024) (g : Fin 1024 → EReal) (ct : Arr3 2 256 512) : Arr2 1024 512 := fun i => dw x g ct (i 0) (i 1)
def arrayG (x : Arr3 2 256 1024) (w : Arr2 1024 512) (ct : Arr3 2 256 512) : Arr2 1 1024 := fun i => dg x w ct (i 1)

include hx hg hw hct in
theorem final_w : (dats m 0 c).arrAt 6 cfg0.N = arrayW x (fun d => g (ix1 d)) ct := by
  refine (dats m 0 c).arrAt_eq_of_covers 6 _ (by decide +kernel) fun t hf y => ?_
  have ht := last_w t hf
  blk_simp
  rw [after0_6]
  have key : ∀ y : S1024x512.Idx, (outsAt0 m c t.val t.isLt).1 y
      = ((cfg0.win 6).blk t).view.read (Elt Ideal) (arrayW x (fun d => g (ix1 d)) ct) y := by
    intro y
    rw [eq_ix2 y]
    exact ((both c hx hg hw hct t ht).1 (y 0) (y 1)).trans (read_6 (arrayW x (fun d => g (ix1 d)) ct) t (y 0) (y 1)).symm
  exact key y

include hx hg hw hct in
theorem final_g : (dats m 0 c).arrAt 7 cfg0.N = arrayG x w ct := by
  refine (dats m 0 c).arrAt_eq_of_covers 7 _ (by decide +kernel) fun t hf y => ?_
  have ht := last_g t hf
  blk_simp
  rw [after0_7]
  have key : ∀ y : S1x1024.Idx, (outsAt0 m c t.val t.isLt).2 y
      = ((cfg0.win 7).blk t).view.read (Elt Ideal) (arrayG x w ct) y := by
    intro y
    rw [eq_ix2 y]
    exact ((both c hx hg hw hct t ht).2 (y 0) (y 1)).trans (read_7 (arrayG x w ct) t (y 0) (y 1)).symm
  exact key y
end

end Cert.KvFinal

end
-- ==== Proof.KvRef.lean ====
/-
  The reference of the pair KvBwd / KvVjp: its two results are the gradients of KvModel.
-/
module

public import proofs.«01_k».proof.Proof.Gen.KvVjpIdeal.Run
public import proofs.«01_k».proof.Proof.KvModel

@[expose] public section

set_option maxRecDepth 16384

noncomputable section

namespace Cert.KvRef

open Cert.KvVjpIdeal Cert.KvVjpIdeal.Gen Idealize.ShloMosaic Idealize.ShloMosaic.TcCoe Cert.KvModel
open Cert.KvVjpIdeal.Facts Idealize.SL.Sem

variable (x : FVec Ideal S2x256x1024 .f32) (g : FVec Ideal S1024 .f32) (w : FVec Ideal S1024x512 .f32)
  (ct : FVec Ideal S2x256x512 .f32)

/-! ### The stages -/

def squares : FVec Ideal S2x256 .f32 :=
  Host.reduceAdd (mulf x x) (constant S_ .f32 0x00000000#32) reducesTo_S2x256x1024_S2x256_d2 h_S_
def scales : FVec Ideal S2x256x1 .f32 :=
  Host.rsqrt (addf (Host.divf (broadcastInDim S2x256x1 ![0, 1] bcast_S2x256_S2x256x1_0_1 (squares x))
    (broadcastInDim S2x256x1 ![] bcast_S_S2x256x1 (constant S_ .f32 0x44800000#32)))
    (broadcastInDim S2x256x1 ![] bcast_S_S2x256x1 (constant S_ .f32 0x358637BD#32)))
def norms : FVec Ideal S2x256x1024 .f32 :=
  mulf x (broadcastInDim S2x256x1024 ![0, 1, 2] bcast_S2x256x1_S2x256x1024_0_1_2 (scales x))
def gained : FVec Ideal S2x256x1024 .f32 :=
  mulf (norms x) (broadcastInDim S2x256x1024 ![0, 1, 2] bcast_S1x1x1024_S2x256x1024_0_1_2
    (broadcastInDim S1x1x1024 ![2] bcast_S1024_S1x1x1024_2 g))
def resultW : FVec Ideal S1024x512 .f32 :=
  transpose S1024x512 [1, 0] (Host.dotGeneral dot_S2x256x512_S2x256x1024_S512x1024_01_01_2_2_n_n none ct (gained x g)
    : FVec Ideal S512x1024 .f32) transposes_S512x1024_S1024x512_1_0

theorem norms_at (b : Fin 2) (m : Fin 256) (d : Fin 1024) : norms x (ix3 b m d) = normed x b m d := by
  pointwise [norms, scales, squares, normed, scale]
theorem resultW_at (d : Fin 1024) (j : Fin 512) : resultW x g ct (ix2 d j) = dw x (fun d => g (ix1 d)) ct d j := by
  pointwise [resultW, gained, norms_at, dw]

def sums : FVec Ideal S1024 .f32 :=
  Host.reduceAdd (mulf (norms x)
    (Host.dotGeneral dot_S2x256x512_S1024x512_S2x256x1024_2_1_01_0_n_n none ct w : FVec Ideal S2x256x1024 .f32))
    (constant S_ .f32 0x00000000#32) reducesTo_S2x256x1024_S1024_d0_1 h_S_
def single (z : FVec Ideal S1x1x1024 .f32) : FVec Ideal S1024 .f32 :=
  Host.reduceAdd z (constant S_ .f32 0x00000000#32) reducesTo_S1x1x1024_S1024_d0_1 h_S_
def resultG : FVec Ideal S1x1024 .f32 :=
  shapeCast S1x1024 (single (shapeCast S1x1x1024 (sums x w ct) shapeCasts_S1024_S1x1x1024)) shapeCasts_S1024_S1x1024

theorem sums_at (d : Fin 1024) : sums x w ct (ix1 d) = dg x w ct d := by
  pointwise [sums, norms_at, dg, sum_first_two]
theorem single_at (z : FVec Ideal S1x1x1024 .f32) (d : Fin 1024) : single z (ix1 d) = z (ix3 0 0 d) := by
  pointwise [single, sum_first_two]; simp
theorem resultG_at (a : Fin 1) (d : Fin 1024) : resultG x w ct (ix2 a d) = dg x w ct d := by
  pointwise [resultG, single_at, sums_at]

/-! ### The run -/

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = resultW (m ((c.tc : Thread nD τ).loc main_arg0))
        (m ((c.tc : Thread nD τ).loc main_arg1)) (m ((c.tc : Thread nD τ).loc main_arg3))
      ∧ r.2.mem ((c.tc : Thread nD τ).loc main_v21) = resultG (m ((c.tc : Thread nD τ).loc main_arg0))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

end Cert.KvRef

end
-- ==== Proof.KvClaim.lean ====
/-
  The claims of the pair KvBwd / KvVjp: the reference's frame, and that over the extended reals both programs return the
  same two gradients.
-/
module

public import proofs.«01_k».proof.Defs
public import proofs.«01_k».proof.Proof.KvFinal
public import proofs.«01_k».proof.Proof.KvRef
public import Idealize.ShloMosaic.Lib.Quiescent

@[expose] public section

set_option maxRecDepth 16384

noncomputable section

namespace Cert.KvClaim

open Idealize.ShloMosaic Idealize.SL.Sem Idealize.ShloMosaic.TcCoe Cert.Arrays Cert.KvModel

/-- The reference runs, keeps its arguments, and uses no semaphore. -/
theorem frame_reference : Cert.quiescent_KvVjpIdeal := fun m ρ _ =>
  (θ_run Cert.KvVjpIdeal.defs _ _).mono (fun r h => ⟨fun c => (h c).2.2, sem_eq_zero_of_no_sems (by decide) r.2⟩)
    (Cert.KvVjpIdeal.Value.run (F := Ideal) m ρ)

/-- The kernel's two results are the reference's. -/
theorem value : Cert.algebraic_KvBwdIdeal_KvVjpIdeal := by
  intro m g m' g' _ hagree
  refine ⟨fun c => KvRef.resultW (m' ((c.tc : Thread Cert.KvVjpIdeal.nD Cert.KvVjpIdeal.τ).loc Cert.KvVjpIdeal.main_arg0))
    (m' ((c.tc : Thread Cert.KvVjpIdeal.nD Cert.KvVjpIdeal.τ).loc Cert.KvVjpIdeal.main_arg1))
    (m' ((c.tc : Thread Cert.KvVjpIdeal.nD Cert.KvVjpIdeal.τ).loc Cert.KvVjpIdeal.main_arg3)),
    fun c => KvRef.resultG (m' ((c.tc : Thread Cert.KvVjpIdeal.nD Cert.KvVjpIdeal.τ).loc Cert.KvVjpIdeal.main_arg0))
    (m' ((c.tc : Thread Cert.KvVjpIdeal.nD Cert.KvVjpIdeal.τ).loc Cert.KvVjpIdeal.main_arg2))
    (m' ((c.tc : Thread Cert.KvVjpIdeal.nD Cert.KvVjpIdeal.τ).loc Cert.KvVjpIdeal.main_arg3)), ?_, KvRef.run m' g'⟩
  refine (θ_run Cert.KvBwdIdeal.defs _ _).mono (fun r h c => ?_) (Cert.KvBwdIdeal.Value.run_blocks (F := Ideal) m g)
  obtain ⟨a0, a1, a2, a3⟩ := hagree c
  obtain ⟨r0, r1, kept⟩ := h c
  refine ⟨r0.trans ?_, r1.trans ?_, kept⟩
  · show _ = KvRef.resultW _ _ _
    rw [KvFinal.final_w c rfl rfl rfl rfl, a0, a1, a3]
    exact ext2 fun d j => (KvRef.resultW_at _ _ _ d j).symm
  · show _ = KvRef.resultG _ _ _
    rw [KvFinal.final_g c rfl rfl rfl rfl, a0, a2, a3]
    exact ext2 fun a d => (KvRef.resultG_at _ _ _ a d).symm

end Cert.KvClaim

end
-- ==== Proof.InModel.lean ====
/-
  The gradients of the tokens, of their norm's gain and of the gates' bias through the input projection, on arrays of
  extended reals: the tokens' own cotangent is added to that of `(x / sqrt (mean x² + ε) * g) @ w`.
-/
module

public import proofs.«01_k».proof.Proof.KvModel

@[expose] public section

noncomputable section

namespace Cert.InModel

open Idealize.ShloMosaic Idealize.ShloMosaic.TcCoe Cert.KvModel Cert.Reals

/-- The square of a row, and its mean with ε added. -/
def square (x : Fin 1024 → EReal) : EReal := ∑ k, x k * x k
def mean (x : Fin 1024 → EReal) : EReal := Ideal.div (square x) (Ideal.ofBits .f32 0x44800000#32) + Ideal.ofBits .f32 0x358637BD#32

/-- The norm's gradient of a row `x` at the cotangent `a` of the normed row, added to `y`: as it is written by the
    derivative, and as the call writes it. -/
def tilt (x a : Fin 1024 → EReal) : EReal :=
  Ideal.div ((∑ k, x k * a k) * (Ideal.ofBits .f32 0xBF000000#32 * Ideal.div (scale (square x)) (mean x))) (Ideal.ofBits .f32 0x44800000#32)
def derived (y x a : Fin 1024 → EReal) (d : Fin 1024) : EReal :=
  y d + a d * scale (square x) + x d * tilt x a + tilt x a * x d
def direct (y x a : Fin 1024 → EReal) (d : Fin 1024) : EReal :=
  y d + (a d - x d * scale (square x) * Ideal.div (∑ k, a k * (x k * scale (square x))) (Ideal.ofBits .f32 0x44800000#32)) * scale (square x)

theorem ofBits_half : Ideal.ofBits .f32 0xBF000000#32 = ((-(1 / 2) : ℝ) : EReal) := by
  simp [Ideal.ofBits, Ideal.ieee, -EReal.coe_mul]; norm_num
theorem ofBits_width : Ideal.ofBits .f32 0x44800000#32 = ((1024 : ℝ) : EReal) := by
  simp [Ideal.ofBits, Ideal.ieee, -EReal.coe_mul]; norm_num
theorem ofBits_eps : ∃ e : ℝ, 0 < e ∧ Ideal.ofBits .f32 0x358637BD#32 = ((e : ℝ) : EReal) := by
  exact ⟨8796093 / 2 ^ 43, by positivity, by simp [Ideal.ofBits, Ideal.ieee, -EReal.coe_mul]; norm_num⟩

/-- Over the reals the two agree. -/
theorem direct_eq (y : Fin 1024 → EReal) (x a : Fin 1024 → ℝ) (d : Fin 1024) :
    direct y (fun k => (x k : EReal)) (fun k => (a k : EReal)) d = derived y (fun k => (x k : EReal)) (fun k => (a k : EReal)) d := by
  obtain ⟨e, he, hb⟩ := ofBits_eps
  have hq : 0 < (∑ k, x k * x k) / 1024 + e :=
    add_pos_of_nonneg_of_pos (div_nonneg (Finset.sum_nonneg fun k _ => mul_self_nonneg _) (by norm_num)) he
  set q := (∑ k, x k * x k) / 1024 + e with hqd
  have hs : scale (square fun k => (x k : EReal)) = (((Real.sqrt q)⁻¹ : ℝ) : EReal) := by
    unfold scale square
    simp only [lift_mul, coe_sum, ofBits_width, hb, coe_div (by norm_num : (1024 : ℝ) ≠ 0), lift_add]
    rw [Ideal.rsqrt_coe, ← hqd, if_neg (not_lt.mpr hq.le), if_neg hq.ne']
  have hm : mean (fun k => (x k : EReal)) = ((q : ℝ) : EReal) := by
    unfold mean square
    simp only [lift_mul, coe_sum, ofBits_width, hb, coe_div (by norm_num : (1024 : ℝ) ≠ 0), lift_add, hqd]
  have h0 : Real.sqrt q ≠ 0 := (Real.sqrt_pos.mpr hq).ne'
  have h2 : Real.sqrt q * Real.sqrt q = q := Real.mul_self_sqrt hq.le
  unfold direct derived tilt
  rw [hs, hm, ofBits_half, ofBits_width]
  simp only [lift_mul, coe_sum, coe_div (by norm_num : (1024 : ℝ) ≠ 0), coe_div hq.ne', lift_sub]
  rw [add_assoc, add_assoc, lift_add, lift_add]
  congr 2
  have hsum : ∑ k, a k * (x k * (Real.sqrt q)⁻¹) = (∑ k, x k * a k) * (Real.sqrt q)⁻¹ := by
    rw [Finset.sum_mul]; exact Finset.sum_congr rfl fun k _ => by ring
  rw [hsum]
  have h3 : a d - x d * (Real.sqrt q)⁻¹ * ((∑ k, x k * a k) * (Real.sqrt q)⁻¹ / 1024) = a d - x d * (∑ k, x k * a k) / q / 1024 := by
    have hu : (Real.sqrt q)⁻¹ * (Real.sqrt q)⁻¹ = q⁻¹ := by rw [← mul_inv, h2]
    rw [div_eq_mul_inv _ q, ← hu]; ring
  rw [h3]
  field_simp
  ring

/-- The cotangent of the projection's input, the normed tokens, and the three gradients. -/
def dh (w : Arr2 1024 2182) (ct : Arr3 2 2048 2182) (b : Fin 2) (m : Fin 2048) (d : Fin 1024) : EReal :=
  ∑ l : Fin 2182, ct (ix3 b m l) * w (ix2 d l)
def row (x : Arr3 2 2048 1024) (b : Fin 2) (m : Fin 2048) (k : Fin 1024) : EReal := x (ix3 b m k)
def normed (x : Arr3 2 2048 1024) (b : Fin 2) (m : Fin 2048) (d : Fin 1024) : EReal := row x b m d * scale (square (row x b m))
def dx (x : Arr3 2 2048 1024) (g : Fin 1024 → EReal) (w : Arr2 1024 2182) (ct : Arr3 2 2048 2182) (y : Arr3 2 2048 1024)
    (b : Fin 2) (m : Fin 2048) (d : Fin 1024) : EReal :=
  derived (row y b m) (row x b m) (fun k => dh w ct b m k * g k) d
def dg (x : Arr3 2 2048 1024) (w : Arr2 1024 2182) (ct : Arr3 2 2048 2182) (d : Fin 1024) : EReal :=
  ∑ b : Fin 2, ∑ m : Fin 2048, normed x b m d * dh w ct b m d
def db (ct : Arr3 2 2048 2182) (j : Fin 128) : EReal :=
  if h : j.val < 6 then ∑ b : Fin 2, ∑ m : Fin 2048, ct (ix3 b m ⟨1920 + j.val, by omega⟩) else 0

/-- Of real tokens, gain, weights and cotangent, the call's rows of the tokens' gradient are the derivative's. -/
theorem direct_dx {x y : Arr3 2 2048 1024} {g : Fin 1024 → EReal} {w : Arr2 1024 2182} {ct : Arr3 2 2048 2182}
    (hx : ∀ i, ∃ r : ℝ, x i = r) (hg : ∀ k, ∃ r : ℝ, g k = r) (hw : ∀ i, ∃ r : ℝ, w i = r) (hct : ∀ i, ∃ r : ℝ, ct i = r)
    (b : Fin 2) (m : Fin 2048) (d : Fin 1024) :
    direct (row y b m) (row x b m) (fun k => dh w ct b m k * g k) d = dx x g w ct y b m d := by
  choose rx hx using hx
  choose rg hg using hg
  choose rw' hw using hw
  choose rc hct using hct
  have e1 : row x b m = fun k => ((rx (ix3 b m k) : ℝ) : EReal) := funext fun k => hx _
  have e2 : (fun k => dh w ct b m k * g k) = fun k => (((∑ l, rc (ix3 b m l) * rw' (ix2 k l)) * rg k : ℝ) : EReal) :=
    funext fun k => by unfold dh; simp only [hct, hw, hg, lift_mul, coe_sum]
  unfold dx
  rw [e1, e2]
  exact direct_eq _ _ _ d

end Cert.InModel

end
-- ==== Proof.InKernel.lean ====
/-
  What a grid point of the kernel of the pair InBwd / InVjp leaves in its three results' blocks: the rows of the tokens'
  gradient, and the shares of 512 rows in the gradients of the gain and of the gates' bias.
-/
module

public import proofs.«01_k».proof.Proof.Gen.InBwdIdeal.Value
public import proofs.«01_k».proof.Proof.InModel
public import proofs.«01_k».proof.Proof.Arrays
public import Idealize.ShloMosaic.Lib.Pipeline.ValueKit
public import Idealize.ShloMosaic.Lib.Claim

@[expose] public section

set_option maxRecDepth 16384

noncomputable section

namespace Cert.InKernel

open Cert.InBwdIdeal Cert.InBwdIdeal.Gen Idealize.ShloMosaic Idealize.ShloMosaic.TcCoe Cert.InModel Cert.Arrays
open Cert.InBwdIdeal.Facts
open Cert.KvModel (scale Arr2 Arr3)

/-- The rows of a block: of the projection's input's cotangent `D`, of the tokens, and the three results. -/
def line (x : Vec Ideal S512x1024 .f32) (i : Fin 512) (k : Fin 1024) : EReal := x (ix2 i k)
def rowX (D : Fin 512 → Fin 1024 → EReal) (x y : Vec Ideal S512x1024 .f32) (g : Vec Ideal S1x1024 .f32) (i : Fin 512) (d : Fin 1024) :
    EReal := direct (line y i) (line x i) (fun k => D i k * g (ix2 0 k)) d
def partG (D : Fin 512 → Fin 1024 → EReal) (x : Vec Ideal S512x1024 .f32) (d : Fin 1024) : EReal :=
  ∑ i : Fin 512, D i d * (line x i d * scale (square (line x i)))
def partB (z : Vec Ideal S512x128 .f32) (j : Fin 128) : EReal := ∑ i : Fin 512, z (ix2 i j)

/-- The projection's input's cotangent, from the lanes of the seven pieces and the weights' four panels. -/
def back (C : Fin 512 → Fin 2304 → EReal) (w : Vec Ideal S4x2304x256 .bf16) (i : Fin 512) (d : Fin 1024) : EReal :=
  ∑ l : Fin 2304, C i l * w (ix3 ⟨d.val / 256, by omega⟩ l ⟨d.val % 256, by omega⟩)

theorem pay12_at (x : Vec Ideal S512x1024 .f32) (i : Fin 512) (a : Fin 1) :
    k0_pay12 (F := Ideal) x (ix2 i a) = scale (square (line x i)) := by
  pointwise [k0_pay12, scale, square, line]
theorem pay13_at (x : Vec Ideal S512x1024 .f32) (i : Fin 512) (d : Fin 1024) :
    k0_pay13 (F := Ideal) x (ix2 i d) = line x i d * scale (square (line x i)) := by
  pointwise [k0_pay13, pay12_at, line]
theorem pay11_at (x : Vec Ideal S512x1024 .f32) (i : Fin 512) (d : Fin 1024) : k0_pay11 x (ix2 i d) = x (ix2 i d) := by
  pointwise [k0_pay11]
theorem pay11_eq (x : Vec Ideal S512x1024 .f32) : k0_pay11 x = x := ext2 (pay11_at x)
theorem pay14_at (e x : Vec Ideal S512x1024 .f32) (a : Fin 1) (d : Fin 1024) :
    k0_pay14 (F := Ideal) e x (ix2 a d) = partG (fun i k => e (ix2 i k)) x d := by
  pointwise [k0_pay14, pay13_at, partG]
theorem pay15_at (e x y : Vec Ideal S512x1024 .f32) (g : Vec Ideal S1x1024 .f32) (i : Fin 512) (d : Fin 1024) :
    k0_pay15 e x g y (ix2 i d) = rowX (fun i k => e (ix2 i k)) x y g i d := by
  pointwise [k0_pay15, pay13_at, pay12_at, rowX, direct, line]
theorem pay16_at (e x : Vec Ideal S512x1024 .f32) (p : Vec Ideal S1x1024 .f32) (a : Fin 1) (d : Fin 1024) :
    k0_pay16 e x p (ix2 a d) = p (ix2 a d) + partG (fun i k => e (ix2 i k)) x d := by
  pointwise [k0_pay16, pay14_at]
theorem pay17_at (z : Vec Ideal S512x128 .f32) (a : Fin 1) (j : Fin 128) : k0_pay17 z (ix2 a j) = partB z j := by
  pointwise [k0_pay17, partB]
theorem pay1_at (u v : Vec Ideal S1x128 .f32) (a : Fin 1) (j : Fin 128) : k0_pay1 u v (ix2 a j) = v (ix2 a j) + u (ix2 a j) := by
  pointwise [k0_pay1]

theorem ld_panel (w : Vec Ideal S4x2304x256 .bf16) (s : ℕ) (hs : s < 4) (inb) (a : Fin 1) (l : Fin 2304) (k : Fin 256) :
    View.ld (Val := Elt Ideal) (e' := .bf16) w (Rect.unit ![s, 0, 0] ![1, 2304, 256] inb) (ix3 a l k) = w (ix3 ⟨s, hs⟩ l k) :=
  View.ld_unit_apply_of w _ _ inb _ (ix3 ⟨s, hs⟩ l k) fun b => by match b with
    | 0 => show s = s + a.val; omega
    | 1 => exact (Nat.zero_add _).symm
    | 2 => exact (Nat.zero_add _).symm

theorem pay10_at (p : Vec Ideal S512x2304 .bf16) (w : Vec Ideal S4x2304x256 .bf16) (inb0 inb1 inb2 inb3) (i : Fin 512) (d : Fin 1024) :
    k0_pay10 p (View.ld (Val := Elt Ideal) (e' := .bf16) w (Rect.unit ![0, 0, 0] ![1, 2304, 256] inb0))
      p (View.ld (Val := Elt Ideal) (e' := .bf16) w (Rect.unit ![1, 0, 0] ![1, 2304, 256] inb1))
      p (View.ld (Val := Elt Ideal) (e' := .bf16) w (Rect.unit ![2, 0, 0] ![1, 2304, 256] inb2))
      p (View.ld (Val := Elt Ideal) (e' := .bf16) w (Rect.unit ![3, 0, 0] ![1, 2304, 256] inb3)) (ix2 i d)
      = back (fun i l => p (ix2 i l)) w i d := by
  pointwise [k0_pay10, back, ld_panel w 0 (by decide), ld_panel w 1 (by decide), ld_panel w 2 (by decide), ld_panel w 3 (by decide)]
  have panels : ∀ (s : Fin 4) (k : Fin 256), d.val = 256 * s.val + k.val → ∑ l, p (ix2 i l) * w (ix3 s l k)
      = ∑ l, p (ix2 i l) * w (ix3 ⟨d.val / 256, by omega⟩ l ⟨d.val % 256, by omega⟩) := fun s k h => by
    rw [show (⟨d.val / 256, by omega⟩ : Fin 4) = s from Fin.ext (by show d.val / 256 = s.val; omega),
      show (⟨d.val % 256, by omega⟩ : Fin 256) = k from Fin.ext (by show d.val % 256 = k.val; omega)]
  split_ifs
  all_goals first
    | exact panels 0 ⟨d.val, by omega⟩ (by show d.val = 256 * 0 + d.val; omega)
    | exact panels 1 ⟨d.val - 256, by omega⟩ (by show d.val = 256 * 1 + (d.val - 256); omega)
    | exact panels 2 ⟨d.val - 256 - 256, by omega⟩ (by show d.val = 256 * 2 + (d.val - 256 - 256); omega)
    | exact panels 3 ⟨d.val - 256 - 256 - 256, by omega⟩ (by show d.val = 256 * 3 + (d.val - 256 - 256 - 256); omega)

/-! ### The scratch: seven pieces side by side -/

/-- Lanes `C`, as an array, and what the seven pieces are of it. -/
def panel (C : Fin 512 → Fin 2304 → EReal) : Vec Ideal S512x2304 .bf16 := fun i => C (i 0) (i 1)
def Piece {n : ℕ} (C : Fin 512 → Fin 2304 → EReal) (off : ℕ) (p : Vec Ideal ⟨2, ![512, n]⟩ .bf16) : Prop :=
  ∃ h : off + n ≤ 2304, ∀ (i : Fin 512) (j : Fin n), p (ix2 i j) = C i ⟨off + j.val, by omega⟩

/-- A piece written after the lanes before it. -/
theorem step {n : ℕ} {C : Fin 512 → Fin 2304 → EReal} {off : ℕ} {X : Vec Ideal S512x2304 .bf16} {p : Vec Ideal ⟨2, ![512, n]⟩ .bf16}
    (hX : ∀ (i : Fin 512) (l : Fin 2304), l.val < off → X (ix2 i l) = C i l) (hp : Piece C off p) (inb) (i : Fin 512)
    (l : Fin 2304) (hl : l.val < off + n) :
    (Rect.unit (s := S512x2304) ![0, off] ![512, n] inb).overlay X p (ix2 i l) = C i l := by
  obtain ⟨hn, hp⟩ := hp
  by_cases h : l.val < off
  · exact (overlay_off _ _ inb _ _ (ix2 i l) fun k => absurd (k 1).1 (by show ¬off ≤ l.val; omega)).trans (hX i l h)
  · refine (overlay_at _ _ inb _ _ (ix2 i l) fun b => ?_).trans ?_
    · match b with
      | 0 => exact ⟨Nat.zero_le _, by show i.val < 0 + 512; omega⟩
      | 1 => exact ⟨by show off ≤ l.val; omega, by show l.val < off + n; omega⟩
    · refine (congrArg p (funext fun b => ?_)).trans ((hp i ⟨l.val - off, by omega⟩).trans
        (congrArg (C i) (Fin.ext (by show off + (l.val - off) = l.val; omega))))
      match b with
      | 0 => exact Fin.ext (Nat.sub_zero _)
      | 1 => rfl

theorem pay2_eq (p : Vec Ideal S512x384 .bf16) : k0_pay2 p = p := ext2 fun i j => by pointwise [k0_pay2]
theorem pay3_eq (p : Vec Ideal S512x384 .bf16) : k0_pay3 p = p := ext2 fun i j => by pointwise [k0_pay3]
theorem pay4_eq (p : Vec Ideal S512x384 .bf16) : k0_pay4 p = p := ext2 fun i j => by pointwise [k0_pay4]
theorem pay5_eq (p : Vec Ideal S512x384 .bf16) : k0_pay5 p = p := ext2 fun i j => by pointwise [k0_pay5]
theorem pay6_eq (p : Vec Ideal S512x384 .bf16) : k0_pay6 p = p := ext2 fun i j => by pointwise [k0_pay6]
theorem pay8_eq (p : Vec Ideal S512x128 .f32) : k0_pay8 (k0_pay7 p) = (p : FVec Ideal S512x128 .bf16) :=
  ext2 fun i j => by pointwise [k0_pay7, k0_pay8]
theorem pay9_eq (p : Vec Ideal S512x256 .bf16) : k0_pay9 p = p := ext2 fun i j => by pointwise [k0_pay9]

/-- The seven pieces, of the lanes `C`. -/
structure Lanes (C : Fin 512 → Fin 2304 → EReal) (x0 x1 x2 x3 x4 : Vec Ideal S512x384 .bf16) (x5 : Vec Ideal S512x128 .f32)
    (x6 : Vec Ideal S512x256 .bf16) : Prop where
  p0 : Piece C 0 x0
  p1 : Piece C 384 x1
  p2 : Piece C 768 x2
  p3 : Piece C 1152 x3
  p4 : Piece C 1536 x4
  p5 : Piece C 1920 (n := 128) x5
  p6 : Piece C 2048 x6

theorem stored {C : Fin 512 → Fin 2304 → EReal} {x0 x1 x2 x3 x4 : Vec Ideal S512x384 .bf16} {x5 : Vec Ideal S512x128 .f32}
    {x6 : Vec Ideal S512x256 .bf16} (h : Lanes C x0 x1 x2 x3 x4 x5 x6) (X : Vec Ideal S512x2304 .bf16) (b0 b1 b2 b3 b4 b5 b6) :
    (Rect.unit (s := S512x2304) ![0, 2048] ![512, 256] b6).overlay ((Rect.unit (s := S512x2304) ![0, 1920] ![512, 128] b5).overlay
      ((Rect.unit (s := S512x2304) ![0, 1536] ![512, 384] b4).overlay ((Rect.unit (s := S512x2304) ![0, 1152] ![512, 384] b3).overlay
      ((Rect.unit (s := S512x2304) ![0, 768] ![512, 384] b2).overlay ((Rect.unit (s := S512x2304) ![0, 384] ![512, 384] b1).overlay
      ((Rect.unit (s := S512x2304) ![0, 0] ![512, 384] b0).overlay X (k0_pay2 x0)) (k0_pay3 x1)) (k0_pay4 x2)) (k0_pay5 x3))
      (k0_pay6 x4)) (k0_pay8 (k0_pay7 x5))) (k0_pay9 x6) = panel C := by
  rw [pay2_eq, pay3_eq, pay4_eq, pay5_eq, pay6_eq, pay8_eq, pay9_eq]
  exact ext2 fun i l => step (step (step (step (step (step (step (fun _ _ k => absurd k (Nat.not_lt_zero _)) h.p0 b0) h.p1 b1)
    h.p2 b2) h.p3 b3) h.p4 b4) h.p5 b5) h.p6 b6 i l l.isLt

/-- A whole block, written at once. -/
theorem whole {n k : ℕ} (X P : Vec Ideal ⟨2, ![n, k]⟩ .f32) (inb) (i : Fin n) (j : Fin k) :
    (Rect.unit (s := ⟨2, ![n, k]⟩) ![0, 0] ![n, k] inb).overlay X P (ix2 i j) = P (ix2 i j) :=
  (overlay_at _ _ inb _ _ (ix2 i j) fun b => by match b with
    | 0 => exact ⟨Nat.zero_le _, by show i.val < 0 + n; omega⟩
    | 1 => exact ⟨Nat.zero_le _, by show j.val < 0 + k; omega⟩).trans
    (congrArg P (funext fun b => by match b with
      | 0 => exact Fin.ext (Nat.sub_zero _)
      | 1 => exact Fin.ext (Nat.sub_zero _)))

variable {m : (ℓ : Loc nD τ sig) → Buf (Elt Ideal) ℓ} {c : Dev nD} {t : Fin cfg0.N} {x0 x1 x2 x3 x4 : Vec Ideal S512x384 .bf16}
  {x5 : Vec Ideal S512x128 .f32} {x6 : Vec Ideal S512x256 .bf16} {x7 x8 : Vec Ideal S512x1024 .f32} {x9 : Vec Ideal S1x1024 .f32}
  {x10 : Vec Ideal S4x2304x256 .bf16}
  (e0 : iblk m c 0 t = x0) (e1 : iblk m c 1 t = x1) (e2 : iblk m c 2 t = x2) (e3 : iblk m c 3 t = x3) (e4 : iblk m c 4 t = x4)
  (e5 : iblk m c 5 t = x5) (e6 : iblk m c 6 t = x6) (e7 : iblk m c 7 t = x7) (e8 : iblk m c 8 t = x8) (e9 : iblk m c 9 t = x9)
  (e10 : iblk m c 10 t = x10) {C : Fin 512 → Fin 2304 → EReal} (hC : Lanes C x0 x1 x2 x3 x4 x5 x6)
include e0 e1 e2 e3 e4 e5 e6 e7 e8 e9 e10 hC

/-- What the first point leaves. -/
theorem pointA (h0 : t.val % 8 = 0) (h1 : ¬1 ≤ t.val) :
    (∀ i d, (outsAt0 m c t.val t.isLt).1 (ix2 i d) = rowX (back C x10) x7 x8 x9 i d)
      ∧ (∀ a d, (outsAt0 m c t.val t.isLt).2.1 (ix2 a d) = partG (back C x10) x7 d)
      ∧ ∀ a j, (outsAt0 m c t.val t.isLt).2.2 (ix2 a j) = partB x5 j := by
  rw [outsAt0_A m c t h0 h1 h0 h1, e0, e1, e2, e3, e4, e5, e6, e7, e8, e9, e10]
  dsimp only
  frame_open
  simp (disch := decide) only [View.read_writes_junk_eq_canon, View.canon_cons_unit_lit', View.ld_unit_lit',
    Memref.IsWhole.read_unread, View.readAt_eq_ld, Arrays.read_back, View.canon_cons]
  rw [stored hC, pay11_eq]
  refine ⟨fun i d => (whole _ _ _ i d).trans ((pay15_at _ _ _ _ i d).trans ?_), fun a d => (whole _ _ _ a d).trans
    ((pay14_at _ _ a d).trans ?_), fun a j => (whole _ _ _ a j).trans (pay17_at _ a j)⟩
  all_goals rw [funext fun i => funext fun d => pay10_at (panel C) x10 _ _ _ _ i d]; rfl

/-- And what a later one adds. -/
theorem pointB (h0 : ¬t.val % 8 = 0) (h1 : 1 ≤ t.val) {X : Vec Ideal S512x1024 .f32} {G : Vec Ideal S1x1024 .f32}
    {B : Vec Ideal S1x128 .f32} (eg : outsAt0 m c (t.val - 1) (by have := t.isLt; omega) = (X, G, B)) :
    (∀ i d, (outsAt0 m c t.val t.isLt).1 (ix2 i d) = rowX (back C x10) x7 x8 x9 i d)
      ∧ (∀ a d, (outsAt0 m c t.val t.isLt).2.1 (ix2 a d) = G (ix2 a d) + partG (back C x10) x7 d)
      ∧ ∀ a j, (outsAt0 m c t.val t.isLt).2.2 (ix2 a j) = B (ix2 a j) + partB x5 j := by
  rw [outsAt0_B m c t h0 h1 h0 h1, e0, e1, e2, e3, e4, e5, e6, e7, e8, e9, e10, eg]
  dsimp only
  frame_open
  simp (disch := decide) only [View.read_writes_junk_eq_canon, View.canon_cons_unit_lit', View.ld_unit_lit',
    Memref.IsWhole.read_unread, View.readAt_eq_ld, Arrays.read_back, View.canon_cons]
  rw [stored hC, pay11_eq]
  refine ⟨fun i d => (whole _ _ _ i d).trans ((pay15_at _ _ _ _ i d).trans ?_), fun a d => (whole _ _ _ a d).trans
    ((pay16_at _ _ _ a d).trans ?_), fun a j => (whole _ _ _ a j).trans ((pay1_at _ _ a j).trans (congrArg _ (pay17_at _ a j)))⟩
  all_goals rw [funext fun i => funext fun d => pay10_at (panel C) x10 _ _ _ _ i d]; rfl

end Cert.InKernel

end
-- ==== Proof.InFinal.lean ====
/-
  The kernel of the pair InBwd / InVjp: its three result arrays are the gradients of InModel. Grid point `t` handles the rows
  `512 t … 512 t + 511` of the 4096 tokens; the gain's and the bias's gradients are summed over the points.
-/
module

public import proofs.«01_k».proof.Proof.InKernel
public import Idealize.ShloMosaic.Lib.StableHlo.RunRead

@[expose] public section

set_option maxRecDepth 16384

noncomputable section

namespace Cert.InFinal

open Cert.InBwdIdeal Cert.InBwdIdeal.Gen Idealize.ShloMosaic Idealize.ShloMosaic.TcCoe Cert.Arrays Cert.InModel Cert.InKernel
open Cert.InBwdIdeal.Facts
open Cert.KvModel (scale Arr2 Arr3)

/-- Every window's block of point `t`. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] ∧ win0_10.index t = ![0, 0, 0]
    ∧ win0_11.index t = ![t.val, 0] ∧ win0_12.index t = ![0, 0] ∧ win0_13.index t = ![0, 0] := by
  decide +kernel
theorem last_g : ∀ t : Fin cfg0.N, (cfg0.win 12).flush t = true → t.val = 7 :=
  (by decide +kernel : ∀ t : Fin grid0.N, win0_12.flush t = true → t.val = 7)
theorem last_b : ∀ t : Fin cfg0.N, (cfg0.win 13).flush t = true → t.val = 7 :=
  (by decide +kernel : ∀ t : Fin grid0.N, win0_13.flush t = true → t.val = 7)

/-! ### The host lines -/

def flat (ct : FVec Ideal S2x2048x2182 .f32) : FVec Ideal S4096x2182 .f32 := shapeCast S4096x2182 ct shapeCasts_S2x2048x2182_S4096x2182
def gates (ct : FVec Ideal S2x2048x2182 .f32) : FVec Ideal S4096x128 .f32 :=
  pad S4096x128 ![0, 0] ![0, 122] ![0, 0] (extractStridedSlice S4096x6 ![0, 1920] (flat ct) slices_S4096x2182_S4096x6_0_1920)
    (sitofp .f32 (constantI S_ 32 0#32)) pads_S4096x6_S4096x128_000_01220 h_S_
def panels (w : FVec Ideal S1024x2182 .f32) : FVec Ideal S4x2304x256 .bf16 :=
  truncf .bf16 (transpose S4x2304x256 [1, 0, 2] (shapeCast S2304x4x256 (addf
    (pad S2304x1024 ![0, 0] ![378, 0] ![0, 0] (extractStridedSlice S1926x1024 ![0, 0] (transpose S2182x1024 [1, 0] w
      transposes_S1024x2182_S2182x1024_1_0) slices_S2182x1024_S1926x1024_0_0) (sitofp .f32 (constantI S_ 32 0#32))
      pads_S1926x1024_S2304x1024_03780_000 h_S_)
    (pad S2304x1024 ![2048, 0] ![0, 0] ![0, 0] (extractStridedSlice S256x1024 ![1926, 0] (transpose S2182x1024 [1, 0] w
      transposes_S1024x2182_S2182x1024_1_0) slices_S2182x1024_S256x1024_1926_0) (sitofp .f32 (constantI S_ 32 0#32))
      pads_S256x1024_S2304x1024_204800_000 h_S_))
    shapeCasts_S2304x1024_S2304x4x256) transposes_S2304x4x256_S4x2304x256_1_0_2) bitsLt_bf16_f32

/-- The place of a column among the 2304 lanes: the columns from 1926 on stand 122 lanes further. -/
def lane (f : Fin 2182 → EReal) (l : Fin 2304) : EReal :=
  if h : l.val < 1926 then f ⟨l.val, by omega⟩ else if h' : l.val < 2048 then 0 else f ⟨l.val - 122, by omega⟩

/-- The zero lanes drop out of a product's sum. -/
theorem sum_lanes (f g : Fin 2182 → EReal) : ∑ l, lane f l * lane g l = ∑ k, f k * g k := by
  have low : ∑ k : Fin 2048, lane f (Fin.castAdd 256 k) * lane g (Fin.castAdd 256 k)
      = ∑ k : Fin 1926, f (Fin.castAdd 256 k) * g (Fin.castAdd 256 k) + 0 := by
    refine (Fin.sum_univ_add (a := 1926) (b := 122) fun k : Fin 2048 => lane f (Fin.castAdd 256 k) * lane g (Fin.castAdd 256 k)).trans
      (congrArg₂ (· + ·) ?_ ?_)
    · exact Finset.sum_congr rfl fun k _ => by
        have h : ((Fin.castAdd 256 (Fin.castAdd 122 k) : Fin 2304)).val < 1926 := k.isLt
        unfold lane; rw [dif_pos h, dif_pos h]; rfl
    · exact Finset.sum_eq_zero fun k _ => by
        have h : ¬((Fin.castAdd 256 (Fin.natAdd 1926 k) : Fin 2304)).val < 1926 := by show ¬1926 + k.val < 1926; omega
        have h' : ((Fin.castAdd 256 (Fin.natAdd 1926 k) : Fin 2304)).val < 2048 := by show 1926 + k.val < 2048; omega
        unfold lane; rw [dif_neg h, dif_pos h', zero_mul]
  have high : ∑ k : Fin 256, lane f (Fin.natAdd 2048 k) * lane g (Fin.natAdd 2048 k)
      = ∑ k : Fin 256, f (Fin.natAdd 1926 k) * g (Fin.natAdd 1926 k) :=
    Finset.sum_congr rfl fun k _ => by
      have h : ¬((Fin.natAdd 2048 k : Fin 2304)).val < 1926 := by show ¬2048 + k.val < 1926; omega
      have h' : ¬((Fin.natAdd 2048 k : Fin 2304)).val < 2048 := by show ¬2048 + k.val < 2048; omega
      have e : (⟨((Fin.natAdd 2048 k : Fin 2304)).val - 122, by show 2048 + k.val - 122 < 2182; omega⟩ : Fin 2182) = Fin.natAdd 1926 k :=
        Fin.ext (by show 2048 + k.val - 122 = 1926 + k.val; omega)
      unfold lane; rw [dif_neg h, dif_neg h', dif_neg h, dif_neg h', e]
  refine (Fin.sum_univ_add (a := 2048) (b := 256) fun l : Fin 2304 => lane f l * lane g l).trans ?_
  rw [low, high, add_zero]
  exact (Fin.sum_univ_add (a := 1926) (b := 256) fun k : Fin 2182 => f k * g k).symm

/-- A token's batch and place. -/
def bat (n : ℕ) : Fin 2 := ⟨n / 2048 % 2, Nat.mod_lt _ (by decide)⟩
def pos (n : ℕ) : Fin 2048 := ⟨n % 2048, Nat.mod_lt _ (by decide)⟩
theorem bat_eq (n : Fin 4096) (h) : (⟨n.val / 2048, h⟩ : Fin 2) = bat n.val := Fin.ext (by show n.val / 2048 = n.val / 2048 % 2; omega)

theorem int_zero : FloatOps.sitofp (F := Ideal) .f32 0#32 = 0 := by
  show ((((0#32 : BitVec 32).toInt : ℤ) : ℝ) : EReal) = _
  simp

theorem flat_at (ct : FVec Ideal S2x2048x2182 .f32) (n : Fin 4096) (l : Fin 2182) :
    flat ct (ix2 n l) = ct (ix3 (bat n.val) (pos n.val) l) := by
  rw [← bat_eq n (by omega)]
  pointwise [flat]
  rfl
theorem gates_at (ct : FVec Ideal S2x2048x2182 .f32) (n : Fin 4096) (j : Fin 128) :
    gates ct (ix2 n j) = lane (fun l => ct (ix3 (bat n.val) (pos n.val) l)) ⟨1920 + j.val, by omega⟩ := by
  pointwise [gates, flat_at, lane, int_zero]
  by_cases h : j.val < 6
  · rw [dif_pos h, dif_pos (by omega)]
  · rw [dif_neg h, dif_neg (by omega), dif_pos (by omega)]
theorem panels_at (w : FVec Ideal S1024x2182 .f32) (d : Fin 1024) (l : Fin 2304) :
    panels w (ix3 ⟨d.val / 256, by omega⟩ l ⟨d.val % 256, by omega⟩) = lane (fun k => w (ix2 d k)) l := by
  pointwise [panels, lane, int_zero]
  by_cases h : l.val < 1926
  · rw [dif_pos h, dif_pos h, dif_neg (by omega), add_zero]
  · rw [dif_neg h, dif_neg h, zero_add]
    by_cases h' : l.val < 2048
    · rw [dif_neg (by omega), dif_pos h']
    · rw [dif_pos (by omega), dif_neg h']
      exact congrArg (fun k => w (ix2 d k)) (Fin.ext (by show 1926 + (l.val - 2048) = l.val - 122; omega))

section
variable {m : (ℓ : Loc nD τ sig) → Buf (Elt Ideal) ℓ} (c : Dev nD)

open StableHlo in
theorem operand_0 : V m c main_v8 = (truncf .bf16 (extractStridedSlice S4096x384 ![0, 0] (flat (m ((c.tc : Thread nD τ).loc main_arg4))) slices_S4096x2182_S4096x384_0_0
    : FVec Ideal S4096x384 .f32) bitsLt_bf16_f32 : FVec Ideal S4096x384 .bf16) := by
  show StableHlo.after _ _ _ = _
  simp only [List.flatten_cons, List.flatten_nil, List.append_nil]
  after_reads_simp
  rfl
open StableHlo in
theorem operand_1 : V m c main_v9 = (truncf .bf16 (extractStridedSlice S4096x384 ![0, 384] (flat (m ((c.tc : Thread nD τ).loc main_arg4))) slices_S4096x2182_S4096x384_0_384
    : FVec Ideal S4096x384 .f32) bitsLt_bf16_f32 : FVec Ideal S4096x384 .bf16) := by
  show StableHlo.after _ _ _ = _
  simp only [List.flatten_cons, List.flatten_nil, List.append_nil]
  after_reads_simp
  rfl
open StableHlo in
theorem operand_2 : V m c main_v10 = (truncf .bf16 (extractStridedSlice S4096x384 ![0, 768] (flat (m ((c.tc : Thread nD τ).loc main_arg4))) slices_S4096x2182_S4096x384_0_768
    : FVec Ideal S4096x384 .f32) bitsLt_bf16_f32 : FVec Ideal S4096x384 .bf16) := by
  show StableHlo.after _ _ _ = _
  simp only [List.flatten_cons, List.flatten_nil, List.append_nil]
  after_reads_simp
  rfl
open StableHlo in
theorem operand_3 : V m c main_v11 = (truncf .bf16 (extractStridedSlice S4096x384 ![0, 1152] (flat (m ((c.tc : Thread nD τ).loc main_arg4))) slices_S4096x2182_S4096x384_0_1152
    : FVec Ideal S4096x384 .f32) bitsLt_bf16_f32 : FVec Ideal S4096x384 .bf16) := by
  show StableHlo.after _ _ _ = _
  simp only [List.flatten_cons, List.flatten_nil, List.append_nil]
  after_reads_simp
  rfl
open StableHlo in
theorem operand_4 : V m c main_v12 = (truncf .bf16 (extractStridedSlice S4096x384 ![0, 1536] (flat (m ((c.tc : Thread nD τ).loc main_arg4))) slices_S4096x2182_S4096x384_0_1536
    : FVec Ideal S4096x384 .f32) bitsLt_bf16_f32 : FVec Ideal S4096x384 .bf16) := by
  show StableHlo.after _ _ _ = _
  simp only [List.flatten_cons, List.flatten_nil, List.append_nil]
  after_reads_simp
  rfl
open StableHlo in
theorem operand_5 : V m c main_v13 = gates (m ((c.tc : Thread nD τ).loc main_arg4)) := by
  show StableHlo.after _ _ _ = _
  simp only [List.flatten_cons, List.flatten_nil, List.append_nil]
  after_reads_simp
  simp only [StableHlo.TRef.toBuf, StableHlo.TRef.ofBuf, cast_eq]
  rfl
open StableHlo in
theorem operand_6 : V m c main_v14 = (truncf .bf16 (extractStridedSlice S4096x256 ![0, 1926] (flat (m ((c.tc : Thread nD τ).loc main_arg4))) slices_S4096x2182_S4096x256_0_1926
    : FVec Ideal S4096x256 .f32) bitsLt_bf16_f32 : FVec Ideal S4096x256 .bf16) := by
  show StableHlo.after _ _ _ = _
  simp only [List.flatten_cons, List.flatten_nil, List.append_nil]
  after_reads_simp
  rfl
open StableHlo in
theorem operand_7 : V m c main_v15 = shapeCast S4096x1024 (m ((c.tc : Thread nD τ).loc main_arg0) : FVec Ideal S2x2048x1024 .f32) shapeCasts_S2x2048x1024_S4096x1024 := by
  show StableHlo.after _ _ _ = _
  simp only [List.flatten_cons, List.flatten_nil, List.append_nil]
  after_reads_simp
  rfl
open StableHlo in
theorem operand_8 : V m c main_v16 = shapeCast S4096x1024 (m ((c.tc : Thread nD τ).loc main_arg5) : FVec Ideal S2x2048x1024 .f32) shapeCasts_S2x2048x1024_S4096x1024 := by
  show StableHlo.after _ _ _ = _
  simp only [List.flatten_cons, List.flatten_nil, List.append_nil]
  after_reads_simp
  rfl
open StableHlo in
theorem operand_9 : V m c main_v17 = shapeCast S1x1024 (m ((c.tc : Thread nD τ).loc main_arg1) : FVec Ideal S1024 .f32) shapeCasts_S1024_S1x1024 := by
  show StableHlo.after _ _ _ = _
  simp only [List.flatten_cons, List.flatten_nil, List.append_nil]
  after_reads_simp
  rfl
open StableHlo in
theorem operand_10 : V m c main_v26 = panels (m ((c.tc : Thread nD τ).loc main_arg2)) := by
  show StableHlo.after _ _ _ = _
  simp only [List.flatten_cons, List.flatten_nil, List.append_nil]
  after_reads_simp
  simp only [StableHlo.TRef.toBuf, StableHlo.TRef.ofBuf, cast_eq]
  rfl
end

/-- Row `i` of point `t` among the 4096 tokens. -/
def tok (t : Fin cfg0.N) (i : Fin 512) : Fin 4096 :=
  ⟨512 * t.val + i.val, by have : t.val < 8 := lt_of_lt_of_eq t.isLt N_0; omega⟩

theorem read_0 (A : FVec Ideal S4096x384 .bf16) (t : Fin cfg0.N) (i : Fin 512) (j : Fin 384) :
    ((cfg0.win 0).blk t).view.read (Elt Ideal) A (ix2 i j) = A (ix2 (tok t i) j) := by
  unfold tok; blk_ext [idx t]
theorem read_1 (A : FVec Ideal S4096x384 .bf16) (t : Fin cfg0.N) (i : Fin 512) (j : Fin 384) :
    ((cfg0.win 1).blk t).view.read (Elt Ideal) A (ix2 i j) = A (ix2 (tok t i) j) := by
  unfold tok; blk_ext [idx t]
theorem read_2 (A : FVec Ideal S4096x384 .bf16) (t : Fin cfg0.N) (i : Fin 512) (j : Fin 384) :
    ((cfg0.win 2).blk t).view.read (Elt Ideal) A (ix2 i j) = A (ix2 (tok t i) j) := by
  unfold tok; blk_ext [idx t]
theorem read_3 (A : FVec Ideal S4096x384 .bf16) (t : Fin cfg0.N) (i : Fin 512) (j : Fin 384) :
    ((cfg0.win 3).blk t).view.read (Elt Ideal) A (ix2 i j) = A (ix2 (tok t i) j) := by
  unfold tok; blk_ext [idx t]
theorem read_4 (A : FVec Ideal S4096x384 .bf16) (t : Fin cfg0.N) (i : Fin 512) (j : Fin 384) :
    ((cfg0.win 4).blk t).view.read (Elt Ideal) A (ix2 i j) = A (ix2 (tok t i) j) := by
  unfold tok; blk_ext [idx t]
theorem read_5 (A : FVec Ideal S4096x128 .f32) (t : Fin cfg0.N) (i : Fin 512) (j : Fin 128) :
    ((cfg0.win 5).blk t).view.read (Elt Ideal) A (ix2 i j) = A (ix2 (tok t i) j) := by
  unfold tok; blk_ext [idx t]
theorem read_6 (A : FVec Ideal S4096x256 .bf16) (t : Fin cfg0.N) (i : Fin 512) (j : Fin 256) :
    ((cfg0.win 6).blk t).view.read (Elt Ideal) A (ix2 i j) = A (ix2 (tok t i) j) := by
  unfold tok; blk_ext [idx t]
theorem read_7 (A : FVec Ideal S4096x1024 .f32) (t : Fin cfg0.N) (i : Fin 512) (j : Fin 1024) :
    ((cfg0.win 7).blk t).view.read (Elt Ideal) A (ix2 i j) = A (ix2 (tok t i) j) := by
  unfold tok; blk_ext [idx t]
theorem read_8 (A : FVec Ideal S4096x1024 .f32) (t : Fin cfg0.N) (i : Fin 512) (j : Fin 1024) :
    ((cfg0.win 8).blk t).view.read (Elt Ideal) A (ix2 i j) = A (ix2 (tok t i) j) := by
  unfold tok; blk_ext [idx t]
theorem read_11 (A : FVec Ideal S4096x1024 .f32) (t : Fin cfg0.N) (i : Fin 512) (j : Fin 1024) :
    ((cfg0.win 11).blk t).view.read (Elt Ideal) A (ix2 i j) = A (ix2 (tok t i) j) := by
  unfold tok; blk_ext [idx t]
theorem read_9 (A : FVec Ideal S1x1024 .f32) (t : Fin cfg0.N) (i : Fin 1) (j : Fin 1024) :
    ((cfg0.win 9).blk t).view.read (Elt Ideal) A (ix2 i j) = A (ix2 i j) := by
  blk_ext [idx t]
theorem read_10 (A : FVec Ideal S4x2304x256 .bf16) (t : Fin cfg0.N) (p : Fin 4) (i : Fin 2304) (j : Fin 256) :
    ((cfg0.win 10).blk t).view.read (Elt Ideal) A (ix3 p i j) = A (ix3 p i j) := by
  blk_ext [idx t]
theorem read_12 (A : FVec Ideal S1x1024 .f32) (t : Fin cfg0.N) (i : Fin 1) (j : Fin 1024) :
    ((cfg0.win 12).blk t).view.read (Elt Ideal) A (ix2 i j) = A (ix2 i j) := by
  blk_ext [idx t]
theorem read_13 (A : FVec Ideal S1x128 .f32) (t : Fin cfg0.N) (i : Fin 1) (j : Fin 128) :
    ((cfg0.win 13).blk t).view.read (Elt Ideal) A (ix2 i j) = A (ix2 i j) := by
  blk_ext [idx t]

/-! ### The blocks -/

/-- Row `i` of point `t` of the cotangent, at its lanes. -/
def lanes (ct : Arr3 2 2048 2182) (t : Fin cfg0.N) (i : Fin 512) (l : Fin 2304) : EReal :=
  lane (fun k => ct (ix3 (bat (tok t i).val) (pos (tok t i).val) k)) l
theorem lanes_low (ct : Arr3 2 2048 2182) (t : Fin cfg0.N) (i : Fin 512) (k : ℕ) (h : k < 1926) (h') (h'') :
    ct (ix3 (bat (tok t i).val) (pos (tok t i).val) ⟨k, h''⟩) = lanes ct t i ⟨k, h'⟩ := by
  unfold lanes lane; rw [dif_pos h]

section
variable {m : (ℓ : Loc nD τ sig) → Buf (Elt Ideal) ℓ} (c : Dev nD) {x y : FVec Ideal S2x2048x1024 .f32} {g : FVec Ideal S1024 .f32}
  {w : FVec Ideal S1024x2182 .f32} {ct : FVec Ideal S2x2048x2182 .f32}
  (hx : m ((c.tc : Thread nD τ).loc main_arg0) = x) (hg : m ((c.tc : Thread nD τ).loc main_arg1) = g)
  (hw : m ((c.tc : Thread nD τ).loc main_arg2) = w) (hct : m ((c.tc : Thread nD τ).loc main_arg4) = ct)
  (hy : m ((c.tc : Thread nD τ).loc main_arg5) = y)

include hct in
theorem piece_0 (t : Fin cfg0.N) : Piece (lanes ct t) 0 (iblk m c 0 t : Vec Ideal S512x384 .bf16) := by
  have h : V m c (Pipeline.arrRef spec0 0) = _ := operand_0 c
  unfold iblk
  rw [h, hct]
  refine ⟨by decide, fun i j => (read_0 _ t i j).trans (Eq.trans ?_ (lanes_low ct t i (0 + j.val) (by omega) _ (by omega)))⟩
  pointwise [flat_at]
include hct in
theorem piece_1 (t : Fin cfg0.N) : Piece (lanes ct t) 384 (iblk m c 1 t : Vec Ideal S512x384 .bf16) := by
  have h : V m c (Pipeline.arrRef spec0 1) = _ := operand_1 c
  unfold iblk
  rw [h, hct]
  refine ⟨by decide, fun i j => (read_1 _ t i j).trans (Eq.trans ?_ (lanes_low ct t i (384 + j.val) (by omega) _ (by omega)))⟩
  pointwise [flat_at]
include hct in
theorem piece_2 (t : Fin cfg0.N) : Piece (lanes ct t) 768 (iblk m c 2 t : Vec Ideal S512x384 .bf16) := by
  have h : V m c (Pipeline.arrRef spec0 2) = _ := operand_2 c
  unfold iblk
  rw [h, hct]
  refine ⟨by decide, fun i j => (read_2 _ t i j).trans (Eq.trans ?_ (lanes_low ct t i (768 + j.val) (by omega) _ (by omega)))⟩
  pointwise [flat_at]
include hct in
theorem piece_3 (t : Fin cfg0.N) : Piece (lanes ct t) 1152 (iblk m c 3 t : Vec Ideal S512x384 .bf16) := by
  have h : V m c (Pipeline.arrRef spec0 3) = _ := operand_3 c
  unfold iblk
  rw [h, hct]
  refine ⟨by decide, fun i j => (read_3 _ t i j).trans (Eq.trans ?_ (lanes_low ct t i (1152 + j.val) (by omega) _ (by omega)))⟩
  pointwise [flat_at]
include hct in
theorem piece_4 (t : Fin cfg0.N) : Piece (lanes ct t) 1536 (iblk m c 4 t : Vec Ideal S512x384 .bf16) := by
  have h : V m c (Pipeline.arrRef spec0 4) = _ := operand_4 c
  unfold iblk
  rw [h, hct]
  refine ⟨by decide, fun i j => (read_4 _ t i j).trans (Eq.trans ?_ (lanes_low ct t i (1536 + j.val) (by omega) _ (by omega)))⟩
  pointwise [flat_at]
include hct in
theorem piece_5 (t : Fin cfg0.N) : Piece (lanes ct t) 1920 (n := 128) (iblk m c 5 t : Vec Ideal S512x128 .f32) := by
  have h : V m c (Pipeline.arrRef spec0 5) = _ := operand_5 c
  unfold iblk
  rw [h, hct]
  exact ⟨by decide, fun i j => (read_5 _ t i j).trans (gates_at ct (tok t i) j)⟩
include hct in
theorem piece_6 (t : Fin cfg0.N) : Piece (lanes ct t) 2048 (iblk m c 6 t : Vec Ideal S512x256 .bf16) := by
  have h : V m c (Pipeline.arrRef spec0 6) = _ := operand_6 c
  unfold iblk
  rw [h, hct]
  refine ⟨by decide, fun i j => (read_6 _ t i j).trans ?_⟩
  have e : lanes ct t i ⟨2048 + j.val, by omega⟩ = ct (ix3 (bat (tok t i).val) (pos (tok t i).val) ⟨1926 + j.val, by omega⟩) := by
    unfold lanes lane
    rw [dif_neg (by show ¬2048 + j.val < 1926; omega), dif_neg (by show ¬2048 + j.val < 2048; omega)]
    exact congrArg (fun k => ct (ix3 (bat (tok t i).val) (pos (tok t i).val) k)) (Fin.ext (by show 2048 + j.val - 122 = 1926 + j.val; omega))
  refine Eq.trans ?_ e.symm
  pointwise [flat_at]
include hct in
theorem all_lanes (t : Fin cfg0.N) : Lanes (lanes ct t) (iblk m c 0 t) (iblk m c 1 t) (iblk m c 2 t) (iblk m c 3 t) (iblk m c 4 t)
    (iblk m c 5 t) (iblk m c 6 t) :=
  ⟨piece_0 c hct t, piece_1 c hct t, piece_2 c hct t, piece_3 c hct t, piece_4 c hct t, piece_5 c hct t, piece_6 c hct t⟩

theorem tokens_at (x : FVec Ideal S2x2048x1024 .f32) (n : Fin 4096) (d : Fin 1024) :
    shapeCast S4096x1024 x shapeCasts_S2x2048x1024_S4096x1024 (ix2 n d) = row x (bat n.val) (pos n.val) d := by
  rw [← bat_eq n (by omega)]
  pointwise [row]
  rfl
include hx in
theorem block_7 (t : Fin cfg0.N) (i : Fin 512) :
    line (iblk m c 7 t : Vec Ideal S512x1024 .f32) i = row x (bat (tok t i).val) (pos (tok t i).val) := by
  have h : V m c (Pipeline.arrRef spec0 7) = _ := operand_7 c
  funext d
  unfold line iblk
  rw [h, hx]
  exact (read_7 _ t i d).trans (tokens_at x _ d)
include hy in
theorem block_8 (t : Fin cfg0.N) (i : Fin 512) :
    line (iblk m c 8 t : Vec Ideal S512x1024 .f32) i = row y (bat (tok t i).val) (pos (tok t i).val) := by
  have h : V m c (Pipeline.arrRef spec0 8) = _ := operand_8 c
  funext d
  unfold line iblk
  rw [h, hy]
  exact (read_8 _ t i d).trans (tokens_at y _ d)
include hg in
theorem block_9 (t : Fin cfg0.N) (a : Fin 1) (d : Fin 1024) : (iblk m c 9 t : Vec Ideal S1x1024 .f32) (ix2 a d) = g (ix1 d) := by
  have h : V m c (Pipeline.arrRef spec0 9) = _ := operand_9 c
  unfold iblk
  rw [h, hg]
  refine (read_9 _ t a d).trans ?_
  pointwise []
include hw hct in
theorem back_eq (t : Fin cfg0.N) (i : Fin 512) (d : Fin 1024) : back (lanes ct t) (iblk m c 10 t) i d
    = dh w ct (bat (tok t i).val) (pos (tok t i).val) d := by
  have h : V m c (Pipeline.arrRef spec0 10) = _ := operand_10 c
  refine (Finset.sum_congr rfl fun l _ => congrArg _ ?_).trans
    (sum_lanes (fun k => ct (ix3 (bat (tok t i).val) (pos (tok t i).val) k)) fun k => w (ix2 d k))
  unfold iblk
  rw [h, hw]
  exact (read_10 _ t _ l _).trans (panels_at w d l)

/-! ### The results -/

/-- A token's shares in the gain's and in the bias's gradients, and its row of the tokens' gradient. -/
def shareG (x : Arr3 2 2048 1024) (w : Arr2 1024 2182) (ct : Arr3 2 2048 2182) (d : Fin 1024) (n : ℕ) : EReal :=
  normed x (bat n) (pos n) d * dh w ct (bat n) (pos n) d
def shareB (ct : Arr3 2 2048 2182) (j : Fin 128) (n : ℕ) : EReal := if h : j.val < 6 then ct (ix3 (bat n) (pos n) ⟨1920 + j.val, by omega⟩) else 0
def rows (x y : Arr3 2 2048 1024) (g : Fin 1024 → EReal) (w : Arr2 1024 2182) (ct : Arr3 2 2048 2182) (n : ℕ) (d : Fin 1024) : EReal :=
  direct (row y (bat n) (pos n)) (row x (bat n) (pos n)) (fun k => dh w ct (bat n) (pos n) k * g k) d

include hx hg hw hct hy in
theorem row_eq (t : Fin cfg0.N) (i : Fin 512) (d : Fin 1024) :
    rowX (back (lanes ct t) (iblk m c 10 t)) (iblk m c 7 t) (iblk m c 8 t) (iblk m c 9 t) i d
      = rows x y (fun d => g (ix1 d)) w ct (tok t i).val d := by
  unfold rowX rows
  rw [block_7 c hx, block_8 c hy]
  simp only [back_eq c hw hct, block_9 c hg]
include hx hw hct in
theorem part_g (t : Fin cfg0.N) (d : Fin 1024) :
    partG (back (lanes ct t) (iblk m c 10 t)) (iblk m c 7 t) d = ∑ i ∈ Finset.range 512, shareG x w ct d (512 * t.val + i) := by
  rw [Finset.sum_range]
  exact Finset.sum_congr rfl fun i _ => by
    rw [block_7 c hx, back_eq c hw hct, mul_comm]
    rfl
include hct in
theorem part_b (t : Fin cfg0.N) (j : Fin 128) :
    partB (iblk m c 5 t) j = ∑ i ∈ Finset.range 512, shareB ct j (512 * t.val + i) := by
  rw [Finset.sum_range]
  exact Finset.sum_congr rfl fun i _ => by
    refine ((piece_5 c hct t).2 i j).trans ?_
    unfold lanes lane shareB
    by_cases h : j.val < 6
    · rw [dif_pos h, dif_pos (by show 1920 + j.val < 1926; omega)]; rfl
    · rw [dif_neg h, dif_neg (by show ¬1920 + j.val < 1926; omega), dif_pos (by show 1920 + j.val < 2048; omega)]

theorem triple {α β γ : Type} (p : α × β × γ) : p = (p.1, p.2.1, p.2.2) := rfl

include hx hg hw hct hy in
/-- What the points up to `n` leave. -/
theorem upto : ∀ (n : ℕ) (hn : n < cfg0.N),
    (∀ i d, (outsAt0 m c n hn).1 (ix2 i d) = rows x y (fun d => g (ix1 d)) w ct (tok ⟨n, hn⟩ i).val d)
      ∧ (∀ a d, (outsAt0 m c n hn).2.1 (ix2 a d) = ∑ k ∈ Finset.range (512 * (n + 1)), shareG x w ct d k)
      ∧ ∀ a j, (outsAt0 m c n hn).2.2 (ix2 a j) = ∑ k ∈ Finset.range (512 * (n + 1)), shareB ct j k
  | 0, hn => by
    obtain ⟨p, q, r⟩ := pointA (m := m) (c := c) (t := ⟨0, hn⟩) rfl rfl rfl rfl rfl rfl rfl rfl rfl rfl rfl
      (all_lanes c hct ⟨0, hn⟩) rfl (Nat.not_succ_le_zero 0)
    refine ⟨fun i d => (p i d).trans (row_eq c hx hg hw hct hy _ i d), fun a d => (q a d).trans ((part_g c hx hw hct _ d).trans ?_),
      fun a j => (r a j).trans ((part_b c hct _ j).trans ?_)⟩
    all_goals simp only [Nat.mul_zero, Nat.zero_add, Nat.mul_one]
  | n + 1, hn => by
    have h8 : n + 1 < 8 := lt_of_lt_of_eq hn N_0
    obtain ⟨_, q', r'⟩ := upto n (by omega)
    obtain ⟨p, q, r⟩ := pointB (m := m) (c := c) (t := ⟨n + 1, hn⟩) (X := (outsAt0 m c n (by omega)).1)
      (G := (outsAt0 m c n (by omega)).2.1) (B := (outsAt0 m c n (by omega)).2.2) rfl rfl rfl rfl rfl rfl rfl rfl rfl rfl rfl
      (all_lanes c hct ⟨n + 1, hn⟩) (by show ¬(n + 1) % 8 = 0; omega) (by show 1 ≤ n + 1; omega) (triple (outsAt0 m c n (by omega)))
    refine ⟨fun i d => (p i d).trans (row_eq c hx hg hw hct hy _ i d), fun a d => (q a d).trans ?_, fun a j => (r a j).trans ?_⟩
    · rw [q', part_g c hx hw hct, Nat.mul_add 512 (n + 1) 1, Nat.mul_one, Finset.sum_range_add]
    · rw [r', part_b c hct, Nat.mul_add 512 (n + 1) 1, Nat.mul_one, Finset.sum_range_add]

/-- A sum over the 4096 tokens, batch by batch. -/
theorem sum_tokens (f : Fin 2 → Fin 2048 → EReal) : ∑ n ∈ Finset.range (512 * (7 + 1)), f (bat n) (pos n) = ∑ b, ∑ s, f b s := by
  rw [show 512 * (7 + 1) = 2048 + 2048 from rfl, Finset.sum_range_add, Finset.sum_range, Finset.sum_range, Fin.sum_univ_two]
  refine congrArg₂ (· + ·) (Finset.sum_congr rfl fun i _ => ?_) (Finset.sum_congr rfl fun i _ => ?_)
  · exact congrArg₂ f (Fin.ext (by show i.val / 2048 % 2 = 0; omega)) (Fin.ext (by show i.val % 2048 = i.val; omega))
  · exact congrArg₂ f (Fin.ext (by show (2048 + i.val) / 2048 % 2 = 1; omega)) (Fin.ext (by show (2048 + i.val) % 2048 = i.val; omega))

/-- The three arrays after the run. -/
def arrayX (x y : Arr3 2 2048 1024) (g : Fin 1024 → EReal) (w : Arr2 1024 2182) (ct : Arr3 2 2048 2182) : Arr2 4096 1024 :=
  fun i => rows x y g w ct (i 0).val (i 1)
def arrayG (x : Arr3 2 2048 1024) (w : Arr2 1024 2182) (ct : Arr3 2 2048 2182) : Arr2 1 1024 := fun i => dg x w ct (i 1)
def arrayB (ct : Arr3 2 2048 2182) : Arr2 1 128 := fun i => db ct (i 1)

include hx hg hw hct hy in
theorem final_x : (dats m 0 c).arrAt 11 cfg0.N = arrayX x y (fun d => g (ix1 d)) w ct := by
  refine (dats m 0 c).arrAt_eq_of_covers 11 _ (by decide +kernel) fun t hf z => ?_
  blk_simp
  rw [after0_11]
  have key : ∀ z : S512x1024.Idx, (outsAt0 m c t.val t.isLt).1 z
      = ((cfg0.win 11).blk t).view.read (Elt Ideal) (arrayX x y (fun d => g (ix1 d)) w ct) z := by
    intro z
    rw [eq_ix2 z]
    exact ((upto c hx hg hw hct hy t.val t.isLt).1 (z 0) (z 1)).trans
      (read_11 (arrayX x y (fun d => g (ix1 d)) w ct) t (z 0) (z 1)).symm
  exact key z
include hx hg hw hct hy in
theorem final_g : (dats m 0 c).arrAt 12 cfg0.N = arrayG x w ct := by
  refine (dats m 0 c).arrAt_eq_of_covers 12 _ (by decide +kernel) fun t hf z => ?_
  have ht := last_g t hf
  blk_simp
  rw [after0_12]
  have key : ∀ z : S1x1024.Idx, (outsAt0 m c t.val t.isLt).2.1 z
      = ((cfg0.win 12).blk t).view.read (Elt Ideal) (arrayG x w ct) z := by
    intro z
    rw [eq_ix2 z]
    refine ((upto c hx hg hw hct hy t.val t.isLt).2.1 (z 0) (z 1)).trans (Eq.trans ?_ (read_12 (arrayG x w ct) t (z 0) (z 1)).symm)
    rw [ht]
    exact sum_tokens fun b s => normed x b s (z 1) * dh w ct b s (z 1)
  exact key z
include hx hg hw hct hy in
theorem final_b : (dats m 0 c).arrAt 13 cfg0.N = arrayB ct := by
  refine (dats m 0 c).arrAt_eq_of_covers 13 _ (by decide +kernel) fun t hf z => ?_
  have ht := last_b t hf
  blk_simp
  rw [after0_13]
  have key : ∀ z : S1x128.Idx, (outsAt0 m c t.val t.isLt).2.2 z
      = ((cfg0.win 13).blk t).view.read (Elt Ideal) (arrayB ct) z := by
    intro z
    rw [eq_ix2 z]
    refine ((upto c hx hg hw hct hy t.val t.isLt).2.2 (z 0) (z 1)).trans (Eq.trans ?_ (read_13 (arrayB ct) t (z 0) (z 1)).symm)
    rw [ht]
    show _ = db ct (z 1)
    unfold db shareB
    by_cases h : (z 1).val < 6
    · simp only [dif_pos h]
      exact sum_tokens fun b s => ct (ix3 b s ⟨1920 + (z 1).val, by omega⟩)
    · simp only [dif_neg h, Finset.sum_const_zero]
  exact key z
end

end Cert.InFinal

end
-- ==== Proof.InRef.lean ====
/-
  The reference of the pair InBwd / InVjp: its three results, entry by entry, are the gradients of InModel.
-/
module

public import proofs.«01_k».proof.Proof.Gen.InVjpIdeal.Run
public import proofs.«01_k».proof.Proof.InModel

@[expose] public section

set_option maxRecDepth 16384

noncomputable section

namespace Cert.InRef

open Cert.InVjpIdeal Cert.InVjpIdeal.Gen Idealize.ShloMosaic Idealize.ShloMosaic.TcCoe Cert.InModel Cert.Arrays
open Cert.KvModel (scale sum_first_two)
open Cert.InVjpIdeal.Facts Idealize.SL.Sem

variable (x : FVec Ideal S2x2048x1024 .f32) (g : FVec Ideal S1024 .f32) (w : FVec Ideal S1024x2182 .f32)
  (ct : FVec Ideal S2x2048x2182 .f32) (y : FVec Ideal S2x2048x1024 .f32)

/-! ### The stages -/

def means : FVec Ideal S2x2048x1 .f32 :=
  addf (Host.divf (broadcastInDim S2x2048x1 ![0, 1] bcast_S2x2048_S2x2048x1_0_1
    (Host.reduceAdd (mulf x x) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32))
def scales : FVec Ideal S2x2048x1 .f32 := Host.rsqrt (means x)
def norms : FVec Ideal S2x2048x1024 .f32 :=
  mulf x (broadcastInDim S2x2048x1024 ![0, 1, 2] bcast_S2x2048x1_S2x2048x1024_0_1_2 (scales x))
def joined : FVec Ideal S2x2048x2182 .f32 :=
  concatenate S2x2048x2182 2 [⟨S2x2048x1920, extractStridedSlice S2x2048x1920 ![0, 0, 0] ct slices_S2x2048x2182_S2x2048x1920_0_0_0⟩,
    ⟨S2x2048x6, extractStridedSlice S2x2048x6 ![0, 0, 1920] ct slices_S2x2048x2182_S2x2048x6_0_0_1920⟩,
    ⟨S2x2048x256, extractStridedSlice S2x2048x256 ![0, 0, 1926] ct slices_S2x2048x2182_S2x2048x256_0_0_1926⟩]
    concatenates_S2x2048x1920_S2x2048x6_S2x2048x256_S2x2048x2182_d2
def inputs : FVec Ideal S2x2048x1024 .f32 :=
  Host.dotGeneral dot_S2x2048x2182_S1024x2182_S2x2048x1024_2_1_01_0_n_n none (joined ct) w
def gained : FVec Ideal S2x2048x1024 .f32 :=
  mulf (inputs w ct) (broadcastInDim S2x2048x1024 ![0, 1, 2] bcast_S1x1x1024_S2x2048x1024_0_1_2
    (broadcastInDim S1x1x1024 ![2] bcast_S1024_S1x1x1024_2 g))
def slopes : FVec Ideal S2x2048x1024 .f32 :=
  broadcastInDim S2x2048x1024 ![0, 1] bcast_S2x2048_S2x2048x1024_0_1
    (Host.reduceAdd (Host.divf (mulf (shapeCast S2x2048x1
        (Host.reduceAdd (mulf x (gained g w ct)) (constant S_ .f32 0x00000000#32) reducesTo_S2x2048x1024_S2x2048_d2 h_S_)
        shapeCasts_S2x2048_S2x2048x1)
      (mulf (broadcastInDim S2x2048x1 ![] bcast_S_S2x2048x1 (constant S_ .f32 0xBF000000#32)) (Host.divf (scales x) (means x))))
      (broadcastInDim S2x2048x1 ![] bcast_S_S2x2048x1 (constant S_ .f32 0x44800000#32)))
      (constant S_ .f32 0x00000000#32) reducesTo_S2x2048x1_S2x2048_d2 h_S_)
def resultX : FVec Ideal S4096x1024 .f32 :=
  shapeCast S4096x1024 (addf (addf (addf y (mulf (gained g w ct)
    (broadcastInDim S2x2048x1024 ![0, 1, 2] bcast_S2x2048x1_S2x2048x1024_0_1_2 (scales x)))) (mulf x (slopes x g w ct)))
    (mulf (slopes x g w ct) x)) shapeCasts_S2x2048x1024_S4096x1024
def resultG : FVec Ideal S1x1024 .f32 :=
  shapeCast S1x1024 (Host.reduceAdd (shapeCast S1x1x1024 (Host.reduceAdd (mulf (norms x) (inputs w ct))
    (constant S_ .f32 0x00000000#32) reducesTo_S2x2048x1024_S1024_d0_1 h_S_) shapeCasts_S1024_S1x1x1024)
    (constant S_ .f32 0x00000000#32) reducesTo_S1x1x1024_S1024_d0_1 h_S_) shapeCasts_S1024_S1x1024
def sums : FVec Ideal S1x6 .f32 :=
  shapeCast S1x6 (Host.reduceAdd (shapeCast S1x1x6 (Host.reduceAdd
    (extractStridedSlice S2x2048x6 ![0, 0, 1920] ct slices_S2x2048x2182_S2x2048x6_0_0_1920)
    (constant S_ .f32 0x00000000#32) reducesTo_S2x2048x6_S6_d0_1 h_S_) shapeCasts_S6_S1x1x6)
    (constant S_ .f32 0x00000000#32) reducesTo_S1x1x6_S6_d0_1 h_S_) shapeCasts_S6_S1x6
def resultB : FVec Ideal S1x128 .f32 :=
  pad S1x128 ![0, 0] ![0, 122] ![0, 0] (sums ct) (sitofp .f32 (constantI S_ 32 0#32)) pads_S1x6_S1x128_000_01220 h_S_

/-! ### Entry by entry -/

theorem scales_at (b : Fin 2) (m : Fin 2048) (a : Fin 1) : scales x (ix3 b m a) = scale (square (row x b m)) := by
  pointwise [scales, means, scale, square, row]
theorem means_at (b : Fin 2) (m : Fin 2048) (a : Fin 1) : means x (ix3 b m a) = mean (row x b m) := by
  pointwise [means, mean, square, row]
theorem joined_at (b : Fin 2) (m : Fin 2048) (l : Fin 2182) : joined ct (ix3 b m l) = ct (ix3 b m l) := by
  pointwise [joined]
  split_ifs
  all_goals exact congrArg (fun l => ct (ix3 b m l)) (Fin.ext (by first | rfl | (show _ + _ = _; omega)))
theorem inputs_at (b : Fin 2) (m : Fin 2048) (d : Fin 1024) : inputs w ct (ix3 b m d) = dh w ct b m d := by
  pointwise [inputs, joined_at, dh]
theorem norms_at (b : Fin 2) (m : Fin 2048) (d : Fin 1024) : norms x (ix3 b m d) = normed x b m d := by
  pointwise [norms, scales_at, normed, row]
theorem gained_at (b : Fin 2) (m : Fin 2048) (d : Fin 1024) : gained g w ct (ix3 b m d) = dh w ct b m d * g (ix1 d) := by
  pointwise [gained, inputs_at]
theorem slopes_at (b : Fin 2) (m : Fin 2048) (d : Fin 1024) :
    slopes x g w ct (ix3 b m d) = tilt (row x b m) (fun k => dh w ct b m k * g (ix1 k)) := by
  pointwise [slopes, gained_at, scales_at, means_at, tilt, row]; simp
theorem resultX_at (i : Fin 4096) (d : Fin 1024) : resultX x g w ct y (ix2 i d)
    = dx x (fun d => g (ix1 d)) w ct y ⟨i.val / 2048, by omega⟩ ⟨i.val % 2048, by omega⟩ d := by
  pointwise [resultX, gained_at, scales_at, slopes_at, dx, derived, row]
theorem resultG_at (a : Fin 1) (d : Fin 1024) : resultG x w ct (ix2 a d) = dg x w ct d := by
  pointwise [resultG, norms_at, inputs_at, dg, sum_first_two]; simp
theorem sums_at (a : Fin 1) (j : Fin 6) : sums ct (ix2 a j) = ∑ b : Fin 2, ∑ m : Fin 2048, ct (ix3 b m ⟨1920 + j.val, by omega⟩) := by
  pointwise [sums, sum_first_two]; simp
theorem resultB_at (a : Fin 1) (j : Fin 128) : resultB ct (ix2 a j) = db ct j := by
  pointwise [resultB, db, sums_at]
  split_ifs
  · rfl
  · show ((((0#32 : BitVec 32).toInt : ℤ) : ℝ) : EReal) = _
    simp

/-! ### The run -/

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = resultX (m ((c.tc : Thread nD τ).loc main_arg0))
        (m ((c.tc : Thread nD τ).loc main_arg1)) (m ((c.tc : Thread nD τ).loc main_arg2)) (m ((c.tc : Thread nD τ).loc main_arg4))
        (m ((c.tc : Thread nD τ).loc main_arg5))
      ∧ r.2.mem ((c.tc : Thread nD τ).loc main_v53) = resultG (m ((c.tc : Thread nD τ).loc main_arg0))
        (m ((c.tc : Thread nD τ).loc main_arg2)) (m ((c.tc : Thread nD τ).loc main_arg4))
      ∧ r.2.mem ((c.tc : Thread nD τ).loc main_v55) = resultB (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

end Cert.InRef

end
-- ==== Proof.InClaim.lean ====
/-
  The claims of the pair InBwd / InVjp: the reference's frame, and that over the extended reals both programs return the
  same three gradients where the norm's and the projection's arguments and the projection's cotangent are finite.
-/
module

public import proofs.«01_k».proof.Defs
public import proofs.«01_k».proof.Proof.Gen.Pre_in_finite
public import proofs.«01_k».proof.Proof.InFinal
public import proofs.«01_k».proof.Proof.InRef
public import Idealize.ShloMosaic.Lib.Quiescent

@[expose] public section

set_option maxRecDepth 16384

noncomputable section

namespace Cert.InClaim

open Idealize.ShloMosaic Idealize.SL.Sem Idealize.ShloMosaic.TcCoe Cert.Arrays Cert.Reals Cert.InModel

/-- The reference runs, keeps its arguments, and uses no semaphore. -/
theorem frame_reference : Cert.quiescent_InVjpIdeal := fun m ρ _ =>
  (θ_run Cert.InVjpIdeal.defs _ _).mono (fun r h => ⟨fun c => (h c).2.2.2, sem_eq_zero_of_no_sems (by decide) r.2⟩)
    (Cert.InVjpIdeal.Value.run (F := Ideal) m ρ)

/-- The kernel's three results are the reference's. -/
theorem value : Cert.algebraic_InBwdIdeal_InVjpIdeal_pre_in_finite := by
  intro m g m' g' hpre hagree
  refine ⟨fun c => InRef.resultX (m' ((c.tc : Thread Cert.InVjpIdeal.nD Cert.InVjpIdeal.τ).loc Cert.InVjpIdeal.main_arg0))
    (m' ((c.tc : Thread Cert.InVjpIdeal.nD Cert.InVjpIdeal.τ).loc Cert.InVjpIdeal.main_arg1)) (m' ((c.tc : Thread Cert.InVjpIdeal.nD Cert.InVjpIdeal.τ).loc Cert.InVjpIdeal.main_arg2))
    (m' ((c.tc : Thread Cert.InVjpIdeal.nD Cert.InVjpIdeal.τ).loc Cert.InVjpIdeal.main_arg4)) (m' ((c.tc : Thread Cert.InVjpIdeal.nD Cert.InVjpIdeal.τ).loc Cert.InVjpIdeal.main_arg5)),
    fun c => InRef.resultG (m' ((c.tc : Thread Cert.InVjpIdeal.nD Cert.InVjpIdeal.τ).loc Cert.InVjpIdeal.main_arg0))
    (m' ((c.tc : Thread Cert.InVjpIdeal.nD Cert.InVjpIdeal.τ).loc Cert.InVjpIdeal.main_arg2)) (m' ((c.tc : Thread Cert.InVjpIdeal.nD Cert.InVjpIdeal.τ).loc Cert.InVjpIdeal.main_arg4)),
    fun c => InRef.resultB (m' ((c.tc : Thread Cert.InVjpIdeal.nD Cert.InVjpIdeal.τ).loc Cert.InVjpIdeal.main_arg4)), ?_, InRef.run m' g'⟩
  refine (θ_run Cert.InBwdIdeal.defs _ _).mono (fun r h c => ?_) (Cert.InBwdIdeal.Value.run_blocks (F := Ideal) m g)
  obtain ⟨h0, h1, h2, h4⟩ := hpre c
  obtain ⟨a0, a1, a2, a3, a4, a5⟩ := hagree c
  obtain ⟨r0, r1, r2, kept⟩ := h c
  refine ⟨r0.trans ?_, r1.trans ?_, r2.trans ?_, kept⟩
  · show _ = InRef.resultX _ _ _ _ _
    rw [InFinal.final_x c rfl rfl rfl rfl rfl, a0, a1, a2, a4, a5]
    refine ext2 fun i d => Eq.trans ?_ (InRef.resultX_at _ _ _ _ _ i d).symm
    rw [InFinal.bat_eq i (by omega)]
    exact direct_dx (fun i => exists_real (finite h0 i)) (fun k => exists_real (finite h1 (ix1 k)))
      (fun i => exists_real (finite h2 i)) (fun i => exists_real (finite h4 i)) _ _ d
  · show _ = InRef.resultG _ _ _
    rw [InFinal.final_g c rfl rfl rfl rfl rfl, a0, a2, a4]
    exact ext2 fun a d => (InRef.resultG_at _ _ _ a d).symm
  · show _ = InRef.resultB _
    rw [InFinal.final_b c rfl rfl rfl rfl rfl, a4]
    exact ext2 fun a j => (InRef.resultB_at _ a j).symm

end Cert.InClaim

end
-- ==== Proof.FfnModel.lean ====
/-
  The gated feed-forward `(silu(h · w_gate) * (h · w_up)) · w_down` over the extended reals: the gradients of its input and
  of its weights, the latter in four parts of 704 of the 2816 inner columns, and the two ways of writing silu's derivative.
-/
module

public import proofs.«01_k».proof.Proof.KvModel
public import proofs.«01_k».proof.Proof.Reals

@[expose] public section

set_option maxRecDepth 16384

noncomputable section

namespace Cert.FfnModel

open Idealize.ShloMosaic Cert.Arrays Cert.Reals
open Cert.KvModel (Arr2 Arr3)

/-- The sigmoid, silu, and silu's derivative times a cotangent: with the sigmoid's slope, and as the kernel groups it. -/
def sg (g : EReal) : EReal := Ideal.div 1 (1 + Ideal.exp (-g))
def gated (g : EReal) : EReal := g * sg g
def derived (c g : EReal) : EReal := c * sg g + g * c * (sg g * (1 - sg g))
def direct (c g : EReal) : EReal := c * (sg g + gated g * (1 - sg g))

theorem sg_coe (g : ℝ) : sg ((g : ℝ) : EReal) = ((1 / (1 + Real.exp (-g)) : ℝ) : EReal) := by
  unfold sg
  rw [lift_neg, lift_exp, ← EReal.coe_one, lift_add, coe_div (by positivity)]
theorem sg_top : sg ⊤ = 1 := by
  unfold sg
  rw [EReal.neg_top, Ideal.exp_bot, add_zero, ← EReal.coe_one, coe_div one_ne_zero, div_one]
theorem sg_bot : sg ⊥ = 0 := by
  unfold sg
  rw [EReal.neg_bot, Ideal.exp_top, show (1 : EReal) + ⊤ = ⊤ by rw [← EReal.coe_one]; exact EReal.coe_add_top 1]
  simp [Ideal.div]

/-- Both agree at a finite cotangent, whatever the gate. -/
theorem direct_eq (c : ℝ) (g : EReal) : direct c g = derived c g := by
  induction g with
  | bot => unfold direct derived gated; rw [sg_bot]; simp
  | top =>
    have h : (1 : EReal) - 1 = 0 := by rw [← EReal.coe_one, lift_sub, sub_self, EReal.coe_zero]
    unfold direct derived gated; rw [sg_top, h]; simp
  | coe g =>
    unfold direct derived gated
    rw [sg_coe, ← EReal.coe_one]
    simp only [lift_sub, lift_mul, lift_add]
    congr 1
    ring

/-- Inner column `f` of part `j`. -/
def col (j : Fin 4) (f : Fin 704) : Fin 2816 := ⟨j.val * 704 + f.val, by omega⟩

section
variable (h : Arr3 2 2048 1024) (wg wu : Arr2 1024 2816) (wd : Arr2 2816 1024) (ct : Arr3 2 2048 1024)

/-- A token's inner column, and its cotangent. -/
def proj (w : Arr2 1024 2816) (b : Fin 2) (s : Fin 2048) (f : Fin 2816) : EReal := ∑ k, h (ix3 b s k) * w (ix2 k f)
def back (b : Fin 2) (s : Fin 2048) (f : Fin 2816) : EReal := ∑ k, ct (ix3 b s k) * wd (ix2 f k)
/-- The mid value, and the cotangents of the two projections, the gate's by a given derivative of silu. -/
def mid (b : Fin 2) (s : Fin 2048) (f : Fin 2816) : EReal := gated (proj h wg b s f) * proj h wu b s f
def dgate (D : EReal → EReal → EReal) (b : Fin 2) (s : Fin 2048) (f : Fin 2816) : EReal :=
  D (back wd ct b s f * proj h wu b s f) (proj h wg b s f)
def dup (b : Fin 2) (s : Fin 2048) (f : Fin 2816) : EReal := back wd ct b s f * gated (proj h wg b s f)

/-- The gradients: the input's share of part `j`, and a row of the three weights'. -/
def dh (D : EReal → EReal → EReal) (j : Fin 4) (b : Fin 2) (s : Fin 2048) (d : Fin 1024) : EReal :=
  ∑ f, dgate h wg wu wd ct D b s (col j f) * wg (ix2 d (col j f)) + ∑ f, dup h wg wd ct b s (col j f) * wu (ix2 d (col j f))
def dwg (D : EReal → EReal → EReal) (j : Fin 4) (f : Fin 704) (d : Fin 1024) : EReal :=
  ∑ b, ∑ s, dgate h wg wu wd ct D b s (col j f) * h (ix3 b s d)
def dwu (j : Fin 4) (f : Fin 704) (d : Fin 1024) : EReal := ∑ b, ∑ s, dup h wg wd ct b s (col j f) * h (ix3 b s d)
def dwd (j : Fin 4) (f : Fin 704) (d : Fin 1024) : EReal := ∑ b, ∑ s, mid h wg wu b s (col j f) * ct (ix3 b s d)

/-- The gate's cotangent is the same either way where the other arguments are finite. -/
theorem dgate_eq (eh : ∀ i, ∃ r : ℝ, h i = ((r : ℝ) : EReal)) (eu : ∀ i, ∃ r : ℝ, wu i = ((r : ℝ) : EReal))
    (ed : ∀ i, ∃ r : ℝ, wd i = ((r : ℝ) : EReal)) (ec : ∀ i, ∃ r : ℝ, ct i = ((r : ℝ) : EReal)) :
    dgate h wg wu wd ct direct = dgate h wg wu wd ct derived := by
  choose h' eh using eh
  choose wu' eu using eu
  choose wd' ed using ed
  choose ct' ec using ec
  funext b s f
  unfold dgate back proj
  simp only [eh, eu, ed, ec, lift_mul, coe_sum]
  exact direct_eq _ _
end

end Cert.FfnModel

end
-- ==== Proof.FfnKernel.lean ====
/-
  What a grid point of the kernel of the pair FfnBwd / FfnVjp leaves in its block of the tokens' gradient and in its three
  running sums, the shares of 1024 tokens in the gradients of one part of the weights.
-/
module

public import proofs.«01_k».proof.Proof.Gen.FfnBwdIdeal.Value
public import proofs.«01_k».proof.Proof.FfnModel
public import proofs.«01_k».proof.Proof.Arrays
public import Idealize.ShloMosaic.Lib.Pipeline.ValueKit
public import Idealize.ShloMosaic.Lib.Claim

@[expose] public section

set_option maxRecDepth 16384

noncomputable section

namespace Cert.FfnKernel

open Cert.FfnBwdIdeal Cert.FfnBwdIdeal.Gen Idealize.ShloMosaic Idealize.ShloMosaic.TcCoe Cert.FfnModel Cert.Arrays
open Cert.FfnBwdIdeal.Facts

/-- Row `i` of the quarter of the 1024 rows that begins at `o`. -/
def at' (o : ℕ) (ho : o + 256 ≤ 1024) (i : Fin 256) : Fin 1024 := ⟨o + i.val, by omega⟩

variable (x0 x1 : Vec Ideal S1024x1024 .bf16) (x2 x3 : Vec Ideal S1x1024x704 .bf16) (x4 x5 x6 : Vec Ideal S1x704x1024 .bf16)

/-- On a block: the hidden column's cotangent, the projections' cotangents, the hidden value, and what these add to. -/
def cot (i : Fin 1024) (f : Fin 704) : EReal := ∑ k, x0 (ix2 i k) * x6 (ix3 0 f k)
def gateB (i : Fin 1024) (f : Fin 704) : EReal := direct (cot x0 x6 i f * x3 (ix3 0 i f)) (x2 (ix3 0 i f))
def upB (i : Fin 1024) (f : Fin 704) : EReal := cot x0 x6 i f * gated (x2 (ix3 0 i f))
def midB (i : Fin 1024) (f : Fin 704) : EReal := gated (x2 (ix3 0 i f)) * x3 (ix3 0 i f)
def rowB (i : Fin 1024) (d : Fin 1024) : EReal :=
  ∑ f, gateB x0 x2 x3 x6 i f * x4 (ix3 0 f d) + ∑ f, upB x0 x2 x6 i f * x5 (ix3 0 f d)
def partB (A : Fin 1024 → Fin 704 → EReal) (x : Vec Ideal S1024x1024 .bf16) (f : Fin 704) (d : Fin 1024) : EReal :=
  ∑ i, A i f * x (ix2 i d)

/-- A quarter's rows of a saved projection. -/
def Of (x : Vec Ideal S1x1024x704 .bf16) (o : ℕ) (ho : o + 256 ≤ 1024) (p : Vec Ideal S1x256x704 .bf16) : Prop :=
  ∀ (i : Fin 256) (f : Fin 704), p (ix3 0 i f) = x (ix3 0 (at' o ho i) f)
theorem ld_of (x : Vec Ideal S1x1024x704 .bf16) (o : ℕ) (ho : o + 256 ≤ 1024) (inb) :
    Of x o ho (View.ld (Val := Elt Ideal) (e' := .bf16) x (Rect.unit ![0, o, 0] ![1, 256, 704] inb)) := fun i f =>
  View.ld_unit_apply_of x _ _ inb _ (ix3 0 (at' o ho i) f) fun b => by match b with
    | 0 => rfl
    | 1 => rfl
    | 2 => exact (Nat.zero_add _).symm

theorem pay8_eq : k0_pay8 x0 = x0 := ext2 fun i j => by pointwise [k0_pay8]
theorem pay9_eq : k0_pay9 x1 = x1 := ext2 fun i j => by pointwise [k0_pay9]

section
variable (i : Fin 256) (f : Fin 704)

theorem cot_0 : k0_pay10 x0 x6 (ix2 i f) = cot x0 x6 (at' 0 (by decide) i) f := by
  unfold at'; pointwise [k0_pay10, pay8_eq, cot]
theorem cot_1 : k0_pay20 x0 x6 (ix2 i f) = cot x0 x6 (at' 256 (by decide) i) f := by
  unfold at'; pointwise [k0_pay20, cot]
theorem cot_2 : k0_pay29 x0 x6 (ix2 i f) = cot x0 x6 (at' 512 (by decide) i) f := by
  unfold at'; pointwise [k0_pay29, cot]
theorem cot_3 : k0_pay40 x0 x6 (ix2 i f) = cot x0 x6 (at' 768 (by decide) i) f := by
  unfold at'; pointwise [k0_pay40, cot]

variable (p q : Vec Ideal S1x256x704 .bf16)

theorem sig_0 : k0_pay13 (F := Ideal) p (ix2 i f) = sg (p (ix3 0 i f)) := by pointwise [k0_pay13, k0_pay11, zero_sub, sg]
theorem sig_1 : k0_pay23 (F := Ideal) p (ix2 i f) = sg (p (ix3 0 i f)) := by pointwise [k0_pay23, k0_pay21, zero_sub, sg]
theorem sig_2 : k0_pay32 (F := Ideal) p (ix2 i f) = sg (p (ix3 0 i f)) := by pointwise [k0_pay32, k0_pay30, zero_sub, sg]
theorem sig_3 : k0_pay43 (F := Ideal) p (ix2 i f) = sg (p (ix3 0 i f)) := by pointwise [k0_pay43, k0_pay41, zero_sub, sg]
end

/-! ### The four quarters -/

section
variable {x0 x2 x3 x4 x5 x6} {p q : Vec Ideal S1x256x704 .bf16} (hp : Of x2 0 (by decide) p) (hq : Of x3 0 (by decide) q) (i : Fin 256)
include hp hq in
theorem gate_0 (f : Fin 704) : k0_pay15 x0 x6 p q (ix2 i f) = gateB x0 x2 x3 x6 (at' 0 (by decide) i) f := by
  unfold gateB; rw [← hp, ← hq]; pointwise [k0_pay11, k0_pay12, k0_pay14, k0_pay15, k0_pay16, k0_pay19, cot_0, sig_0, direct, gated]
include hp in
theorem up_0 (f : Fin 704) : k0_pay16 x0 x6 p (ix2 i f) = upB x0 x2 x6 (at' 0 (by decide) i) f := by
  unfold upB; rw [← hp]; pointwise [k0_pay11, k0_pay12, k0_pay14, k0_pay15, k0_pay16, k0_pay19, cot_0, sig_0, gated]
include hp hq in
theorem mid_0 (f : Fin 704) : k0_pay19 (k0_pay12 q) (k0_pay14 p) (ix2 i f) = midB x2 x3 (at' 0 (by decide) i) f := by
  unfold midB; rw [← hp, ← hq]; pointwise [k0_pay11, k0_pay12, k0_pay14, k0_pay15, k0_pay16, k0_pay19, sig_0, gated]
include hp hq in
theorem row_0 (a : Fin 1) (d : Fin 1024) : k0_pay18 (k0_pay16 x0 x6 p) (k0_pay17 x0 x6 p q x4) x5 (ix3 a i d) = rowB x0 x2 x3 x4 x5 x6 (at' 0 (by decide) i) d := by
  unfold rowB; pointwise [k0_pay17, k0_pay18, gate_0 hp hq, up_0 hp]
end
section
variable {x0 x2 x3 x4 x5 x6} {p q : Vec Ideal S1x256x704 .bf16} (hp : Of x2 256 (by decide) p) (hq : Of x3 256 (by decide) q) (i : Fin 256)
include hp hq in
theorem gate_1 (f : Fin 704) : k0_pay25 x0 x6 p q (ix2 i f) = gateB x0 x2 x3 x6 (at' 256 (by decide) i) f := by
  unfold gateB; rw [← hp, ← hq]; pointwise [k0_pay21, k0_pay22, k0_pay24, k0_pay25, k0_pay26, k0_pay28, cot_1, sig_1, direct, gated]
include hp in
theorem up_1 (f : Fin 704) : k0_pay26 x0 x6 p (ix2 i f) = upB x0 x2 x6 (at' 256 (by decide) i) f := by
  unfold upB; rw [← hp]; pointwise [k0_pay21, k0_pay22, k0_pay24, k0_pay25, k0_pay26, k0_pay28, cot_1, sig_1, gated]
include hp hq in
theorem mid_1 (f : Fin 704) : k0_pay28 (k0_pay22 q) (k0_pay24 p) (ix2 i f) = midB x2 x3 (at' 256 (by decide) i) f := by
  unfold midB; rw [← hp, ← hq]; pointwise [k0_pay21, k0_pay22, k0_pay24, k0_pay25, k0_pay26, k0_pay28, sig_1, gated]
include hp hq in
theorem row_1 (a : Fin 1) (d : Fin 1024) : k0_pay27 (k0_pay25 x0 x6 p q) (k0_pay26 x0 x6 p) x4 x5 (ix3 a i d) = rowB x0 x2 x3 x4 x5 x6 (at' 256 (by decide) i) d := by
  unfold rowB; pointwise [k0_pay27, gate_1 hp hq, up_1 hp]
end
section
variable {x0 x2 x3 x4 x5 x6} {p q : Vec Ideal S1x256x704 .bf16} (hp : Of x2 512 (by decide) p) (hq : Of x3 512 (by decide) q) (i : Fin 256)
include hp hq in
theorem gate_2 (f : Fin 704) : k0_pay36 (k0_pay32 p) (k0_pay34 x0 x6 q) (k0_pay35 p) (ix2 i f) = gateB x0 x2 x3 x6 (at' 512 (by decide) i) f := by
  unfold gateB; rw [← hp, ← hq]; pointwise [k0_pay30, k0_pay31, k0_pay33, k0_pay34, k0_pay35, k0_pay36, k0_pay37, k0_pay39, cot_2, sig_2, direct, gated]
include hp in
theorem up_2 (f : Fin 704) : k0_pay37 (k0_pay29 x0 x6) (k0_pay33 p) (ix2 i f) = upB x0 x2 x6 (at' 512 (by decide) i) f := by
  unfold upB; rw [← hp]; pointwise [k0_pay30, k0_pay31, k0_pay33, k0_pay34, k0_pay35, k0_pay36, k0_pay37, k0_pay39, cot_2, sig_2, gated]
include hp hq in
theorem mid_2 (f : Fin 704) : k0_pay39 (k0_pay31 q) (k0_pay33 p) (ix2 i f) = midB x2 x3 (at' 512 (by decide) i) f := by
  unfold midB; rw [← hp, ← hq]; pointwise [k0_pay30, k0_pay31, k0_pay33, k0_pay34, k0_pay35, k0_pay36, k0_pay37, k0_pay39, sig_2, gated]
include hp hq in
theorem row_2 (a : Fin 1) (d : Fin 1024) : k0_pay38 (k0_pay29 x0 x6) (k0_pay32 p) (k0_pay33 p) (k0_pay34 x0 x6 q) (k0_pay35 p) x4 x5 (ix3 a i d) = rowB x0 x2 x3 x4 x5 x6 (at' 512 (by decide) i) d := by
  unfold rowB; pointwise [k0_pay38, gate_2 hp hq, up_2 hp]
end
section
variable {x0 x2 x3 x4 x5 x6} {p q : Vec Ideal S1x256x704 .bf16} (hp : Of x2 768 (by decide) p) (hq : Of x3 768 (by decide) q) (i : Fin 256)
include hp hq in
theorem gate_3 (f : Fin 704) : k0_pay45 (k0_pay40 x0 x6) (k0_pay41 p) (k0_pay42 q) (k0_pay43 p) (ix2 i f) = gateB x0 x2 x3 x6 (at' 768 (by decide) i) f := by
  unfold gateB; rw [← hp, ← hq]; pointwise [k0_pay41, k0_pay42, k0_pay44, k0_pay45, k0_pay46, cot_3, sig_3, direct, gated]
include hp in
theorem up_3 (f : Fin 704) : k0_pay46 (k0_pay40 x0 x6) (k0_pay41 p) (k0_pay43 p) (ix2 i f) = upB x0 x2 x6 (at' 768 (by decide) i) f := by
  unfold upB; rw [← hp]; pointwise [k0_pay41, k0_pay42, k0_pay44, k0_pay45, k0_pay46, cot_3, sig_3, gated]
include hp hq in
theorem mid_3 (f : Fin 704) : mulf (k0_pay44 (k0_pay41 p) (k0_pay43 p)) (k0_pay42 q) (ix2 i f) = midB x2 x3 (at' 768 (by decide) i) f := by
  unfold midB; rw [← hp, ← hq]; pointwise [k0_pay41, k0_pay42, k0_pay44, k0_pay45, k0_pay46, sig_3, gated]
include hp hq in
theorem row_3 (a : Fin 1) (d : Fin 1024) : k0_pay47 (k0_pay40 x0 x6) (k0_pay41 p) (k0_pay42 q) (k0_pay43 p) x4 x5 (ix3 a i d) = rowB x0 x2 x3 x4 x5 x6 (at' 768 (by decide) i) d := by
  unfold rowB; pointwise [k0_pay47, gate_3 hp hq, up_3 hp]
end

/-! ### The blocks' parts, side by side -/

/-- A quarter of the rows of `A`. -/
def Rows {n : ℕ} (A : Fin 1024 → Fin n → EReal) (o : ℕ) (ho : o + 256 ≤ 1024) (p : Vec Ideal ⟨2, ![256, n]⟩ .bf16) : Prop :=
  ∀ (i : Fin 256) (f : Fin n), p (ix2 i f) = A (at' o ho i) f
theorem Rows.get {n : ℕ} {A : Fin 1024 → Fin n → EReal} {o : ℕ} {ho : o + 256 ≤ 1024} {p : Vec Ideal ⟨2, ![256, n]⟩ .bf16}
    (h : Rows A o ho p) {l : ℕ} (hl : l < 256) {i : Fin 1024} (e : i.val = o + l) (f : Fin n) : p (ix2 ⟨l, hl⟩ f) = A i f :=
  (h ⟨l, hl⟩ f).trans (congrArg (fun i => A i f) (Fin.ext e.symm))

section
variable {A : Fin 1024 → Fin 704 → EReal} {p0 p1 p2 p3 : Vec Ideal S256x704 .bf16} (h0 : Rows A 0 (by decide) p0)
  (h1 : Rows A 256 (by decide) p1) (h2 : Rows A 512 (by decide) p2)
include h0 h1 h2

theorem stack (h3 : Rows A 768 (by decide) p3) :
    concatenate S1024x704 0 [⟨S256x704, p0⟩, ⟨S256x704, p1⟩, ⟨S256x704, p2⟩, ⟨S256x704, p3⟩]
      concatenates_S256x704_S256x704_S256x704_S256x704_S1024x704_d0 = fun i => A (i 0) (i 1) := by
  refine ext2 fun i f => ?_
  pointwise []
  split_ifs
  all_goals first
    | exact h0.get _ (by omega) f
    | exact h1.get _ (by omega) f
    | exact h2.get _ (by omega) f
    | exact h3.get _ (by omega) f

variable {v128 v131 v134 v141 : FVec Ideal S256x704 .f32} (x : Vec Ideal S1024x1024 .bf16) (f : Fin 704) (d : Fin 1024)

theorem pay49_at (h3 : Rows A 768 (by decide) (mulf (k0_pay44 v131 v141) v134 : FVec Ideal S256x704 .f32)) :
    k0_pay49 x p0 p1 p2 v131 v134 v141 (ix2 f d) = partB A x f d := by
  unfold k0_pay49
  pointwise [stack h0 h1 h2 (p3 := truncf .bf16 (mulf (k0_pay44 v131 v141) v134) bitsLt_bf16_f32) h3, partB]
theorem pay52_at (h3 : Rows A 768 (by decide) (k0_pay45 v128 v131 v134 v141)) :
    k0_pay52 x p0 p1 p2 v128 v131 v134 v141 (ix2 f d) = partB A x f d := by
  unfold k0_pay52
  pointwise [stack h0 h1 h2 h3, partB]
theorem pay48_eq (h3 : Rows A 768 (by decide) (k0_pay46 v128 v131 v141)) :
    k0_pay48 p0 p1 p2 v128 v131 v141 = fun i => A (i 0) (i 1) := stack h0 h1 h2 h3
end

/-- A whole block, written at once. -/
theorem whole {n k : ℕ} (X P : Vec Ideal ⟨2, ![n, k]⟩ .f32) (inb) (i : Fin n) (j : Fin k) :
    (Rect.unit (s := ⟨2, ![n, k]⟩) ![0, 0] ![n, k] inb).overlay X P (ix2 i j) = P (ix2 i j) :=
  (overlay_at _ _ inb _ _ (ix2 i j) fun b => by match b with
    | 0 => exact ⟨Nat.zero_le _, by show i.val < 0 + n; omega⟩
    | 1 => exact ⟨Nat.zero_le _, by show j.val < 0 + k; omega⟩).trans
    (congrArg P (funext fun b => by match b with
      | 0 => exact Fin.ext (Nat.sub_zero _)
      | 1 => exact Fin.ext (Nat.sub_zero _)))
theorem whole3 {n k : ℕ} (X P : Vec Ideal ⟨3, ![1, n, k]⟩ .bf16) (inb) (a : Fin 1) (i : Fin n) (j : Fin k) :
    (Rect.unit (s := ⟨3, ![1, n, k]⟩) ![0, 0, 0] ![1, n, k] inb).overlay X P (ix3 a i j) = P (ix3 a i j) :=
  (overlay_at _ _ inb _ _ (ix3 a i j) fun b => by match b with
    | 0 => exact ⟨Nat.zero_le _, by show a.val < 0 + 1; omega⟩
    | 1 => exact ⟨Nat.zero_le _, by show i.val < 0 + n; omega⟩
    | 2 => exact ⟨Nat.zero_le _, by show j.val < 0 + k; omega⟩).trans
    (congrArg P (funext fun b => by match b with
      | 0 => exact Fin.ext (Nat.sub_zero _)
      | 1 => exact Fin.ext (Nat.sub_zero _)
      | 2 => exact Fin.ext (Nat.sub_zero _)))

/-- A quarter written after the rows before it. -/
theorem step {C : Fin 1024 → Fin 1024 → EReal} {o : ℕ} {ho : o + 256 ≤ 1024} {X : Vec Ideal S1x1024x1024 .bf16} {p : Vec Ideal S1x256x1024 .bf16}
    (hX : ∀ (a : Fin 1) (i d : Fin 1024), i.val < o → X (ix3 a i d) = C i d)
    (hp : ∀ (i : Fin 256) (a : Fin 1) (d : Fin 1024), p (ix3 a i d) = C (at' o ho i) d) (inb) (a : Fin 1) (i d : Fin 1024) (hi : i.val < o + 256) :
    (Rect.unit (s := S1x1024x1024) ![0, o, 0] ![1, 256, 1024] inb).overlay X p (ix3 a i d) = C i d := by
  by_cases h : i.val < o
  · exact (overlay_off _ _ inb _ _ (ix3 a i d) fun k => absurd (k 1).1 (by show ¬o ≤ i.val; omega)).trans (hX a i d h)
  · refine (overlay_at _ _ inb _ _ (ix3 a i d) fun b => ?_).trans ?_
    · match b with
      | 0 => exact ⟨Nat.zero_le _, by show a.val < 0 + 1; omega⟩
      | 1 => exact ⟨by show o ≤ i.val; omega, hi⟩
      | 2 => exact ⟨Nat.zero_le _, by show d.val < 0 + 1024; omega⟩
    · refine (congrArg p (funext fun b => ?_)).trans ((hp ⟨i.val - o, by omega⟩ a d).trans
        (congrArg (fun i => C i d) (Fin.ext (by show o + (i.val - o) = i.val; omega))))
      match b with
      | 0 => exact Fin.ext (Nat.sub_zero _)
      | 1 => rfl
      | 2 => exact Fin.ext (Nat.sub_zero _)

theorem pay1_at (u v : Vec Ideal S704x1024 .f32) (f : Fin 704) (d : Fin 1024) : k0_pay1 u v (ix2 f d) = v (ix2 f d) + u (ix2 f d) := by
  pointwise [k0_pay1]
theorem pay53_eq (x : Vec Ideal S1024x1024 .bf16) (a b c : FVec Ideal S256x704 .bf16) (v128 v131 v134 v141 : FVec Ideal S256x704 .f32) :
    k0_pay53 x a b c v128 v131 v134 v141 = k0_pay52 x a b c v128 v131 v134 v141 := ext2 fun i j => by pointwise [k0_pay53]
theorem pay50_eq (x : Vec Ideal S1024x1024 .bf16) (a b c : FVec Ideal S256x704 .bf16) (v131 v134 v141 : FVec Ideal S256x704 .f32) :
    k0_pay50 x a b c v131 v134 v141 = k0_pay49 x a b c v131 v134 v141 := ext2 fun i j => by pointwise [k0_pay50]
theorem pay51_at (x : Vec Ideal S1024x1024 .bf16) (a b c : FVec Ideal S256x704 .bf16) (v131 v134 v141 : FVec Ideal S256x704 .f32)
    (v : Vec Ideal S704x1024 .f32) (f : Fin 704) (d : Fin 1024) :
    k0_pay51 x a b c v131 v134 v141 v (ix2 f d) = v (ix2 f d) + k0_pay49 x a b c v131 v134 v141 (ix2 f d) := by
  pointwise [k0_pay51]
theorem pay3_at (x : Vec Ideal S1024x1024 .bf16) (A : Fin 1024 → Fin 704 → EReal) (f : Fin 704) (d : Fin 1024) :
    k0_pay3 (F := Ideal) x (fun i => A (i 0) (i 1) : FVec Ideal S1024x704 .bf16) (ix2 f d) = partB A x f d := by
  pointwise [k0_pay3, k0_pay2, partB]
theorem pay4_at (x : Vec Ideal S1024x1024 .bf16) (A : Fin 1024 → Fin 704 → EReal) (v : Vec Ideal S704x1024 .f32) (f : Fin 704) (d : Fin 1024) :
    k0_pay4 (F := Ideal) x (fun i => A (i 0) (i 1) : FVec Ideal S1024x704 .bf16) v (ix2 f d) = v (ix2 f d) + partB A x f d := by
  pointwise [k0_pay4, k0_pay2, partB]
theorem pay5_at (v : Vec Ideal S704x1024 .f32) (a : Fin 1) (f : Fin 704) (d : Fin 1024) : k0_pay5 v (ix3 a f d) = v (ix2 f d) := by
  pointwise [k0_pay5]
theorem pay6_at (v : Vec Ideal S704x1024 .f32) (a : Fin 1) (f : Fin 704) (d : Fin 1024) : k0_pay6 v (ix3 a f d) = v (ix2 f d) := by
  pointwise [k0_pay6]
theorem pay7_at (v : Vec Ideal S704x1024 .f32) (a : Fin 1) (f : Fin 704) (d : Fin 1024) : k0_pay7 v (ix3 a f d) = v (ix2 f d) := by
  pointwise [k0_pay7]

/-! ### The points -/

variable {m : (ℓ : Loc nD τ sig) → Buf (Elt Ideal) ℓ} {c : Dev nD} {t : Fin cfg0.N} {x0 x1 : Vec Ideal S1024x1024 .bf16}
  {x2 x3 : Vec Ideal S1x1024x704 .bf16} {x4 x5 x6 : Vec Ideal S1x704x1024 .bf16}
  (e0 : iblk m c 0 t = x0) (e1 : iblk m c 1 t = x1) (e2 : iblk m c 2 t = x2) (e3 : iblk m c 3 t = x3)
  (e4 : iblk m c 4 t = x4) (e5 : iblk m c 5 t = x5) (e6 : iblk m c 6 t = x6)
include e0 e1 e2 e3 e4 e5 e6

/-- What the first point of a part leaves. -/
theorem pointA (h0 : t.val % 4 = 0) (h1 : ¬1 ≤ t.val % 4) (h6 : ¬t.val % 4 = 3) :
    (∀ a i d, (outsAt0 m c t.val t.isLt).1 (ix3 a i d) = rowB x0 x2 x3 x4 x5 x6 i d)
      ∧ (∀ f d, (outsAt0 m c t.val t.isLt).2.2.2.2.1 (ix2 f d) = partB (gateB x0 x2 x3 x6) x1 f d)
      ∧ (∀ f d, (outsAt0 m c t.val t.isLt).2.2.2.2.2.1 (ix2 f d) = partB (upB x0 x2 x6) x1 f d)
      ∧ (∀ f d, (outsAt0 m c t.val t.isLt).2.2.2.2.2.2 (ix2 f d) = partB (midB x2 x3) x0 f d) := by
  rw [outsAt0_A m c t h0 h1 h0 h1 h0 h1 h6, e0, e1, e2, e3, e4, e5, e6]
  (try dsimp only)
  frame_open
  simp (disch := decide) only [View.read_writes_junk_eq_canon, View.canon_cons_unit_lit', View.ld_unit_lit',
    Memref.IsWhole.read_unread, View.readAt_eq_ld, Arrays.read_back, View.canon_cons, read_unread_whole]
  simp only [pay8_eq, pay9_eq, pay50_eq, pay53_eq]
  rw [pay48_eq (up_0 (ld_of x2 0 (by decide) inb_S1x1024x704_S1x256x704_0_0_0)) (up_1 (ld_of x2 256 (by decide) inb_S1x1024x704_S1x256x704_0_256_0)) (up_2 (ld_of x2 512 (by decide) inb_S1x1024x704_S1x256x704_0_512_0)) (up_3 (ld_of x2 768 (by decide) inb_S1x1024x704_S1x256x704_0_768_0))]
  have hd := fun f d => pay49_at (mid_0 (ld_of x2 0 (by decide) inb_S1x1024x704_S1x256x704_0_0_0) (ld_of x3 0 (by decide) inb_S1x1024x704_S1x256x704_0_0_0)) (mid_1 (ld_of x2 256 (by decide) inb_S1x1024x704_S1x256x704_0_256_0) (ld_of x3 256 (by decide) inb_S1x1024x704_S1x256x704_0_256_0)) (mid_2 (ld_of x2 512 (by decide) inb_S1x1024x704_S1x256x704_0_512_0) (ld_of x3 512 (by decide) inb_S1x1024x704_S1x256x704_0_512_0)) x0 f d (mid_3 (ld_of x2 768 (by decide) inb_S1x1024x704_S1x256x704_0_768_0) (ld_of x3 768 (by decide) inb_S1x1024x704_S1x256x704_0_768_0))
  have hg := fun f d => pay52_at (gate_0 (x0 := x0) (x6 := x6) (ld_of x2 0 (by decide) inb_S1x1024x704_S1x256x704_0_0_0) (ld_of x3 0 (by decide) inb_S1x1024x704_S1x256x704_0_0_0)) (gate_1 (x0 := x0) (x6 := x6) (ld_of x2 256 (by decide) inb_S1x1024x704_S1x256x704_0_256_0) (ld_of x3 256 (by decide) inb_S1x1024x704_S1x256x704_0_256_0)) (gate_2 (x0 := x0) (x6 := x6) (ld_of x2 512 (by decide) inb_S1x1024x704_S1x256x704_0_512_0) (ld_of x3 512 (by decide) inb_S1x1024x704_S1x256x704_0_512_0)) x1 f d (gate_3 (x0 := x0) (x6 := x6) (ld_of x2 768 (by decide) inb_S1x1024x704_S1x256x704_0_768_0) (ld_of x3 768 (by decide) inb_S1x1024x704_S1x256x704_0_768_0))
  exact ⟨fun a i d => step (step (step (step (fun _ _ _ k => absurd k (Nat.not_lt_zero _)) (row_0 (ld_of x2 0 (by decide) inb_S1x1024x704_S1x256x704_0_0_0) (ld_of x3 0 (by decide) inb_S1x1024x704_S1x256x704_0_0_0)) _) (row_1 (ld_of x2 256 (by decide) inb_S1x1024x704_S1x256x704_0_256_0) (ld_of x3 256 (by decide) inb_S1x1024x704_S1x256x704_0_256_0)) _) (row_2 (ld_of x2 512 (by decide) inb_S1x1024x704_S1x256x704_0_512_0) (ld_of x3 512 (by decide) inb_S1x1024x704_S1x256x704_0_512_0)) _) (row_3 (ld_of x2 768 (by decide) inb_S1x1024x704_S1x256x704_0_768_0) (ld_of x3 768 (by decide) inb_S1x1024x704_S1x256x704_0_768_0)) _ a i d i.isLt,
    fun f d => (whole _ _ _ f d).trans (hg f d),
    fun f d => (whole _ _ _ f d).trans (pay3_at _ _ f d),
    fun f d => (whole _ _ _ f d).trans (hd f d)⟩

/-- What a later one adds. -/
theorem pointB (h0 : ¬t.val % 4 = 0) (h1 : 1 ≤ t.val % 4) (h6 : ¬t.val % 4 = 3) {X : Vec Ideal S1x1024x1024 .bf16}
    {Y0 Y1 Y2 : Vec Ideal S1x704x1024 .bf16} {G U D : Vec Ideal S704x1024 .f32}
    (eg : outsAt0 m c (t.val - 1) (by have := t.isLt; omega) = (X, Y0, Y1, Y2, G, U, D)) :
    (∀ a i d, (outsAt0 m c t.val t.isLt).1 (ix3 a i d) = rowB x0 x2 x3 x4 x5 x6 i d)
      ∧ (∀ f d, (outsAt0 m c t.val t.isLt).2.2.2.2.1 (ix2 f d) = G (ix2 f d) + partB (gateB x0 x2 x3 x6) x1 f d)
      ∧ (∀ f d, (outsAt0 m c t.val t.isLt).2.2.2.2.2.1 (ix2 f d) = U (ix2 f d) + partB (upB x0 x2 x6) x1 f d)
      ∧ (∀ f d, (outsAt0 m c t.val t.isLt).2.2.2.2.2.2 (ix2 f d) = D (ix2 f d) + partB (midB x2 x3) x0 f d) := by
  rw [outsAt0_B m c t h0 h1 h0 h1 h0 h1 h6, e0, e1, e2, e3, e4, e5, e6, eg]
  (try dsimp only)
  frame_open
  simp (disch := decide) only [View.read_writes_junk_eq_canon, View.canon_cons_unit_lit', View.ld_unit_lit',
    Memref.IsWhole.read_unread, View.readAt_eq_ld, Arrays.read_back, View.canon_cons, read_unread_whole]
  simp only [pay8_eq, pay9_eq, pay50_eq, pay53_eq]
  rw [pay48_eq (up_0 (ld_of x2 0 (by decide) inb_S1x1024x704_S1x256x704_0_0_0)) (up_1 (ld_of x2 256 (by decide) inb_S1x1024x704_S1x256x704_0_256_0)) (up_2 (ld_of x2 512 (by decide) inb_S1x1024x704_S1x256x704_0_512_0)) (up_3 (ld_of x2 768 (by decide) inb_S1x1024x704_S1x256x704_0_768_0))]
  have hd := fun f d => pay49_at (mid_0 (ld_of x2 0 (by decide) inb_S1x1024x704_S1x256x704_0_0_0) (ld_of x3 0 (by decide) inb_S1x1024x704_S1x256x704_0_0_0)) (mid_1 (ld_of x2 256 (by decide) inb_S1x1024x704_S1x256x704_0_256_0) (ld_of x3 256 (by decide) inb_S1x1024x704_S1x256x704_0_256_0)) (mid_2 (ld_of x2 512 (by decide) inb_S1x1024x704_S1x256x704_0_512_0) (ld_of x3 512 (by decide) inb_S1x1024x704_S1x256x704_0_512_0)) x0 f d (mid_3 (ld_of x2 768 (by decide) inb_S1x1024x704_S1x256x704_0_768_0) (ld_of x3 768 (by decide) inb_S1x1024x704_S1x256x704_0_768_0))
  have hg := fun f d => pay52_at (gate_0 (x0 := x0) (x6 := x6) (ld_of x2 0 (by decide) inb_S1x1024x704_S1x256x704_0_0_0) (ld_of x3 0 (by decide) inb_S1x1024x704_S1x256x704_0_0_0)) (gate_1 (x0 := x0) (x6 := x6) (ld_of x2 256 (by decide) inb_S1x1024x704_S1x256x704_0_256_0) (ld_of x3 256 (by decide) inb_S1x1024x704_S1x256x704_0_256_0)) (gate_2 (x0 := x0) (x6 := x6) (ld_of x2 512 (by decide) inb_S1x1024x704_S1x256x704_0_512_0) (ld_of x3 512 (by decide) inb_S1x1024x704_S1x256x704_0_512_0)) x1 f d (gate_3 (x0 := x0) (x6 := x6) (ld_of x2 768 (by decide) inb_S1x1024x704_S1x256x704_0_768_0) (ld_of x3 768 (by decide) inb_S1x1024x704_S1x256x704_0_768_0))
  exact ⟨fun a i d => step (step (step (step (fun _ _ _ k => absurd k (Nat.not_lt_zero _)) (row_0 (ld_of x2 0 (by decide) inb_S1x1024x704_S1x256x704_0_0_0) (ld_of x3 0 (by decide) inb_S1x1024x704_S1x256x704_0_0_0)) _) (row_1 (ld_of x2 256 (by decide) inb_S1x1024x704_S1x256x704_0_256_0) (ld_of x3 256 (by decide) inb_S1x1024x704_S1x256x704_0_256_0)) _) (row_2 (ld_of x2 512 (by decide) inb_S1x1024x704_S1x256x704_0_512_0) (ld_of x3 512 (by decide) inb_S1x1024x704_S1x256x704_0_512_0)) _) (row_3 (ld_of x2 768 (by decide) inb_S1x1024x704_S1x256x704_0_768_0) (ld_of x3 768 (by decide) inb_S1x1024x704_S1x256x704_0_768_0)) _ a i d i.isLt,
    fun f d => (whole _ _ _ f d).trans ((pay1_at _ _ f d).trans (congrArg _ (hg f d))),
    fun f d => (whole _ _ _ f d).trans (pay4_at _ _ _ f d),
    fun f d => (whole _ _ _ f d).trans ((pay51_at _ _ _ _ _ _ _ _ f d).trans (congrArg _ (hd f d)))⟩

/-- And what the last one of a part adds, and writes out. -/
theorem pointC (h0 : ¬t.val % 4 = 0) (h1 : 1 ≤ t.val % 4) (h6 : t.val % 4 = 3) {X : Vec Ideal S1x1024x1024 .bf16}
    {Y0 Y1 Y2 : Vec Ideal S1x704x1024 .bf16} {G U D : Vec Ideal S704x1024 .f32}
    (eg : outsAt0 m c (t.val - 1) (by have := t.isLt; omega) = (X, Y0, Y1, Y2, G, U, D)) :
    (∀ a i d, (outsAt0 m c t.val t.isLt).1 (ix3 a i d) = rowB x0 x2 x3 x4 x5 x6 i d)
      ∧ (∀ f d, (outsAt0 m c t.val t.isLt).2.2.2.2.1 (ix2 f d) = G (ix2 f d) + partB (gateB x0 x2 x3 x6) x1 f d)
      ∧ (∀ f d, (outsAt0 m c t.val t.isLt).2.2.2.2.2.1 (ix2 f d) = U (ix2 f d) + partB (upB x0 x2 x6) x1 f d)
      ∧ (∀ f d, (outsAt0 m c t.val t.isLt).2.2.2.2.2.2 (ix2 f d) = D (ix2 f d) + partB (midB x2 x3) x0 f d)
      ∧ (∀ a f d, (outsAt0 m c t.val t.isLt).2.1 (ix3 a f d) = G (ix2 f d) + partB (gateB x0 x2 x3 x6) x1 f d)
      ∧ (∀ a f d, (outsAt0 m c t.val t.isLt).2.2.1 (ix3 a f d) = U (ix2 f d) + partB (upB x0 x2 x6) x1 f d)
      ∧ (∀ a f d, (outsAt0 m c t.val t.isLt).2.2.2.1 (ix3 a f d) = D (ix2 f d) + partB (midB x2 x3) x0 f d) := by
  rw [outsAt0_C m c t h0 h1 h0 h1 h0 h1 h6, e0, e1, e2, e3, e4, e5, e6, eg]
  (try dsimp only)
  frame_open
  simp (disch := decide) only [View.read_writes_junk_eq_canon, View.canon_cons_unit_lit', View.ld_unit_lit',
    Memref.IsWhole.read_unread, View.readAt_eq_ld, Arrays.read_back, View.canon_cons, read_unread_whole]
  simp only [pay8_eq, pay9_eq, pay50_eq, pay53_eq]
  rw [pay48_eq (up_0 (ld_of x2 0 (by decide) inb_S1x1024x704_S1x256x704_0_0_0)) (up_1 (ld_of x2 256 (by decide) inb_S1x1024x704_S1x256x704_0_256_0)) (up_2 (ld_of x2 512 (by decide) inb_S1x1024x704_S1x256x704_0_512_0)) (up_3 (ld_of x2 768 (by decide) inb_S1x1024x704_S1x256x704_0_768_0))]
  have hd := fun f d => pay49_at (mid_0 (ld_of x2 0 (by decide) inb_S1x1024x704_S1x256x704_0_0_0) (ld_of x3 0 (by decide) inb_S1x1024x704_S1x256x704_0_0_0)) (mid_1 (ld_of x2 256 (by decide) inb_S1x1024x704_S1x256x704_0_256_0) (ld_of x3 256 (by decide) inb_S1x1024x704_S1x256x704_0_256_0)) (mid_2 (ld_of x2 512 (by decide) inb_S1x1024x704_S1x256x704_0_512_0) (ld_of x3 512 (by decide) inb_S1x1024x704_S1x256x704_0_512_0)) x0 f d (mid_3 (ld_of x2 768 (by decide) inb_S1x1024x704_S1x256x704_0_768_0) (ld_of x3 768 (by decide) inb_S1x1024x704_S1x256x704_0_768_0))
  have hg := fun f d => pay52_at (gate_0 (x0 := x0) (x6 := x6) (ld_of x2 0 (by decide) inb_S1x1024x704_S1x256x704_0_0_0) (ld_of x3 0 (by decide) inb_S1x1024x704_S1x256x704_0_0_0)) (gate_1 (x0 := x0) (x6 := x6) (ld_of x2 256 (by decide) inb_S1x1024x704_S1x256x704_0_256_0) (ld_of x3 256 (by decide) inb_S1x1024x704_S1x256x704_0_256_0)) (gate_2 (x0 := x0) (x6 := x6) (ld_of x2 512 (by decide) inb_S1x1024x704_S1x256x704_0_512_0) (ld_of x3 512 (by decide) inb_S1x1024x704_S1x256x704_0_512_0)) x1 f d (gate_3 (x0 := x0) (x6 := x6) (ld_of x2 768 (by decide) inb_S1x1024x704_S1x256x704_0_768_0) (ld_of x3 768 (by decide) inb_S1x1024x704_S1x256x704_0_768_0))
  exact ⟨fun a i d => step (step (step (step (fun _ _ _ k => absurd k (Nat.not_lt_zero _)) (row_0 (ld_of x2 0 (by decide) inb_S1x1024x704_S1x256x704_0_0_0) (ld_of x3 0 (by decide) inb_S1x1024x704_S1x256x704_0_0_0)) _) (row_1 (ld_of x2 256 (by decide) inb_S1x1024x704_S1x256x704_0_256_0) (ld_of x3 256 (by decide) inb_S1x1024x704_S1x256x704_0_256_0)) _) (row_2 (ld_of x2 512 (by decide) inb_S1x1024x704_S1x256x704_0_512_0) (ld_of x3 512 (by decide) inb_S1x1024x704_S1x256x704_0_512_0)) _) (row_3 (ld_of x2 768 (by decide) inb_S1x1024x704_S1x256x704_0_768_0) (ld_of x3 768 (by decide) inb_S1x1024x704_S1x256x704_0_768_0)) _ a i d i.isLt,
    fun f d => (whole _ _ _ f d).trans ((pay1_at _ _ f d).trans (congrArg _ (hg f d))),
    fun f d => (whole _ _ _ f d).trans (pay4_at _ _ _ f d),
    fun f d => (whole _ _ _ f d).trans ((pay51_at _ _ _ _ _ _ _ _ f d).trans (congrArg _ (hd f d))),
    fun a f d => (whole3 _ _ _ a f d).trans ((pay5_at _ a f d).trans ((whole _ _ _ f d).trans ((pay1_at _ _ f d).trans (congrArg _ (hg f d))))),
    fun a f d => (whole3 _ _ _ a f d).trans ((pay6_at _ a f d).trans ((whole _ _ _ f d).trans (pay4_at _ _ _ f d))),
    fun a f d => (whole3 _ _ _ a f d).trans ((pay7_at _ a f d).trans ((whole _ _ _ f d).trans ((pay51_at _ _ _ _ _ _ _ _ f d).trans (congrArg _ (hd f d)))))⟩

end Cert.FfnKernel

end
-- ==== Proof.FfnFinal.lean ====
/-
  The kernel of the pair FfnBwd / FfnVjp: its four result arrays are the gradients of FfnModel. Grid point `t` handles part
  `t / 4` of the inner columns at the tokens `1024 (t % 4) … 1024 (t % 4) + 1023`; a part's four points add up the gradients
  of its weights.
-/
module

public import proofs.«01_k».proof.Proof.FfnKernel
public import Idealize.ShloMosaic.Lib.StableHlo.RunRead

@[expose] public section

set_option maxRecDepth 16384

noncomputable section

namespace Cert.FfnFinal

open Cert.FfnBwdIdeal Cert.FfnBwdIdeal.Gen Idealize.ShloMosaic Idealize.ShloMosaic.TcCoe Cert.Arrays Cert.FfnModel Cert.FfnKernel
open Cert.FfnBwdIdeal.Facts
open Cert.KvModel (Arr2 Arr3)

/-- Every window's block of point `t`. -/
theorem idx : ∀ t : Fin cfg0.N, win0_0.index t = ![t.val % 4, 0] ∧ win0_1.index t = ![t.val % 4, 0]
    ∧ win0_2.index t = ![t.val / 4, t.val % 4, 0] ∧ win0_3.index t = ![t.val / 4, t.val % 4, 0]
    ∧ win0_4.index t = ![t.val / 4, 0, 0] ∧ win0_5.index t = ![t.val / 4, 0, 0] ∧ win0_6.index t = ![t.val / 4, 0, 0]
    ∧ win0_7.index t = ![t.val / 4, t.val % 4, 0] ∧ win0_8.index t = ![t.val / 4, 0, 0] ∧ win0_9.index t = ![t.val / 4, 0, 0]
    ∧ win0_10.index t = ![t.val / 4, 0, 0] := by
  decide +kernel
theorem last_8 : ∀ t : Fin cfg0.N, (cfg0.win 8).flush t = true → t.val % 4 = 3 :=
  (by decide +kernel : ∀ t : Fin grid0.N, win0_8.flush t = true → t.val % 4 = 3)
theorem last_9 : ∀ t : Fin cfg0.N, (cfg0.win 9).flush t = true → t.val % 4 = 3 :=
  (by decide +kernel : ∀ t : Fin grid0.N, win0_9.flush t = true → t.val % 4 = 3)
theorem last_10 : ∀ t : Fin cfg0.N, (cfg0.win 10).flush t = true → t.val % 4 = 3 :=
  (by decide +kernel : ∀ t : Fin grid0.N, win0_10.flush t = true → t.val % 4 = 3)

/-! ### The host lines -/

def tokens (x : FVec Ideal S2x2048x1024 .f32) : FVec Ideal S4096x1024 .f32 := shapeCast S4096x1024 x shapeCasts_S2x2048x1024_S4096x1024
def saved (x : FVec Ideal S4096x1024 .f32) (w : FVec Ideal S1024x2816 .f32) : FVec Ideal S4x4096x704 .bf16 :=
  truncf .bf16 (transpose S4x4096x704 [1, 0, 2] (shapeCast S4096x4x704 (Host.dotGeneral dot_S4096x1024_S1024x2816_S4096x2816_1_0_0_1_n_n none x w)
    shapeCasts_S4096x2816_S4096x4x704) transposes_S4096x4x704_S4x4096x704_1_0_2) bitsLt_bf16_f32
def split (w : FVec Ideal S2816x1024 .f32) : FVec Ideal S4x704x1024 .bf16 :=
  truncf .bf16 (shapeCast S4x704x1024 w shapeCasts_S2816x1024_S4x704x1024) bitsLt_bf16_f32

/-- A token's batch and place, and a point's part. -/
def bat (n : ℕ) : Fin 2 := ⟨n / 2048 % 2, Nat.mod_lt _ (by decide)⟩
def pos (n : ℕ) : Fin 2048 := ⟨n % 2048, Nat.mod_lt _ (by decide)⟩
def part (n : ℕ) : Fin 4 := ⟨n / 4 % 4, Nat.mod_lt _ (by decide)⟩
theorem bat_eq (n : Fin 4096) (h) : (⟨n.val / 2048, h⟩ : Fin 2) = bat n.val := Fin.ext (by show n.val / 2048 = n.val / 2048 % 2; omega)

theorem tokens_at (x : FVec Ideal S2x2048x1024 .f32) (n : Fin 4096) (d : Fin 1024) : tokens x (ix2 n d) = x (ix3 (bat n.val) (pos n.val) d) := by
  rw [← bat_eq n (by omega)]
  pointwise [tokens]
  rfl
theorem saved_at (x : FVec Ideal S2x2048x1024 .f32) (w : FVec Ideal S1024x2816 .f32) (j : Fin 4) (n : Fin 4096) (f : Fin 704) :
    saved (tokens x) w (ix3 j n f) = proj x w (bat n.val) (pos n.val) (col j f) := by
  pointwise [saved, tokens_at, proj]
  rfl
theorem split_at (w : FVec Ideal S2816x1024 .f32) (j : Fin 4) (f : Fin 704) (d : Fin 1024) : split w (ix3 j f d) = w (ix2 (col j f) d) := by
  pointwise [split]
  rfl
theorem turned_at (w : FVec Ideal S1024x2816 .f32) (f : Fin 2816) (d : Fin 1024) :
    transpose S2816x1024 [1, 0] w transposes_S1024x2816_S2816x1024_1_0 (ix2 f d) = w (ix2 d f) := by
  pointwise []

section
variable {m : (ℓ : Loc nD τ sig) → Buf (Elt Ideal) ℓ} (c : Dev nD)

open StableHlo in
theorem operand_0 : V m c main_v10 = (truncf .bf16 (shapeCast S4096x1024 (m ((c.tc : Thread nD τ).loc main_arg4) : FVec Ideal S2x2048x1024 .f32) shapeCasts_S2x2048x1024_S4096x1024)
    bitsLt_bf16_f32 : FVec Ideal S4096x1024 .bf16) := by
  show StableHlo.after _ _ _ = _
  after_reads_simp
  rfl
open StableHlo in
theorem operand_1 : V m c main_v11 = (truncf .bf16 (tokens (m ((c.tc : Thread nD τ).loc main_arg0))) bitsLt_bf16_f32 : FVec Ideal S4096x1024 .bf16) := by
  show StableHlo.after _ _ _ = _
  after_reads_simp
  rfl
open StableHlo in
theorem operand_2 : V m c main_v4 = saved (tokens (m ((c.tc : Thread nD τ).loc main_arg0))) (m ((c.tc : Thread nD τ).loc main_arg1)) := by
  show StableHlo.after _ _ _ = _
  after_reads_simp
  rfl
open StableHlo in
theorem operand_3 : V m c main_v8 = saved (tokens (m ((c.tc : Thread nD τ).loc main_arg0))) (m ((c.tc : Thread nD τ).loc main_arg2)) := by
  show StableHlo.after _ _ _ = _
  after_reads_simp
  rfl
open StableHlo in
theorem operand_4 : V m c main_v14 = split (transpose S2816x1024 [1, 0] (m ((c.tc : Thread nD τ).loc main_arg1) : FVec Ideal S1024x2816 .f32) transposes_S1024x2816_S2816x1024_1_0) := by
  show StableHlo.after _ _ _ = _
  after_reads_simp
  rfl
open StableHlo in
theorem operand_5 : V m c main_v17 = split (transpose S2816x1024 [1, 0] (m ((c.tc : Thread nD τ).loc main_arg2) : FVec Ideal S1024x2816 .f32) transposes_S1024x2816_S2816x1024_1_0) := by
  show StableHlo.after _ _ _ = _
  after_reads_simp
  rfl
open StableHlo in
theorem operand_6 : V m c main_v19 = split (m ((c.tc : Thread nD τ).loc main_arg3)) := by
  show StableHlo.after _ _ _ = _
  after_reads_simp
  rfl
end

/-- Row `i` of point `t` among the 4096 tokens. -/
def tok (t : Fin cfg0.N) (i : Fin 1024) : Fin 4096 := ⟨1024 * (t.val % 4) + i.val, by omega⟩
/-- Its part. -/
def pt (t : Fin cfg0.N) : Fin 4 := ⟨t.val / 4, by have : t.val < 16 := lt_of_lt_of_eq t.isLt N_0; omega⟩
theorem pt_eq (t : Fin cfg0.N) : pt t = part t.val :=
  Fin.ext (by have : t.val < 16 := lt_of_lt_of_eq t.isLt N_0; show t.val / 4 = t.val / 4 % 4; omega)
theorem read_0 (A : FVec Ideal S4096x1024 .bf16) (t : Fin cfg0.N) (i : Fin 1024) (j : Fin 1024) :
    ((cfg0.win 0).blk t).view.read (Elt Ideal) A (ix2 i j) = A (ix2 (tok t i) j) := by
  unfold tok; blk_ext [idx t]
theorem read_1 (A : FVec Ideal S4096x1024 .bf16) (t : Fin cfg0.N) (i : Fin 1024) (j : Fin 1024) :
    ((cfg0.win 1).blk t).view.read (Elt Ideal) A (ix2 i j) = A (ix2 (tok t i) j) := by
  unfold tok; blk_ext [idx t]
theorem read_2 (A : FVec Ideal S4x4096x704 .bf16) (t : Fin cfg0.N) (a : Fin 1) (i : Fin 1024) (j : Fin 704) :
    ((cfg0.win 2).blk t).view.read (Elt Ideal) A (ix3 a i j) = A (ix3 (pt t) (tok t i) j) := by
  unfold tok pt; blk_ext [idx t]
theorem read_3 (A : FVec Ideal S4x4096x704 .bf16) (t : Fin cfg0.N) (a : Fin 1) (i : Fin 1024) (j : Fin 704) :
    ((cfg0.win 3).blk t).view.read (Elt Ideal) A (ix3 a i j) = A (ix3 (pt t) (tok t i) j) := by
  unfold tok pt; blk_ext [idx t]
theorem read_7 (A : FVec Ideal S4x4096x1024 .bf16) (t : Fin cfg0.N) (a : Fin 1) (i : Fin 1024) (j : Fin 1024) :
    ((cfg0.win 7).blk t).view.read (Elt Ideal) A (ix3 a i j) = A (ix3 (pt t) (tok t i) j) := by
  unfold tok pt; blk_ext [idx t]
theorem read_4 (A : FVec Ideal S4x704x1024 .bf16) (t : Fin cfg0.N) (a : Fin 1) (i : Fin 704) (j : Fin 1024) :
    ((cfg0.win 4).blk t).view.read (Elt Ideal) A (ix3 a i j) = A (ix3 (pt t) i j) := by
  unfold pt; blk_ext [idx t]
theorem read_5 (A : FVec Ideal S4x704x1024 .bf16) (t : Fin cfg0.N) (a : Fin 1) (i : Fin 704) (j : Fin 1024) :
    ((cfg0.win 5).blk t).view.read (Elt Ideal) A (ix3 a i j) = A (ix3 (pt t) i j) := by
  unfold pt; blk_ext [idx t]
theorem read_6 (A : FVec Ideal S4x704x1024 .bf16) (t : Fin cfg0.N) (a : Fin 1) (i : Fin 704) (j : Fin 1024) :
    ((cfg0.win 6).blk t).view.read (Elt Ideal) A (ix3 a i j) = A (ix3 (pt t) i j) := by
  unfold pt; blk_ext [idx t]
theorem read_8 (A : FVec Ideal S4x704x1024 .bf16) (t : Fin cfg0.N) (a : Fin 1) (i : Fin 704) (j : Fin 1024) :
    ((cfg0.win 8).blk t).view.read (Elt Ideal) A (ix3 a i j) = A (ix3 (pt t) i j) := by
  unfold pt; blk_ext [idx t]
theorem read_9 (A : FVec Ideal S4x704x1024 .bf16) (t : Fin cfg0.N) (a : Fin 1) (i : Fin 704) (j : Fin 1024) :
    ((cfg0.win 9).blk t).view.read (Elt Ideal) A (ix3 a i j) = A (ix3 (pt t) i j) := by
  unfold pt; blk_ext [idx t]
theorem read_10 (A : FVec Ideal S4x704x1024 .bf16) (t : Fin cfg0.N) (a : Fin 1) (i : Fin 704) (j : Fin 1024) :
    ((cfg0.win 10).blk t).view.read (Elt Ideal) A (ix3 a i j) = A (ix3 (pt t) i j) := by
  unfold pt; blk_ext [idx t]

/-! ### The blocks -/

section
variable {m : (ℓ : Loc nD τ sig) → Buf (Elt Ideal) ℓ} (c : Dev nD) {h ct : FVec Ideal S2x2048x1024 .f32}
  {wg wu : FVec Ideal S1024x2816 .f32} {wd : FVec Ideal S2816x1024 .f32}
  (hh : m ((c.tc : Thread nD τ).loc main_arg0) = h) (hg : m ((c.tc : Thread nD τ).loc main_arg1) = wg)
  (hu : m ((c.tc : Thread nD τ).loc main_arg2) = wu) (hd : m ((c.tc : Thread nD τ).loc main_arg3) = wd)
  (hc : m ((c.tc : Thread nD τ).loc main_arg4) = ct)

include hc in
theorem block_0 (t : Fin cfg0.N) (i : Fin 1024) (k : Fin 1024) :
    (iblk m c 0 t : Vec Ideal S1024x1024 .bf16) (ix2 i k) = ct (ix3 (bat (tok t i).val) (pos (tok t i).val) k) := by
  have e : V m c (Pipeline.arrRef spec0 0) = _ := operand_0 c
  unfold iblk
  rw [e, hc]
  exact (read_0 _ t i k).trans (tokens_at ct _ k)
include hh in
theorem block_1 (t : Fin cfg0.N) (i : Fin 1024) (k : Fin 1024) :
    (iblk m c 1 t : Vec Ideal S1024x1024 .bf16) (ix2 i k) = h (ix3 (bat (tok t i).val) (pos (tok t i).val) k) := by
  have e : V m c (Pipeline.arrRef spec0 1) = _ := operand_1 c
  unfold iblk
  rw [e, hh]
  exact (read_1 _ t i k).trans (tokens_at h _ k)
include hh hg in
theorem block_2 (t : Fin cfg0.N) (a : Fin 1) (i : Fin 1024) (f : Fin 704) :
    (iblk m c 2 t : Vec Ideal S1x1024x704 .bf16) (ix3 a i f) = proj h wg (bat (tok t i).val) (pos (tok t i).val) (col (part t.val) f) := by
  have e : V m c (Pipeline.arrRef spec0 2) = _ := operand_2 c
  unfold iblk
  rw [e, hh, hg, ← pt_eq]
  exact (read_2 _ t a i f).trans (saved_at h wg _ _ f)
include hh hu in
theorem block_3 (t : Fin cfg0.N) (a : Fin 1) (i : Fin 1024) (f : Fin 704) :
    (iblk m c 3 t : Vec Ideal S1x1024x704 .bf16) (ix3 a i f) = proj h wu (bat (tok t i).val) (pos (tok t i).val) (col (part t.val) f) := by
  have e : V m c (Pipeline.arrRef spec0 3) = _ := operand_3 c
  unfold iblk
  rw [e, hh, hu, ← pt_eq]
  exact (read_3 _ t a i f).trans (saved_at h wu _ _ f)
include hg in
theorem block_4 (t : Fin cfg0.N) (a : Fin 1) (f : Fin 704) (d : Fin 1024) :
    (iblk m c 4 t : Vec Ideal S1x704x1024 .bf16) (ix3 a f d) = wg (ix2 d (col (part t.val) f)) := by
  have e : V m c (Pipeline.arrRef spec0 4) = _ := operand_4 c
  unfold iblk
  rw [e, hg, ← pt_eq]
  exact (read_4 _ t a f d).trans ((split_at _ _ f d).trans (turned_at wg _ d))
include hu in
theorem block_5 (t : Fin cfg0.N) (a : Fin 1) (f : Fin 704) (d : Fin 1024) :
    (iblk m c 5 t : Vec Ideal S1x704x1024 .bf16) (ix3 a f d) = wu (ix2 d (col (part t.val) f)) := by
  have e : V m c (Pipeline.arrRef spec0 5) = _ := operand_5 c
  unfold iblk
  rw [e, hu, ← pt_eq]
  exact (read_5 _ t a f d).trans ((split_at _ _ f d).trans (turned_at wu _ d))
include hd in
theorem block_6 (t : Fin cfg0.N) (a : Fin 1) (f : Fin 704) (d : Fin 1024) :
    (iblk m c 6 t : Vec Ideal S1x704x1024 .bf16) (ix3 a f d) = wd (ix2 (col (part t.val) f) d) := by
  have e : V m c (Pipeline.arrRef spec0 6) = _ := operand_6 c
  unfold iblk
  rw [e, hd, ← pt_eq]
  exact (read_6 _ t a f d).trans (split_at wd _ f d)

include hd hc in
theorem cot_eq (t : Fin cfg0.N) (i : Fin 1024) (f : Fin 704) : cot (iblk m c 0 t) (iblk m c 6 t) i f
    = back wd ct (bat (tok t i).val) (pos (tok t i).val) (col (part t.val) f) :=
  Finset.sum_congr rfl fun k _ => by rw [block_0 c hc, block_6 c hd]
include hh hg hu hd hc in
theorem gate_eq (t : Fin cfg0.N) (i : Fin 1024) (f : Fin 704) :
    gateB (iblk m c 0 t) (iblk m c 2 t) (iblk m c 3 t) (iblk m c 6 t) i f
      = dgate h wg wu wd ct direct (bat (tok t i).val) (pos (tok t i).val) (col (part t.val) f) := by
  unfold gateB dgate
  rw [cot_eq c hd hc, block_2 c hh hg, block_3 c hh hu]
include hh hg hd hc in
theorem up_eq (t : Fin cfg0.N) (i : Fin 1024) (f : Fin 704) : upB (iblk m c 0 t) (iblk m c 2 t) (iblk m c 6 t) i f
    = dup h wg wd ct (bat (tok t i).val) (pos (tok t i).val) (col (part t.val) f) := by
  unfold upB dup
  rw [cot_eq c hd hc, block_2 c hh hg]
include hh hg hu in
theorem mid_eq (t : Fin cfg0.N) (i : Fin 1024) (f : Fin 704) : midB (iblk m c 2 t) (iblk m c 3 t) i f
    = mid h wg wu (bat (tok t i).val) (pos (tok t i).val) (col (part t.val) f) := by
  unfold midB mid
  rw [block_2 c hh hg, block_3 c hh hu]

/-! ### The results -/

/-- A token's shares in the three weights' gradients. -/
def shareG (h : Arr3 2 2048 1024) (wg wu : Arr2 1024 2816) (wd : Arr2 2816 1024) (ct : Arr3 2 2048 1024) (j : Fin 4) (f : Fin 704)
    (d : Fin 1024) (n : ℕ) : EReal := dgate h wg wu wd ct direct (bat n) (pos n) (col j f) * h (ix3 (bat n) (pos n) d)
def shareU (h : Arr3 2 2048 1024) (wg : Arr2 1024 2816) (wd : Arr2 2816 1024) (ct : Arr3 2 2048 1024) (j : Fin 4) (f : Fin 704)
    (d : Fin 1024) (n : ℕ) : EReal := dup h wg wd ct (bat n) (pos n) (col j f) * h (ix3 (bat n) (pos n) d)
def shareD (h : Arr3 2 2048 1024) (wg wu : Arr2 1024 2816) (ct : Arr3 2 2048 1024) (j : Fin 4) (f : Fin 704)
    (d : Fin 1024) (n : ℕ) : EReal := mid h wg wu (bat n) (pos n) (col j f) * ct (ix3 (bat n) (pos n) d)

include hh hg hu hd hc in
theorem row_eq (t : Fin cfg0.N) (i : Fin 1024) (d : Fin 1024) :
    rowB (iblk m c 0 t) (iblk m c 2 t) (iblk m c 3 t) (iblk m c 4 t) (iblk m c 5 t) (iblk m c 6 t) i d
      = dh h wg wu wd ct direct (part t.val) (bat (tok t i).val) (pos (tok t i).val) d := by
  unfold rowB dh
  simp only [gate_eq c hh hg hu hd hc, up_eq c hh hg hd hc, block_4 c hg, block_5 c hu]
include hh hg hu hd hc in
theorem part_g (t : Fin cfg0.N) (f : Fin 704) (d : Fin 1024) :
    partB (gateB (iblk m c 0 t) (iblk m c 2 t) (iblk m c 3 t) (iblk m c 6 t)) (iblk m c 1 t) f d
      = ∑ i ∈ Finset.range 1024, shareG h wg wu wd ct (part t.val) f d (1024 * (t.val % 4) + i) := by
  rw [Finset.sum_range]
  exact Finset.sum_congr rfl fun i _ => by rw [gate_eq c hh hg hu hd hc, block_1 c hh]; rfl
include hh hg hd hc in
theorem part_u (t : Fin cfg0.N) (f : Fin 704) (d : Fin 1024) :
    partB (upB (iblk m c 0 t) (iblk m c 2 t) (iblk m c 6 t)) (iblk m c 1 t) f d
      = ∑ i ∈ Finset.range 1024, shareU h wg wd ct (part t.val) f d (1024 * (t.val % 4) + i) := by
  rw [Finset.sum_range]
  exact Finset.sum_congr rfl fun i _ => by rw [up_eq c hh hg hd hc, block_1 c hh]; rfl
include hh hg hu hc in
theorem part_d (t : Fin cfg0.N) (f : Fin 704) (d : Fin 1024) :
    partB (midB (iblk m c 2 t) (iblk m c 3 t)) (iblk m c 0 t) f d
      = ∑ i ∈ Finset.range 1024, shareD h wg wu ct (part t.val) f d (1024 * (t.val % 4) + i) := by
  rw [Finset.sum_range]
  exact Finset.sum_congr rfl fun i _ => by rw [mid_eq c hh hg hu, block_0 c hc]; rfl

/-- What the points up to `n` leave: its own rows, the sums over its part's tokens so far, and at the part's end these again. -/
structure Upto (h ct : Arr3 2 2048 1024) (wg wu : Arr2 1024 2816) (wd : Arr2 2816 1024) (t : Fin cfg0.N)
    (o : Vec Ideal S1x1024x1024 .bf16 × Vec Ideal S1x704x1024 .bf16 × Vec Ideal S1x704x1024 .bf16 × Vec Ideal S1x704x1024 .bf16
      × Vec Ideal S704x1024 .f32 × Vec Ideal S704x1024 .f32 × Vec Ideal S704x1024 .f32) : Prop where
  row : ∀ a i d, o.1 (ix3 a i d) = dh h wg wu wd ct direct (part t.val) (bat (tok t i).val) (pos (tok t i).val) d
  g : ∀ f d, o.2.2.2.2.1 (ix2 f d) = ∑ k ∈ Finset.range (1024 * (t.val % 4 + 1)), shareG h wg wu wd ct (part t.val) f d k
  u : ∀ f d, o.2.2.2.2.2.1 (ix2 f d) = ∑ k ∈ Finset.range (1024 * (t.val % 4 + 1)), shareU h wg wd ct (part t.val) f d k
  d : ∀ f d, o.2.2.2.2.2.2 (ix2 f d) = ∑ k ∈ Finset.range (1024 * (t.val % 4 + 1)), shareD h wg wu ct (part t.val) f d k
  og : t.val % 4 = 3 → ∀ a f d, o.2.1 (ix3 a f d) = o.2.2.2.2.1 (ix2 f d)
  ou : t.val % 4 = 3 → ∀ a f d, o.2.2.1 (ix3 a f d) = o.2.2.2.2.2.1 (ix2 f d)
  od : t.val % 4 = 3 → ∀ a f d, o.2.2.2.1 (ix3 a f d) = o.2.2.2.2.2.2 (ix2 f d)

theorem seven {α β γ δ ε ζ η : Type} (p : α × β × γ × δ × ε × ζ × η) :
    p = (p.1, p.2.1, p.2.2.1, p.2.2.2.1, p.2.2.2.2.1, p.2.2.2.2.2.1, p.2.2.2.2.2.2) := rfl

/-- The sum so far and a point's own share. -/
theorem more {n : ℕ} (h4 : ¬(n + 1) % 4 = 0) (F : Fin 4 → ℕ → EReal) :
    ∑ k ∈ Finset.range (1024 * (n % 4 + 1)), F (part n) k + ∑ i ∈ Finset.range 1024, F (part (n + 1)) (1024 * ((n + 1) % 4) + i)
      = ∑ k ∈ Finset.range (1024 * ((n + 1) % 4 + 1)), F (part (n + 1)) k := by
  rw [show part n = part (n + 1) from Fin.ext (by show n / 4 % 4 = (n + 1) / 4 % 4; omega), show n % 4 + 1 = (n + 1) % 4 by omega,
    Nat.mul_add 1024 ((n + 1) % 4) 1, Nat.mul_one, Finset.sum_range_add]

include hh hg hu hd hc in
/-- The first point of a part. -/
theorem first (t : Fin cfg0.N) (h0 : t.val % 4 = 0) : Upto h ct wg wu wd t (outsAt0 m c t.val t.isLt) := by
  obtain ⟨p, q, r, s⟩ := pointA (m := m) (c := c) (t := t) rfl rfl rfl rfl rfl rfl rfl h0 (by omega) (by omega)
  refine ⟨fun a i d => (p a i d).trans (row_eq c hh hg hu hd hc t i d), fun f d => (q f d).trans ((part_g c hh hg hu hd hc t f d).trans ?_),
    fun f d => (r f d).trans ((part_u c hh hg hd hc t f d).trans ?_), fun f d => (s f d).trans ((part_d c hh hg hu hc t f d).trans ?_),
    fun h3 => absurd h3 (by omega), fun h3 => absurd h3 (by omega), fun h3 => absurd h3 (by omega)⟩
  all_goals simp only [h0, Nat.mul_zero, Nat.zero_add, Nat.mul_one]

include hh hg hu hd hc in
theorem upto : ∀ (n : ℕ) (hn : n < cfg0.N), Upto h ct wg wu wd ⟨n, hn⟩ (outsAt0 m c n hn)
  | 0, hn => first c hh hg hu hd hc ⟨0, hn⟩ rfl
  | n + 1, hn => by
    by_cases h0 : (n + 1) % 4 = 0
    · exact first c hh hg hu hd hc ⟨n + 1, hn⟩ h0
    have ih := upto n (by omega)
    by_cases h3 : (n + 1) % 4 = 3
    · obtain ⟨p, q, r, s, q', r', s'⟩ := pointC (m := m) (c := c) (t := ⟨n + 1, hn⟩) rfl rfl rfl rfl rfl rfl rfl h0
        (by show 1 ≤ (n + 1) % 4; omega) h3 (seven (outsAt0 m c n (by omega)))
      refine ⟨fun a i d => (p a i d).trans (row_eq c hh hg hu hd hc _ i d), fun f d => (q f d).trans ?_, fun f d => (r f d).trans ?_,
        fun f d => (s f d).trans ?_, fun _ a f d => (q' a f d).trans (q f d).symm, fun _ a f d => (r' a f d).trans (r f d).symm,
        fun _ a f d => (s' a f d).trans (s f d).symm⟩
      · rw [ih.g, part_g c hh hg hu hd hc]; exact more h0 fun j => shareG h wg wu wd ct j f d
      · rw [ih.u, part_u c hh hg hd hc]; exact more h0 fun j => shareU h wg wd ct j f d
      · rw [ih.d, part_d c hh hg hu hc]; exact more h0 fun j => shareD h wg wu ct j f d
    · obtain ⟨p, q, r, s⟩ := pointB (m := m) (c := c) (t := ⟨n + 1, hn⟩) rfl rfl rfl rfl rfl rfl rfl h0
        (by show 1 ≤ (n + 1) % 4; omega) h3 (seven (outsAt0 m c n (by omega)))
      refine ⟨fun a i d => (p a i d).trans (row_eq c hh hg hu hd hc _ i d), fun f d => (q f d).trans ?_, fun f d => (r f d).trans ?_,
        fun f d => (s f d).trans ?_, fun k => absurd k h3, fun k => absurd k h3, fun k => absurd k h3⟩
      · rw [ih.g, part_g c hh hg hu hd hc]; exact more h0 fun j => shareG h wg wu wd ct j f d
      · rw [ih.u, part_u c hh hg hd hc]; exact more h0 fun j => shareU h wg wd ct j f d
      · rw [ih.d, part_d c hh hg hu hc]; exact more h0 fun j => shareD h wg wu ct j f d

/-- A sum over the 4096 tokens, batch by batch. -/
theorem sum_tokens (F : Fin 2 → Fin 2048 → EReal) : ∑ n ∈ Finset.range (1024 * (3 + 1)), F (bat n) (pos n) = ∑ b, ∑ s, F b s := by
  rw [show 1024 * (3 + 1) = 2048 + 2048 from rfl, Finset.sum_range_add, Finset.sum_range, Finset.sum_range, Fin.sum_univ_two]
  refine congrArg₂ (· + ·) (Finset.sum_congr rfl fun i _ => ?_) (Finset.sum_congr rfl fun i _ => ?_)
  · exact congrArg₂ F (Fin.ext (by show i.val / 2048 % 2 = 0; omega)) (Fin.ext (by show i.val % 2048 = i.val; omega))
  · exact congrArg₂ F (Fin.ext (by show (2048 + i.val) / 2048 % 2 = 1; omega)) (Fin.ext (by show (2048 + i.val) % 2048 = i.val; omega))

/-- The four arrays after the run. -/
def arrayH (h ct : Arr3 2 2048 1024) (wg wu : Arr2 1024 2816) (wd : Arr2 2816 1024) : Arr3 4 4096 1024 :=
  fun i => dh h wg wu wd ct direct (i 0) (bat (i 1).val) (pos (i 1).val) (i 2)
def arrayG (h ct : Arr3 2 2048 1024) (wg wu : Arr2 1024 2816) (wd : Arr2 2816 1024) : Arr3 4 704 1024 :=
  fun i => dwg h wg wu wd ct direct (i 0) (i 1) (i 2)
def arrayU (h ct : Arr3 2 2048 1024) (wg : Arr2 1024 2816) (wd : Arr2 2816 1024) : Arr3 4 704 1024 :=
  fun i => dwu h wg wd ct (i 0) (i 1) (i 2)
def arrayD (h ct : Arr3 2 2048 1024) (wg wu : Arr2 1024 2816) : Arr3 4 704 1024 := fun i => dwd h wg wu ct (i 0) (i 1) (i 2)

include hh hg hu hd hc in
theorem final_h : (dats m 0 c).arrAt 7 cfg0.N = arrayH h ct wg wu wd := by
  refine (dats m 0 c).arrAt_eq_of_covers 7 _ (by decide +kernel) fun t hf z => ?_
  blk_simp
  rw [after0_7]
  have key : ∀ z : S1x1024x1024.Idx, (outsAt0 m c t.val t.isLt).1 z
      = ((cfg0.win 7).blk t).view.read (Elt Ideal) (arrayH h ct wg wu wd) z := by
    intro z
    rw [eq_ix3 z]
    refine ((upto c hh hg hu hd hc t.val t.isLt).row (z 0) (z 1) (z 2)).trans
      (Eq.trans ?_ (read_7 (arrayH h ct wg wu wd) t (z 0) (z 1) (z 2)).symm)
    rw [pt_eq]
    rfl
  exact key z
include hh hg hu hd hc in
theorem final_g : (dats m 0 c).arrAt 8 cfg0.N = arrayG h ct wg wu wd := by
  refine (dats m 0 c).arrAt_eq_of_covers 8 _ (by decide +kernel) fun t hf z => ?_
  have ht := last_8 t hf
  blk_simp
  rw [after0_8]
  have key : ∀ z : S1x704x1024.Idx, (outsAt0 m c t.val t.isLt).2.1 z
      = ((cfg0.win 8).blk t).view.read (Elt Ideal) (arrayG h ct wg wu wd) z := by
    intro z
    have up := upto c hh hg hu hd hc t.val t.isLt
    rw [eq_ix3 z]
    refine (up.og ht (z 0) (z 1) (z 2)).trans ((up.g (z 1) (z 2)).trans (Eq.trans ?_ (read_8 (arrayG h ct wg wu wd) t (z 0) (z 1) (z 2)).symm))
    rw [pt_eq]
    show ∑ k ∈ Finset.range (1024 * (t.val % 4 + 1)), _ = _
    rw [ht]
    exact sum_tokens fun b s => dgate h wg wu wd ct direct b s (col (part t.val) (z 1)) * h (ix3 b s (z 2))
  exact key z
include hh hg hu hd hc in
theorem final_u : (dats m 0 c).arrAt 9 cfg0.N = arrayU h ct wg wd := by
  refine (dats m 0 c).arrAt_eq_of_covers 9 _ (by decide +kernel) fun t hf z => ?_
  have ht := last_9 t hf
  blk_simp
  rw [after0_9]
  have key : ∀ z : S1x704x1024.Idx, (outsAt0 m c t.val t.isLt).2.2.1 z
      = ((cfg0.win 9).blk t).view.read (Elt Ideal) (arrayU h ct wg wd) z := by
    intro z
    have up := upto c hh hg hu hd hc t.val t.isLt
    rw [eq_ix3 z]
    refine (up.ou ht (z 0) (z 1) (z 2)).trans ((up.u (z 1) (z 2)).trans (Eq.trans ?_ (read_9 (arrayU h ct wg wd) t (z 0) (z 1) (z 2)).symm))
    rw [pt_eq]
    show ∑ k ∈ Finset.range (1024 * (t.val % 4 + 1)), _ = _
    rw [ht]
    exact sum_tokens fun b s => dup h wg wd ct b s (col (part t.val) (z 1)) * h (ix3 b s (z 2))
  exact key z
include hh hg hu hd hc in
theorem final_d : (dats m 0 c).arrAt 10 cfg0.N = arrayD h ct wg wu := by
  refine (dats m 0 c).arrAt_eq_of_covers 10 _ (by decide +kernel) fun t hf z => ?_
  have ht := last_10 t hf
  blk_simp
  rw [after0_10]
  have key : ∀ z : S1x704x1024.Idx, (outsAt0 m c t.val t.isLt).2.2.2.1 z
      = ((cfg0.win 10).blk t).view.read (Elt Ideal) (arrayD h ct wg wu) z := by
    intro z
    have up := upto c hh hg hu hd hc t.val t.isLt
    rw [eq_ix3 z]
    refine (up.od ht (z 0) (z 1) (z 2)).trans ((up.d (z 1) (z 2)).trans (Eq.trans ?_ (read_10 (arrayD h ct wg wu) t (z 0) (z 1) (z 2)).symm))
    rw [pt_eq]
    show ∑ k ∈ Finset.range (1024 * (t.val % 4 + 1)), _ = _
    rw [ht]
    exact sum_tokens fun b s => mid h wg wu b s (col (part t.val) (z 1)) * ct (ix3 b s (z 2))
  exact key z
end

end Cert.FfnFinal

end
-- ==== Proof.FfnRef.lean ====
/-
  The reference of the pair FfnBwd / FfnVjp: its four results, entry by entry, are the gradients of FfnModel.
-/
module

public import proofs.«01_k».proof.Proof.Gen.FfnVjpIdeal.Run
public import proofs.«01_k».proof.Proof.FfnModel

@[expose] public section

set_option maxRecDepth 16384

noncomputable section

namespace Cert.FfnRef

open Cert.FfnVjpIdeal Cert.FfnVjpIdeal.Gen Idealize.ShloMosaic Idealize.ShloMosaic.TcCoe Cert.FfnModel Cert.Arrays
open Cert.FfnVjpIdeal.Facts Idealize.SL.Sem

variable (h : FVec Ideal S2x2048x1024 .f32) (wg wu : FVec Ideal S1024x2816 .f32) (wd : FVec Ideal S2816x1024 .f32)
  (ct : FVec Ideal S2x2048x1024 .f32)

/-! ### The stages, whole -/

def projs (w : FVec Ideal S1024x2816 .f32) : FVec Ideal S2x2048x2816 .f32 :=
  Host.dotGeneral dot_S2x2048x1024_S1024x2816_S2x2048x2816_2_0_01_1_n_n none h w
def backs : FVec Ideal S2x2048x2816 .f32 := Host.dotGeneral dot_S2x2048x1024_S2816x1024_S2x2048x2816_2_1_01_0_n_n none ct wd
def ones : FVec Ideal S2x2048x2816 .f32 := broadcastInDim S2x2048x2816 ![] bcast_S_S2x2048x2816 (constant S_ .f32 0x3F800000#32)
def sigs (g : FVec Ideal S2x2048x2816 .f32) : FVec Ideal S2x2048x2816 .f32 := Host.divf ones (addf ones (Host.exp (Host.negf g)))
def slopes (c g : FVec Ideal S2x2048x2816 .f32) : FVec Ideal S2x2048x2816 .f32 :=
  addf (mulf c (sigs g)) (mulf (mulf g c) (mulf (sigs g) (subf ones (sigs g))))
def rows (w : FVec Ideal S2816x1024 .f32) : FVec Ideal S4x704x1024 .bf16 :=
  truncf .bf16 (shapeCast S4x704x1024 w shapeCasts_S2816x1024_S4x704x1024) bitsLt_bf16_f32
def resultG : FVec Ideal S4x704x1024 .bf16 :=
  rows (transpose S2816x1024 [1, 0] (transpose S1024x2816 [1, 0] (Host.dotGeneral dot_S2x2048x2816_S2x2048x1024_S2816x1024_01_01_2_2_n_n none
    (slopes (mulf (backs wd ct) (projs h wu)) (projs h wg)) h) transposes_S2816x1024_S1024x2816_1_0) transposes_S1024x2816_S2816x1024_1_0)
def resultU : FVec Ideal S4x704x1024 .bf16 :=
  rows (transpose S2816x1024 [1, 0] (transpose S1024x2816 [1, 0] (Host.dotGeneral dot_S2x2048x2816_S2x2048x1024_S2816x1024_01_01_2_2_n_n none
    (mulf (mulf (projs h wg) (sigs (projs h wg))) (backs wd ct)) h) transposes_S2816x1024_S1024x2816_1_0) transposes_S1024x2816_S2816x1024_1_0)
def resultD : FVec Ideal S4x704x1024 .bf16 :=
  rows (transpose S2816x1024 [1, 0] (Host.dotGeneral dot_S2x2048x1024_S2x2048x2816_S1024x2816_01_01_2_2_n_n none ct
    (mulf (mulf (projs h wg) (sigs (projs h wg))) (projs h wu))) transposes_S1024x2816_S2816x1024_1_0)

/-! ### The stages, in four parts -/

def parts (w : FVec Ideal S1024x2816 .f32) : FVec Ideal S4x1024x704 .f32 :=
  transpose S4x1024x704 [1, 0, 2] (shapeCast S1024x4x704 w shapeCasts_S1024x2816_S1024x4x704) transposes_S1024x4x704_S4x1024x704_1_0_2
def projs4 (w : FVec Ideal S1024x2816 .f32) : FVec Ideal S2x2048x4x704 .f32 :=
  Host.dotGeneral dot_S2x2048x1024_S4x1024x704_S2x2048x4x704_2_1_01_02_n_n none h (parts w)
def backs4 : FVec Ideal S2x2048x4x704 .f32 :=
  Host.dotGeneral dot_S2x2048x1024_S4x704x1024_S2x2048x4x704_2_2_01_01_n_n none ct (shapeCast S4x704x1024 wd shapeCasts_S2816x1024_S4x704x1024)
def ones4 : FVec Ideal S2x2048x4x704 .f32 := broadcastInDim S2x2048x4x704 ![] bcast_S_S2x2048x4x704 (constant S_ .f32 0x3F800000#32)
def sigs4 (g : FVec Ideal S2x2048x4x704 .f32) : FVec Ideal S2x2048x4x704 .f32 := Host.divf ones4 (addf ones4 (Host.exp (Host.negf g)))
def slopes4 (c g : FVec Ideal S2x2048x4x704 .f32) : FVec Ideal S2x2048x4x704 .f32 :=
  addf (mulf c (sigs4 g)) (mulf (mulf g c) (mulf (sigs4 g) (subf ones4 (sigs4 g))))
def resultH : FVec Ideal S4x4096x1024 .bf16 :=
  truncf .bf16 (shapeCast S4x4096x1024 (addf
    (Host.dotGeneral dot_S2x2048x4x704_S4x1024x704_S4x2x2048x1024_3_2_01_1_2_0 none
      (mulf (mulf (projs4 h wg) (sigs4 (projs4 h wg))) (backs4 wd ct)) (parts wu))
    (Host.dotGeneral dot_S2x2048x4x704_S4x1024x704_S4x2x2048x1024_3_2_01_1_2_0 none
      (slopes4 (mulf (backs4 wd ct) (projs4 h wu)) (projs4 h wg)) (parts wg))) shapeCasts_S4x2x2048x1024_S4x4096x1024) bitsLt_bf16_f32

/-! ### The run -/

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = resultH (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_v40) = resultG (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_v42) = resultU (m ((c.tc : Thread nD τ).loc main_arg0))
        (m ((c.tc : Thread nD τ).loc main_arg1)) (m ((c.tc : Thread nD τ).loc main_arg3)) (m ((c.tc : Thread nD τ).loc main_arg4))
      ∧ r.2.mem ((c.tc : Thread nD τ).loc main_v44) = resultD (m ((c.tc : Thread nD τ).loc main_arg0))
        (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

/-! ### Entry by entry -/

theorem projs_at (w : FVec Ideal S1024x2816 .f32) (b : Fin 2) (s : Fin 2048) (f : Fin 2816) : projs h w (ix3 b s f) = proj h w b s f := by
  pointwise [projs, proj]
theorem backs_at (b : Fin 2) (s : Fin 2048) (f : Fin 2816) : backs wd ct (ix3 b s f) = back wd ct b s f := by
  pointwise [backs, back]
theorem sigs_at (g : FVec Ideal S2x2048x2816 .f32) (b : Fin 2) (s : Fin 2048) (f : Fin 2816) : sigs g (ix3 b s f) = sg (g (ix3 b s f)) := by
  pointwise [sigs, ones, sg]
theorem slopes_at (c g : FVec Ideal S2x2048x2816 .f32) (b : Fin 2) (s : Fin 2048) (f : Fin 2816) :
    slopes c g (ix3 b s f) = derived (c (ix3 b s f)) (g (ix3 b s f)) := by
  pointwise [slopes, ones, sigs_at, derived]
theorem rows_at (w : FVec Ideal S2816x1024 .f32) (j : Fin 4) (f : Fin 704) (d : Fin 1024) : rows w (ix3 j f d) = w (ix2 (col j f) d) := by
  pointwise [rows]
  rfl
theorem resultG_at (j : Fin 4) (f : Fin 704) (d : Fin 1024) :
    resultG h wg wu wd ct (ix3 j f d) = dwg h wg wu wd ct derived j f d := by
  unfold resultG
  rw [rows_at]
  pointwise [slopes_at, projs_at, backs_at, dwg, dgate]
theorem resultU_at (j : Fin 4) (f : Fin 704) (d : Fin 1024) : resultU h wg wd ct (ix3 j f d) = dwu h wg wd ct j f d := by
  unfold resultU
  rw [rows_at]
  pointwise [sigs_at, projs_at, backs_at, dwu, dup, gated, mul_comm]
theorem resultD_at (j : Fin 4) (f : Fin 704) (d : Fin 1024) : resultD h wg wu ct (ix3 j f d) = dwd h wg wu ct j f d := by
  unfold resultD
  rw [rows_at]
  pointwise [sigs_at, projs_at, dwd, mid, gated, mul_comm]

theorem parts_at (w : FVec Ideal S1024x2816 .f32) (j : Fin 4) (k : Fin 1024) (f : Fin 704) : parts w (ix3 j k f) = w (ix2 k (col j f)) := by
  pointwise [parts]
  rfl
theorem projs4_at (w : FVec Ideal S1024x2816 .f32) (b : Fin 2) (s : Fin 2048) (j : Fin 4) (f : Fin 704) :
    projs4 h w (ix4 b s j f) = proj h w b s (col j f) := by
  pointwise [projs4, parts_at, proj]
theorem backs4_at (b : Fin 2) (s : Fin 2048) (j : Fin 4) (f : Fin 704) : backs4 wd ct (ix4 b s j f) = back wd ct b s (col j f) := by
  pointwise [backs4, back]
  rfl
theorem sigs4_at (g : FVec Ideal S2x2048x4x704 .f32) (b : Fin 2) (s : Fin 2048) (j : Fin 4) (f : Fin 704) :
    sigs4 g (ix4 b s j f) = sg (g (ix4 b s j f)) := by
  pointwise [sigs4, ones4, sg]
theorem slopes4_at (c g : FVec Ideal S2x2048x4x704 .f32) (b : Fin 2) (s : Fin 2048) (j : Fin 4) (f : Fin 704) :
    slopes4 c g (ix4 b s j f) = derived (c (ix4 b s j f)) (g (ix4 b s j f)) := by
  pointwise [slopes4, ones4, sigs4_at, derived]
theorem resultH_at (j : Fin 4) (n : Fin 4096) (d : Fin 1024) : resultH h wg wu wd ct (ix3 j n d)
    = dh h wg wu wd ct derived j ⟨n.val / 2048, by omega⟩ ⟨n.val % 2048, by omega⟩ d := by
  pointwise [resultH, slopes4_at, sigs4_at, projs4_at, backs4_at, parts_at, dh, dgate, dup, gated]
  exact (add_comm _ _).trans (congrArg _ (Finset.sum_congr rfl fun f _ => congrArg (· * _) (mul_comm _ _)))

end Cert.FfnRef

end
-- ==== Proof.FfnClaim.lean ====
/-
  The claims of the pair FfnBwd / FfnVjp: the reference's frame, and that over the extended reals both programs return the
  same four gradients where all arguments but the gate's weights are finite.
-/
module

public import proofs.«01_k».proof.Defs
public import proofs.«01_k».proof.Proof.Gen.Pre_ffn_finite
public import proofs.«01_k».proof.Proof.FfnFinal
public import proofs.«01_k».proof.Proof.FfnRef
public import Idealize.ShloMosaic.Lib.Quiescent

@[expose] public section

set_option maxRecDepth 16384

noncomputable section

namespace Cert.FfnClaim

open Idealize.ShloMosaic Idealize.SL.Sem Idealize.ShloMosaic.TcCoe Cert.Arrays Cert.Reals Cert.FfnModel

/-- The reference runs, keeps its arguments, and uses no semaphore. -/
theorem frame_reference : Cert.quiescent_FfnVjpIdeal := fun m ρ _ =>
  (θ_run Cert.FfnVjpIdeal.defs _ _).mono (fun r h => ⟨fun c => (h c).2.2.2.2, sem_eq_zero_of_no_sems (by decide) r.2⟩)
    (Cert.FfnVjpIdeal.Value.run (F := Ideal) m ρ)

/-- The kernel's four results are the reference's. -/
theorem value : Cert.algebraic_FfnBwdIdeal_FfnVjpIdeal_pre_ffn_finite := by
  intro m g m' g' hpre hagree
  refine ⟨fun c => FfnRef.resultH (m' ((c.tc : Thread Cert.FfnVjpIdeal.nD Cert.FfnVjpIdeal.τ).loc Cert.FfnVjpIdeal.main_arg0))
    (m' ((c.tc : Thread Cert.FfnVjpIdeal.nD Cert.FfnVjpIdeal.τ).loc Cert.FfnVjpIdeal.main_arg1))
    (m' ((c.tc : Thread Cert.FfnVjpIdeal.nD Cert.FfnVjpIdeal.τ).loc Cert.FfnVjpIdeal.main_arg2))
    (m' ((c.tc : Thread Cert.FfnVjpIdeal.nD Cert.FfnVjpIdeal.τ).loc Cert.FfnVjpIdeal.main_arg3))
    (m' ((c.tc : Thread Cert.FfnVjpIdeal.nD Cert.FfnVjpIdeal.τ).loc Cert.FfnVjpIdeal.main_arg4)),
    fun c => FfnRef.resultG (m' ((c.tc : Thread Cert.FfnVjpIdeal.nD Cert.FfnVjpIdeal.τ).loc Cert.FfnVjpIdeal.main_arg0))
    (m' ((c.tc : Thread Cert.FfnVjpIdeal.nD Cert.FfnVjpIdeal.τ).loc Cert.FfnVjpIdeal.main_arg1))
    (m' ((c.tc : Thread Cert.FfnVjpIdeal.nD Cert.FfnVjpIdeal.τ).loc Cert.FfnVjpIdeal.main_arg2))
    (m' ((c.tc : Thread Cert.FfnVjpIdeal.nD Cert.FfnVjpIdeal.τ).loc Cert.FfnVjpIdeal.main_arg3))
    (m' ((c.tc : Thread Cert.FfnVjpIdeal.nD Cert.FfnVjpIdeal.τ).loc Cert.FfnVjpIdeal.main_arg4)),
    fun c => FfnRef.resultU (m' ((c.tc : Thread Cert.FfnVjpIdeal.nD Cert.FfnVjpIdeal.τ).loc Cert.FfnVjpIdeal.main_arg0))
    (m' ((c.tc : Thread Cert.FfnVjpIdeal.nD Cert.FfnVjpIdeal.τ).loc Cert.FfnVjpIdeal.main_arg1))
    (m' ((c.tc : Thread Cert.FfnVjpIdeal.nD Cert.FfnVjpIdeal.τ).loc Cert.FfnVjpIdeal.main_arg3))
    (m' ((c.tc : Thread Cert.FfnVjpIdeal.nD Cert.FfnVjpIdeal.τ).loc Cert.FfnVjpIdeal.main_arg4)),
    fun c => FfnRef.resultD (m' ((c.tc : Thread Cert.FfnVjpIdeal.nD Cert.FfnVjpIdeal.τ).loc Cert.FfnVjpIdeal.main_arg0))
    (m' ((c.tc : Thread Cert.FfnVjpIdeal.nD Cert.FfnVjpIdeal.τ).loc Cert.FfnVjpIdeal.main_arg1))
    (m' ((c.tc : Thread Cert.FfnVjpIdeal.nD Cert.FfnVjpIdeal.τ).loc Cert.FfnVjpIdeal.main_arg2))
    (m' ((c.tc : Thread Cert.FfnVjpIdeal.nD Cert.FfnVjpIdeal.τ).loc Cert.FfnVjpIdeal.main_arg4)), ?_, FfnRef.run m' g'⟩
  refine (θ_run Cert.FfnBwdIdeal.defs _ _).mono (fun r h c => ?_) (Cert.FfnBwdIdeal.Value.run_blocks (F := Ideal) m g)
  obtain ⟨h0, h2, h3, h4⟩ := hpre c
  obtain ⟨a0, a1, a2, a3, a4⟩ := hagree c
  obtain ⟨r0, r1, r2, r3, kept⟩ := h c
  refine ⟨r0.trans ?_, r1.trans ?_, r2.trans ?_, r3.trans ?_, kept⟩
  · show _ = FfnRef.resultH _ _ _ _ _
    rw [FfnFinal.final_h c rfl rfl rfl rfl rfl, a0, a1, a2, a3, a4]
    refine ext3 fun j n d => Eq.trans ?_ (FfnRef.resultH_at _ _ _ _ _ j n d).symm
    rw [FfnFinal.bat_eq n (by omega)]
    show dh _ _ _ _ _ direct j (FfnFinal.bat n.val) (FfnFinal.pos n.val) d = _
    unfold dh
    rw [dgate_eq _ _ _ _ _ (fun i => exists_real (finite h0 i)) (fun i => exists_real (finite h2 i))
      (fun i => exists_real (finite h3 i)) (fun i => exists_real (finite h4 i))]
    rfl
  · show _ = FfnRef.resultG _ _ _ _ _
    rw [FfnFinal.final_g c rfl rfl rfl rfl rfl, a0, a1, a2, a3, a4]
    refine ext3 fun j f d => Eq.trans ?_ (FfnRef.resultG_at _ _ _ _ _ j f d).symm
    show dwg _ _ _ _ _ direct j f d = _
    unfold dwg
    rw [dgate_eq _ _ _ _ _ (fun i => exists_real (finite h0 i)) (fun i => exists_real (finite h2 i))
      (fun i => exists_real (finite h3 i)) (fun i => exists_real (finite h4 i))]
  · show _ = FfnRef.resultU _ _ _ _
    rw [FfnFinal.final_u c rfl rfl rfl rfl rfl, a0, a1, a3, a4]
    exact ext3 fun j f d => (FfnRef.resultU_at _ _ _ _ j f d).symm
  · show _ = FfnRef.resultD _ _ _ _
    rw [FfnFinal.final_d c rfl rfl rfl rfl rfl, a0, a1, a2, a4]
    exact ext3 fun j f d => (FfnRef.resultD_at _ _ _ _ j f d).symm

end Cert.FfnClaim

end
-- ==== Proof.lean ====
module

public import proofs.«01_k».proof.Defs
public import proofs.«01_k».proof.Proof.Gen.MemBwd
public import proofs.«01_k».proof.Proof.Gen.MemBwd.Skeleton
public import proofs.«01_k».proof.Proof.Gen.MemBwd.Launch
public import proofs.«01_k».proof.Proof.Gen.MemBwd.Points
public import proofs.«01_k».proof.Proof.Gen.MemBwd.Frame
public import proofs.«01_k».proof.Proof.Gen.MemBwdIdeal
public import proofs.«01_k».proof.Proof.Gen.MemBwdIdeal.Skeleton
public import proofs.«01_k».proof.Proof.Gen.MemBwdIdeal.Launch
public import proofs.«01_k».proof.Proof.Gen.MemBwdIdeal.Points
public import proofs.«01_k».proof.Proof.Gen.MemBwdIdeal.Frame
public import proofs.«01_k».proof.Proof.Gen.MemVjpIdeal
public import proofs.«01_k».proof.Proof.Gen.MemVjpIdeal.Run
public import proofs.«01_k».proof.Proof.Gen.MemBwdIdeal.Value
public import proofs.«01_k».proof.Proof.Gen.Pre_mem_finite
public import proofs.«01_k».proof.Proof.Gen.FoxBwd
public import proofs.«01_k».proof.Proof.Gen.FoxBwd.Skeleton
public import proofs.«01_k».proof.Proof.Gen.FoxBwd.Launch
public import proofs.«01_k».proof.Proof.Gen.FoxBwd.Points
public import proofs.«01_k».proof.Proof.Gen.FoxBwd.Frame
public import proofs.«01_k».proof.Proof.Gen.FoxBwdIdeal
public import proofs.«01_k».proof.Proof.Gen.FoxBwdIdeal.Skeleton
public import proofs.«01_k».proof.Proof.Gen.FoxBwdIdeal.Launch
public import proofs.«01_k».proof.Proof.Gen.FoxBwdIdeal.Points
public import proofs.«01_k».proof.Proof.Gen.FoxBwdIdeal.Frame
public import proofs.«01_k».proof.Proof.Gen.FoxVjpIdeal
public import proofs.«01_k».proof.Proof.Gen.FoxVjpIdeal.Run
public import proofs.«01_k».proof.Proof.Gen.FoxBwdIdeal.Value
public import proofs.«01_k».proof.Proof.Gen.Pre_fox_finite
public import proofs.«01_k».proof.Proof.Gen.Pre_in_finite
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateVjpIdeal
public import proofs.«01_k».proof.Proof.Gen.GateVjpIdeal.Run
public import proofs.«01_k».proof.Proof.Gen.GateBwdIdeal.Value
public import proofs.«01_k».proof.Proof.Gen.KvBwd
public import proofs.«01_k».proof.Proof.Gen.KvBwd.Skeleton
public import proofs.«01_k».proof.Proof.Gen.KvBwd.Launch
public import proofs.«01_k».proof.Proof.Gen.KvBwd.Points
public import proofs.«01_k».proof.Proof.Gen.KvBwd.Frame
public import proofs.«01_k».proof.Proof.Gen.KvBwdIdeal
public import proofs.«01_k».proof.Proof.Gen.KvBwdIdeal.Skeleton
public import proofs.«01_k».proof.Proof.Gen.KvBwdIdeal.Launch
public import proofs.«01_k».proof.Proof.Gen.KvBwdIdeal.Points
public import proofs.«01_k».proof.Proof.Gen.KvBwdIdeal.Frame
public import proofs.«01_k».proof.Proof.Gen.KvVjpIdeal
public import proofs.«01_k».proof.Proof.Gen.KvVjpIdeal.Run
public import proofs.«01_k».proof.Proof.Gen.KvBwdIdeal.Value
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InVjpIdeal
public import proofs.«01_k».proof.Proof.Gen.InVjpIdeal.Run
public import proofs.«01_k».proof.Proof.Gen.InBwdIdeal.Value
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnVjpIdeal
public import proofs.«01_k».proof.Proof.Gen.FfnVjpIdeal.Run
public import proofs.«01_k».proof.Proof.Gen.FfnBwdIdeal.Value
public import proofs.«01_k».proof.Proof.Gen.Pre_ffn_finite
public import proofs.«01_k».proof.Proof.MemClaim
public import proofs.«01_k».proof.Proof.FoxClaim
public import proofs.«01_k».proof.Proof.GateClaim
public import proofs.«01_k».proof.Proof.KvClaim
public import proofs.«01_k».proof.Proof.InClaim
public import proofs.«01_k».proof.Proof.FfnClaim
public import Idealize.ShloMosaic.Adequacy
public import Idealize.ShloMosaic.Init

@[expose] public section

noncomputable section

namespace Cert.Proof

open Idealize.ShloMosaic Idealize.SL.Sem Cert.MemBwd

theorem claim : Cert.Claim := ⟨Cert.MemBwd.Gen.facts, Cert.MemBwdIdeal.Gen.facts, Cert.MemVjpIdeal.Gen.facts,
  Cert.FoxBwd.Gen.facts, Cert.FoxBwdIdeal.Gen.facts, Cert.FoxVjpIdeal.Gen.facts, Cert.GateBwd.Gen.facts,
  Cert.GateBwdIdeal.Gen.facts, Cert.GateVjpIdeal.Gen.facts, Cert.KvBwd.Gen.facts,
  Cert.KvBwdIdeal.Gen.facts, Cert.KvVjpIdeal.Gen.facts, Cert.InBwd.Gen.facts, Cert.InBwdIdeal.Gen.facts,
  Cert.InVjpIdeal.Gen.facts, Cert.FfnBwd.Gen.facts, Cert.FfnBwdIdeal.Gen.facts, Cert.FfnVjpIdeal.Gen.facts,
  Cert.Pre_mem_finite.Gen.facts, Cert.Pre_fox_finite.Gen.facts, Cert.Pre_in_finite.Gen.facts, Cert.Pre_ffn_finite.Gen.facts,
  fun m ρ _ => Cert.MemBwd.Gen.frame m ρ,
  fun m ρ _ => Cert.MemBwdIdeal.Gen.frame m ρ,
  fun m ρ _ => Cert.MemBwdIdeal.Gen.frame m ρ,
  MemClaim.frame_reference,
  fun m ρ _ => MemClaim.frame_reference m ρ trivial,
  fun m ρ _ => Cert.FoxBwd.Gen.frame m ρ,
  fun m ρ _ => Cert.FoxBwdIdeal.Gen.frame m ρ,
  fun m ρ _ => Cert.FoxBwdIdeal.Gen.frame m ρ,
  FoxClaim.frame_reference,
  fun m ρ _ => FoxClaim.frame_reference m ρ trivial,
  fun m ρ _ => Cert.GateBwd.Gen.frame m ρ,
  fun m ρ _ => Cert.GateBwdIdeal.Gen.frame m ρ,
  GateClaim.frame_reference,
  fun m ρ _ => Cert.KvBwd.Gen.frame m ρ,
  fun m ρ _ => Cert.KvBwdIdeal.Gen.frame m ρ,
  KvClaim.frame_reference,
  fun m ρ _ => Cert.InBwd.Gen.frame m ρ,
  fun m ρ _ => Cert.InBwdIdeal.Gen.frame m ρ,
  fun m ρ _ => Cert.InBwdIdeal.Gen.frame m ρ,
  InClaim.frame_reference,
  fun m ρ _ => InClaim.frame_reference m ρ trivial,
  fun m ρ _ => Cert.FfnBwd.Gen.frame m ρ,
  fun m ρ _ => Cert.FfnBwdIdeal.Gen.frame m ρ,
  fun m ρ _ => Cert.FfnBwdIdeal.Gen.frame m ρ,
  FfnClaim.frame_reference,
  fun m ρ _ => FfnClaim.frame_reference m ρ trivial,
  trivial,
  MemClaim.value,
  trivial,
  FoxClaim.value,
  trivial,
  GateClaim.value,
  trivial,
  KvClaim.value,
  trivial,
  InClaim.value,
  trivial,
  FfnClaim.value⟩

end Cert.Proof

end
